-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S256x2000 : Shape := ⟨2, ![256, 2000]⟩
abbrev S256x500x50 : Shape := ⟨3, ![256, 500, 50]⟩
abbrev S16x1 : Shape := ⟨2, ![16, 1]⟩
abbrev S16 : Shape := ⟨1, ![16]⟩
abbrev S_ : Shape := ⟨0, ![]⟩

class Facts : Prop where
  bcast_S_S256x500x50 : S_.BroadcastsInDim S256x500x50 (![] : Fin 0 → Fin S256x500x50.rank)
  reducesTo_S256x500x50_S_d0_1_2 : S256x500x50.ReducesTo [0, 1, 2] S_
  h_S_ : 0 < S_.numel

variable [Facts]

def fn {F : FTy → Type} [FloatOps F] (main_arg0 : FVec F S256x2000 .f32) (main_arg1 : IVec S256x500x50 32) (main_arg2 : FVec F S16x1 .f32) (main_arg3 : FVec F S16 .f32) : IVec S_ 1 :=
  let main_c : IVec S_ 32 := constantI S_ 32 0#32
  let main_v0 : IVec S256x500x50 32 := broadcastInDim S256x500x50 ![] bcast_S_S256x500x50 main_c
  let main_v1 : IVec S256x500x50 1 := cmpi .sge main_arg1 main_v0
  let main_c_0 : IVec S_ 32 := constantI S_ 32 2000#32
  let main_v2 : IVec S256x500x50 32 := broadcastInDim S256x500x50 ![] bcast_S_S256x500x50 main_c_0
  let main_v3 : IVec S256x500x50 1 := cmpi .slt main_arg1 main_v2
  let main_v4 : IVec S256x500x50 1 := andi main_v1 main_v3
  let main_c_1 : IVec S_ 1 := constantI S_ 1 1#1
  let main_v5 : IVec S_ 1 := (fun x v => Host.reduce IntOp.andi x v reducesTo_S256x500x50_S_d0_1_2 h_S_) main_v4 main_c_1
  main_v5
-- ==== Pre_in_range_finite.lean ====
abbrev S256x2000 : Shape := ⟨2, ![256, 2000]⟩
abbrev S256x500x50 : Shape := ⟨3, ![256, 500, 50]⟩
abbrev S16x1 : Shape := ⟨2, ![16, 1]⟩
abbrev S16 : Shape := ⟨1, ![16]⟩
abbrev S_ : Shape := ⟨0, ![]⟩

class Facts : Prop where
  bcast_S_S256x500x50 : S_.BroadcastsInDim S256x500x50 (![] : Fin 0 → Fin S256x500x50.rank)
  reducesTo_S256x500x50_S_d0_1_2 : S256x500x50.ReducesTo [0, 1, 2] S_
  h_S_ : 0 < S_.numel
  bcast_S_S256x2000 : S_.BroadcastsInDim S256x2000 (![] : Fin 0 → Fin S256x2000.rank)
  reducesTo_S256x2000_S_d0_1 : S256x2000.ReducesTo [0, 1] S_
  bcast_S_S16x1 : S_.BroadcastsInDim S16x1 (![] : Fin 0 → Fin S16x1.rank)
  reducesTo_S16x1_S_d0_1 : S16x1.ReducesTo [0, 1] S_

variable [Facts]

def fn {F : FTy → Type} [FloatOps F] (main_arg0 : FVec F S256x2000 .f32) (main_arg1 : IVec S256x500x50 32) (main_arg2 : FVec F S16x1 .f32) (main_arg3 : FVec F S16 .f32) : IVec S_ 1 :=
  let main_c : IVec S_ 32 := constantI S_ 32 0#32
  let main_v0 : IVec S256x500x50 32 := broadcastInDim S256x500x50 ![] bcast_S_S256x500x50 main_c
  let main_v1 : IVec S256x500x50 1 := cmpi .sge main_arg1 main_v0
  let main_c_0 : IVec S_ 32 := constantI S_ 32 2000#32
  let main_v2 : IVec S256x500x50 32 := broadcastInDim S256x500x50 ![] bcast_S_S256x500x50 main_c_0
  let main_v3 : IVec S256x500x50 1 := cmpi .slt main_arg1 main_v2
  let main_v4 : IVec S256x500x50 1 := andi main_v1 main_v3
  let main_c_1 : IVec S_ 1 := constantI S_ 1 1#1
  let main_v5 : IVec S_ 1 := (fun x v => Host.reduce IntOp.andi x v reducesTo_S256x500x50_S_d0_1_2 h_S_) main_v4 main_c_1
  let main_v6 : FVec F S256x2000 .f32 := Host.absf main_arg0
  let main_cst : FVec F S_ .f32 := constant S_ .f32 0x7F800000#32
  let main_v7 : FVec F S256x2000 .f32 := broadcastInDim S256x2000 ![] bcast_S_S256x2000 main_cst
  let main_v8 : IVec S256x2000 1 := cmpf .olt main_v6 main_v7
  let main_c_2 : IVec S_ 1 := constantI S_ 1 1#1
  let main_v9 : IVec S_ 1 := (fun x v => Host.reduce IntOp.andi x v reducesTo_S256x2000_S_d0_1 h_S_) main_v8 main_c_2
  let main_v10 : IVec S_ 1 := andi main_v5 main_v9
  let main_v11 : FVec F S16x1 .f32 := Host.absf main_arg2
  let main_cst_3 : FVec F S_ .f32 := constant S_ .f32 0x7F800000#32
  let main_v12 : FVec F S16x1 .f32 := broadcastInDim S16x1 ![] bcast_S_S16x1 main_cst_3
  let main_v13 : IVec S16x1 1 := cmpf .olt main_v11 main_v12
  let main_c_4 : IVec S_ 1 := constantI S_ 1 1#1
  let main_v14 : IVec S_ 1 := (fun x v => Host.reduce IntOp.andi x v reducesTo_S16x1_S_d0_1 h_S_) main_v13 main_c_4
  let main_v15 : IVec S_ 1 := andi main_v10 main_v14
  main_v15
-- ==== Kernel.lean ====
abbrev S256x2000 : Shape := ⟨2, ![256, 2000]⟩
abbrev S256x500x50 : Shape := ⟨3, ![256, 500, 50]⟩
abbrev S16x1 : Shape := ⟨2, ![16, 1]⟩
abbrev S16 : Shape := ⟨1, ![16]⟩
abbrev S6400000 : Shape := ⟨1, ![6400000]⟩
abbrev S512000 : Shape := ⟨1, ![512000]⟩
abbrev S2048000 : Shape := ⟨1, ![2048000]⟩
abbrev S2000 : Shape := ⟨1, ![2000]⟩
abbrev S25600 : Shape := ⟨1, ![25600]⟩
abbrev S8192 : Shape := ⟨1, ![8192]⟩
abbrev S_ : Shape := ⟨0, ![]⟩
abbrev S1 : Shape := ⟨1, ![1]⟩
abbrev S25000 : Shape := ⟨1, ![25000]⟩
abbrev S8000 : Shape := ⟨1, ![8000]⟩
abbrev S256x500x16 : Shape := ⟨3, ![256, 500, 16]⟩

abbrev nBuf : Table → Nat
  | .hbm => 9
  | .local .scVector .vmem => 5
  | _ => 0

abbrev bufTy : (tb : Table) → Fin (nBuf tb) → BufTy
  | .hbm, ⟨0, _⟩ => ⟨S256x2000, .f32⟩
  | .hbm, ⟨1, _⟩ => ⟨S256x500x50, .i32⟩
  | .hbm, ⟨2, _⟩ => ⟨S16x1, .f32⟩
  | .hbm, ⟨3, _⟩ => ⟨S16, .f32⟩
  | .hbm, ⟨4, _⟩ => ⟨S6400000, .i32⟩
  | .hbm, ⟨5, _⟩ => ⟨S512000, .f32⟩
  | .hbm, ⟨6, _⟩ => ⟨S16, .f32⟩
  | .hbm, ⟨7, _⟩ => ⟨S2048000, .f32⟩
  | .hbm, ⟨8, _⟩ => ⟨S256x500x16, .f32⟩
  | .local .scVector .vmem, ⟨0, _⟩ => ⟨S2000, .f32⟩
  | .local .scVector .vmem, ⟨1, _⟩ => ⟨S25600, .i32⟩
  | .local .scVector .vmem, ⟨2, _⟩ => ⟨S16, .f32⟩
  | .local .scVector .vmem, ⟨3, _⟩ => ⟨S16, .f32⟩
  | .local .scVector .vmem, ⟨4, _⟩ => ⟨S8192, .f32⟩
  | _, _ => ⟨S256x2000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v0_scv : Ref sig .scVector := ⟨.hbm, 4, rfl⟩
abbrev main_v2_scv : Ref sig .scVector := ⟨.hbm, 6, rfl⟩
abbrev main_arg3_scv : Ref sig .scVector := ⟨.hbm, 3, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v114 : BitVec 32 := Scalar.muli v1 c8_i32
  let v115 : BitVec 32 := Scalar.addi v114 c0_i32_1
  let c2000_i32 : BitVec 32 := 2000#32
  let v116 : BitVec 32 := Scalar.muli v115 c2000_i32
  ![v116.toNat]
def k0_off2 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v114 : BitVec 32 := Scalar.muli v1 c8_i32
  let v115 : BitVec 32 := Scalar.addi v114 c0_i32_1
  let c25000_i32 : BitVec 32 := 25000#32
  let v117 : BitVec 32 := Scalar.muli v115 c25000_i32
  ![v117.toNat]
@[reducible] def k0_t1_loop : Scf.Loop 32 :=
  let c0_i32_3 : BitVec 32 := 0#32
  let c32_i32 : BitVec 32 := 32#32
  let v118 : BitVec 32 := Scalar.addi c0_i32_3 c32_i32
  let c1_i32 : BitVec 32 := 1#32
  ⟨c0_i32_3, v118, c1_i32⟩

def k0_chk1 (v175 : IVec S16 32) : Prop :=
  (∀ a x, ((![v175] : Fin 1 → IVec S16 32) a x).toNat < S25600.size a)
theorem k0_idx1_inb : ∀ (v175 : IVec S16 32) (k0_hw1 : k0_chk1 v175), ∀ a x, ((![v175] : Fin 1 → IVec S16 32) a x).toNat < S25600.size a := fun v175 k0_hw1 => k0_hw1

def k0_chk2 (v176 : IVec S16 32) : Prop :=
  (∀ a x, ((![v176] : Fin 1 → IVec S16 32) a x).toNat < S2000.size a)
theorem k0_idx2_inb : ∀ (v176 : IVec S16 32) (k0_hw2 : k0_chk2 v176), ∀ a x, ((![v176] : Fin 1 → IVec S16 32) a x).toNat < S2000.size a := fun v176 k0_hw2 => k0_hw2

def k0_chk3 (v180 : IVec S16 32) : Prop :=
  (∀ a x, ((![v180] : Fin 1 → IVec S16 32) a x).toNat < S25600.size a)
theorem k0_idx3_inb : ∀ (v180 : IVec S16 32) (k0_hw3 : k0_chk3 v180), ∀ a x, ((![v180] : Fin 1 → IVec S16 32) a x).toNat < S25600.size a := fun v180 k0_hw3 => k0_hw3

def k0_chk4 (v181 : IVec S16 32) : Prop :=
  (∀ a x, ((![v181] : Fin 1 → IVec S16 32) a x).toNat < S2000.size a)
theorem k0_idx4_inb : ∀ (v181 : IVec S16 32) (k0_hw4 : k0_chk4 v181), ∀ a x, ((![v181] : Fin 1 → IVec S16 32) a x).toNat < S2000.size a := fun v181 k0_hw4 => k0_hw4

def k0_chk5 (v185 : IVec S16 32) : Prop :=
  (∀ a x, ((![v185] : Fin 1 → IVec S16 32) a x).toNat < S25600.size a)
theorem k0_idx5_inb : ∀ (v185 : IVec S16 32) (k0_hw5 : k0_chk5 v185), ∀ a x, ((![v185] : Fin 1 → IVec S16 32) a x).toNat < S25600.size a := fun v185 k0_hw5 => k0_hw5

def k0_chk6 (v186 : IVec S16 32) : Prop :=
  (∀ a x, ((![v186] : Fin 1 → IVec S16 32) a x).toNat < S2000.size a)
theorem k0_idx6_inb : ∀ (v186 : IVec S16 32) (k0_hw6 : k0_chk6 v186), ∀ a x, ((![v186] : Fin 1 → IVec S16 32) a x).toNat < S2000.size a := fun v186 k0_hw6 => k0_hw6

def k0_chk7 (v190 : IVec S16 32) : Prop :=
  (∀ a x, ((![v190] : Fin 1 → IVec S16 32) a x).toNat < S25600.size a)
theorem k0_idx7_inb : ∀ (v190 : IVec S16 32) (k0_hw7 : k0_chk7 v190), ∀ a x, ((![v190] : Fin 1 → IVec S16 32) a x).toNat < S25600.size a := fun v190 k0_hw7 => k0_hw7

def k0_chk8 (v191 : IVec S16 32) : Prop :=
  (∀ a x, ((![v191] : Fin 1 → IVec S16 32) a x).toNat < S2000.size a)
theorem k0_idx8_inb : ∀ (v191 : IVec S16 32) (k0_hw8 : k0_chk8 v191), ∀ a x, ((![v191] : Fin 1 → IVec S16 32) a x).toNat < S2000.size a := fun v191 k0_hw8 => k0_hw8

def k0_chk9 (v195 : IVec S16 32) : Prop :=
  (∀ a x, ((![v195] : Fin 1 → IVec S16 32) a x).toNat < S25600.size a)
theorem k0_idx9_inb : ∀ (v195 : IVec S16 32) (k0_hw9 : k0_chk9 v195), ∀ a x, ((![v195] : Fin 1 → IVec S16 32) a x).toNat < S25600.size a := fun v195 k0_hw9 => k0_hw9

def k0_chk10 (v196 : IVec S16 32) : Prop :=
  (∀ a x, ((![v196] : Fin 1 → IVec S16 32) a x).toNat < S2000.size a)
theorem k0_idx10_inb : ∀ (v196 : IVec S16 32) (k0_hw10 : k0_chk10 v196), ∀ a x, ((![v196] : Fin 1 → IVec S16 32) a x).toNat < S2000.size a := fun v196 k0_hw10 => k0_hw10

def k0_chk11 (v200 : IVec S16 32) : Prop :=
  (∀ a x, ((![v200] : Fin 1 → IVec S16 32) a x).toNat < S25600.size a)
theorem k0_idx11_inb : ∀ (v200 : IVec S16 32) (k0_hw11 : k0_chk11 v200), ∀ a x, ((![v200] : Fin 1 → IVec S16 32) a x).toNat < S25600.size a := fun v200 k0_hw11 => k0_hw11

def k0_chk12 (v201 : IVec S16 32) : Prop :=
  (∀ a x, ((![v201] : Fin 1 → IVec S16 32) a x).toNat < S2000.size a)
theorem k0_idx12_inb : ∀ (v201 : IVec S16 32) (k0_hw12 : k0_chk12 v201), ∀ a x, ((![v201] : Fin 1 → IVec S16 32) a x).toNat < S2000.size a := fun v201 k0_hw12 => k0_hw12

def k0_chk13 (v205 : IVec S16 32) : Prop :=
  (∀ a x, ((![v205] : Fin 1 → IVec S16 32) a x).toNat < S25600.size a)
theorem k0_idx13_inb : ∀ (v205 : IVec S16 32) (k0_hw13 : k0_chk13 v205), ∀ a x, ((![v205] : Fin 1 → IVec S16 32) a x).toNat < S25600.size a := fun v205 k0_hw13 => k0_hw13

def k0_chk14 (v206 : IVec S16 32) : Prop :=
  (∀ a x, ((![v206] : Fin 1 → IVec S16 32) a x).toNat < S2000.size a)
theorem k0_idx14_inb : ∀ (v206 : IVec S16 32) (k0_hw14 : k0_chk14 v206), ∀ a x, ((![v206] : Fin 1 → IVec S16 32) a x).toNat < S2000.size a := fun v206 k0_hw14 => k0_hw14

def k0_chk15 (v210 : IVec S16 32) : Prop :=
  (∀ a x, ((![v210] : Fin 1 → IVec S16 32) a x).toNat < S25600.size a)
theorem k0_idx15_inb : ∀ (v210 : IVec S16 32) (k0_hw15 : k0_chk15 v210), ∀ a x, ((![v210] : Fin 1 → IVec S16 32) a x).toNat < S25600.size a := fun v210 k0_hw15 => k0_hw15

def k0_chk16 (v211 : IVec S16 32) : Prop :=
  (∀ a x, ((![v211] : Fin 1 → IVec S16 32) a x).toNat < S2000.size a)
theorem k0_idx16_inb : ∀ (v211 : IVec S16 32) (k0_hw16 : k0_chk16 v211), ∀ a x, ((![v211] : Fin 1 → IVec S16 32) a x).toNat < S2000.size a := fun v211 k0_hw16 => k0_hw16

def k0_chk17 (v215 : IVec S16 32) : Prop :=
  (∀ a x, ((![v215] : Fin 1 → IVec S16 32) a x).toNat < S25600.size a)
theorem k0_idx17_inb : ∀ (v215 : IVec S16 32) (k0_hw17 : k0_chk17 v215), ∀ a x, ((![v215] : Fin 1 → IVec S16 32) a x).toNat < S25600.size a := fun v215 k0_hw17 => k0_hw17

def k0_chk18 (v216 : IVec S16 32) : Prop :=
  (∀ a x, ((![v216] : Fin 1 → IVec S16 32) a x).toNat < S2000.size a)
theorem k0_idx18_inb : ∀ (v216 : IVec S16 32) (k0_hw18 : k0_chk18 v216), ∀ a x, ((![v216] : Fin 1 → IVec S16 32) a x).toNat < S2000.size a := fun v216 k0_hw18 => k0_hw18

def k0_chk19 (v220 : IVec S16 32) : Prop :=
  (∀ a x, ((![v220] : Fin 1 → IVec S16 32) a x).toNat < S25600.size a)
theorem k0_idx19_inb : ∀ (v220 : IVec S16 32) (k0_hw19 : k0_chk19 v220), ∀ a x, ((![v220] : Fin 1 → IVec S16 32) a x).toNat < S25600.size a := fun v220 k0_hw19 => k0_hw19

def k0_chk20 (v221 : IVec S16 32) : Prop :=
  (∀ a x, ((![v221] : Fin 1 → IVec S16 32) a x).toNat < S2000.size a)
theorem k0_idx20_inb : ∀ (v221 : IVec S16 32) (k0_hw20 : k0_chk20 v221), ∀ a x, ((![v221] : Fin 1 → IVec S16 32) a x).toNat < S2000.size a := fun v221 k0_hw20 => k0_hw20

def k0_chk21 (v225 : IVec S16 32) : Prop :=
  (∀ a x, ((![v225] : Fin 1 → IVec S16 32) a x).toNat < S25600.size a)
theorem k0_idx21_inb : ∀ (v225 : IVec S16 32) (k0_hw21 : k0_chk21 v225), ∀ a x, ((![v225] : Fin 1 → IVec S16 32) a x).toNat < S25600.size a := fun v225 k0_hw21 => k0_hw21

def k0_chk22 (v226 : IVec S16 32) : Prop :=
  (∀ a x, ((![v226] : Fin 1 → IVec S16 32) a x).toNat < S2000.size a)
theorem k0_idx22_inb : ∀ (v226 : IVec S16 32) (k0_hw22 : k0_chk22 v226), ∀ a x, ((![v226] : Fin 1 → IVec S16 32) a x).toNat < S2000.size a := fun v226 k0_hw22 => k0_hw22

def k0_chk23 (v230 : IVec S16 32) : Prop :=
  (∀ a x, ((![v230] : Fin 1 → IVec S16 32) a x).toNat < S25600.size a)
theorem k0_idx23_inb : ∀ (v230 : IVec S16 32) (k0_hw23 : k0_chk23 v230), ∀ a x, ((![v230] : Fin 1 → IVec S16 32) a x).toNat < S25600.size a := fun v230 k0_hw23 => k0_hw23

def k0_chk24 (v231 : IVec S16 32) : Prop :=
  (∀ a x, ((![v231] : Fin 1 → IVec S16 32) a x).toNat < S2000.size a)
theorem k0_idx24_inb : ∀ (v231 : IVec S16 32) (k0_hw24 : k0_chk24 v231), ∀ a x, ((![v231] : Fin 1 → IVec S16 32) a x).toNat < S2000.size a := fun v231 k0_hw24 => k0_hw24

def k0_chk25 (v235 : IVec S16 32) : Prop :=
  (∀ a x, ((![v235] : Fin 1 → IVec S16 32) a x).toNat < S25600.size a)
theorem k0_idx25_inb : ∀ (v235 : IVec S16 32) (k0_hw25 : k0_chk25 v235), ∀ a x, ((![v235] : Fin 1 → IVec S16 32) a x).toNat < S25600.size a := fun v235 k0_hw25 => k0_hw25

def k0_chk26 (v236 : IVec S16 32) : Prop :=
  (∀ a x, ((![v236] : Fin 1 → IVec S16 32) a x).toNat < S2000.size a)
theorem k0_idx26_inb : ∀ (v236 : IVec S16 32) (k0_hw26 : k0_chk26 v236), ∀ a x, ((![v236] : Fin 1 → IVec S16 32) a x).toNat < S2000.size a := fun v236 k0_hw26 => k0_hw26

def k0_chk27 (v240 : IVec S16 32) : Prop :=
  (∀ a x, ((![v240] : Fin 1 → IVec S16 32) a x).toNat < S25600.size a)
theorem k0_idx27_inb : ∀ (v240 : IVec S16 32) (k0_hw27 : k0_chk27 v240), ∀ a x, ((![v240] : Fin 1 → IVec S16 32) a x).toNat < S25600.size a := fun v240 k0_hw27 => k0_hw27

def k0_chk28 (v241 : IVec S16 32) : Prop :=
  (∀ a x, ((![v241] : Fin 1 → IVec S16 32) a x).toNat < S2000.size a)
theorem k0_idx28_inb : ∀ (v241 : IVec S16 32) (k0_hw28 : k0_chk28 v241), ∀ a x, ((![v241] : Fin 1 → IVec S16 32) a x).toNat < S2000.size a := fun v241 k0_hw28 => k0_hw28

def k0_chk29 (v245 : IVec S16 32) : Prop :=
  (∀ a x, ((![v245] : Fin 1 → IVec S16 32) a x).toNat < S25600.size a)
theorem k0_idx29_inb : ∀ (v245 : IVec S16 32) (k0_hw29 : k0_chk29 v245), ∀ a x, ((![v245] : Fin 1 → IVec S16 32) a x).toNat < S25600.size a := fun v245 k0_hw29 => k0_hw29

def k0_chk30 (v246 : IVec S16 32) : Prop :=
  (∀ a x, ((![v246] : Fin 1 → IVec S16 32) a x).toNat < S2000.size a)
theorem k0_idx30_inb : ∀ (v246 : IVec S16 32) (k0_hw30 : k0_chk30 v246), ∀ a x, ((![v246] : Fin 1 → IVec S16 32) a x).toNat < S2000.size a := fun v246 k0_hw30 => k0_hw30

def k0_chk31 (v250 : IVec S16 32) : Prop :=
  (∀ a x, ((![v250] : Fin 1 → IVec S16 32) a x).toNat < S25600.size a)
theorem k0_idx31_inb : ∀ (v250 : IVec S16 32) (k0_hw31 : k0_chk31 v250), ∀ a x, ((![v250] : Fin 1 → IVec S16 32) a x).toNat < S25600.size a := fun v250 k0_hw31 => k0_hw31

def k0_chk32 (v251 : IVec S16 32) : Prop :=
  (∀ a x, ((![v251] : Fin 1 → IVec S16 32) a x).toNat < S2000.size a)
theorem k0_idx32_inb : ∀ (v251 : IVec S16 32) (k0_hw32 : k0_chk32 v251), ∀ a x, ((![v251] : Fin 1 → IVec S16 32) a x).toNat < S2000.size a := fun v251 k0_hw32 => k0_hw32

def k0_chk33 (v255 : IVec S16 32) : Prop :=
  (∀ a x, ((![v255] : Fin 1 → IVec S16 32) a x).toNat < S25600.size a)
theorem k0_idx33_inb : ∀ (v255 : IVec S16 32) (k0_hw33 : k0_chk33 v255), ∀ a x, ((![v255] : Fin 1 → IVec S16 32) a x).toNat < S25600.size a := fun v255 k0_hw33 => k0_hw33

def k0_chk34 (v256 : IVec S16 32) : Prop :=
  (∀ a x, ((![v256] : Fin 1 → IVec S16 32) a x).toNat < S2000.size a)
theorem k0_idx34_inb : ∀ (v256 : IVec S16 32) (k0_hw34 : k0_chk34 v256), ∀ a x, ((![v256] : Fin 1 → IVec S16 32) a x).toNat < S2000.size a := fun v256 k0_hw34 => k0_hw34

def k0_chk35 (v260 : IVec S16 32) : Prop :=
  (∀ a x, ((![v260] : Fin 1 → IVec S16 32) a x).toNat < S25600.size a)
theorem k0_idx35_inb : ∀ (v260 : IVec S16 32) (k0_hw35 : k0_chk35 v260), ∀ a x, ((![v260] : Fin 1 → IVec S16 32) a x).toNat < S25600.size a := fun v260 k0_hw35 => k0_hw35

def k0_chk36 (v261 : IVec S16 32) : Prop :=
  (∀ a x, ((![v261] : Fin 1 → IVec S16 32) a x).toNat < S2000.size a)
theorem k0_idx36_inb : ∀ (v261 : IVec S16 32) (k0_hw36 : k0_chk36 v261), ∀ a x, ((![v261] : Fin 1 → IVec S16 32) a x).toNat < S2000.size a := fun v261 k0_hw36 => k0_hw36

def k0_chk37 (v265 : IVec S16 32) : Prop :=
  (∀ a x, ((![v265] : Fin 1 → IVec S16 32) a x).toNat < S25600.size a)
theorem k0_idx37_inb : ∀ (v265 : IVec S16 32) (k0_hw37 : k0_chk37 v265), ∀ a x, ((![v265] : Fin 1 → IVec S16 32) a x).toNat < S25600.size a := fun v265 k0_hw37 => k0_hw37

def k0_chk38 (v266 : IVec S16 32) : Prop :=
  (∀ a x, ((![v266] : Fin 1 → IVec S16 32) a x).toNat < S2000.size a)
theorem k0_idx38_inb : ∀ (v266 : IVec S16 32) (k0_hw38 : k0_chk38 v266), ∀ a x, ((![v266] : Fin 1 → IVec S16 32) a x).toNat < S2000.size a := fun v266 k0_hw38 => k0_hw38

def k0_chk39 (v270 : IVec S16 32) : Prop :=
  (∀ a x, ((![v270] : Fin 1 → IVec S16 32) a x).toNat < S25600.size a)
theorem k0_idx39_inb : ∀ (v270 : IVec S16 32) (k0_hw39 : k0_chk39 v270), ∀ a x, ((![v270] : Fin 1 → IVec S16 32) a x).toNat < S25600.size a := fun v270 k0_hw39 => k0_hw39

def k0_chk40 (v271 : IVec S16 32) : Prop :=
  (∀ a x, ((![v271] : Fin 1 → IVec S16 32) a x).toNat < S2000.size a)
theorem k0_idx40_inb : ∀ (v271 : IVec S16 32) (k0_hw40 : k0_chk40 v271), ∀ a x, ((![v271] : Fin 1 → IVec S16 32) a x).toNat < S2000.size a := fun v271 k0_hw40 => k0_hw40

def k0_chk41 (v275 : IVec S16 32) : Prop :=
  (∀ a x, ((![v275] : Fin 1 → IVec S16 32) a x).toNat < S25600.size a)
theorem k0_idx41_inb : ∀ (v275 : IVec S16 32) (k0_hw41 : k0_chk41 v275), ∀ a x, ((![v275] : Fin 1 → IVec S16 32) a x).toNat < S25600.size a := fun v275 k0_hw41 => k0_hw41

def k0_chk42 (v276 : IVec S16 32) : Prop :=
  (∀ a x, ((![v276] : Fin 1 → IVec S16 32) a x).toNat < S2000.size a)
theorem k0_idx42_inb : ∀ (v276 : IVec S16 32) (k0_hw42 : k0_chk42 v276), ∀ a x, ((![v276] : Fin 1 → IVec S16 32) a x).toNat < S2000.size a := fun v276 k0_hw42 => k0_hw42

def k0_chk43 (v280 : IVec S16 32) : Prop :=
  (∀ a x, ((![v280] : Fin 1 → IVec S16 32) a x).toNat < S25600.size a)
theorem k0_idx43_inb : ∀ (v280 : IVec S16 32) (k0_hw43 : k0_chk43 v280), ∀ a x, ((![v280] : Fin 1 → IVec S16 32) a x).toNat < S25600.size a := fun v280 k0_hw43 => k0_hw43

def k0_chk44 (v281 : IVec S16 32) : Prop :=
  (∀ a x, ((![v281] : Fin 1 → IVec S16 32) a x).toNat < S2000.size a)
theorem k0_idx44_inb : ∀ (v281 : IVec S16 32) (k0_hw44 : k0_chk44 v281), ∀ a x, ((![v281] : Fin 1 → IVec S16 32) a x).toNat < S2000.size a := fun v281 k0_hw44 => k0_hw44

def k0_chk45 (v285 : IVec S16 32) : Prop :=
  (∀ a x, ((![v285] : Fin 1 → IVec S16 32) a x).toNat < S25600.size a)
theorem k0_idx45_inb : ∀ (v285 : IVec S16 32) (k0_hw45 : k0_chk45 v285), ∀ a x, ((![v285] : Fin 1 → IVec S16 32) a x).toNat < S25600.size a := fun v285 k0_hw45 => k0_hw45

def k0_chk46 (v286 : IVec S16 32) : Prop :=
  (∀ a x, ((![v286] : Fin 1 → IVec S16 32) a x).toNat < S2000.size a)
theorem k0_idx46_inb : ∀ (v286 : IVec S16 32) (k0_hw46 : k0_chk46 v286), ∀ a x, ((![v286] : Fin 1 → IVec S16 32) a x).toNat < S2000.size a := fun v286 k0_hw46 => k0_hw46

def k0_chk47 (v290 : IVec S16 32) : Prop :=
  (∀ a x, ((![v290] : Fin 1 → IVec S16 32) a x).toNat < S25600.size a)
theorem k0_idx47_inb : ∀ (v290 : IVec S16 32) (k0_hw47 : k0_chk47 v290), ∀ a x, ((![v290] : Fin 1 → IVec S16 32) a x).toNat < S25600.size a := fun v290 k0_hw47 => k0_hw47

def k0_chk48 (v291 : IVec S16 32) : Prop :=
  (∀ a x, ((![v291] : Fin 1 → IVec S16 32) a x).toNat < S2000.size a)
theorem k0_idx48_inb : ∀ (v291 : IVec S16 32) (k0_hw48 : k0_chk48 v291), ∀ a x, ((![v291] : Fin 1 → IVec S16 32) a x).toNat < S2000.size a := fun v291 k0_hw48 => k0_hw48

def k0_chk49 (v295 : IVec S16 32) : Prop :=
  (∀ a x, ((![v295] : Fin 1 → IVec S16 32) a x).toNat < S25600.size a)
theorem k0_idx49_inb : ∀ (v295 : IVec S16 32) (k0_hw49 : k0_chk49 v295), ∀ a x, ((![v295] : Fin 1 → IVec S16 32) a x).toNat < S25600.size a := fun v295 k0_hw49 => k0_hw49

def k0_chk50 (v296 : IVec S16 32) : Prop :=
  (∀ a x, ((![v296] : Fin 1 → IVec S16 32) a x).toNat < S2000.size a)
theorem k0_idx50_inb : ∀ (v296 : IVec S16 32) (k0_hw50 : k0_chk50 v296), ∀ a x, ((![v296] : Fin 1 → IVec S16 32) a x).toNat < S2000.size a := fun v296 k0_hw50 => k0_hw50

def k0_chk51 (v300 : IVec S16 32) : Prop :=
  (∀ a x, ((![v300] : Fin 1 → IVec S16 32) a x).toNat < S25600.size a)
theorem k0_idx51_inb : ∀ (v300 : IVec S16 32) (k0_hw51 : k0_chk51 v300), ∀ a x, ((![v300] : Fin 1 → IVec S16 32) a x).toNat < S25600.size a := fun v300 k0_hw51 => k0_hw51

def k0_chk52 (v301 : IVec S16 32) : Prop :=
  (∀ a x, ((![v301] : Fin 1 → IVec S16 32) a x).toNat < S2000.size a)
theorem k0_idx52_inb : ∀ (v301 : IVec S16 32) (k0_hw52 : k0_chk52 v301), ∀ a x, ((![v301] : Fin 1 → IVec S16 32) a x).toNat < S2000.size a := fun v301 k0_hw52 => k0_hw52

def k0_chk53 (v305 : IVec S16 32) : Prop :=
  (∀ a x, ((![v305] : Fin 1 → IVec S16 32) a x).toNat < S25600.size a)
theorem k0_idx53_inb : ∀ (v305 : IVec S16 32) (k0_hw53 : k0_chk53 v305), ∀ a x, ((![v305] : Fin 1 → IVec S16 32) a x).toNat < S25600.size a := fun v305 k0_hw53 => k0_hw53

def k0_chk54 (v306 : IVec S16 32) : Prop :=
  (∀ a x, ((![v306] : Fin 1 → IVec S16 32) a x).toNat < S2000.size a)
theorem k0_idx54_inb : ∀ (v306 : IVec S16 32) (k0_hw54 : k0_chk54 v306), ∀ a x, ((![v306] : Fin 1 → IVec S16 32) a x).toNat < S2000.size a := fun v306 k0_hw54 => k0_hw54

def k0_chk55 (v310 : IVec S16 32) : Prop :=
  (∀ a x, ((![v310] : Fin 1 → IVec S16 32) a x).toNat < S25600.size a)
theorem k0_idx55_inb : ∀ (v310 : IVec S16 32) (k0_hw55 : k0_chk55 v310), ∀ a x, ((![v310] : Fin 1 → IVec S16 32) a x).toNat < S25600.size a := fun v310 k0_hw55 => k0_hw55

def k0_chk56 (v311 : IVec S16 32) : Prop :=
  (∀ a x, ((![v311] : Fin 1 → IVec S16 32) a x).toNat < S2000.size a)
theorem k0_idx56_inb : ∀ (v311 : IVec S16 32) (k0_hw56 : k0_chk56 v311), ∀ a x, ((![v311] : Fin 1 → IVec S16 32) a x).toNat < S2000.size a := fun v311 k0_hw56 => k0_hw56

def k0_chk57 (v315 : IVec S16 32) : Prop :=
  (∀ a x, ((![v315] : Fin 1 → IVec S16 32) a x).toNat < S25600.size a)
theorem k0_idx57_inb : ∀ (v315 : IVec S16 32) (k0_hw57 : k0_chk57 v315), ∀ a x, ((![v315] : Fin 1 → IVec S16 32) a x).toNat < S25600.size a := fun v315 k0_hw57 => k0_hw57

def k0_chk58 (v316 : IVec S16 32) : Prop :=
  (∀ a x, ((![v316] : Fin 1 → IVec S16 32) a x).toNat < S2000.size a)
theorem k0_idx58_inb : ∀ (v316 : IVec S16 32) (k0_hw58 : k0_chk58 v316), ∀ a x, ((![v316] : Fin 1 → IVec S16 32) a x).toNat < S2000.size a := fun v316 k0_hw58 => k0_hw58

def k0_chk59 (v320 : IVec S16 32) : Prop :=
  (∀ a x, ((![v320] : Fin 1 → IVec S16 32) a x).toNat < S25600.size a)
theorem k0_idx59_inb : ∀ (v320 : IVec S16 32) (k0_hw59 : k0_chk59 v320), ∀ a x, ((![v320] : Fin 1 → IVec S16 32) a x).toNat < S25600.size a := fun v320 k0_hw59 => k0_hw59

def k0_chk60 (v321 : IVec S16 32) : Prop :=
  (∀ a x, ((![v321] : Fin 1 → IVec S16 32) a x).toNat < S2000.size a)
theorem k0_idx60_inb : ∀ (v321 : IVec S16 32) (k0_hw60 : k0_chk60 v321), ∀ a x, ((![v321] : Fin 1 → IVec S16 32) a x).toNat < S2000.size a := fun v321 k0_hw60 => k0_hw60

def k0_chk61 (v325 : IVec S16 32) : Prop :=
  (∀ a x, ((![v325] : Fin 1 → IVec S16 32) a x).toNat < S25600.size a)
theorem k0_idx61_inb : ∀ (v325 : IVec S16 32) (k0_hw61 : k0_chk61 v325), ∀ a x, ((![v325] : Fin 1 → IVec S16 32) a x).toNat < S25600.size a := fun v325 k0_hw61 => k0_hw61

def k0_chk62 (v326 : IVec S16 32) : Prop :=
  (∀ a x, ((![v326] : Fin 1 → IVec S16 32) a x).toNat < S2000.size a)
theorem k0_idx62_inb : ∀ (v326 : IVec S16 32) (k0_hw62 : k0_chk62 v326), ∀ a x, ((![v326] : Fin 1 → IVec S16 32) a x).toNat < S2000.size a := fun v326 k0_hw62 => k0_hw62

def k0_chk63 (v330 : IVec S16 32) : Prop :=
  (∀ a x, ((![v330] : Fin 1 → IVec S16 32) a x).toNat < S25600.size a)
theorem k0_idx63_inb : ∀ (v330 : IVec S16 32) (k0_hw63 : k0_chk63 v330), ∀ a x, ((![v330] : Fin 1 → IVec S16 32) a x).toNat < S25600.size a := fun v330 k0_hw63 => k0_hw63

def k0_chk64 (v331 : IVec S16 32) : Prop :=
  (∀ a x, ((![v331] : Fin 1 → IVec S16 32) a x).toNat < S2000.size a)
theorem k0_idx64_inb : ∀ (v331 : IVec S16 32) (k0_hw64 : k0_chk64 v331), ∀ a x, ((![v331] : Fin 1 → IVec S16 32) a x).toNat < S2000.size a := fun v331 k0_hw64 => k0_hw64

def k0_chk65 (v335 : IVec S16 32) : Prop :=
  (∀ a x, ((![v335] : Fin 1 → IVec S16 32) a x).toNat < S25600.size a)
theorem k0_idx65_inb : ∀ (v335 : IVec S16 32) (k0_hw65 : k0_chk65 v335), ∀ a x, ((![v335] : Fin 1 → IVec S16 32) a x).toNat < S25600.size a := fun v335 k0_hw65 => k0_hw65

def k0_chk66 (v336 : IVec S16 32) : Prop :=
  (∀ a x, ((![v336] : Fin 1 → IVec S16 32) a x).toNat < S2000.size a)
theorem k0_idx66_inb : ∀ (v336 : IVec S16 32) (k0_hw66 : k0_chk66 v336), ∀ a x, ((![v336] : Fin 1 → IVec S16 32) a x).toNat < S2000.size a := fun v336 k0_hw66 => k0_hw66

def k0_chk67 (v340 : IVec S16 32) : Prop :=
  (∀ a x, ((![v340] : Fin 1 → IVec S16 32) a x).toNat < S25600.size a)
theorem k0_idx67_inb : ∀ (v340 : IVec S16 32) (k0_hw67 : k0_chk67 v340), ∀ a x, ((![v340] : Fin 1 → IVec S16 32) a x).toNat < S25600.size a := fun v340 k0_hw67 => k0_hw67

def k0_chk68 (v341 : IVec S16 32) : Prop :=
  (∀ a x, ((![v341] : Fin 1 → IVec S16 32) a x).toNat < S2000.size a)
theorem k0_idx68_inb : ∀ (v341 : IVec S16 32) (k0_hw68 : k0_chk68 v341), ∀ a x, ((![v341] : Fin 1 → IVec S16 32) a x).toNat < S2000.size a := fun v341 k0_hw68 => k0_hw68

def k0_chk69 (v345 : IVec S16 32) : Prop :=
  (∀ a x, ((![v345] : Fin 1 → IVec S16 32) a x).toNat < S25600.size a)
theorem k0_idx69_inb : ∀ (v345 : IVec S16 32) (k0_hw69 : k0_chk69 v345), ∀ a x, ((![v345] : Fin 1 → IVec S16 32) a x).toNat < S25600.size a := fun v345 k0_hw69 => k0_hw69

def k0_chk70 (v346 : IVec S16 32) : Prop :=
  (∀ a x, ((![v346] : Fin 1 → IVec S16 32) a x).toNat < S2000.size a)
theorem k0_idx70_inb : ∀ (v346 : IVec S16 32) (k0_hw70 : k0_chk70 v346), ∀ a x, ((![v346] : Fin 1 → IVec S16 32) a x).toNat < S2000.size a := fun v346 k0_hw70 => k0_hw70

def k0_chk71 (v350 : IVec S16 32) : Prop :=
  (∀ a x, ((![v350] : Fin 1 → IVec S16 32) a x).toNat < S25600.size a)
theorem k0_idx71_inb : ∀ (v350 : IVec S16 32) (k0_hw71 : k0_chk71 v350), ∀ a x, ((![v350] : Fin 1 → IVec S16 32) a x).toNat < S25600.size a := fun v350 k0_hw71 => k0_hw71

def k0_chk72 (v351 : IVec S16 32) : Prop :=
  (∀ a x, ((![v351] : Fin 1 → IVec S16 32) a x).toNat < S2000.size a)
theorem k0_idx72_inb : ∀ (v351 : IVec S16 32) (k0_hw72 : k0_chk72 v351), ∀ a x, ((![v351] : Fin 1 → IVec S16 32) a x).toNat < S2000.size a := fun v351 k0_hw72 => k0_hw72

def k0_chk73 (v355 : IVec S16 32) : Prop :=
  (∀ a x, ((![v355] : Fin 1 → IVec S16 32) a x).toNat < S25600.size a)
theorem k0_idx73_inb : ∀ (v355 : IVec S16 32) (k0_hw73 : k0_chk73 v355), ∀ a x, ((![v355] : Fin 1 → IVec S16 32) a x).toNat < S25600.size a := fun v355 k0_hw73 => k0_hw73

def k0_chk74 (v356 : IVec S16 32) : Prop :=
  (∀ a x, ((![v356] : Fin 1 → IVec S16 32) a x).toNat < S2000.size a)
theorem k0_idx74_inb : ∀ (v356 : IVec S16 32) (k0_hw74 : k0_chk74 v356), ∀ a x, ((![v356] : Fin 1 → IVec S16 32) a x).toNat < S2000.size a := fun v356 k0_hw74 => k0_hw74

def k0_chk75 (v360 : IVec S16 32) : Prop :=
  (∀ a x, ((![v360] : Fin 1 → IVec S16 32) a x).toNat < S25600.size a)
theorem k0_idx75_inb : ∀ (v360 : IVec S16 32) (k0_hw75 : k0_chk75 v360), ∀ a x, ((![v360] : Fin 1 → IVec S16 32) a x).toNat < S25600.size a := fun v360 k0_hw75 => k0_hw75

def k0_chk76 (v361 : IVec S16 32) : Prop :=
  (∀ a x, ((![v361] : Fin 1 → IVec S16 32) a x).toNat < S2000.size a)
theorem k0_idx76_inb : ∀ (v361 : IVec S16 32) (k0_hw76 : k0_chk76 v361), ∀ a x, ((![v361] : Fin 1 → IVec S16 32) a x).toNat < S2000.size a := fun v361 k0_hw76 => k0_hw76

def k0_chk77 (v365 : IVec S16 32) : Prop :=
  (∀ a x, ((![v365] : Fin 1 → IVec S16 32) a x).toNat < S25600.size a)
theorem k0_idx77_inb : ∀ (v365 : IVec S16 32) (k0_hw77 : k0_chk77 v365), ∀ a x, ((![v365] : Fin 1 → IVec S16 32) a x).toNat < S25600.size a := fun v365 k0_hw77 => k0_hw77

def k0_chk78 (v366 : IVec S16 32) : Prop :=
  (∀ a x, ((![v366] : Fin 1 → IVec S16 32) a x).toNat < S2000.size a)
theorem k0_idx78_inb : ∀ (v366 : IVec S16 32) (k0_hw78 : k0_chk78 v366), ∀ a x, ((![v366] : Fin 1 → IVec S16 32) a x).toNat < S2000.size a := fun v366 k0_hw78 => k0_hw78

def k0_chk79 (v370 : IVec S16 32) : Prop :=
  (∀ a x, ((![v370] : Fin 1 → IVec S16 32) a x).toNat < S25600.size a)
theorem k0_idx79_inb : ∀ (v370 : IVec S16 32) (k0_hw79 : k0_chk79 v370), ∀ a x, ((![v370] : Fin 1 → IVec S16 32) a x).toNat < S25600.size a := fun v370 k0_hw79 => k0_hw79

def k0_chk80 (v371 : IVec S16 32) : Prop :=
  (∀ a x, ((![v371] : Fin 1 → IVec S16 32) a x).toNat < S2000.size a)
theorem k0_idx80_inb : ∀ (v371 : IVec S16 32) (k0_hw80 : k0_chk80 v371), ∀ a x, ((![v371] : Fin 1 → IVec S16 32) a x).toNat < S2000.size a := fun v371 k0_hw80 => k0_hw80

def k0_chk81 (v375 : IVec S16 32) : Prop :=
  (∀ a x, ((![v375] : Fin 1 → IVec S16 32) a x).toNat < S25600.size a)
theorem k0_idx81_inb : ∀ (v375 : IVec S16 32) (k0_hw81 : k0_chk81 v375), ∀ a x, ((![v375] : Fin 1 → IVec S16 32) a x).toNat < S25600.size a := fun v375 k0_hw81 => k0_hw81

def k0_chk82 (v376 : IVec S16 32) : Prop :=
  (∀ a x, ((![v376] : Fin 1 → IVec S16 32) a x).toNat < S2000.size a)
theorem k0_idx82_inb : ∀ (v376 : IVec S16 32) (k0_hw82 : k0_chk82 v376), ∀ a x, ((![v376] : Fin 1 → IVec S16 32) a x).toNat < S2000.size a := fun v376 k0_hw82 => k0_hw82

def k0_chk83 (v380 : IVec S16 32) : Prop :=
  (∀ a x, ((![v380] : Fin 1 → IVec S16 32) a x).toNat < S25600.size a)
theorem k0_idx83_inb : ∀ (v380 : IVec S16 32) (k0_hw83 : k0_chk83 v380), ∀ a x, ((![v380] : Fin 1 → IVec S16 32) a x).toNat < S25600.size a := fun v380 k0_hw83 => k0_hw83

def k0_chk84 (v381 : IVec S16 32) : Prop :=
  (∀ a x, ((![v381] : Fin 1 → IVec S16 32) a x).toNat < S2000.size a)
theorem k0_idx84_inb : ∀ (v381 : IVec S16 32) (k0_hw84 : k0_chk84 v381), ∀ a x, ((![v381] : Fin 1 → IVec S16 32) a x).toNat < S2000.size a := fun v381 k0_hw84 => k0_hw84

def k0_chk85 (v385 : IVec S16 32) : Prop :=
  (∀ a x, ((![v385] : Fin 1 → IVec S16 32) a x).toNat < S25600.size a)
theorem k0_idx85_inb : ∀ (v385 : IVec S16 32) (k0_hw85 : k0_chk85 v385), ∀ a x, ((![v385] : Fin 1 → IVec S16 32) a x).toNat < S25600.size a := fun v385 k0_hw85 => k0_hw85

def k0_chk86 (v386 : IVec S16 32) : Prop :=
  (∀ a x, ((![v386] : Fin 1 → IVec S16 32) a x).toNat < S2000.size a)
theorem k0_idx86_inb : ∀ (v386 : IVec S16 32) (k0_hw86 : k0_chk86 v386), ∀ a x, ((![v386] : Fin 1 → IVec S16 32) a x).toNat < S2000.size a := fun v386 k0_hw86 => k0_hw86

def k0_chk87 (v390 : IVec S16 32) : Prop :=
  (∀ a x, ((![v390] : Fin 1 → IVec S16 32) a x).toNat < S25600.size a)
theorem k0_idx87_inb : ∀ (v390 : IVec S16 32) (k0_hw87 : k0_chk87 v390), ∀ a x, ((![v390] : Fin 1 → IVec S16 32) a x).toNat < S25600.size a := fun v390 k0_hw87 => k0_hw87

def k0_chk88 (v391 : IVec S16 32) : Prop :=
  (∀ a x, ((![v391] : Fin 1 → IVec S16 32) a x).toNat < S2000.size a)
theorem k0_idx88_inb : ∀ (v391 : IVec S16 32) (k0_hw88 : k0_chk88 v391), ∀ a x, ((![v391] : Fin 1 → IVec S16 32) a x).toNat < S2000.size a := fun v391 k0_hw88 => k0_hw88

def k0_chk89 (v395 : IVec S16 32) : Prop :=
  (∀ a x, ((![v395] : Fin 1 → IVec S16 32) a x).toNat < S25600.size a)
theorem k0_idx89_inb : ∀ (v395 : IVec S16 32) (k0_hw89 : k0_chk89 v395), ∀ a x, ((![v395] : Fin 1 → IVec S16 32) a x).toNat < S25600.size a := fun v395 k0_hw89 => k0_hw89

def k0_chk90 (v396 : IVec S16 32) : Prop :=
  (∀ a x, ((![v396] : Fin 1 → IVec S16 32) a x).toNat < S2000.size a)
theorem k0_idx90_inb : ∀ (v396 : IVec S16 32) (k0_hw90 : k0_chk90 v396), ∀ a x, ((![v396] : Fin 1 → IVec S16 32) a x).toNat < S2000.size a := fun v396 k0_hw90 => k0_hw90

def k0_chk91 (v400 : IVec S16 32) : Prop :=
  (∀ a x, ((![v400] : Fin 1 → IVec S16 32) a x).toNat < S25600.size a)
theorem k0_idx91_inb : ∀ (v400 : IVec S16 32) (k0_hw91 : k0_chk91 v400), ∀ a x, ((![v400] : Fin 1 → IVec S16 32) a x).toNat < S25600.size a := fun v400 k0_hw91 => k0_hw91

def k0_chk92 (v401 : IVec S16 32) : Prop :=
  (∀ a x, ((![v401] : Fin 1 → IVec S16 32) a x).toNat < S2000.size a)
theorem k0_idx92_inb : ∀ (v401 : IVec S16 32) (k0_hw92 : k0_chk92 v401), ∀ a x, ((![v401] : Fin 1 → IVec S16 32) a x).toNat < S2000.size a := fun v401 k0_hw92 => k0_hw92

def k0_chk93 (v405 : IVec S16 32) : Prop :=
  (∀ a x, ((![v405] : Fin 1 → IVec S16 32) a x).toNat < S25600.size a)
theorem k0_idx93_inb : ∀ (v405 : IVec S16 32) (k0_hw93 : k0_chk93 v405), ∀ a x, ((![v405] : Fin 1 → IVec S16 32) a x).toNat < S25600.size a := fun v405 k0_hw93 => k0_hw93

def k0_chk94 (v406 : IVec S16 32) : Prop :=
  (∀ a x, ((![v406] : Fin 1 → IVec S16 32) a x).toNat < S2000.size a)
theorem k0_idx94_inb : ∀ (v406 : IVec S16 32) (k0_hw94 : k0_chk94 v406), ∀ a x, ((![v406] : Fin 1 → IVec S16 32) a x).toNat < S2000.size a := fun v406 k0_hw94 => k0_hw94

def k0_chk95 (v410 : IVec S16 32) : Prop :=
  (∀ a x, ((![v410] : Fin 1 → IVec S16 32) a x).toNat < S25600.size a)
theorem k0_idx95_inb : ∀ (v410 : IVec S16 32) (k0_hw95 : k0_chk95 v410), ∀ a x, ((![v410] : Fin 1 → IVec S16 32) a x).toNat < S25600.size a := fun v410 k0_hw95 => k0_hw95

def k0_chk96 (v411 : IVec S16 32) : Prop :=
  (∀ a x, ((![v411] : Fin 1 → IVec S16 32) a x).toNat < S2000.size a)
theorem k0_idx96_inb : ∀ (v411 : IVec S16 32) (k0_hw96 : k0_chk96 v411), ∀ a x, ((![v411] : Fin 1 → IVec S16 32) a x).toNat < S2000.size a := fun v411 k0_hw96 => k0_hw96

def k0_chk97 (v415 : IVec S16 32) : Prop :=
  (∀ a x, ((![v415] : Fin 1 → IVec S16 32) a x).toNat < S25600.size a)
theorem k0_idx97_inb : ∀ (v415 : IVec S16 32) (k0_hw97 : k0_chk97 v415), ∀ a x, ((![v415] : Fin 1 → IVec S16 32) a x).toNat < S25600.size a := fun v415 k0_hw97 => k0_hw97

def k0_chk98 (v416 : IVec S16 32) : Prop :=
  (∀ a x, ((![v416] : Fin 1 → IVec S16 32) a x).toNat < S2000.size a)
theorem k0_idx98_inb : ∀ (v416 : IVec S16 32) (k0_hw98 : k0_chk98 v416), ∀ a x, ((![v416] : Fin 1 → IVec S16 32) a x).toNat < S2000.size a := fun v416 k0_hw98 => k0_hw98

def k0_chk99 (v420 : IVec S16 32) : Prop :=
  (∀ a x, ((![v420] : Fin 1 → IVec S16 32) a x).toNat < S25600.size a)
theorem k0_idx99_inb : ∀ (v420 : IVec S16 32) (k0_hw99 : k0_chk99 v420), ∀ a x, ((![v420] : Fin 1 → IVec S16 32) a x).toNat < S25600.size a := fun v420 k0_hw99 => k0_hw99

def k0_chk100 (v421 : IVec S16 32) : Prop :=
  (∀ a x, ((![v421] : Fin 1 → IVec S16 32) a x).toNat < S2000.size a)
theorem k0_idx100_inb : ∀ (v421 : IVec S16 32) (k0_hw100 : k0_chk100 v421), ∀ a x, ((![v421] : Fin 1 → IVec S16 32) a x).toNat < S2000.size a := fun v421 k0_hw100 => k0_hw100

def k0_chk101 (v428 : IVec S16 32) : Prop :=
  (∀ a x, ((![v428] : Fin 1 → IVec S16 32) a x).toNat < S8192.size a)
theorem k0_idx101_inb : ∀ (v428 : IVec S16 32) (k0_hw101 : k0_chk101 v428), ∀ a x, ((![v428] : Fin 1 → IVec S16 32) a x).toNat < S8192.size a := fun v428 k0_hw101 => k0_hw101

def k0_chk102 (v434 : IVec S16 32) : Prop :=
  (∀ a x, ((![v434] : Fin 1 → IVec S16 32) a x).toNat < S8192.size a)
theorem k0_idx102_inb : ∀ (v434 : IVec S16 32) (k0_hw102 : k0_chk102 v434), ∀ a x, ((![v434] : Fin 1 → IVec S16 32) a x).toNat < S8192.size a := fun v434 k0_hw102 => k0_hw102

def k0_chk103 (v440 : IVec S16 32) : Prop :=
  (∀ a x, ((![v440] : Fin 1 → IVec S16 32) a x).toNat < S8192.size a)
theorem k0_idx103_inb : ∀ (v440 : IVec S16 32) (k0_hw103 : k0_chk103 v440), ∀ a x, ((![v440] : Fin 1 → IVec S16 32) a x).toNat < S8192.size a := fun v440 k0_hw103 => k0_hw103

def k0_chk104 (v446 : IVec S16 32) : Prop :=
  (∀ a x, ((![v446] : Fin 1 → IVec S16 32) a x).toNat < S8192.size a)
theorem k0_idx104_inb : ∀ (v446 : IVec S16 32) (k0_hw104 : k0_chk104 v446), ∀ a x, ((![v446] : Fin 1 → IVec S16 32) a x).toNat < S8192.size a := fun v446 k0_hw104 => k0_hw104

def k0_chk105 (v452 : IVec S16 32) : Prop :=
  (∀ a x, ((![v452] : Fin 1 → IVec S16 32) a x).toNat < S8192.size a)
theorem k0_idx105_inb : ∀ (v452 : IVec S16 32) (k0_hw105 : k0_chk105 v452), ∀ a x, ((![v452] : Fin 1 → IVec S16 32) a x).toNat < S8192.size a := fun v452 k0_hw105 => k0_hw105

def k0_chk106 (v458 : IVec S16 32) : Prop :=
  (∀ a x, ((![v458] : Fin 1 → IVec S16 32) a x).toNat < S8192.size a)
theorem k0_idx106_inb : ∀ (v458 : IVec S16 32) (k0_hw106 : k0_chk106 v458), ∀ a x, ((![v458] : Fin 1 → IVec S16 32) a x).toNat < S8192.size a := fun v458 k0_hw106 => k0_hw106

def k0_chk107 (v464 : IVec S16 32) : Prop :=
  (∀ a x, ((![v464] : Fin 1 → IVec S16 32) a x).toNat < S8192.size a)
theorem k0_idx107_inb : ∀ (v464 : IVec S16 32) (k0_hw107 : k0_chk107 v464), ∀ a x, ((![v464] : Fin 1 → IVec S16 32) a x).toNat < S8192.size a := fun v464 k0_hw107 => k0_hw107

def k0_chk108 (v470 : IVec S16 32) : Prop :=
  (∀ a x, ((![v470] : Fin 1 → IVec S16 32) a x).toNat < S8192.size a)
theorem k0_idx108_inb : ∀ (v470 : IVec S16 32) (k0_hw108 : k0_chk108 v470), ∀ a x, ((![v470] : Fin 1 → IVec S16 32) a x).toNat < S8192.size a := fun v470 k0_hw108 => k0_hw108

def k0_chk109 (v476 : IVec S16 32) : Prop :=
  (∀ a x, ((![v476] : Fin 1 → IVec S16 32) a x).toNat < S8192.size a)
theorem k0_idx109_inb : ∀ (v476 : IVec S16 32) (k0_hw109 : k0_chk109 v476), ∀ a x, ((![v476] : Fin 1 → IVec S16 32) a x).toNat < S8192.size a := fun v476 k0_hw109 => k0_hw109

def k0_chk110 (v482 : IVec S16 32) : Prop :=
  (∀ a x, ((![v482] : Fin 1 → IVec S16 32) a x).toNat < S8192.size a)
theorem k0_idx110_inb : ∀ (v482 : IVec S16 32) (k0_hw110 : k0_chk110 v482), ∀ a x, ((![v482] : Fin 1 → IVec S16 32) a x).toNat < S8192.size a := fun v482 k0_hw110 => k0_hw110

def k0_chk111 (v488 : IVec S16 32) : Prop :=
  (∀ a x, ((![v488] : Fin 1 → IVec S16 32) a x).toNat < S8192.size a)
theorem k0_idx111_inb : ∀ (v488 : IVec S16 32) (k0_hw111 : k0_chk111 v488), ∀ a x, ((![v488] : Fin 1 → IVec S16 32) a x).toNat < S8192.size a := fun v488 k0_hw111 => k0_hw111

def k0_chk112 (v494 : IVec S16 32) : Prop :=
  (∀ a x, ((![v494] : Fin 1 → IVec S16 32) a x).toNat < S8192.size a)
theorem k0_idx112_inb : ∀ (v494 : IVec S16 32) (k0_hw112 : k0_chk112 v494), ∀ a x, ((![v494] : Fin 1 → IVec S16 32) a x).toNat < S8192.size a := fun v494 k0_hw112 => k0_hw112

def k0_chk113 (v500 : IVec S16 32) : Prop :=
  (∀ a x, ((![v500] : Fin 1 → IVec S16 32) a x).toNat < S8192.size a)
theorem k0_idx113_inb : ∀ (v500 : IVec S16 32) (k0_hw113 : k0_chk113 v500), ∀ a x, ((![v500] : Fin 1 → IVec S16 32) a x).toNat < S8192.size a := fun v500 k0_hw113 => k0_hw113

def k0_chk114 (v506 : IVec S16 32) : Prop :=
  (∀ a x, ((![v506] : Fin 1 → IVec S16 32) a x).toNat < S8192.size a)
theorem k0_idx114_inb : ∀ (v506 : IVec S16 32) (k0_hw114 : k0_chk114 v506), ∀ a x, ((![v506] : Fin 1 → IVec S16 32) a x).toNat < S8192.size a := fun v506 k0_hw114 => k0_hw114

def k0_chk115 (v512 : IVec S16 32) : Prop :=
  (∀ a x, ((![v512] : Fin 1 → IVec S16 32) a x).toNat < S8192.size a)
theorem k0_idx115_inb : ∀ (v512 : IVec S16 32) (k0_hw115 : k0_chk115 v512), ∀ a x, ((![v512] : Fin 1 → IVec S16 32) a x).toNat < S8192.size a := fun v512 k0_hw115 => k0_hw115

def k0_chk116 (v518 : IVec S16 32) : Prop :=
  (∀ a x, ((![v518] : Fin 1 → IVec S16 32) a x).toNat < S8192.size a)
theorem k0_idx116_inb : ∀ (v518 : IVec S16 32) (k0_hw116 : k0_chk116 v518), ∀ a x, ((![v518] : Fin 1 → IVec S16 32) a x).toNat < S8192.size a := fun v518 k0_hw116 => k0_hw116
def k0_off3 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v114 : BitVec 32 := Scalar.muli v1 c8_i32
  let v115 : BitVec 32 := Scalar.addi v114 c0_i32_1
  let c8000_i32 : BitVec 32 := 8000#32
  let v120 : BitVec 32 := Scalar.muli v115 c8000_i32
  ![v120.toNat]
@[reducible] def k0_t2_loop : Scf.Loop 32 :=
  let c0_i32_10 : BitVec 32 := 0#32
  let c32_i32_11 : BitVec 32 := 32#32
  let v125 : BitVec 32 := Scalar.addi c0_i32_10 c32_i32_11
  let c1_i32_12 : BitVec 32 := 1#32
  ⟨c0_i32_10, v125, c1_i32_12⟩

def k0_chk117 (v175 : IVec S16 32) : Prop :=
  (∀ a x, ((![v175] : Fin 1 → IVec S16 32) a x).toNat < S25600.size a)
theorem k0_idx117_inb : ∀ (v175 : IVec S16 32) (k0_hw117 : k0_chk117 v175), ∀ a x, ((![v175] : Fin 1 → IVec S16 32) a x).toNat < S25600.size a := fun v175 k0_hw117 => k0_hw117

def k0_chk118 (v176 : IVec S16 32) : Prop :=
  (∀ a x, ((![v176] : Fin 1 → IVec S16 32) a x).toNat < S2000.size a)
theorem k0_idx118_inb : ∀ (v176 : IVec S16 32) (k0_hw118 : k0_chk118 v176), ∀ a x, ((![v176] : Fin 1 → IVec S16 32) a x).toNat < S2000.size a := fun v176 k0_hw118 => k0_hw118

def k0_chk119 (v180 : IVec S16 32) : Prop :=
  (∀ a x, ((![v180] : Fin 1 → IVec S16 32) a x).toNat < S25600.size a)
theorem k0_idx119_inb : ∀ (v180 : IVec S16 32) (k0_hw119 : k0_chk119 v180), ∀ a x, ((![v180] : Fin 1 → IVec S16 32) a x).toNat < S25600.size a := fun v180 k0_hw119 => k0_hw119

def k0_chk120 (v181 : IVec S16 32) : Prop :=
  (∀ a x, ((![v181] : Fin 1 → IVec S16 32) a x).toNat < S2000.size a)
theorem k0_idx120_inb : ∀ (v181 : IVec S16 32) (k0_hw120 : k0_chk120 v181), ∀ a x, ((![v181] : Fin 1 → IVec S16 32) a x).toNat < S2000.size a := fun v181 k0_hw120 => k0_hw120

def k0_chk121 (v185 : IVec S16 32) : Prop :=
  (∀ a x, ((![v185] : Fin 1 → IVec S16 32) a x).toNat < S25600.size a)
theorem k0_idx121_inb : ∀ (v185 : IVec S16 32) (k0_hw121 : k0_chk121 v185), ∀ a x, ((![v185] : Fin 1 → IVec S16 32) a x).toNat < S25600.size a := fun v185 k0_hw121 => k0_hw121

def k0_chk122 (v186 : IVec S16 32) : Prop :=
  (∀ a x, ((![v186] : Fin 1 → IVec S16 32) a x).toNat < S2000.size a)
theorem k0_idx122_inb : ∀ (v186 : IVec S16 32) (k0_hw122 : k0_chk122 v186), ∀ a x, ((![v186] : Fin 1 → IVec S16 32) a x).toNat < S2000.size a := fun v186 k0_hw122 => k0_hw122

def k0_chk123 (v190 : IVec S16 32) : Prop :=
  (∀ a x, ((![v190] : Fin 1 → IVec S16 32) a x).toNat < S25600.size a)
theorem k0_idx123_inb : ∀ (v190 : IVec S16 32) (k0_hw123 : k0_chk123 v190), ∀ a x, ((![v190] : Fin 1 → IVec S16 32) a x).toNat < S25600.size a := fun v190 k0_hw123 => k0_hw123

def k0_chk124 (v191 : IVec S16 32) : Prop :=
  (∀ a x, ((![v191] : Fin 1 → IVec S16 32) a x).toNat < S2000.size a)
theorem k0_idx124_inb : ∀ (v191 : IVec S16 32) (k0_hw124 : k0_chk124 v191), ∀ a x, ((![v191] : Fin 1 → IVec S16 32) a x).toNat < S2000.size a := fun v191 k0_hw124 => k0_hw124

def k0_chk125 (v195 : IVec S16 32) : Prop :=
  (∀ a x, ((![v195] : Fin 1 → IVec S16 32) a x).toNat < S25600.size a)
theorem k0_idx125_inb : ∀ (v195 : IVec S16 32) (k0_hw125 : k0_chk125 v195), ∀ a x, ((![v195] : Fin 1 → IVec S16 32) a x).toNat < S25600.size a := fun v195 k0_hw125 => k0_hw125

def k0_chk126 (v196 : IVec S16 32) : Prop :=
  (∀ a x, ((![v196] : Fin 1 → IVec S16 32) a x).toNat < S2000.size a)
theorem k0_idx126_inb : ∀ (v196 : IVec S16 32) (k0_hw126 : k0_chk126 v196), ∀ a x, ((![v196] : Fin 1 → IVec S16 32) a x).toNat < S2000.size a := fun v196 k0_hw126 => k0_hw126

def k0_chk127 (v200 : IVec S16 32) : Prop :=
  (∀ a x, ((![v200] : Fin 1 → IVec S16 32) a x).toNat < S25600.size a)
theorem k0_idx127_inb : ∀ (v200 : IVec S16 32) (k0_hw127 : k0_chk127 v200), ∀ a x, ((![v200] : Fin 1 → IVec S16 32) a x).toNat < S25600.size a := fun v200 k0_hw127 => k0_hw127

def k0_chk128 (v201 : IVec S16 32) : Prop :=
  (∀ a x, ((![v201] : Fin 1 → IVec S16 32) a x).toNat < S2000.size a)
theorem k0_idx128_inb : ∀ (v201 : IVec S16 32) (k0_hw128 : k0_chk128 v201), ∀ a x, ((![v201] : Fin 1 → IVec S16 32) a x).toNat < S2000.size a := fun v201 k0_hw128 => k0_hw128

def k0_chk129 (v205 : IVec S16 32) : Prop :=
  (∀ a x, ((![v205] : Fin 1 → IVec S16 32) a x).toNat < S25600.size a)
theorem k0_idx129_inb : ∀ (v205 : IVec S16 32) (k0_hw129 : k0_chk129 v205), ∀ a x, ((![v205] : Fin 1 → IVec S16 32) a x).toNat < S25600.size a := fun v205 k0_hw129 => k0_hw129

def k0_chk130 (v206 : IVec S16 32) : Prop :=
  (∀ a x, ((![v206] : Fin 1 → IVec S16 32) a x).toNat < S2000.size a)
theorem k0_idx130_inb : ∀ (v206 : IVec S16 32) (k0_hw130 : k0_chk130 v206), ∀ a x, ((![v206] : Fin 1 → IVec S16 32) a x).toNat < S2000.size a := fun v206 k0_hw130 => k0_hw130

def k0_chk131 (v210 : IVec S16 32) : Prop :=
  (∀ a x, ((![v210] : Fin 1 → IVec S16 32) a x).toNat < S25600.size a)
theorem k0_idx131_inb : ∀ (v210 : IVec S16 32) (k0_hw131 : k0_chk131 v210), ∀ a x, ((![v210] : Fin 1 → IVec S16 32) a x).toNat < S25600.size a := fun v210 k0_hw131 => k0_hw131

def k0_chk132 (v211 : IVec S16 32) : Prop :=
  (∀ a x, ((![v211] : Fin 1 → IVec S16 32) a x).toNat < S2000.size a)
theorem k0_idx132_inb : ∀ (v211 : IVec S16 32) (k0_hw132 : k0_chk132 v211), ∀ a x, ((![v211] : Fin 1 → IVec S16 32) a x).toNat < S2000.size a := fun v211 k0_hw132 => k0_hw132

def k0_chk133 (v215 : IVec S16 32) : Prop :=
  (∀ a x, ((![v215] : Fin 1 → IVec S16 32) a x).toNat < S25600.size a)
theorem k0_idx133_inb : ∀ (v215 : IVec S16 32) (k0_hw133 : k0_chk133 v215), ∀ a x, ((![v215] : Fin 1 → IVec S16 32) a x).toNat < S25600.size a := fun v215 k0_hw133 => k0_hw133

def k0_chk134 (v216 : IVec S16 32) : Prop :=
  (∀ a x, ((![v216] : Fin 1 → IVec S16 32) a x).toNat < S2000.size a)
theorem k0_idx134_inb : ∀ (v216 : IVec S16 32) (k0_hw134 : k0_chk134 v216), ∀ a x, ((![v216] : Fin 1 → IVec S16 32) a x).toNat < S2000.size a := fun v216 k0_hw134 => k0_hw134

def k0_chk135 (v220 : IVec S16 32) : Prop :=
  (∀ a x, ((![v220] : Fin 1 → IVec S16 32) a x).toNat < S25600.size a)
theorem k0_idx135_inb : ∀ (v220 : IVec S16 32) (k0_hw135 : k0_chk135 v220), ∀ a x, ((![v220] : Fin 1 → IVec S16 32) a x).toNat < S25600.size a := fun v220 k0_hw135 => k0_hw135

def k0_chk136 (v221 : IVec S16 32) : Prop :=
  (∀ a x, ((![v221] : Fin 1 → IVec S16 32) a x).toNat < S2000.size a)
theorem k0_idx136_inb : ∀ (v221 : IVec S16 32) (k0_hw136 : k0_chk136 v221), ∀ a x, ((![v221] : Fin 1 → IVec S16 32) a x).toNat < S2000.size a := fun v221 k0_hw136 => k0_hw136

def k0_chk137 (v225 : IVec S16 32) : Prop :=
  (∀ a x, ((![v225] : Fin 1 → IVec S16 32) a x).toNat < S25600.size a)
theorem k0_idx137_inb : ∀ (v225 : IVec S16 32) (k0_hw137 : k0_chk137 v225), ∀ a x, ((![v225] : Fin 1 → IVec S16 32) a x).toNat < S25600.size a := fun v225 k0_hw137 => k0_hw137

def k0_chk138 (v226 : IVec S16 32) : Prop :=
  (∀ a x, ((![v226] : Fin 1 → IVec S16 32) a x).toNat < S2000.size a)
theorem k0_idx138_inb : ∀ (v226 : IVec S16 32) (k0_hw138 : k0_chk138 v226), ∀ a x, ((![v226] : Fin 1 → IVec S16 32) a x).toNat < S2000.size a := fun v226 k0_hw138 => k0_hw138

def k0_chk139 (v230 : IVec S16 32) : Prop :=
  (∀ a x, ((![v230] : Fin 1 → IVec S16 32) a x).toNat < S25600.size a)
theorem k0_idx139_inb : ∀ (v230 : IVec S16 32) (k0_hw139 : k0_chk139 v230), ∀ a x, ((![v230] : Fin 1 → IVec S16 32) a x).toNat < S25600.size a := fun v230 k0_hw139 => k0_hw139

def k0_chk140 (v231 : IVec S16 32) : Prop :=
  (∀ a x, ((![v231] : Fin 1 → IVec S16 32) a x).toNat < S2000.size a)
theorem k0_idx140_inb : ∀ (v231 : IVec S16 32) (k0_hw140 : k0_chk140 v231), ∀ a x, ((![v231] : Fin 1 → IVec S16 32) a x).toNat < S2000.size a := fun v231 k0_hw140 => k0_hw140

def k0_chk141 (v235 : IVec S16 32) : Prop :=
  (∀ a x, ((![v235] : Fin 1 → IVec S16 32) a x).toNat < S25600.size a)
theorem k0_idx141_inb : ∀ (v235 : IVec S16 32) (k0_hw141 : k0_chk141 v235), ∀ a x, ((![v235] : Fin 1 → IVec S16 32) a x).toNat < S25600.size a := fun v235 k0_hw141 => k0_hw141

def k0_chk142 (v236 : IVec S16 32) : Prop :=
  (∀ a x, ((![v236] : Fin 1 → IVec S16 32) a x).toNat < S2000.size a)
theorem k0_idx142_inb : ∀ (v236 : IVec S16 32) (k0_hw142 : k0_chk142 v236), ∀ a x, ((![v236] : Fin 1 → IVec S16 32) a x).toNat < S2000.size a := fun v236 k0_hw142 => k0_hw142

def k0_chk143 (v240 : IVec S16 32) : Prop :=
  (∀ a x, ((![v240] : Fin 1 → IVec S16 32) a x).toNat < S25600.size a)
theorem k0_idx143_inb : ∀ (v240 : IVec S16 32) (k0_hw143 : k0_chk143 v240), ∀ a x, ((![v240] : Fin 1 → IVec S16 32) a x).toNat < S25600.size a := fun v240 k0_hw143 => k0_hw143

def k0_chk144 (v241 : IVec S16 32) : Prop :=
  (∀ a x, ((![v241] : Fin 1 → IVec S16 32) a x).toNat < S2000.size a)
theorem k0_idx144_inb : ∀ (v241 : IVec S16 32) (k0_hw144 : k0_chk144 v241), ∀ a x, ((![v241] : Fin 1 → IVec S16 32) a x).toNat < S2000.size a := fun v241 k0_hw144 => k0_hw144

def k0_chk145 (v245 : IVec S16 32) : Prop :=
  (∀ a x, ((![v245] : Fin 1 → IVec S16 32) a x).toNat < S25600.size a)
theorem k0_idx145_inb : ∀ (v245 : IVec S16 32) (k0_hw145 : k0_chk145 v245), ∀ a x, ((![v245] : Fin 1 → IVec S16 32) a x).toNat < S25600.size a := fun v245 k0_hw145 => k0_hw145

def k0_chk146 (v246 : IVec S16 32) : Prop :=
  (∀ a x, ((![v246] : Fin 1 → IVec S16 32) a x).toNat < S2000.size a)
theorem k0_idx146_inb : ∀ (v246 : IVec S16 32) (k0_hw146 : k0_chk146 v246), ∀ a x, ((![v246] : Fin 1 → IVec S16 32) a x).toNat < S2000.size a := fun v246 k0_hw146 => k0_hw146

def k0_chk147 (v250 : IVec S16 32) : Prop :=
  (∀ a x, ((![v250] : Fin 1 → IVec S16 32) a x).toNat < S25600.size a)
theorem k0_idx147_inb : ∀ (v250 : IVec S16 32) (k0_hw147 : k0_chk147 v250), ∀ a x, ((![v250] : Fin 1 → IVec S16 32) a x).toNat < S25600.size a := fun v250 k0_hw147 => k0_hw147

def k0_chk148 (v251 : IVec S16 32) : Prop :=
  (∀ a x, ((![v251] : Fin 1 → IVec S16 32) a x).toNat < S2000.size a)
theorem k0_idx148_inb : ∀ (v251 : IVec S16 32) (k0_hw148 : k0_chk148 v251), ∀ a x, ((![v251] : Fin 1 → IVec S16 32) a x).toNat < S2000.size a := fun v251 k0_hw148 => k0_hw148

def k0_chk149 (v255 : IVec S16 32) : Prop :=
  (∀ a x, ((![v255] : Fin 1 → IVec S16 32) a x).toNat < S25600.size a)
theorem k0_idx149_inb : ∀ (v255 : IVec S16 32) (k0_hw149 : k0_chk149 v255), ∀ a x, ((![v255] : Fin 1 → IVec S16 32) a x).toNat < S25600.size a := fun v255 k0_hw149 => k0_hw149

def k0_chk150 (v256 : IVec S16 32) : Prop :=
  (∀ a x, ((![v256] : Fin 1 → IVec S16 32) a x).toNat < S2000.size a)
theorem k0_idx150_inb : ∀ (v256 : IVec S16 32) (k0_hw150 : k0_chk150 v256), ∀ a x, ((![v256] : Fin 1 → IVec S16 32) a x).toNat < S2000.size a := fun v256 k0_hw150 => k0_hw150

def k0_chk151 (v260 : IVec S16 32) : Prop :=
  (∀ a x, ((![v260] : Fin 1 → IVec S16 32) a x).toNat < S25600.size a)
theorem k0_idx151_inb : ∀ (v260 : IVec S16 32) (k0_hw151 : k0_chk151 v260), ∀ a x, ((![v260] : Fin 1 → IVec S16 32) a x).toNat < S25600.size a := fun v260 k0_hw151 => k0_hw151

def k0_chk152 (v261 : IVec S16 32) : Prop :=
  (∀ a x, ((![v261] : Fin 1 → IVec S16 32) a x).toNat < S2000.size a)
theorem k0_idx152_inb : ∀ (v261 : IVec S16 32) (k0_hw152 : k0_chk152 v261), ∀ a x, ((![v261] : Fin 1 → IVec S16 32) a x).toNat < S2000.size a := fun v261 k0_hw152 => k0_hw152

def k0_chk153 (v265 : IVec S16 32) : Prop :=
  (∀ a x, ((![v265] : Fin 1 → IVec S16 32) a x).toNat < S25600.size a)
theorem k0_idx153_inb : ∀ (v265 : IVec S16 32) (k0_hw153 : k0_chk153 v265), ∀ a x, ((![v265] : Fin 1 → IVec S16 32) a x).toNat < S25600.size a := fun v265 k0_hw153 => k0_hw153

def k0_chk154 (v266 : IVec S16 32) : Prop :=
  (∀ a x, ((![v266] : Fin 1 → IVec S16 32) a x).toNat < S2000.size a)
theorem k0_idx154_inb : ∀ (v266 : IVec S16 32) (k0_hw154 : k0_chk154 v266), ∀ a x, ((![v266] : Fin 1 → IVec S16 32) a x).toNat < S2000.size a := fun v266 k0_hw154 => k0_hw154

def k0_chk155 (v270 : IVec S16 32) : Prop :=
  (∀ a x, ((![v270] : Fin 1 → IVec S16 32) a x).toNat < S25600.size a)
theorem k0_idx155_inb : ∀ (v270 : IVec S16 32) (k0_hw155 : k0_chk155 v270), ∀ a x, ((![v270] : Fin 1 → IVec S16 32) a x).toNat < S25600.size a := fun v270 k0_hw155 => k0_hw155

def k0_chk156 (v271 : IVec S16 32) : Prop :=
  (∀ a x, ((![v271] : Fin 1 → IVec S16 32) a x).toNat < S2000.size a)
theorem k0_idx156_inb : ∀ (v271 : IVec S16 32) (k0_hw156 : k0_chk156 v271), ∀ a x, ((![v271] : Fin 1 → IVec S16 32) a x).toNat < S2000.size a := fun v271 k0_hw156 => k0_hw156

def k0_chk157 (v275 : IVec S16 32) : Prop :=
  (∀ a x, ((![v275] : Fin 1 → IVec S16 32) a x).toNat < S25600.size a)
theorem k0_idx157_inb : ∀ (v275 : IVec S16 32) (k0_hw157 : k0_chk157 v275), ∀ a x, ((![v275] : Fin 1 → IVec S16 32) a x).toNat < S25600.size a := fun v275 k0_hw157 => k0_hw157

def k0_chk158 (v276 : IVec S16 32) : Prop :=
  (∀ a x, ((![v276] : Fin 1 → IVec S16 32) a x).toNat < S2000.size a)
theorem k0_idx158_inb : ∀ (v276 : IVec S16 32) (k0_hw158 : k0_chk158 v276), ∀ a x, ((![v276] : Fin 1 → IVec S16 32) a x).toNat < S2000.size a := fun v276 k0_hw158 => k0_hw158

def k0_chk159 (v280 : IVec S16 32) : Prop :=
  (∀ a x, ((![v280] : Fin 1 → IVec S16 32) a x).toNat < S25600.size a)
theorem k0_idx159_inb : ∀ (v280 : IVec S16 32) (k0_hw159 : k0_chk159 v280), ∀ a x, ((![v280] : Fin 1 → IVec S16 32) a x).toNat < S25600.size a := fun v280 k0_hw159 => k0_hw159

def k0_chk160 (v281 : IVec S16 32) : Prop :=
  (∀ a x, ((![v281] : Fin 1 → IVec S16 32) a x).toNat < S2000.size a)
theorem k0_idx160_inb : ∀ (v281 : IVec S16 32) (k0_hw160 : k0_chk160 v281), ∀ a x, ((![v281] : Fin 1 → IVec S16 32) a x).toNat < S2000.size a := fun v281 k0_hw160 => k0_hw160

def k0_chk161 (v285 : IVec S16 32) : Prop :=
  (∀ a x, ((![v285] : Fin 1 → IVec S16 32) a x).toNat < S25600.size a)
theorem k0_idx161_inb : ∀ (v285 : IVec S16 32) (k0_hw161 : k0_chk161 v285), ∀ a x, ((![v285] : Fin 1 → IVec S16 32) a x).toNat < S25600.size a := fun v285 k0_hw161 => k0_hw161

def k0_chk162 (v286 : IVec S16 32) : Prop :=
  (∀ a x, ((![v286] : Fin 1 → IVec S16 32) a x).toNat < S2000.size a)
theorem k0_idx162_inb : ∀ (v286 : IVec S16 32) (k0_hw162 : k0_chk162 v286), ∀ a x, ((![v286] : Fin 1 → IVec S16 32) a x).toNat < S2000.size a := fun v286 k0_hw162 => k0_hw162

def k0_chk163 (v290 : IVec S16 32) : Prop :=
  (∀ a x, ((![v290] : Fin 1 → IVec S16 32) a x).toNat < S25600.size a)
theorem k0_idx163_inb : ∀ (v290 : IVec S16 32) (k0_hw163 : k0_chk163 v290), ∀ a x, ((![v290] : Fin 1 → IVec S16 32) a x).toNat < S25600.size a := fun v290 k0_hw163 => k0_hw163

def k0_chk164 (v291 : IVec S16 32) : Prop :=
  (∀ a x, ((![v291] : Fin 1 → IVec S16 32) a x).toNat < S2000.size a)
theorem k0_idx164_inb : ∀ (v291 : IVec S16 32) (k0_hw164 : k0_chk164 v291), ∀ a x, ((![v291] : Fin 1 → IVec S16 32) a x).toNat < S2000.size a := fun v291 k0_hw164 => k0_hw164

def k0_chk165 (v295 : IVec S16 32) : Prop :=
  (∀ a x, ((![v295] : Fin 1 → IVec S16 32) a x).toNat < S25600.size a)
theorem k0_idx165_inb : ∀ (v295 : IVec S16 32) (k0_hw165 : k0_chk165 v295), ∀ a x, ((![v295] : Fin 1 → IVec S16 32) a x).toNat < S25600.size a := fun v295 k0_hw165 => k0_hw165

def k0_chk166 (v296 : IVec S16 32) : Prop :=
  (∀ a x, ((![v296] : Fin 1 → IVec S16 32) a x).toNat < S2000.size a)
theorem k0_idx166_inb : ∀ (v296 : IVec S16 32) (k0_hw166 : k0_chk166 v296), ∀ a x, ((![v296] : Fin 1 → IVec S16 32) a x).toNat < S2000.size a := fun v296 k0_hw166 => k0_hw166

def k0_chk167 (v300 : IVec S16 32) : Prop :=
  (∀ a x, ((![v300] : Fin 1 → IVec S16 32) a x).toNat < S25600.size a)
theorem k0_idx167_inb : ∀ (v300 : IVec S16 32) (k0_hw167 : k0_chk167 v300), ∀ a x, ((![v300] : Fin 1 → IVec S16 32) a x).toNat < S25600.size a := fun v300 k0_hw167 => k0_hw167

def k0_chk168 (v301 : IVec S16 32) : Prop :=
  (∀ a x, ((![v301] : Fin 1 → IVec S16 32) a x).toNat < S2000.size a)
theorem k0_idx168_inb : ∀ (v301 : IVec S16 32) (k0_hw168 : k0_chk168 v301), ∀ a x, ((![v301] : Fin 1 → IVec S16 32) a x).toNat < S2000.size a := fun v301 k0_hw168 => k0_hw168

def k0_chk169 (v305 : IVec S16 32) : Prop :=
  (∀ a x, ((![v305] : Fin 1 → IVec S16 32) a x).toNat < S25600.size a)
theorem k0_idx169_inb : ∀ (v305 : IVec S16 32) (k0_hw169 : k0_chk169 v305), ∀ a x, ((![v305] : Fin 1 → IVec S16 32) a x).toNat < S25600.size a := fun v305 k0_hw169 => k0_hw169

def k0_chk170 (v306 : IVec S16 32) : Prop :=
  (∀ a x, ((![v306] : Fin 1 → IVec S16 32) a x).toNat < S2000.size a)
theorem k0_idx170_inb : ∀ (v306 : IVec S16 32) (k0_hw170 : k0_chk170 v306), ∀ a x, ((![v306] : Fin 1 → IVec S16 32) a x).toNat < S2000.size a := fun v306 k0_hw170 => k0_hw170

def k0_chk171 (v310 : IVec S16 32) : Prop :=
  (∀ a x, ((![v310] : Fin 1 → IVec S16 32) a x).toNat < S25600.size a)
theorem k0_idx171_inb : ∀ (v310 : IVec S16 32) (k0_hw171 : k0_chk171 v310), ∀ a x, ((![v310] : Fin 1 → IVec S16 32) a x).toNat < S25600.size a := fun v310 k0_hw171 => k0_hw171

def k0_chk172 (v311 : IVec S16 32) : Prop :=
  (∀ a x, ((![v311] : Fin 1 → IVec S16 32) a x).toNat < S2000.size a)
theorem k0_idx172_inb : ∀ (v311 : IVec S16 32) (k0_hw172 : k0_chk172 v311), ∀ a x, ((![v311] : Fin 1 → IVec S16 32) a x).toNat < S2000.size a := fun v311 k0_hw172 => k0_hw172

def k0_chk173 (v315 : IVec S16 32) : Prop :=
  (∀ a x, ((![v315] : Fin 1 → IVec S16 32) a x).toNat < S25600.size a)
theorem k0_idx173_inb : ∀ (v315 : IVec S16 32) (k0_hw173 : k0_chk173 v315), ∀ a x, ((![v315] : Fin 1 → IVec S16 32) a x).toNat < S25600.size a := fun v315 k0_hw173 => k0_hw173

def k0_chk174 (v316 : IVec S16 32) : Prop :=
  (∀ a x, ((![v316] : Fin 1 → IVec S16 32) a x).toNat < S2000.size a)
theorem k0_idx174_inb : ∀ (v316 : IVec S16 32) (k0_hw174 : k0_chk174 v316), ∀ a x, ((![v316] : Fin 1 → IVec S16 32) a x).toNat < S2000.size a := fun v316 k0_hw174 => k0_hw174

def k0_chk175 (v320 : IVec S16 32) : Prop :=
  (∀ a x, ((![v320] : Fin 1 → IVec S16 32) a x).toNat < S25600.size a)
theorem k0_idx175_inb : ∀ (v320 : IVec S16 32) (k0_hw175 : k0_chk175 v320), ∀ a x, ((![v320] : Fin 1 → IVec S16 32) a x).toNat < S25600.size a := fun v320 k0_hw175 => k0_hw175

def k0_chk176 (v321 : IVec S16 32) : Prop :=
  (∀ a x, ((![v321] : Fin 1 → IVec S16 32) a x).toNat < S2000.size a)
theorem k0_idx176_inb : ∀ (v321 : IVec S16 32) (k0_hw176 : k0_chk176 v321), ∀ a x, ((![v321] : Fin 1 → IVec S16 32) a x).toNat < S2000.size a := fun v321 k0_hw176 => k0_hw176

def k0_chk177 (v325 : IVec S16 32) : Prop :=
  (∀ a x, ((![v325] : Fin 1 → IVec S16 32) a x).toNat < S25600.size a)
theorem k0_idx177_inb : ∀ (v325 : IVec S16 32) (k0_hw177 : k0_chk177 v325), ∀ a x, ((![v325] : Fin 1 → IVec S16 32) a x).toNat < S25600.size a := fun v325 k0_hw177 => k0_hw177

def k0_chk178 (v326 : IVec S16 32) : Prop :=
  (∀ a x, ((![v326] : Fin 1 → IVec S16 32) a x).toNat < S2000.size a)
theorem k0_idx178_inb : ∀ (v326 : IVec S16 32) (k0_hw178 : k0_chk178 v326), ∀ a x, ((![v326] : Fin 1 → IVec S16 32) a x).toNat < S2000.size a := fun v326 k0_hw178 => k0_hw178

def k0_chk179 (v330 : IVec S16 32) : Prop :=
  (∀ a x, ((![v330] : Fin 1 → IVec S16 32) a x).toNat < S25600.size a)
theorem k0_idx179_inb : ∀ (v330 : IVec S16 32) (k0_hw179 : k0_chk179 v330), ∀ a x, ((![v330] : Fin 1 → IVec S16 32) a x).toNat < S25600.size a := fun v330 k0_hw179 => k0_hw179

def k0_chk180 (v331 : IVec S16 32) : Prop :=
  (∀ a x, ((![v331] : Fin 1 → IVec S16 32) a x).toNat < S2000.size a)
theorem k0_idx180_inb : ∀ (v331 : IVec S16 32) (k0_hw180 : k0_chk180 v331), ∀ a x, ((![v331] : Fin 1 → IVec S16 32) a x).toNat < S2000.size a := fun v331 k0_hw180 => k0_hw180

def k0_chk181 (v335 : IVec S16 32) : Prop :=
  (∀ a x, ((![v335] : Fin 1 → IVec S16 32) a x).toNat < S25600.size a)
theorem k0_idx181_inb : ∀ (v335 : IVec S16 32) (k0_hw181 : k0_chk181 v335), ∀ a x, ((![v335] : Fin 1 → IVec S16 32) a x).toNat < S25600.size a := fun v335 k0_hw181 => k0_hw181

def k0_chk182 (v336 : IVec S16 32) : Prop :=
  (∀ a x, ((![v336] : Fin 1 → IVec S16 32) a x).toNat < S2000.size a)
theorem k0_idx182_inb : ∀ (v336 : IVec S16 32) (k0_hw182 : k0_chk182 v336), ∀ a x, ((![v336] : Fin 1 → IVec S16 32) a x).toNat < S2000.size a := fun v336 k0_hw182 => k0_hw182

def k0_chk183 (v340 : IVec S16 32) : Prop :=
  (∀ a x, ((![v340] : Fin 1 → IVec S16 32) a x).toNat < S25600.size a)
theorem k0_idx183_inb : ∀ (v340 : IVec S16 32) (k0_hw183 : k0_chk183 v340), ∀ a x, ((![v340] : Fin 1 → IVec S16 32) a x).toNat < S25600.size a := fun v340 k0_hw183 => k0_hw183

def k0_chk184 (v341 : IVec S16 32) : Prop :=
  (∀ a x, ((![v341] : Fin 1 → IVec S16 32) a x).toNat < S2000.size a)
theorem k0_idx184_inb : ∀ (v341 : IVec S16 32) (k0_hw184 : k0_chk184 v341), ∀ a x, ((![v341] : Fin 1 → IVec S16 32) a x).toNat < S2000.size a := fun v341 k0_hw184 => k0_hw184

def k0_chk185 (v345 : IVec S16 32) : Prop :=
  (∀ a x, ((![v345] : Fin 1 → IVec S16 32) a x).toNat < S25600.size a)
theorem k0_idx185_inb : ∀ (v345 : IVec S16 32) (k0_hw185 : k0_chk185 v345), ∀ a x, ((![v345] : Fin 1 → IVec S16 32) a x).toNat < S25600.size a := fun v345 k0_hw185 => k0_hw185

def k0_chk186 (v346 : IVec S16 32) : Prop :=
  (∀ a x, ((![v346] : Fin 1 → IVec S16 32) a x).toNat < S2000.size a)
theorem k0_idx186_inb : ∀ (v346 : IVec S16 32) (k0_hw186 : k0_chk186 v346), ∀ a x, ((![v346] : Fin 1 → IVec S16 32) a x).toNat < S2000.size a := fun v346 k0_hw186 => k0_hw186

def k0_chk187 (v350 : IVec S16 32) : Prop :=
  (∀ a x, ((![v350] : Fin 1 → IVec S16 32) a x).toNat < S25600.size a)
theorem k0_idx187_inb : ∀ (v350 : IVec S16 32) (k0_hw187 : k0_chk187 v350), ∀ a x, ((![v350] : Fin 1 → IVec S16 32) a x).toNat < S25600.size a := fun v350 k0_hw187 => k0_hw187

def k0_chk188 (v351 : IVec S16 32) : Prop :=
  (∀ a x, ((![v351] : Fin 1 → IVec S16 32) a x).toNat < S2000.size a)
theorem k0_idx188_inb : ∀ (v351 : IVec S16 32) (k0_hw188 : k0_chk188 v351), ∀ a x, ((![v351] : Fin 1 → IVec S16 32) a x).toNat < S2000.size a := fun v351 k0_hw188 => k0_hw188

def k0_chk189 (v355 : IVec S16 32) : Prop :=
  (∀ a x, ((![v355] : Fin 1 → IVec S16 32) a x).toNat < S25600.size a)
theorem k0_idx189_inb : ∀ (v355 : IVec S16 32) (k0_hw189 : k0_chk189 v355), ∀ a x, ((![v355] : Fin 1 → IVec S16 32) a x).toNat < S25600.size a := fun v355 k0_hw189 => k0_hw189

def k0_chk190 (v356 : IVec S16 32) : Prop :=
  (∀ a x, ((![v356] : Fin 1 → IVec S16 32) a x).toNat < S2000.size a)
theorem k0_idx190_inb : ∀ (v356 : IVec S16 32) (k0_hw190 : k0_chk190 v356), ∀ a x, ((![v356] : Fin 1 → IVec S16 32) a x).toNat < S2000.size a := fun v356 k0_hw190 => k0_hw190

def k0_chk191 (v360 : IVec S16 32) : Prop :=
  (∀ a x, ((![v360] : Fin 1 → IVec S16 32) a x).toNat < S25600.size a)
theorem k0_idx191_inb : ∀ (v360 : IVec S16 32) (k0_hw191 : k0_chk191 v360), ∀ a x, ((![v360] : Fin 1 → IVec S16 32) a x).toNat < S25600.size a := fun v360 k0_hw191 => k0_hw191

def k0_chk192 (v361 : IVec S16 32) : Prop :=
  (∀ a x, ((![v361] : Fin 1 → IVec S16 32) a x).toNat < S2000.size a)
theorem k0_idx192_inb : ∀ (v361 : IVec S16 32) (k0_hw192 : k0_chk192 v361), ∀ a x, ((![v361] : Fin 1 → IVec S16 32) a x).toNat < S2000.size a := fun v361 k0_hw192 => k0_hw192

def k0_chk193 (v365 : IVec S16 32) : Prop :=
  (∀ a x, ((![v365] : Fin 1 → IVec S16 32) a x).toNat < S25600.size a)
theorem k0_idx193_inb : ∀ (v365 : IVec S16 32) (k0_hw193 : k0_chk193 v365), ∀ a x, ((![v365] : Fin 1 → IVec S16 32) a x).toNat < S25600.size a := fun v365 k0_hw193 => k0_hw193

def k0_chk194 (v366 : IVec S16 32) : Prop :=
  (∀ a x, ((![v366] : Fin 1 → IVec S16 32) a x).toNat < S2000.size a)
theorem k0_idx194_inb : ∀ (v366 : IVec S16 32) (k0_hw194 : k0_chk194 v366), ∀ a x, ((![v366] : Fin 1 → IVec S16 32) a x).toNat < S2000.size a := fun v366 k0_hw194 => k0_hw194

def k0_chk195 (v370 : IVec S16 32) : Prop :=
  (∀ a x, ((![v370] : Fin 1 → IVec S16 32) a x).toNat < S25600.size a)
theorem k0_idx195_inb : ∀ (v370 : IVec S16 32) (k0_hw195 : k0_chk195 v370), ∀ a x, ((![v370] : Fin 1 → IVec S16 32) a x).toNat < S25600.size a := fun v370 k0_hw195 => k0_hw195

def k0_chk196 (v371 : IVec S16 32) : Prop :=
  (∀ a x, ((![v371] : Fin 1 → IVec S16 32) a x).toNat < S2000.size a)
theorem k0_idx196_inb : ∀ (v371 : IVec S16 32) (k0_hw196 : k0_chk196 v371), ∀ a x, ((![v371] : Fin 1 → IVec S16 32) a x).toNat < S2000.size a := fun v371 k0_hw196 => k0_hw196

def k0_chk197 (v375 : IVec S16 32) : Prop :=
  (∀ a x, ((![v375] : Fin 1 → IVec S16 32) a x).toNat < S25600.size a)
theorem k0_idx197_inb : ∀ (v375 : IVec S16 32) (k0_hw197 : k0_chk197 v375), ∀ a x, ((![v375] : Fin 1 → IVec S16 32) a x).toNat < S25600.size a := fun v375 k0_hw197 => k0_hw197

def k0_chk198 (v376 : IVec S16 32) : Prop :=
  (∀ a x, ((![v376] : Fin 1 → IVec S16 32) a x).toNat < S2000.size a)
theorem k0_idx198_inb : ∀ (v376 : IVec S16 32) (k0_hw198 : k0_chk198 v376), ∀ a x, ((![v376] : Fin 1 → IVec S16 32) a x).toNat < S2000.size a := fun v376 k0_hw198 => k0_hw198

def k0_chk199 (v380 : IVec S16 32) : Prop :=
  (∀ a x, ((![v380] : Fin 1 → IVec S16 32) a x).toNat < S25600.size a)
theorem k0_idx199_inb : ∀ (v380 : IVec S16 32) (k0_hw199 : k0_chk199 v380), ∀ a x, ((![v380] : Fin 1 → IVec S16 32) a x).toNat < S25600.size a := fun v380 k0_hw199 => k0_hw199

def k0_chk200 (v381 : IVec S16 32) : Prop :=
  (∀ a x, ((![v381] : Fin 1 → IVec S16 32) a x).toNat < S2000.size a)
theorem k0_idx200_inb : ∀ (v381 : IVec S16 32) (k0_hw200 : k0_chk200 v381), ∀ a x, ((![v381] : Fin 1 → IVec S16 32) a x).toNat < S2000.size a := fun v381 k0_hw200 => k0_hw200

def k0_chk201 (v385 : IVec S16 32) : Prop :=
  (∀ a x, ((![v385] : Fin 1 → IVec S16 32) a x).toNat < S25600.size a)
theorem k0_idx201_inb : ∀ (v385 : IVec S16 32) (k0_hw201 : k0_chk201 v385), ∀ a x, ((![v385] : Fin 1 → IVec S16 32) a x).toNat < S25600.size a := fun v385 k0_hw201 => k0_hw201

def k0_chk202 (v386 : IVec S16 32) : Prop :=
  (∀ a x, ((![v386] : Fin 1 → IVec S16 32) a x).toNat < S2000.size a)
theorem k0_idx202_inb : ∀ (v386 : IVec S16 32) (k0_hw202 : k0_chk202 v386), ∀ a x, ((![v386] : Fin 1 → IVec S16 32) a x).toNat < S2000.size a := fun v386 k0_hw202 => k0_hw202

def k0_chk203 (v390 : IVec S16 32) : Prop :=
  (∀ a x, ((![v390] : Fin 1 → IVec S16 32) a x).toNat < S25600.size a)
theorem k0_idx203_inb : ∀ (v390 : IVec S16 32) (k0_hw203 : k0_chk203 v390), ∀ a x, ((![v390] : Fin 1 → IVec S16 32) a x).toNat < S25600.size a := fun v390 k0_hw203 => k0_hw203

def k0_chk204 (v391 : IVec S16 32) : Prop :=
  (∀ a x, ((![v391] : Fin 1 → IVec S16 32) a x).toNat < S2000.size a)
theorem k0_idx204_inb : ∀ (v391 : IVec S16 32) (k0_hw204 : k0_chk204 v391), ∀ a x, ((![v391] : Fin 1 → IVec S16 32) a x).toNat < S2000.size a := fun v391 k0_hw204 => k0_hw204

def k0_chk205 (v395 : IVec S16 32) : Prop :=
  (∀ a x, ((![v395] : Fin 1 → IVec S16 32) a x).toNat < S25600.size a)
theorem k0_idx205_inb : ∀ (v395 : IVec S16 32) (k0_hw205 : k0_chk205 v395), ∀ a x, ((![v395] : Fin 1 → IVec S16 32) a x).toNat < S25600.size a := fun v395 k0_hw205 => k0_hw205

def k0_chk206 (v396 : IVec S16 32) : Prop :=
  (∀ a x, ((![v396] : Fin 1 → IVec S16 32) a x).toNat < S2000.size a)
theorem k0_idx206_inb : ∀ (v396 : IVec S16 32) (k0_hw206 : k0_chk206 v396), ∀ a x, ((![v396] : Fin 1 → IVec S16 32) a x).toNat < S2000.size a := fun v396 k0_hw206 => k0_hw206

def k0_chk207 (v400 : IVec S16 32) : Prop :=
  (∀ a x, ((![v400] : Fin 1 → IVec S16 32) a x).toNat < S25600.size a)
theorem k0_idx207_inb : ∀ (v400 : IVec S16 32) (k0_hw207 : k0_chk207 v400), ∀ a x, ((![v400] : Fin 1 → IVec S16 32) a x).toNat < S25600.size a := fun v400 k0_hw207 => k0_hw207

def k0_chk208 (v401 : IVec S16 32) : Prop :=
  (∀ a x, ((![v401] : Fin 1 → IVec S16 32) a x).toNat < S2000.size a)
theorem k0_idx208_inb : ∀ (v401 : IVec S16 32) (k0_hw208 : k0_chk208 v401), ∀ a x, ((![v401] : Fin 1 → IVec S16 32) a x).toNat < S2000.size a := fun v401 k0_hw208 => k0_hw208

def k0_chk209 (v405 : IVec S16 32) : Prop :=
  (∀ a x, ((![v405] : Fin 1 → IVec S16 32) a x).toNat < S25600.size a)
theorem k0_idx209_inb : ∀ (v405 : IVec S16 32) (k0_hw209 : k0_chk209 v405), ∀ a x, ((![v405] : Fin 1 → IVec S16 32) a x).toNat < S25600.size a := fun v405 k0_hw209 => k0_hw209

def k0_chk210 (v406 : IVec S16 32) : Prop :=
  (∀ a x, ((![v406] : Fin 1 → IVec S16 32) a x).toNat < S2000.size a)
theorem k0_idx210_inb : ∀ (v406 : IVec S16 32) (k0_hw210 : k0_chk210 v406), ∀ a x, ((![v406] : Fin 1 → IVec S16 32) a x).toNat < S2000.size a := fun v406 k0_hw210 => k0_hw210

def k0_chk211 (v410 : IVec S16 32) : Prop :=
  (∀ a x, ((![v410] : Fin 1 → IVec S16 32) a x).toNat < S25600.size a)
theorem k0_idx211_inb : ∀ (v410 : IVec S16 32) (k0_hw211 : k0_chk211 v410), ∀ a x, ((![v410] : Fin 1 → IVec S16 32) a x).toNat < S25600.size a := fun v410 k0_hw211 => k0_hw211

def k0_chk212 (v411 : IVec S16 32) : Prop :=
  (∀ a x, ((![v411] : Fin 1 → IVec S16 32) a x).toNat < S2000.size a)
theorem k0_idx212_inb : ∀ (v411 : IVec S16 32) (k0_hw212 : k0_chk212 v411), ∀ a x, ((![v411] : Fin 1 → IVec S16 32) a x).toNat < S2000.size a := fun v411 k0_hw212 => k0_hw212

def k0_chk213 (v415 : IVec S16 32) : Prop :=
  (∀ a x, ((![v415] : Fin 1 → IVec S16 32) a x).toNat < S25600.size a)
theorem k0_idx213_inb : ∀ (v415 : IVec S16 32) (k0_hw213 : k0_chk213 v415), ∀ a x, ((![v415] : Fin 1 → IVec S16 32) a x).toNat < S25600.size a := fun v415 k0_hw213 => k0_hw213

def k0_chk214 (v416 : IVec S16 32) : Prop :=
  (∀ a x, ((![v416] : Fin 1 → IVec S16 32) a x).toNat < S2000.size a)
theorem k0_idx214_inb : ∀ (v416 : IVec S16 32) (k0_hw214 : k0_chk214 v416), ∀ a x, ((![v416] : Fin 1 → IVec S16 32) a x).toNat < S2000.size a := fun v416 k0_hw214 => k0_hw214

def k0_chk215 (v420 : IVec S16 32) : Prop :=
  (∀ a x, ((![v420] : Fin 1 → IVec S16 32) a x).toNat < S25600.size a)
theorem k0_idx215_inb : ∀ (v420 : IVec S16 32) (k0_hw215 : k0_chk215 v420), ∀ a x, ((![v420] : Fin 1 → IVec S16 32) a x).toNat < S25600.size a := fun v420 k0_hw215 => k0_hw215

def k0_chk216 (v421 : IVec S16 32) : Prop :=
  (∀ a x, ((![v421] : Fin 1 → IVec S16 32) a x).toNat < S2000.size a)
theorem k0_idx216_inb : ∀ (v421 : IVec S16 32) (k0_hw216 : k0_chk216 v421), ∀ a x, ((![v421] : Fin 1 → IVec S16 32) a x).toNat < S2000.size a := fun v421 k0_hw216 => k0_hw216

def k0_chk217 (v428 : IVec S16 32) : Prop :=
  (∀ a x, ((![v428] : Fin 1 → IVec S16 32) a x).toNat < S8192.size a)
theorem k0_idx217_inb : ∀ (v428 : IVec S16 32) (k0_hw217 : k0_chk217 v428), ∀ a x, ((![v428] : Fin 1 → IVec S16 32) a x).toNat < S8192.size a := fun v428 k0_hw217 => k0_hw217

def k0_chk218 (v434 : IVec S16 32) : Prop :=
  (∀ a x, ((![v434] : Fin 1 → IVec S16 32) a x).toNat < S8192.size a)
theorem k0_idx218_inb : ∀ (v434 : IVec S16 32) (k0_hw218 : k0_chk218 v434), ∀ a x, ((![v434] : Fin 1 → IVec S16 32) a x).toNat < S8192.size a := fun v434 k0_hw218 => k0_hw218

def k0_chk219 (v440 : IVec S16 32) : Prop :=
  (∀ a x, ((![v440] : Fin 1 → IVec S16 32) a x).toNat < S8192.size a)
theorem k0_idx219_inb : ∀ (v440 : IVec S16 32) (k0_hw219 : k0_chk219 v440), ∀ a x, ((![v440] : Fin 1 → IVec S16 32) a x).toNat < S8192.size a := fun v440 k0_hw219 => k0_hw219

def k0_chk220 (v446 : IVec S16 32) : Prop :=
  (∀ a x, ((![v446] : Fin 1 → IVec S16 32) a x).toNat < S8192.size a)
theorem k0_idx220_inb : ∀ (v446 : IVec S16 32) (k0_hw220 : k0_chk220 v446), ∀ a x, ((![v446] : Fin 1 → IVec S16 32) a x).toNat < S8192.size a := fun v446 k0_hw220 => k0_hw220

def k0_chk221 (v452 : IVec S16 32) : Prop :=
  (∀ a x, ((![v452] : Fin 1 → IVec S16 32) a x).toNat < S8192.size a)
theorem k0_idx221_inb : ∀ (v452 : IVec S16 32) (k0_hw221 : k0_chk221 v452), ∀ a x, ((![v452] : Fin 1 → IVec S16 32) a x).toNat < S8192.size a := fun v452 k0_hw221 => k0_hw221

def k0_chk222 (v458 : IVec S16 32) : Prop :=
  (∀ a x, ((![v458] : Fin 1 → IVec S16 32) a x).toNat < S8192.size a)
theorem k0_idx222_inb : ∀ (v458 : IVec S16 32) (k0_hw222 : k0_chk222 v458), ∀ a x, ((![v458] : Fin 1 → IVec S16 32) a x).toNat < S8192.size a := fun v458 k0_hw222 => k0_hw222

def k0_chk223 (v464 : IVec S16 32) : Prop :=
  (∀ a x, ((![v464] : Fin 1 → IVec S16 32) a x).toNat < S8192.size a)
theorem k0_idx223_inb : ∀ (v464 : IVec S16 32) (k0_hw223 : k0_chk223 v464), ∀ a x, ((![v464] : Fin 1 → IVec S16 32) a x).toNat < S8192.size a := fun v464 k0_hw223 => k0_hw223

def k0_chk224 (v470 : IVec S16 32) : Prop :=
  (∀ a x, ((![v470] : Fin 1 → IVec S16 32) a x).toNat < S8192.size a)
theorem k0_idx224_inb : ∀ (v470 : IVec S16 32) (k0_hw224 : k0_chk224 v470), ∀ a x, ((![v470] : Fin 1 → IVec S16 32) a x).toNat < S8192.size a := fun v470 k0_hw224 => k0_hw224

def k0_chk225 (v476 : IVec S16 32) : Prop :=
  (∀ a x, ((![v476] : Fin 1 → IVec S16 32) a x).toNat < S8192.size a)
theorem k0_idx225_inb : ∀ (v476 : IVec S16 32) (k0_hw225 : k0_chk225 v476), ∀ a x, ((![v476] : Fin 1 → IVec S16 32) a x).toNat < S8192.size a := fun v476 k0_hw225 => k0_hw225

def k0_chk226 (v482 : IVec S16 32) : Prop :=
  (∀ a x, ((![v482] : Fin 1 → IVec S16 32) a x).toNat < S8192.size a)
theorem k0_idx226_inb : ∀ (v482 : IVec S16 32) (k0_hw226 : k0_chk226 v482), ∀ a x, ((![v482] : Fin 1 → IVec S16 32) a x).toNat < S8192.size a := fun v482 k0_hw226 => k0_hw226

def k0_chk227 (v488 : IVec S16 32) : Prop :=
  (∀ a x, ((![v488] : Fin 1 → IVec S16 32) a x).toNat < S8192.size a)
theorem k0_idx227_inb : ∀ (v488 : IVec S16 32) (k0_hw227 : k0_chk227 v488), ∀ a x, ((![v488] : Fin 1 → IVec S16 32) a x).toNat < S8192.size a := fun v488 k0_hw227 => k0_hw227

def k0_chk228 (v494 : IVec S16 32) : Prop :=
  (∀ a x, ((![v494] : Fin 1 → IVec S16 32) a x).toNat < S8192.size a)
theorem k0_idx228_inb : ∀ (v494 : IVec S16 32) (k0_hw228 : k0_chk228 v494), ∀ a x, ((![v494] : Fin 1 → IVec S16 32) a x).toNat < S8192.size a := fun v494 k0_hw228 => k0_hw228

def k0_chk229 (v500 : IVec S16 32) : Prop :=
  (∀ a x, ((![v500] : Fin 1 → IVec S16 32) a x).toNat < S8192.size a)
theorem k0_idx229_inb : ∀ (v500 : IVec S16 32) (k0_hw229 : k0_chk229 v500), ∀ a x, ((![v500] : Fin 1 → IVec S16 32) a x).toNat < S8192.size a := fun v500 k0_hw229 => k0_hw229

def k0_chk230 (v506 : IVec S16 32) : Prop :=
  (∀ a x, ((![v506] : Fin 1 → IVec S16 32) a x).toNat < S8192.size a)
theorem k0_idx230_inb : ∀ (v506 : IVec S16 32) (k0_hw230 : k0_chk230 v506), ∀ a x, ((![v506] : Fin 1 → IVec S16 32) a x).toNat < S8192.size a := fun v506 k0_hw230 => k0_hw230

def k0_chk231 (v512 : IVec S16 32) : Prop :=
  (∀ a x, ((![v512] : Fin 1 → IVec S16 32) a x).toNat < S8192.size a)
theorem k0_idx231_inb : ∀ (v512 : IVec S16 32) (k0_hw231 : k0_chk231 v512), ∀ a x, ((![v512] : Fin 1 → IVec S16 32) a x).toNat < S8192.size a := fun v512 k0_hw231 => k0_hw231

def k0_chk232 (v518 : IVec S16 32) : Prop :=
  (∀ a x, ((![v518] : Fin 1 → IVec S16 32) a x).toNat < S8192.size a)
theorem k0_idx232_inb : ∀ (v518 : IVec S16 32) (k0_hw232 : k0_chk232 v518), ∀ a x, ((![v518] : Fin 1 → IVec S16 32) a x).toNat < S8192.size a := fun v518 k0_hw232 => k0_hw232
@[reducible] def k0_t3_loop : Scf.Loop 32 :=
  let c0_i32_20 : BitVec 32 := 0#32
  let c32_i32_21 : BitVec 32 := 32#32
  let v132 : BitVec 32 := Scalar.addi c0_i32_20 c32_i32_21
  let c1_i32_22 : BitVec 32 := 1#32
  ⟨c0_i32_20, v132, c1_i32_22⟩

def k0_chk233 (v175 : IVec S16 32) : Prop :=
  (∀ a x, ((![v175] : Fin 1 → IVec S16 32) a x).toNat < S25600.size a)
theorem k0_idx233_inb : ∀ (v175 : IVec S16 32) (k0_hw233 : k0_chk233 v175), ∀ a x, ((![v175] : Fin 1 → IVec S16 32) a x).toNat < S25600.size a := fun v175 k0_hw233 => k0_hw233

def k0_chk234 (v176 : IVec S16 32) : Prop :=
  (∀ a x, ((![v176] : Fin 1 → IVec S16 32) a x).toNat < S2000.size a)
theorem k0_idx234_inb : ∀ (v176 : IVec S16 32) (k0_hw234 : k0_chk234 v176), ∀ a x, ((![v176] : Fin 1 → IVec S16 32) a x).toNat < S2000.size a := fun v176 k0_hw234 => k0_hw234

def k0_chk235 (v180 : IVec S16 32) : Prop :=
  (∀ a x, ((![v180] : Fin 1 → IVec S16 32) a x).toNat < S25600.size a)
theorem k0_idx235_inb : ∀ (v180 : IVec S16 32) (k0_hw235 : k0_chk235 v180), ∀ a x, ((![v180] : Fin 1 → IVec S16 32) a x).toNat < S25600.size a := fun v180 k0_hw235 => k0_hw235

def k0_chk236 (v181 : IVec S16 32) : Prop :=
  (∀ a x, ((![v181] : Fin 1 → IVec S16 32) a x).toNat < S2000.size a)
theorem k0_idx236_inb : ∀ (v181 : IVec S16 32) (k0_hw236 : k0_chk236 v181), ∀ a x, ((![v181] : Fin 1 → IVec S16 32) a x).toNat < S2000.size a := fun v181 k0_hw236 => k0_hw236

def k0_chk237 (v185 : IVec S16 32) : Prop :=
  (∀ a x, ((![v185] : Fin 1 → IVec S16 32) a x).toNat < S25600.size a)
theorem k0_idx237_inb : ∀ (v185 : IVec S16 32) (k0_hw237 : k0_chk237 v185), ∀ a x, ((![v185] : Fin 1 → IVec S16 32) a x).toNat < S25600.size a := fun v185 k0_hw237 => k0_hw237

def k0_chk238 (v186 : IVec S16 32) : Prop :=
  (∀ a x, ((![v186] : Fin 1 → IVec S16 32) a x).toNat < S2000.size a)
theorem k0_idx238_inb : ∀ (v186 : IVec S16 32) (k0_hw238 : k0_chk238 v186), ∀ a x, ((![v186] : Fin 1 → IVec S16 32) a x).toNat < S2000.size a := fun v186 k0_hw238 => k0_hw238

def k0_chk239 (v190 : IVec S16 32) : Prop :=
  (∀ a x, ((![v190] : Fin 1 → IVec S16 32) a x).toNat < S25600.size a)
theorem k0_idx239_inb : ∀ (v190 : IVec S16 32) (k0_hw239 : k0_chk239 v190), ∀ a x, ((![v190] : Fin 1 → IVec S16 32) a x).toNat < S25600.size a := fun v190 k0_hw239 => k0_hw239

def k0_chk240 (v191 : IVec S16 32) : Prop :=
  (∀ a x, ((![v191] : Fin 1 → IVec S16 32) a x).toNat < S2000.size a)
theorem k0_idx240_inb : ∀ (v191 : IVec S16 32) (k0_hw240 : k0_chk240 v191), ∀ a x, ((![v191] : Fin 1 → IVec S16 32) a x).toNat < S2000.size a := fun v191 k0_hw240 => k0_hw240

def k0_chk241 (v195 : IVec S16 32) : Prop :=
  (∀ a x, ((![v195] : Fin 1 → IVec S16 32) a x).toNat < S25600.size a)
theorem k0_idx241_inb : ∀ (v195 : IVec S16 32) (k0_hw241 : k0_chk241 v195), ∀ a x, ((![v195] : Fin 1 → IVec S16 32) a x).toNat < S25600.size a := fun v195 k0_hw241 => k0_hw241

def k0_chk242 (v196 : IVec S16 32) : Prop :=
  (∀ a x, ((![v196] : Fin 1 → IVec S16 32) a x).toNat < S2000.size a)
theorem k0_idx242_inb : ∀ (v196 : IVec S16 32) (k0_hw242 : k0_chk242 v196), ∀ a x, ((![v196] : Fin 1 → IVec S16 32) a x).toNat < S2000.size a := fun v196 k0_hw242 => k0_hw242

def k0_chk243 (v200 : IVec S16 32) : Prop :=
  (∀ a x, ((![v200] : Fin 1 → IVec S16 32) a x).toNat < S25600.size a)
theorem k0_idx243_inb : ∀ (v200 : IVec S16 32) (k0_hw243 : k0_chk243 v200), ∀ a x, ((![v200] : Fin 1 → IVec S16 32) a x).toNat < S25600.size a := fun v200 k0_hw243 => k0_hw243

def k0_chk244 (v201 : IVec S16 32) : Prop :=
  (∀ a x, ((![v201] : Fin 1 → IVec S16 32) a x).toNat < S2000.size a)
theorem k0_idx244_inb : ∀ (v201 : IVec S16 32) (k0_hw244 : k0_chk244 v201), ∀ a x, ((![v201] : Fin 1 → IVec S16 32) a x).toNat < S2000.size a := fun v201 k0_hw244 => k0_hw244

def k0_chk245 (v205 : IVec S16 32) : Prop :=
  (∀ a x, ((![v205] : Fin 1 → IVec S16 32) a x).toNat < S25600.size a)
theorem k0_idx245_inb : ∀ (v205 : IVec S16 32) (k0_hw245 : k0_chk245 v205), ∀ a x, ((![v205] : Fin 1 → IVec S16 32) a x).toNat < S25600.size a := fun v205 k0_hw245 => k0_hw245

def k0_chk246 (v206 : IVec S16 32) : Prop :=
  (∀ a x, ((![v206] : Fin 1 → IVec S16 32) a x).toNat < S2000.size a)
theorem k0_idx246_inb : ∀ (v206 : IVec S16 32) (k0_hw246 : k0_chk246 v206), ∀ a x, ((![v206] : Fin 1 → IVec S16 32) a x).toNat < S2000.size a := fun v206 k0_hw246 => k0_hw246

def k0_chk247 (v210 : IVec S16 32) : Prop :=
  (∀ a x, ((![v210] : Fin 1 → IVec S16 32) a x).toNat < S25600.size a)
theorem k0_idx247_inb : ∀ (v210 : IVec S16 32) (k0_hw247 : k0_chk247 v210), ∀ a x, ((![v210] : Fin 1 → IVec S16 32) a x).toNat < S25600.size a := fun v210 k0_hw247 => k0_hw247

def k0_chk248 (v211 : IVec S16 32) : Prop :=
  (∀ a x, ((![v211] : Fin 1 → IVec S16 32) a x).toNat < S2000.size a)
theorem k0_idx248_inb : ∀ (v211 : IVec S16 32) (k0_hw248 : k0_chk248 v211), ∀ a x, ((![v211] : Fin 1 → IVec S16 32) a x).toNat < S2000.size a := fun v211 k0_hw248 => k0_hw248

def k0_chk249 (v215 : IVec S16 32) : Prop :=
  (∀ a x, ((![v215] : Fin 1 → IVec S16 32) a x).toNat < S25600.size a)
theorem k0_idx249_inb : ∀ (v215 : IVec S16 32) (k0_hw249 : k0_chk249 v215), ∀ a x, ((![v215] : Fin 1 → IVec S16 32) a x).toNat < S25600.size a := fun v215 k0_hw249 => k0_hw249

def k0_chk250 (v216 : IVec S16 32) : Prop :=
  (∀ a x, ((![v216] : Fin 1 → IVec S16 32) a x).toNat < S2000.size a)
theorem k0_idx250_inb : ∀ (v216 : IVec S16 32) (k0_hw250 : k0_chk250 v216), ∀ a x, ((![v216] : Fin 1 → IVec S16 32) a x).toNat < S2000.size a := fun v216 k0_hw250 => k0_hw250

def k0_chk251 (v220 : IVec S16 32) : Prop :=
  (∀ a x, ((![v220] : Fin 1 → IVec S16 32) a x).toNat < S25600.size a)
theorem k0_idx251_inb : ∀ (v220 : IVec S16 32) (k0_hw251 : k0_chk251 v220), ∀ a x, ((![v220] : Fin 1 → IVec S16 32) a x).toNat < S25600.size a := fun v220 k0_hw251 => k0_hw251

def k0_chk252 (v221 : IVec S16 32) : Prop :=
  (∀ a x, ((![v221] : Fin 1 → IVec S16 32) a x).toNat < S2000.size a)
theorem k0_idx252_inb : ∀ (v221 : IVec S16 32) (k0_hw252 : k0_chk252 v221), ∀ a x, ((![v221] : Fin 1 → IVec S16 32) a x).toNat < S2000.size a := fun v221 k0_hw252 => k0_hw252

def k0_chk253 (v225 : IVec S16 32) : Prop :=
  (∀ a x, ((![v225] : Fin 1 → IVec S16 32) a x).toNat < S25600.size a)
theorem k0_idx253_inb : ∀ (v225 : IVec S16 32) (k0_hw253 : k0_chk253 v225), ∀ a x, ((![v225] : Fin 1 → IVec S16 32) a x).toNat < S25600.size a := fun v225 k0_hw253 => k0_hw253

def k0_chk254 (v226 : IVec S16 32) : Prop :=
  (∀ a x, ((![v226] : Fin 1 → IVec S16 32) a x).toNat < S2000.size a)
theorem k0_idx254_inb : ∀ (v226 : IVec S16 32) (k0_hw254 : k0_chk254 v226), ∀ a x, ((![v226] : Fin 1 → IVec S16 32) a x).toNat < S2000.size a := fun v226 k0_hw254 => k0_hw254

def k0_chk255 (v230 : IVec S16 32) : Prop :=
  (∀ a x, ((![v230] : Fin 1 → IVec S16 32) a x).toNat < S25600.size a)
theorem k0_idx255_inb : ∀ (v230 : IVec S16 32) (k0_hw255 : k0_chk255 v230), ∀ a x, ((![v230] : Fin 1 → IVec S16 32) a x).toNat < S25600.size a := fun v230 k0_hw255 => k0_hw255

def k0_chk256 (v231 : IVec S16 32) : Prop :=
  (∀ a x, ((![v231] : Fin 1 → IVec S16 32) a x).toNat < S2000.size a)
theorem k0_idx256_inb : ∀ (v231 : IVec S16 32) (k0_hw256 : k0_chk256 v231), ∀ a x, ((![v231] : Fin 1 → IVec S16 32) a x).toNat < S2000.size a := fun v231 k0_hw256 => k0_hw256

def k0_chk257 (v235 : IVec S16 32) : Prop :=
  (∀ a x, ((![v235] : Fin 1 → IVec S16 32) a x).toNat < S25600.size a)
theorem k0_idx257_inb : ∀ (v235 : IVec S16 32) (k0_hw257 : k0_chk257 v235), ∀ a x, ((![v235] : Fin 1 → IVec S16 32) a x).toNat < S25600.size a := fun v235 k0_hw257 => k0_hw257

def k0_chk258 (v236 : IVec S16 32) : Prop :=
  (∀ a x, ((![v236] : Fin 1 → IVec S16 32) a x).toNat < S2000.size a)
theorem k0_idx258_inb : ∀ (v236 : IVec S16 32) (k0_hw258 : k0_chk258 v236), ∀ a x, ((![v236] : Fin 1 → IVec S16 32) a x).toNat < S2000.size a := fun v236 k0_hw258 => k0_hw258

def k0_chk259 (v240 : IVec S16 32) : Prop :=
  (∀ a x, ((![v240] : Fin 1 → IVec S16 32) a x).toNat < S25600.size a)
theorem k0_idx259_inb : ∀ (v240 : IVec S16 32) (k0_hw259 : k0_chk259 v240), ∀ a x, ((![v240] : Fin 1 → IVec S16 32) a x).toNat < S25600.size a := fun v240 k0_hw259 => k0_hw259

def k0_chk260 (v241 : IVec S16 32) : Prop :=
  (∀ a x, ((![v241] : Fin 1 → IVec S16 32) a x).toNat < S2000.size a)
theorem k0_idx260_inb : ∀ (v241 : IVec S16 32) (k0_hw260 : k0_chk260 v241), ∀ a x, ((![v241] : Fin 1 → IVec S16 32) a x).toNat < S2000.size a := fun v241 k0_hw260 => k0_hw260

def k0_chk261 (v245 : IVec S16 32) : Prop :=
  (∀ a x, ((![v245] : Fin 1 → IVec S16 32) a x).toNat < S25600.size a)
theorem k0_idx261_inb : ∀ (v245 : IVec S16 32) (k0_hw261 : k0_chk261 v245), ∀ a x, ((![v245] : Fin 1 → IVec S16 32) a x).toNat < S25600.size a := fun v245 k0_hw261 => k0_hw261

def k0_chk262 (v246 : IVec S16 32) : Prop :=
  (∀ a x, ((![v246] : Fin 1 → IVec S16 32) a x).toNat < S2000.size a)
theorem k0_idx262_inb : ∀ (v246 : IVec S16 32) (k0_hw262 : k0_chk262 v246), ∀ a x, ((![v246] : Fin 1 → IVec S16 32) a x).toNat < S2000.size a := fun v246 k0_hw262 => k0_hw262

def k0_chk263 (v250 : IVec S16 32) : Prop :=
  (∀ a x, ((![v250] : Fin 1 → IVec S16 32) a x).toNat < S25600.size a)
theorem k0_idx263_inb : ∀ (v250 : IVec S16 32) (k0_hw263 : k0_chk263 v250), ∀ a x, ((![v250] : Fin 1 → IVec S16 32) a x).toNat < S25600.size a := fun v250 k0_hw263 => k0_hw263

def k0_chk264 (v251 : IVec S16 32) : Prop :=
  (∀ a x, ((![v251] : Fin 1 → IVec S16 32) a x).toNat < S2000.size a)
theorem k0_idx264_inb : ∀ (v251 : IVec S16 32) (k0_hw264 : k0_chk264 v251), ∀ a x, ((![v251] : Fin 1 → IVec S16 32) a x).toNat < S2000.size a := fun v251 k0_hw264 => k0_hw264

def k0_chk265 (v255 : IVec S16 32) : Prop :=
  (∀ a x, ((![v255] : Fin 1 → IVec S16 32) a x).toNat < S25600.size a)
theorem k0_idx265_inb : ∀ (v255 : IVec S16 32) (k0_hw265 : k0_chk265 v255), ∀ a x, ((![v255] : Fin 1 → IVec S16 32) a x).toNat < S25600.size a := fun v255 k0_hw265 => k0_hw265

def k0_chk266 (v256 : IVec S16 32) : Prop :=
  (∀ a x, ((![v256] : Fin 1 → IVec S16 32) a x).toNat < S2000.size a)
theorem k0_idx266_inb : ∀ (v256 : IVec S16 32) (k0_hw266 : k0_chk266 v256), ∀ a x, ((![v256] : Fin 1 → IVec S16 32) a x).toNat < S2000.size a := fun v256 k0_hw266 => k0_hw266

def k0_chk267 (v260 : IVec S16 32) : Prop :=
  (∀ a x, ((![v260] : Fin 1 → IVec S16 32) a x).toNat < S25600.size a)
theorem k0_idx267_inb : ∀ (v260 : IVec S16 32) (k0_hw267 : k0_chk267 v260), ∀ a x, ((![v260] : Fin 1 → IVec S16 32) a x).toNat < S25600.size a := fun v260 k0_hw267 => k0_hw267

def k0_chk268 (v261 : IVec S16 32) : Prop :=
  (∀ a x, ((![v261] : Fin 1 → IVec S16 32) a x).toNat < S2000.size a)
theorem k0_idx268_inb : ∀ (v261 : IVec S16 32) (k0_hw268 : k0_chk268 v261), ∀ a x, ((![v261] : Fin 1 → IVec S16 32) a x).toNat < S2000.size a := fun v261 k0_hw268 => k0_hw268

def k0_chk269 (v265 : IVec S16 32) : Prop :=
  (∀ a x, ((![v265] : Fin 1 → IVec S16 32) a x).toNat < S25600.size a)
theorem k0_idx269_inb : ∀ (v265 : IVec S16 32) (k0_hw269 : k0_chk269 v265), ∀ a x, ((![v265] : Fin 1 → IVec S16 32) a x).toNat < S25600.size a := fun v265 k0_hw269 => k0_hw269

def k0_chk270 (v266 : IVec S16 32) : Prop :=
  (∀ a x, ((![v266] : Fin 1 → IVec S16 32) a x).toNat < S2000.size a)
theorem k0_idx270_inb : ∀ (v266 : IVec S16 32) (k0_hw270 : k0_chk270 v266), ∀ a x, ((![v266] : Fin 1 → IVec S16 32) a x).toNat < S2000.size a := fun v266 k0_hw270 => k0_hw270

def k0_chk271 (v270 : IVec S16 32) : Prop :=
  (∀ a x, ((![v270] : Fin 1 → IVec S16 32) a x).toNat < S25600.size a)
theorem k0_idx271_inb : ∀ (v270 : IVec S16 32) (k0_hw271 : k0_chk271 v270), ∀ a x, ((![v270] : Fin 1 → IVec S16 32) a x).toNat < S25600.size a := fun v270 k0_hw271 => k0_hw271

def k0_chk272 (v271 : IVec S16 32) : Prop :=
  (∀ a x, ((![v271] : Fin 1 → IVec S16 32) a x).toNat < S2000.size a)
theorem k0_idx272_inb : ∀ (v271 : IVec S16 32) (k0_hw272 : k0_chk272 v271), ∀ a x, ((![v271] : Fin 1 → IVec S16 32) a x).toNat < S2000.size a := fun v271 k0_hw272 => k0_hw272

def k0_chk273 (v275 : IVec S16 32) : Prop :=
  (∀ a x, ((![v275] : Fin 1 → IVec S16 32) a x).toNat < S25600.size a)
theorem k0_idx273_inb : ∀ (v275 : IVec S16 32) (k0_hw273 : k0_chk273 v275), ∀ a x, ((![v275] : Fin 1 → IVec S16 32) a x).toNat < S25600.size a := fun v275 k0_hw273 => k0_hw273

def k0_chk274 (v276 : IVec S16 32) : Prop :=
  (∀ a x, ((![v276] : Fin 1 → IVec S16 32) a x).toNat < S2000.size a)
theorem k0_idx274_inb : ∀ (v276 : IVec S16 32) (k0_hw274 : k0_chk274 v276), ∀ a x, ((![v276] : Fin 1 → IVec S16 32) a x).toNat < S2000.size a := fun v276 k0_hw274 => k0_hw274

def k0_chk275 (v280 : IVec S16 32) : Prop :=
  (∀ a x, ((![v280] : Fin 1 → IVec S16 32) a x).toNat < S25600.size a)
theorem k0_idx275_inb : ∀ (v280 : IVec S16 32) (k0_hw275 : k0_chk275 v280), ∀ a x, ((![v280] : Fin 1 → IVec S16 32) a x).toNat < S25600.size a := fun v280 k0_hw275 => k0_hw275

def k0_chk276 (v281 : IVec S16 32) : Prop :=
  (∀ a x, ((![v281] : Fin 1 → IVec S16 32) a x).toNat < S2000.size a)
theorem k0_idx276_inb : ∀ (v281 : IVec S16 32) (k0_hw276 : k0_chk276 v281), ∀ a x, ((![v281] : Fin 1 → IVec S16 32) a x).toNat < S2000.size a := fun v281 k0_hw276 => k0_hw276

def k0_chk277 (v285 : IVec S16 32) : Prop :=
  (∀ a x, ((![v285] : Fin 1 → IVec S16 32) a x).toNat < S25600.size a)
theorem k0_idx277_inb : ∀ (v285 : IVec S16 32) (k0_hw277 : k0_chk277 v285), ∀ a x, ((![v285] : Fin 1 → IVec S16 32) a x).toNat < S25600.size a := fun v285 k0_hw277 => k0_hw277

def k0_chk278 (v286 : IVec S16 32) : Prop :=
  (∀ a x, ((![v286] : Fin 1 → IVec S16 32) a x).toNat < S2000.size a)
theorem k0_idx278_inb : ∀ (v286 : IVec S16 32) (k0_hw278 : k0_chk278 v286), ∀ a x, ((![v286] : Fin 1 → IVec S16 32) a x).toNat < S2000.size a := fun v286 k0_hw278 => k0_hw278

def k0_chk279 (v290 : IVec S16 32) : Prop :=
  (∀ a x, ((![v290] : Fin 1 → IVec S16 32) a x).toNat < S25600.size a)
theorem k0_idx279_inb : ∀ (v290 : IVec S16 32) (k0_hw279 : k0_chk279 v290), ∀ a x, ((![v290] : Fin 1 → IVec S16 32) a x).toNat < S25600.size a := fun v290 k0_hw279 => k0_hw279

def k0_chk280 (v291 : IVec S16 32) : Prop :=
  (∀ a x, ((![v291] : Fin 1 → IVec S16 32) a x).toNat < S2000.size a)
theorem k0_idx280_inb : ∀ (v291 : IVec S16 32) (k0_hw280 : k0_chk280 v291), ∀ a x, ((![v291] : Fin 1 → IVec S16 32) a x).toNat < S2000.size a := fun v291 k0_hw280 => k0_hw280

def k0_chk281 (v295 : IVec S16 32) : Prop :=
  (∀ a x, ((![v295] : Fin 1 → IVec S16 32) a x).toNat < S25600.size a)
theorem k0_idx281_inb : ∀ (v295 : IVec S16 32) (k0_hw281 : k0_chk281 v295), ∀ a x, ((![v295] : Fin 1 → IVec S16 32) a x).toNat < S25600.size a := fun v295 k0_hw281 => k0_hw281

def k0_chk282 (v296 : IVec S16 32) : Prop :=
  (∀ a x, ((![v296] : Fin 1 → IVec S16 32) a x).toNat < S2000.size a)
theorem k0_idx282_inb : ∀ (v296 : IVec S16 32) (k0_hw282 : k0_chk282 v296), ∀ a x, ((![v296] : Fin 1 → IVec S16 32) a x).toNat < S2000.size a := fun v296 k0_hw282 => k0_hw282

def k0_chk283 (v300 : IVec S16 32) : Prop :=
  (∀ a x, ((![v300] : Fin 1 → IVec S16 32) a x).toNat < S25600.size a)
theorem k0_idx283_inb : ∀ (v300 : IVec S16 32) (k0_hw283 : k0_chk283 v300), ∀ a x, ((![v300] : Fin 1 → IVec S16 32) a x).toNat < S25600.size a := fun v300 k0_hw283 => k0_hw283

def k0_chk284 (v301 : IVec S16 32) : Prop :=
  (∀ a x, ((![v301] : Fin 1 → IVec S16 32) a x).toNat < S2000.size a)
theorem k0_idx284_inb : ∀ (v301 : IVec S16 32) (k0_hw284 : k0_chk284 v301), ∀ a x, ((![v301] : Fin 1 → IVec S16 32) a x).toNat < S2000.size a := fun v301 k0_hw284 => k0_hw284

def k0_chk285 (v305 : IVec S16 32) : Prop :=
  (∀ a x, ((![v305] : Fin 1 → IVec S16 32) a x).toNat < S25600.size a)
theorem k0_idx285_inb : ∀ (v305 : IVec S16 32) (k0_hw285 : k0_chk285 v305), ∀ a x, ((![v305] : Fin 1 → IVec S16 32) a x).toNat < S25600.size a := fun v305 k0_hw285 => k0_hw285

def k0_chk286 (v306 : IVec S16 32) : Prop :=
  (∀ a x, ((![v306] : Fin 1 → IVec S16 32) a x).toNat < S2000.size a)
theorem k0_idx286_inb : ∀ (v306 : IVec S16 32) (k0_hw286 : k0_chk286 v306), ∀ a x, ((![v306] : Fin 1 → IVec S16 32) a x).toNat < S2000.size a := fun v306 k0_hw286 => k0_hw286

def k0_chk287 (v310 : IVec S16 32) : Prop :=
  (∀ a x, ((![v310] : Fin 1 → IVec S16 32) a x).toNat < S25600.size a)
theorem k0_idx287_inb : ∀ (v310 : IVec S16 32) (k0_hw287 : k0_chk287 v310), ∀ a x, ((![v310] : Fin 1 → IVec S16 32) a x).toNat < S25600.size a := fun v310 k0_hw287 => k0_hw287

def k0_chk288 (v311 : IVec S16 32) : Prop :=
  (∀ a x, ((![v311] : Fin 1 → IVec S16 32) a x).toNat < S2000.size a)
theorem k0_idx288_inb : ∀ (v311 : IVec S16 32) (k0_hw288 : k0_chk288 v311), ∀ a x, ((![v311] : Fin 1 → IVec S16 32) a x).toNat < S2000.size a := fun v311 k0_hw288 => k0_hw288

def k0_chk289 (v315 : IVec S16 32) : Prop :=
  (∀ a x, ((![v315] : Fin 1 → IVec S16 32) a x).toNat < S25600.size a)
theorem k0_idx289_inb : ∀ (v315 : IVec S16 32) (k0_hw289 : k0_chk289 v315), ∀ a x, ((![v315] : Fin 1 → IVec S16 32) a x).toNat < S25600.size a := fun v315 k0_hw289 => k0_hw289

def k0_chk290 (v316 : IVec S16 32) : Prop :=
  (∀ a x, ((![v316] : Fin 1 → IVec S16 32) a x).toNat < S2000.size a)
theorem k0_idx290_inb : ∀ (v316 : IVec S16 32) (k0_hw290 : k0_chk290 v316), ∀ a x, ((![v316] : Fin 1 → IVec S16 32) a x).toNat < S2000.size a := fun v316 k0_hw290 => k0_hw290

def k0_chk291 (v320 : IVec S16 32) : Prop :=
  (∀ a x, ((![v320] : Fin 1 → IVec S16 32) a x).toNat < S25600.size a)
theorem k0_idx291_inb : ∀ (v320 : IVec S16 32) (k0_hw291 : k0_chk291 v320), ∀ a x, ((![v320] : Fin 1 → IVec S16 32) a x).toNat < S25600.size a := fun v320 k0_hw291 => k0_hw291

def k0_chk292 (v321 : IVec S16 32) : Prop :=
  (∀ a x, ((![v321] : Fin 1 → IVec S16 32) a x).toNat < S2000.size a)
theorem k0_idx292_inb : ∀ (v321 : IVec S16 32) (k0_hw292 : k0_chk292 v321), ∀ a x, ((![v321] : Fin 1 → IVec S16 32) a x).toNat < S2000.size a := fun v321 k0_hw292 => k0_hw292

def k0_chk293 (v325 : IVec S16 32) : Prop :=
  (∀ a x, ((![v325] : Fin 1 → IVec S16 32) a x).toNat < S25600.size a)
theorem k0_idx293_inb : ∀ (v325 : IVec S16 32) (k0_hw293 : k0_chk293 v325), ∀ a x, ((![v325] : Fin 1 → IVec S16 32) a x).toNat < S25600.size a := fun v325 k0_hw293 => k0_hw293

def k0_chk294 (v326 : IVec S16 32) : Prop :=
  (∀ a x, ((![v326] : Fin 1 → IVec S16 32) a x).toNat < S2000.size a)
theorem k0_idx294_inb : ∀ (v326 : IVec S16 32) (k0_hw294 : k0_chk294 v326), ∀ a x, ((![v326] : Fin 1 → IVec S16 32) a x).toNat < S2000.size a := fun v326 k0_hw294 => k0_hw294

def k0_chk295 (v330 : IVec S16 32) : Prop :=
  (∀ a x, ((![v330] : Fin 1 → IVec S16 32) a x).toNat < S25600.size a)
theorem k0_idx295_inb : ∀ (v330 : IVec S16 32) (k0_hw295 : k0_chk295 v330), ∀ a x, ((![v330] : Fin 1 → IVec S16 32) a x).toNat < S25600.size a := fun v330 k0_hw295 => k0_hw295

def k0_chk296 (v331 : IVec S16 32) : Prop :=
  (∀ a x, ((![v331] : Fin 1 → IVec S16 32) a x).toNat < S2000.size a)
theorem k0_idx296_inb : ∀ (v331 : IVec S16 32) (k0_hw296 : k0_chk296 v331), ∀ a x, ((![v331] : Fin 1 → IVec S16 32) a x).toNat < S2000.size a := fun v331 k0_hw296 => k0_hw296

def k0_chk297 (v335 : IVec S16 32) : Prop :=
  (∀ a x, ((![v335] : Fin 1 → IVec S16 32) a x).toNat < S25600.size a)
theorem k0_idx297_inb : ∀ (v335 : IVec S16 32) (k0_hw297 : k0_chk297 v335), ∀ a x, ((![v335] : Fin 1 → IVec S16 32) a x).toNat < S25600.size a := fun v335 k0_hw297 => k0_hw297

def k0_chk298 (v336 : IVec S16 32) : Prop :=
  (∀ a x, ((![v336] : Fin 1 → IVec S16 32) a x).toNat < S2000.size a)
theorem k0_idx298_inb : ∀ (v336 : IVec S16 32) (k0_hw298 : k0_chk298 v336), ∀ a x, ((![v336] : Fin 1 → IVec S16 32) a x).toNat < S2000.size a := fun v336 k0_hw298 => k0_hw298

def k0_chk299 (v340 : IVec S16 32) : Prop :=
  (∀ a x, ((![v340] : Fin 1 → IVec S16 32) a x).toNat < S25600.size a)
theorem k0_idx299_inb : ∀ (v340 : IVec S16 32) (k0_hw299 : k0_chk299 v340), ∀ a x, ((![v340] : Fin 1 → IVec S16 32) a x).toNat < S25600.size a := fun v340 k0_hw299 => k0_hw299

def k0_chk300 (v341 : IVec S16 32) : Prop :=
  (∀ a x, ((![v341] : Fin 1 → IVec S16 32) a x).toNat < S2000.size a)
theorem k0_idx300_inb : ∀ (v341 : IVec S16 32) (k0_hw300 : k0_chk300 v341), ∀ a x, ((![v341] : Fin 1 → IVec S16 32) a x).toNat < S2000.size a := fun v341 k0_hw300 => k0_hw300

def k0_chk301 (v345 : IVec S16 32) : Prop :=
  (∀ a x, ((![v345] : Fin 1 → IVec S16 32) a x).toNat < S25600.size a)
theorem k0_idx301_inb : ∀ (v345 : IVec S16 32) (k0_hw301 : k0_chk301 v345), ∀ a x, ((![v345] : Fin 1 → IVec S16 32) a x).toNat < S25600.size a := fun v345 k0_hw301 => k0_hw301

def k0_chk302 (v346 : IVec S16 32) : Prop :=
  (∀ a x, ((![v346] : Fin 1 → IVec S16 32) a x).toNat < S2000.size a)
theorem k0_idx302_inb : ∀ (v346 : IVec S16 32) (k0_hw302 : k0_chk302 v346), ∀ a x, ((![v346] : Fin 1 → IVec S16 32) a x).toNat < S2000.size a := fun v346 k0_hw302 => k0_hw302

def k0_chk303 (v350 : IVec S16 32) : Prop :=
  (∀ a x, ((![v350] : Fin 1 → IVec S16 32) a x).toNat < S25600.size a)
theorem k0_idx303_inb : ∀ (v350 : IVec S16 32) (k0_hw303 : k0_chk303 v350), ∀ a x, ((![v350] : Fin 1 → IVec S16 32) a x).toNat < S25600.size a := fun v350 k0_hw303 => k0_hw303

def k0_chk304 (v351 : IVec S16 32) : Prop :=
  (∀ a x, ((![v351] : Fin 1 → IVec S16 32) a x).toNat < S2000.size a)
theorem k0_idx304_inb : ∀ (v351 : IVec S16 32) (k0_hw304 : k0_chk304 v351), ∀ a x, ((![v351] : Fin 1 → IVec S16 32) a x).toNat < S2000.size a := fun v351 k0_hw304 => k0_hw304

def k0_chk305 (v355 : IVec S16 32) : Prop :=
  (∀ a x, ((![v355] : Fin 1 → IVec S16 32) a x).toNat < S25600.size a)
theorem k0_idx305_inb : ∀ (v355 : IVec S16 32) (k0_hw305 : k0_chk305 v355), ∀ a x, ((![v355] : Fin 1 → IVec S16 32) a x).toNat < S25600.size a := fun v355 k0_hw305 => k0_hw305

def k0_chk306 (v356 : IVec S16 32) : Prop :=
  (∀ a x, ((![v356] : Fin 1 → IVec S16 32) a x).toNat < S2000.size a)
theorem k0_idx306_inb : ∀ (v356 : IVec S16 32) (k0_hw306 : k0_chk306 v356), ∀ a x, ((![v356] : Fin 1 → IVec S16 32) a x).toNat < S2000.size a := fun v356 k0_hw306 => k0_hw306

def k0_chk307 (v360 : IVec S16 32) : Prop :=
  (∀ a x, ((![v360] : Fin 1 → IVec S16 32) a x).toNat < S25600.size a)
theorem k0_idx307_inb : ∀ (v360 : IVec S16 32) (k0_hw307 : k0_chk307 v360), ∀ a x, ((![v360] : Fin 1 → IVec S16 32) a x).toNat < S25600.size a := fun v360 k0_hw307 => k0_hw307

def k0_chk308 (v361 : IVec S16 32) : Prop :=
  (∀ a x, ((![v361] : Fin 1 → IVec S16 32) a x).toNat < S2000.size a)
theorem k0_idx308_inb : ∀ (v361 : IVec S16 32) (k0_hw308 : k0_chk308 v361), ∀ a x, ((![v361] : Fin 1 → IVec S16 32) a x).toNat < S2000.size a := fun v361 k0_hw308 => k0_hw308

def k0_chk309 (v365 : IVec S16 32) : Prop :=
  (∀ a x, ((![v365] : Fin 1 → IVec S16 32) a x).toNat < S25600.size a)
theorem k0_idx309_inb : ∀ (v365 : IVec S16 32) (k0_hw309 : k0_chk309 v365), ∀ a x, ((![v365] : Fin 1 → IVec S16 32) a x).toNat < S25600.size a := fun v365 k0_hw309 => k0_hw309

def k0_chk310 (v366 : IVec S16 32) : Prop :=
  (∀ a x, ((![v366] : Fin 1 → IVec S16 32) a x).toNat < S2000.size a)
theorem k0_idx310_inb : ∀ (v366 : IVec S16 32) (k0_hw310 : k0_chk310 v366), ∀ a x, ((![v366] : Fin 1 → IVec S16 32) a x).toNat < S2000.size a := fun v366 k0_hw310 => k0_hw310

def k0_chk311 (v370 : IVec S16 32) : Prop :=
  (∀ a x, ((![v370] : Fin 1 → IVec S16 32) a x).toNat < S25600.size a)
theorem k0_idx311_inb : ∀ (v370 : IVec S16 32) (k0_hw311 : k0_chk311 v370), ∀ a x, ((![v370] : Fin 1 → IVec S16 32) a x).toNat < S25600.size a := fun v370 k0_hw311 => k0_hw311

def k0_chk312 (v371 : IVec S16 32) : Prop :=
  (∀ a x, ((![v371] : Fin 1 → IVec S16 32) a x).toNat < S2000.size a)
theorem k0_idx312_inb : ∀ (v371 : IVec S16 32) (k0_hw312 : k0_chk312 v371), ∀ a x, ((![v371] : Fin 1 → IVec S16 32) a x).toNat < S2000.size a := fun v371 k0_hw312 => k0_hw312

def k0_chk313 (v375 : IVec S16 32) : Prop :=
  (∀ a x, ((![v375] : Fin 1 → IVec S16 32) a x).toNat < S25600.size a)
theorem k0_idx313_inb : ∀ (v375 : IVec S16 32) (k0_hw313 : k0_chk313 v375), ∀ a x, ((![v375] : Fin 1 → IVec S16 32) a x).toNat < S25600.size a := fun v375 k0_hw313 => k0_hw313

def k0_chk314 (v376 : IVec S16 32) : Prop :=
  (∀ a x, ((![v376] : Fin 1 → IVec S16 32) a x).toNat < S2000.size a)
theorem k0_idx314_inb : ∀ (v376 : IVec S16 32) (k0_hw314 : k0_chk314 v376), ∀ a x, ((![v376] : Fin 1 → IVec S16 32) a x).toNat < S2000.size a := fun v376 k0_hw314 => k0_hw314

def k0_chk315 (v380 : IVec S16 32) : Prop :=
  (∀ a x, ((![v380] : Fin 1 → IVec S16 32) a x).toNat < S25600.size a)
theorem k0_idx315_inb : ∀ (v380 : IVec S16 32) (k0_hw315 : k0_chk315 v380), ∀ a x, ((![v380] : Fin 1 → IVec S16 32) a x).toNat < S25600.size a := fun v380 k0_hw315 => k0_hw315

def k0_chk316 (v381 : IVec S16 32) : Prop :=
  (∀ a x, ((![v381] : Fin 1 → IVec S16 32) a x).toNat < S2000.size a)
theorem k0_idx316_inb : ∀ (v381 : IVec S16 32) (k0_hw316 : k0_chk316 v381), ∀ a x, ((![v381] : Fin 1 → IVec S16 32) a x).toNat < S2000.size a := fun v381 k0_hw316 => k0_hw316

def k0_chk317 (v385 : IVec S16 32) : Prop :=
  (∀ a x, ((![v385] : Fin 1 → IVec S16 32) a x).toNat < S25600.size a)
theorem k0_idx317_inb : ∀ (v385 : IVec S16 32) (k0_hw317 : k0_chk317 v385), ∀ a x, ((![v385] : Fin 1 → IVec S16 32) a x).toNat < S25600.size a := fun v385 k0_hw317 => k0_hw317

def k0_chk318 (v386 : IVec S16 32) : Prop :=
  (∀ a x, ((![v386] : Fin 1 → IVec S16 32) a x).toNat < S2000.size a)
theorem k0_idx318_inb : ∀ (v386 : IVec S16 32) (k0_hw318 : k0_chk318 v386), ∀ a x, ((![v386] : Fin 1 → IVec S16 32) a x).toNat < S2000.size a := fun v386 k0_hw318 => k0_hw318

def k0_chk319 (v390 : IVec S16 32) : Prop :=
  (∀ a x, ((![v390] : Fin 1 → IVec S16 32) a x).toNat < S25600.size a)
theorem k0_idx319_inb : ∀ (v390 : IVec S16 32) (k0_hw319 : k0_chk319 v390), ∀ a x, ((![v390] : Fin 1 → IVec S16 32) a x).toNat < S25600.size a := fun v390 k0_hw319 => k0_hw319

def k0_chk320 (v391 : IVec S16 32) : Prop :=
  (∀ a x, ((![v391] : Fin 1 → IVec S16 32) a x).toNat < S2000.size a)
theorem k0_idx320_inb : ∀ (v391 : IVec S16 32) (k0_hw320 : k0_chk320 v391), ∀ a x, ((![v391] : Fin 1 → IVec S16 32) a x).toNat < S2000.size a := fun v391 k0_hw320 => k0_hw320

def k0_chk321 (v395 : IVec S16 32) : Prop :=
  (∀ a x, ((![v395] : Fin 1 → IVec S16 32) a x).toNat < S25600.size a)
theorem k0_idx321_inb : ∀ (v395 : IVec S16 32) (k0_hw321 : k0_chk321 v395), ∀ a x, ((![v395] : Fin 1 → IVec S16 32) a x).toNat < S25600.size a := fun v395 k0_hw321 => k0_hw321

def k0_chk322 (v396 : IVec S16 32) : Prop :=
  (∀ a x, ((![v396] : Fin 1 → IVec S16 32) a x).toNat < S2000.size a)
theorem k0_idx322_inb : ∀ (v396 : IVec S16 32) (k0_hw322 : k0_chk322 v396), ∀ a x, ((![v396] : Fin 1 → IVec S16 32) a x).toNat < S2000.size a := fun v396 k0_hw322 => k0_hw322

def k0_chk323 (v400 : IVec S16 32) : Prop :=
  (∀ a x, ((![v400] : Fin 1 → IVec S16 32) a x).toNat < S25600.size a)
theorem k0_idx323_inb : ∀ (v400 : IVec S16 32) (k0_hw323 : k0_chk323 v400), ∀ a x, ((![v400] : Fin 1 → IVec S16 32) a x).toNat < S25600.size a := fun v400 k0_hw323 => k0_hw323

def k0_chk324 (v401 : IVec S16 32) : Prop :=
  (∀ a x, ((![v401] : Fin 1 → IVec S16 32) a x).toNat < S2000.size a)
theorem k0_idx324_inb : ∀ (v401 : IVec S16 32) (k0_hw324 : k0_chk324 v401), ∀ a x, ((![v401] : Fin 1 → IVec S16 32) a x).toNat < S2000.size a := fun v401 k0_hw324 => k0_hw324

def k0_chk325 (v405 : IVec S16 32) : Prop :=
  (∀ a x, ((![v405] : Fin 1 → IVec S16 32) a x).toNat < S25600.size a)
theorem k0_idx325_inb : ∀ (v405 : IVec S16 32) (k0_hw325 : k0_chk325 v405), ∀ a x, ((![v405] : Fin 1 → IVec S16 32) a x).toNat < S25600.size a := fun v405 k0_hw325 => k0_hw325

def k0_chk326 (v406 : IVec S16 32) : Prop :=
  (∀ a x, ((![v406] : Fin 1 → IVec S16 32) a x).toNat < S2000.size a)
theorem k0_idx326_inb : ∀ (v406 : IVec S16 32) (k0_hw326 : k0_chk326 v406), ∀ a x, ((![v406] : Fin 1 → IVec S16 32) a x).toNat < S2000.size a := fun v406 k0_hw326 => k0_hw326

def k0_chk327 (v410 : IVec S16 32) : Prop :=
  (∀ a x, ((![v410] : Fin 1 → IVec S16 32) a x).toNat < S25600.size a)
theorem k0_idx327_inb : ∀ (v410 : IVec S16 32) (k0_hw327 : k0_chk327 v410), ∀ a x, ((![v410] : Fin 1 → IVec S16 32) a x).toNat < S25600.size a := fun v410 k0_hw327 => k0_hw327

def k0_chk328 (v411 : IVec S16 32) : Prop :=
  (∀ a x, ((![v411] : Fin 1 → IVec S16 32) a x).toNat < S2000.size a)
theorem k0_idx328_inb : ∀ (v411 : IVec S16 32) (k0_hw328 : k0_chk328 v411), ∀ a x, ((![v411] : Fin 1 → IVec S16 32) a x).toNat < S2000.size a := fun v411 k0_hw328 => k0_hw328

def k0_chk329 (v415 : IVec S16 32) : Prop :=
  (∀ a x, ((![v415] : Fin 1 → IVec S16 32) a x).toNat < S25600.size a)
theorem k0_idx329_inb : ∀ (v415 : IVec S16 32) (k0_hw329 : k0_chk329 v415), ∀ a x, ((![v415] : Fin 1 → IVec S16 32) a x).toNat < S25600.size a := fun v415 k0_hw329 => k0_hw329

def k0_chk330 (v416 : IVec S16 32) : Prop :=
  (∀ a x, ((![v416] : Fin 1 → IVec S16 32) a x).toNat < S2000.size a)
theorem k0_idx330_inb : ∀ (v416 : IVec S16 32) (k0_hw330 : k0_chk330 v416), ∀ a x, ((![v416] : Fin 1 → IVec S16 32) a x).toNat < S2000.size a := fun v416 k0_hw330 => k0_hw330

def k0_chk331 (v420 : IVec S16 32) : Prop :=
  (∀ a x, ((![v420] : Fin 1 → IVec S16 32) a x).toNat < S25600.size a)
theorem k0_idx331_inb : ∀ (v420 : IVec S16 32) (k0_hw331 : k0_chk331 v420), ∀ a x, ((![v420] : Fin 1 → IVec S16 32) a x).toNat < S25600.size a := fun v420 k0_hw331 => k0_hw331

def k0_chk332 (v421 : IVec S16 32) : Prop :=
  (∀ a x, ((![v421] : Fin 1 → IVec S16 32) a x).toNat < S2000.size a)
theorem k0_idx332_inb : ∀ (v421 : IVec S16 32) (k0_hw332 : k0_chk332 v421), ∀ a x, ((![v421] : Fin 1 → IVec S16 32) a x).toNat < S2000.size a := fun v421 k0_hw332 => k0_hw332

def k0_chk333 (v428 : IVec S16 32) : Prop :=
  (∀ a x, ((![v428] : Fin 1 → IVec S16 32) a x).toNat < S8192.size a)
theorem k0_idx333_inb : ∀ (v428 : IVec S16 32) (k0_hw333 : k0_chk333 v428), ∀ a x, ((![v428] : Fin 1 → IVec S16 32) a x).toNat < S8192.size a := fun v428 k0_hw333 => k0_hw333

def k0_chk334 (v434 : IVec S16 32) : Prop :=
  (∀ a x, ((![v434] : Fin 1 → IVec S16 32) a x).toNat < S8192.size a)
theorem k0_idx334_inb : ∀ (v434 : IVec S16 32) (k0_hw334 : k0_chk334 v434), ∀ a x, ((![v434] : Fin 1 → IVec S16 32) a x).toNat < S8192.size a := fun v434 k0_hw334 => k0_hw334

def k0_chk335 (v440 : IVec S16 32) : Prop :=
  (∀ a x, ((![v440] : Fin 1 → IVec S16 32) a x).toNat < S8192.size a)
theorem k0_idx335_inb : ∀ (v440 : IVec S16 32) (k0_hw335 : k0_chk335 v440), ∀ a x, ((![v440] : Fin 1 → IVec S16 32) a x).toNat < S8192.size a := fun v440 k0_hw335 => k0_hw335

def k0_chk336 (v446 : IVec S16 32) : Prop :=
  (∀ a x, ((![v446] : Fin 1 → IVec S16 32) a x).toNat < S8192.size a)
theorem k0_idx336_inb : ∀ (v446 : IVec S16 32) (k0_hw336 : k0_chk336 v446), ∀ a x, ((![v446] : Fin 1 → IVec S16 32) a x).toNat < S8192.size a := fun v446 k0_hw336 => k0_hw336

def k0_chk337 (v452 : IVec S16 32) : Prop :=
  (∀ a x, ((![v452] : Fin 1 → IVec S16 32) a x).toNat < S8192.size a)
theorem k0_idx337_inb : ∀ (v452 : IVec S16 32) (k0_hw337 : k0_chk337 v452), ∀ a x, ((![v452] : Fin 1 → IVec S16 32) a x).toNat < S8192.size a := fun v452 k0_hw337 => k0_hw337

def k0_chk338 (v458 : IVec S16 32) : Prop :=
  (∀ a x, ((![v458] : Fin 1 → IVec S16 32) a x).toNat < S8192.size a)
theorem k0_idx338_inb : ∀ (v458 : IVec S16 32) (k0_hw338 : k0_chk338 v458), ∀ a x, ((![v458] : Fin 1 → IVec S16 32) a x).toNat < S8192.size a := fun v458 k0_hw338 => k0_hw338

def k0_chk339 (v464 : IVec S16 32) : Prop :=
  (∀ a x, ((![v464] : Fin 1 → IVec S16 32) a x).toNat < S8192.size a)
theorem k0_idx339_inb : ∀ (v464 : IVec S16 32) (k0_hw339 : k0_chk339 v464), ∀ a x, ((![v464] : Fin 1 → IVec S16 32) a x).toNat < S8192.size a := fun v464 k0_hw339 => k0_hw339

def k0_chk340 (v470 : IVec S16 32) : Prop :=
  (∀ a x, ((![v470] : Fin 1 → IVec S16 32) a x).toNat < S8192.size a)
theorem k0_idx340_inb : ∀ (v470 : IVec S16 32) (k0_hw340 : k0_chk340 v470), ∀ a x, ((![v470] : Fin 1 → IVec S16 32) a x).toNat < S8192.size a := fun v470 k0_hw340 => k0_hw340

def k0_chk341 (v476 : IVec S16 32) : Prop :=
  (∀ a x, ((![v476] : Fin 1 → IVec S16 32) a x).toNat < S8192.size a)
theorem k0_idx341_inb : ∀ (v476 : IVec S16 32) (k0_hw341 : k0_chk341 v476), ∀ a x, ((![v476] : Fin 1 → IVec S16 32) a x).toNat < S8192.size a := fun v476 k0_hw341 => k0_hw341

def k0_chk342 (v482 : IVec S16 32) : Prop :=
  (∀ a x, ((![v482] : Fin 1 → IVec S16 32) a x).toNat < S8192.size a)
theorem k0_idx342_inb : ∀ (v482 : IVec S16 32) (k0_hw342 : k0_chk342 v482), ∀ a x, ((![v482] : Fin 1 → IVec S16 32) a x).toNat < S8192.size a := fun v482 k0_hw342 => k0_hw342

def k0_chk343 (v488 : IVec S16 32) : Prop :=
  (∀ a x, ((![v488] : Fin 1 → IVec S16 32) a x).toNat < S8192.size a)
theorem k0_idx343_inb : ∀ (v488 : IVec S16 32) (k0_hw343 : k0_chk343 v488), ∀ a x, ((![v488] : Fin 1 → IVec S16 32) a x).toNat < S8192.size a := fun v488 k0_hw343 => k0_hw343

def k0_chk344 (v494 : IVec S16 32) : Prop :=
  (∀ a x, ((![v494] : Fin 1 → IVec S16 32) a x).toNat < S8192.size a)
theorem k0_idx344_inb : ∀ (v494 : IVec S16 32) (k0_hw344 : k0_chk344 v494), ∀ a x, ((![v494] : Fin 1 → IVec S16 32) a x).toNat < S8192.size a := fun v494 k0_hw344 => k0_hw344

def k0_chk345 (v500 : IVec S16 32) : Prop :=
  (∀ a x, ((![v500] : Fin 1 → IVec S16 32) a x).toNat < S8192.size a)
theorem k0_idx345_inb : ∀ (v500 : IVec S16 32) (k0_hw345 : k0_chk345 v500), ∀ a x, ((![v500] : Fin 1 → IVec S16 32) a x).toNat < S8192.size a := fun v500 k0_hw345 => k0_hw345

def k0_chk346 (v506 : IVec S16 32) : Prop :=
  (∀ a x, ((![v506] : Fin 1 → IVec S16 32) a x).toNat < S8192.size a)
theorem k0_idx346_inb : ∀ (v506 : IVec S16 32) (k0_hw346 : k0_chk346 v506), ∀ a x, ((![v506] : Fin 1 → IVec S16 32) a x).toNat < S8192.size a := fun v506 k0_hw346 => k0_hw346

def k0_chk347 (v512 : IVec S16 32) : Prop :=
  (∀ a x, ((![v512] : Fin 1 → IVec S16 32) a x).toNat < S8192.size a)
theorem k0_idx347_inb : ∀ (v512 : IVec S16 32) (k0_hw347 : k0_chk347 v512), ∀ a x, ((![v512] : Fin 1 → IVec S16 32) a x).toNat < S8192.size a := fun v512 k0_hw347 => k0_hw347

def k0_chk348 (v518 : IVec S16 32) : Prop :=
  (∀ a x, ((![v518] : Fin 1 → IVec S16 32) a x).toNat < S8192.size a)
theorem k0_idx348_inb : ∀ (v518 : IVec S16 32) (k0_hw348 : k0_chk348 v518), ∀ a x, ((![v518] : Fin 1 → IVec S16 32) a x).toNat < S8192.size a := fun v518 k0_hw348 => k0_hw348
@[reducible] def k0_t4_loop : Scf.Loop 32 :=
  let c0_i32_29 : BitVec 32 := 0#32
  let c32_i32_30 : BitVec 32 := 32#32
  let v139 : BitVec 32 := Scalar.addi c0_i32_29 c32_i32_30
  let c1_i32_31 : BitVec 32 := 1#32
  ⟨c0_i32_29, v139, c1_i32_31⟩

def k0_chk349 (v175 : IVec S16 32) : Prop :=
  (∀ a x, ((![v175] : Fin 1 → IVec S16 32) a x).toNat < S25600.size a)
theorem k0_idx349_inb : ∀ (v175 : IVec S16 32) (k0_hw349 : k0_chk349 v175), ∀ a x, ((![v175] : Fin 1 → IVec S16 32) a x).toNat < S25600.size a := fun v175 k0_hw349 => k0_hw349

def k0_chk350 (v176 : IVec S16 32) : Prop :=
  (∀ a x, ((![v176] : Fin 1 → IVec S16 32) a x).toNat < S2000.size a)
theorem k0_idx350_inb : ∀ (v176 : IVec S16 32) (k0_hw350 : k0_chk350 v176), ∀ a x, ((![v176] : Fin 1 → IVec S16 32) a x).toNat < S2000.size a := fun v176 k0_hw350 => k0_hw350

def k0_chk351 (v180 : IVec S16 32) : Prop :=
  (∀ a x, ((![v180] : Fin 1 → IVec S16 32) a x).toNat < S25600.size a)
theorem k0_idx351_inb : ∀ (v180 : IVec S16 32) (k0_hw351 : k0_chk351 v180), ∀ a x, ((![v180] : Fin 1 → IVec S16 32) a x).toNat < S25600.size a := fun v180 k0_hw351 => k0_hw351

def k0_chk352 (v181 : IVec S16 32) : Prop :=
  (∀ a x, ((![v181] : Fin 1 → IVec S16 32) a x).toNat < S2000.size a)
theorem k0_idx352_inb : ∀ (v181 : IVec S16 32) (k0_hw352 : k0_chk352 v181), ∀ a x, ((![v181] : Fin 1 → IVec S16 32) a x).toNat < S2000.size a := fun v181 k0_hw352 => k0_hw352

def k0_chk353 (v185 : IVec S16 32) : Prop :=
  (∀ a x, ((![v185] : Fin 1 → IVec S16 32) a x).toNat < S25600.size a)
theorem k0_idx353_inb : ∀ (v185 : IVec S16 32) (k0_hw353 : k0_chk353 v185), ∀ a x, ((![v185] : Fin 1 → IVec S16 32) a x).toNat < S25600.size a := fun v185 k0_hw353 => k0_hw353

def k0_chk354 (v186 : IVec S16 32) : Prop :=
  (∀ a x, ((![v186] : Fin 1 → IVec S16 32) a x).toNat < S2000.size a)
theorem k0_idx354_inb : ∀ (v186 : IVec S16 32) (k0_hw354 : k0_chk354 v186), ∀ a x, ((![v186] : Fin 1 → IVec S16 32) a x).toNat < S2000.size a := fun v186 k0_hw354 => k0_hw354

def k0_chk355 (v190 : IVec S16 32) : Prop :=
  (∀ a x, ((![v190] : Fin 1 → IVec S16 32) a x).toNat < S25600.size a)
theorem k0_idx355_inb : ∀ (v190 : IVec S16 32) (k0_hw355 : k0_chk355 v190), ∀ a x, ((![v190] : Fin 1 → IVec S16 32) a x).toNat < S25600.size a := fun v190 k0_hw355 => k0_hw355

def k0_chk356 (v191 : IVec S16 32) : Prop :=
  (∀ a x, ((![v191] : Fin 1 → IVec S16 32) a x).toNat < S2000.size a)
theorem k0_idx356_inb : ∀ (v191 : IVec S16 32) (k0_hw356 : k0_chk356 v191), ∀ a x, ((![v191] : Fin 1 → IVec S16 32) a x).toNat < S2000.size a := fun v191 k0_hw356 => k0_hw356

def k0_chk357 (v195 : IVec S16 32) : Prop :=
  (∀ a x, ((![v195] : Fin 1 → IVec S16 32) a x).toNat < S25600.size a)
theorem k0_idx357_inb : ∀ (v195 : IVec S16 32) (k0_hw357 : k0_chk357 v195), ∀ a x, ((![v195] : Fin 1 → IVec S16 32) a x).toNat < S25600.size a := fun v195 k0_hw357 => k0_hw357

def k0_chk358 (v196 : IVec S16 32) : Prop :=
  (∀ a x, ((![v196] : Fin 1 → IVec S16 32) a x).toNat < S2000.size a)
theorem k0_idx358_inb : ∀ (v196 : IVec S16 32) (k0_hw358 : k0_chk358 v196), ∀ a x, ((![v196] : Fin 1 → IVec S16 32) a x).toNat < S2000.size a := fun v196 k0_hw358 => k0_hw358

def k0_chk359 (v200 : IVec S16 32) : Prop :=
  (∀ a x, ((![v200] : Fin 1 → IVec S16 32) a x).toNat < S25600.size a)
theorem k0_idx359_inb : ∀ (v200 : IVec S16 32) (k0_hw359 : k0_chk359 v200), ∀ a x, ((![v200] : Fin 1 → IVec S16 32) a x).toNat < S25600.size a := fun v200 k0_hw359 => k0_hw359

def k0_chk360 (v201 : IVec S16 32) : Prop :=
  (∀ a x, ((![v201] : Fin 1 → IVec S16 32) a x).toNat < S2000.size a)
theorem k0_idx360_inb : ∀ (v201 : IVec S16 32) (k0_hw360 : k0_chk360 v201), ∀ a x, ((![v201] : Fin 1 → IVec S16 32) a x).toNat < S2000.size a := fun v201 k0_hw360 => k0_hw360

def k0_chk361 (v205 : IVec S16 32) : Prop :=
  (∀ a x, ((![v205] : Fin 1 → IVec S16 32) a x).toNat < S25600.size a)
theorem k0_idx361_inb : ∀ (v205 : IVec S16 32) (k0_hw361 : k0_chk361 v205), ∀ a x, ((![v205] : Fin 1 → IVec S16 32) a x).toNat < S25600.size a := fun v205 k0_hw361 => k0_hw361

def k0_chk362 (v206 : IVec S16 32) : Prop :=
  (∀ a x, ((![v206] : Fin 1 → IVec S16 32) a x).toNat < S2000.size a)
theorem k0_idx362_inb : ∀ (v206 : IVec S16 32) (k0_hw362 : k0_chk362 v206), ∀ a x, ((![v206] : Fin 1 → IVec S16 32) a x).toNat < S2000.size a := fun v206 k0_hw362 => k0_hw362

def k0_chk363 (v210 : IVec S16 32) : Prop :=
  (∀ a x, ((![v210] : Fin 1 → IVec S16 32) a x).toNat < S25600.size a)
theorem k0_idx363_inb : ∀ (v210 : IVec S16 32) (k0_hw363 : k0_chk363 v210), ∀ a x, ((![v210] : Fin 1 → IVec S16 32) a x).toNat < S25600.size a := fun v210 k0_hw363 => k0_hw363

def k0_chk364 (v211 : IVec S16 32) : Prop :=
  (∀ a x, ((![v211] : Fin 1 → IVec S16 32) a x).toNat < S2000.size a)
theorem k0_idx364_inb : ∀ (v211 : IVec S16 32) (k0_hw364 : k0_chk364 v211), ∀ a x, ((![v211] : Fin 1 → IVec S16 32) a x).toNat < S2000.size a := fun v211 k0_hw364 => k0_hw364

def k0_chk365 (v215 : IVec S16 32) : Prop :=
  (∀ a x, ((![v215] : Fin 1 → IVec S16 32) a x).toNat < S25600.size a)
theorem k0_idx365_inb : ∀ (v215 : IVec S16 32) (k0_hw365 : k0_chk365 v215), ∀ a x, ((![v215] : Fin 1 → IVec S16 32) a x).toNat < S25600.size a := fun v215 k0_hw365 => k0_hw365

def k0_chk366 (v216 : IVec S16 32) : Prop :=
  (∀ a x, ((![v216] : Fin 1 → IVec S16 32) a x).toNat < S2000.size a)
theorem k0_idx366_inb : ∀ (v216 : IVec S16 32) (k0_hw366 : k0_chk366 v216), ∀ a x, ((![v216] : Fin 1 → IVec S16 32) a x).toNat < S2000.size a := fun v216 k0_hw366 => k0_hw366

def k0_chk367 (v220 : IVec S16 32) : Prop :=
  (∀ a x, ((![v220] : Fin 1 → IVec S16 32) a x).toNat < S25600.size a)
theorem k0_idx367_inb : ∀ (v220 : IVec S16 32) (k0_hw367 : k0_chk367 v220), ∀ a x, ((![v220] : Fin 1 → IVec S16 32) a x).toNat < S25600.size a := fun v220 k0_hw367 => k0_hw367

def k0_chk368 (v221 : IVec S16 32) : Prop :=
  (∀ a x, ((![v221] : Fin 1 → IVec S16 32) a x).toNat < S2000.size a)
theorem k0_idx368_inb : ∀ (v221 : IVec S16 32) (k0_hw368 : k0_chk368 v221), ∀ a x, ((![v221] : Fin 1 → IVec S16 32) a x).toNat < S2000.size a := fun v221 k0_hw368 => k0_hw368

def k0_chk369 (v225 : IVec S16 32) : Prop :=
  (∀ a x, ((![v225] : Fin 1 → IVec S16 32) a x).toNat < S25600.size a)
theorem k0_idx369_inb : ∀ (v225 : IVec S16 32) (k0_hw369 : k0_chk369 v225), ∀ a x, ((![v225] : Fin 1 → IVec S16 32) a x).toNat < S25600.size a := fun v225 k0_hw369 => k0_hw369

def k0_chk370 (v226 : IVec S16 32) : Prop :=
  (∀ a x, ((![v226] : Fin 1 → IVec S16 32) a x).toNat < S2000.size a)
theorem k0_idx370_inb : ∀ (v226 : IVec S16 32) (k0_hw370 : k0_chk370 v226), ∀ a x, ((![v226] : Fin 1 → IVec S16 32) a x).toNat < S2000.size a := fun v226 k0_hw370 => k0_hw370

def k0_chk371 (v230 : IVec S16 32) : Prop :=
  (∀ a x, ((![v230] : Fin 1 → IVec S16 32) a x).toNat < S25600.size a)
theorem k0_idx371_inb : ∀ (v230 : IVec S16 32) (k0_hw371 : k0_chk371 v230), ∀ a x, ((![v230] : Fin 1 → IVec S16 32) a x).toNat < S25600.size a := fun v230 k0_hw371 => k0_hw371

def k0_chk372 (v231 : IVec S16 32) : Prop :=
  (∀ a x, ((![v231] : Fin 1 → IVec S16 32) a x).toNat < S2000.size a)
theorem k0_idx372_inb : ∀ (v231 : IVec S16 32) (k0_hw372 : k0_chk372 v231), ∀ a x, ((![v231] : Fin 1 → IVec S16 32) a x).toNat < S2000.size a := fun v231 k0_hw372 => k0_hw372

def k0_chk373 (v235 : IVec S16 32) : Prop :=
  (∀ a x, ((![v235] : Fin 1 → IVec S16 32) a x).toNat < S25600.size a)
theorem k0_idx373_inb : ∀ (v235 : IVec S16 32) (k0_hw373 : k0_chk373 v235), ∀ a x, ((![v235] : Fin 1 → IVec S16 32) a x).toNat < S25600.size a := fun v235 k0_hw373 => k0_hw373

def k0_chk374 (v236 : IVec S16 32) : Prop :=
  (∀ a x, ((![v236] : Fin 1 → IVec S16 32) a x).toNat < S2000.size a)
theorem k0_idx374_inb : ∀ (v236 : IVec S16 32) (k0_hw374 : k0_chk374 v236), ∀ a x, ((![v236] : Fin 1 → IVec S16 32) a x).toNat < S2000.size a := fun v236 k0_hw374 => k0_hw374

def k0_chk375 (v240 : IVec S16 32) : Prop :=
  (∀ a x, ((![v240] : Fin 1 → IVec S16 32) a x).toNat < S25600.size a)
theorem k0_idx375_inb : ∀ (v240 : IVec S16 32) (k0_hw375 : k0_chk375 v240), ∀ a x, ((![v240] : Fin 1 → IVec S16 32) a x).toNat < S25600.size a := fun v240 k0_hw375 => k0_hw375

def k0_chk376 (v241 : IVec S16 32) : Prop :=
  (∀ a x, ((![v241] : Fin 1 → IVec S16 32) a x).toNat < S2000.size a)
theorem k0_idx376_inb : ∀ (v241 : IVec S16 32) (k0_hw376 : k0_chk376 v241), ∀ a x, ((![v241] : Fin 1 → IVec S16 32) a x).toNat < S2000.size a := fun v241 k0_hw376 => k0_hw376

def k0_chk377 (v245 : IVec S16 32) : Prop :=
  (∀ a x, ((![v245] : Fin 1 → IVec S16 32) a x).toNat < S25600.size a)
theorem k0_idx377_inb : ∀ (v245 : IVec S16 32) (k0_hw377 : k0_chk377 v245), ∀ a x, ((![v245] : Fin 1 → IVec S16 32) a x).toNat < S25600.size a := fun v245 k0_hw377 => k0_hw377

def k0_chk378 (v246 : IVec S16 32) : Prop :=
  (∀ a x, ((![v246] : Fin 1 → IVec S16 32) a x).toNat < S2000.size a)
theorem k0_idx378_inb : ∀ (v246 : IVec S16 32) (k0_hw378 : k0_chk378 v246), ∀ a x, ((![v246] : Fin 1 → IVec S16 32) a x).toNat < S2000.size a := fun v246 k0_hw378 => k0_hw378

def k0_chk379 (v250 : IVec S16 32) : Prop :=
  (∀ a x, ((![v250] : Fin 1 → IVec S16 32) a x).toNat < S25600.size a)
theorem k0_idx379_inb : ∀ (v250 : IVec S16 32) (k0_hw379 : k0_chk379 v250), ∀ a x, ((![v250] : Fin 1 → IVec S16 32) a x).toNat < S25600.size a := fun v250 k0_hw379 => k0_hw379

def k0_chk380 (v251 : IVec S16 32) : Prop :=
  (∀ a x, ((![v251] : Fin 1 → IVec S16 32) a x).toNat < S2000.size a)
theorem k0_idx380_inb : ∀ (v251 : IVec S16 32) (k0_hw380 : k0_chk380 v251), ∀ a x, ((![v251] : Fin 1 → IVec S16 32) a x).toNat < S2000.size a := fun v251 k0_hw380 => k0_hw380

def k0_chk381 (v255 : IVec S16 32) : Prop :=
  (∀ a x, ((![v255] : Fin 1 → IVec S16 32) a x).toNat < S25600.size a)
theorem k0_idx381_inb : ∀ (v255 : IVec S16 32) (k0_hw381 : k0_chk381 v255), ∀ a x, ((![v255] : Fin 1 → IVec S16 32) a x).toNat < S25600.size a := fun v255 k0_hw381 => k0_hw381

def k0_chk382 (v256 : IVec S16 32) : Prop :=
  (∀ a x, ((![v256] : Fin 1 → IVec S16 32) a x).toNat < S2000.size a)
theorem k0_idx382_inb : ∀ (v256 : IVec S16 32) (k0_hw382 : k0_chk382 v256), ∀ a x, ((![v256] : Fin 1 → IVec S16 32) a x).toNat < S2000.size a := fun v256 k0_hw382 => k0_hw382

def k0_chk383 (v260 : IVec S16 32) : Prop :=
  (∀ a x, ((![v260] : Fin 1 → IVec S16 32) a x).toNat < S25600.size a)
theorem k0_idx383_inb : ∀ (v260 : IVec S16 32) (k0_hw383 : k0_chk383 v260), ∀ a x, ((![v260] : Fin 1 → IVec S16 32) a x).toNat < S25600.size a := fun v260 k0_hw383 => k0_hw383

def k0_chk384 (v261 : IVec S16 32) : Prop :=
  (∀ a x, ((![v261] : Fin 1 → IVec S16 32) a x).toNat < S2000.size a)
theorem k0_idx384_inb : ∀ (v261 : IVec S16 32) (k0_hw384 : k0_chk384 v261), ∀ a x, ((![v261] : Fin 1 → IVec S16 32) a x).toNat < S2000.size a := fun v261 k0_hw384 => k0_hw384

def k0_chk385 (v265 : IVec S16 32) : Prop :=
  (∀ a x, ((![v265] : Fin 1 → IVec S16 32) a x).toNat < S25600.size a)
theorem k0_idx385_inb : ∀ (v265 : IVec S16 32) (k0_hw385 : k0_chk385 v265), ∀ a x, ((![v265] : Fin 1 → IVec S16 32) a x).toNat < S25600.size a := fun v265 k0_hw385 => k0_hw385

def k0_chk386 (v266 : IVec S16 32) : Prop :=
  (∀ a x, ((![v266] : Fin 1 → IVec S16 32) a x).toNat < S2000.size a)
theorem k0_idx386_inb : ∀ (v266 : IVec S16 32) (k0_hw386 : k0_chk386 v266), ∀ a x, ((![v266] : Fin 1 → IVec S16 32) a x).toNat < S2000.size a := fun v266 k0_hw386 => k0_hw386

def k0_chk387 (v270 : IVec S16 32) : Prop :=
  (∀ a x, ((![v270] : Fin 1 → IVec S16 32) a x).toNat < S25600.size a)
theorem k0_idx387_inb : ∀ (v270 : IVec S16 32) (k0_hw387 : k0_chk387 v270), ∀ a x, ((![v270] : Fin 1 → IVec S16 32) a x).toNat < S25600.size a := fun v270 k0_hw387 => k0_hw387

def k0_chk388 (v271 : IVec S16 32) : Prop :=
  (∀ a x, ((![v271] : Fin 1 → IVec S16 32) a x).toNat < S2000.size a)
theorem k0_idx388_inb : ∀ (v271 : IVec S16 32) (k0_hw388 : k0_chk388 v271), ∀ a x, ((![v271] : Fin 1 → IVec S16 32) a x).toNat < S2000.size a := fun v271 k0_hw388 => k0_hw388

def k0_chk389 (v275 : IVec S16 32) : Prop :=
  (∀ a x, ((![v275] : Fin 1 → IVec S16 32) a x).toNat < S25600.size a)
theorem k0_idx389_inb : ∀ (v275 : IVec S16 32) (k0_hw389 : k0_chk389 v275), ∀ a x, ((![v275] : Fin 1 → IVec S16 32) a x).toNat < S25600.size a := fun v275 k0_hw389 => k0_hw389

def k0_chk390 (v276 : IVec S16 32) : Prop :=
  (∀ a x, ((![v276] : Fin 1 → IVec S16 32) a x).toNat < S2000.size a)
theorem k0_idx390_inb : ∀ (v276 : IVec S16 32) (k0_hw390 : k0_chk390 v276), ∀ a x, ((![v276] : Fin 1 → IVec S16 32) a x).toNat < S2000.size a := fun v276 k0_hw390 => k0_hw390

def k0_chk391 (v280 : IVec S16 32) : Prop :=
  (∀ a x, ((![v280] : Fin 1 → IVec S16 32) a x).toNat < S25600.size a)
theorem k0_idx391_inb : ∀ (v280 : IVec S16 32) (k0_hw391 : k0_chk391 v280), ∀ a x, ((![v280] : Fin 1 → IVec S16 32) a x).toNat < S25600.size a := fun v280 k0_hw391 => k0_hw391

def k0_chk392 (v281 : IVec S16 32) : Prop :=
  (∀ a x, ((![v281] : Fin 1 → IVec S16 32) a x).toNat < S2000.size a)
theorem k0_idx392_inb : ∀ (v281 : IVec S16 32) (k0_hw392 : k0_chk392 v281), ∀ a x, ((![v281] : Fin 1 → IVec S16 32) a x).toNat < S2000.size a := fun v281 k0_hw392 => k0_hw392

def k0_chk393 (v285 : IVec S16 32) : Prop :=
  (∀ a x, ((![v285] : Fin 1 → IVec S16 32) a x).toNat < S25600.size a)
theorem k0_idx393_inb : ∀ (v285 : IVec S16 32) (k0_hw393 : k0_chk393 v285), ∀ a x, ((![v285] : Fin 1 → IVec S16 32) a x).toNat < S25600.size a := fun v285 k0_hw393 => k0_hw393

def k0_chk394 (v286 : IVec S16 32) : Prop :=
  (∀ a x, ((![v286] : Fin 1 → IVec S16 32) a x).toNat < S2000.size a)
theorem k0_idx394_inb : ∀ (v286 : IVec S16 32) (k0_hw394 : k0_chk394 v286), ∀ a x, ((![v286] : Fin 1 → IVec S16 32) a x).toNat < S2000.size a := fun v286 k0_hw394 => k0_hw394

def k0_chk395 (v290 : IVec S16 32) : Prop :=
  (∀ a x, ((![v290] : Fin 1 → IVec S16 32) a x).toNat < S25600.size a)
theorem k0_idx395_inb : ∀ (v290 : IVec S16 32) (k0_hw395 : k0_chk395 v290), ∀ a x, ((![v290] : Fin 1 → IVec S16 32) a x).toNat < S25600.size a := fun v290 k0_hw395 => k0_hw395

def k0_chk396 (v291 : IVec S16 32) : Prop :=
  (∀ a x, ((![v291] : Fin 1 → IVec S16 32) a x).toNat < S2000.size a)
theorem k0_idx396_inb : ∀ (v291 : IVec S16 32) (k0_hw396 : k0_chk396 v291), ∀ a x, ((![v291] : Fin 1 → IVec S16 32) a x).toNat < S2000.size a := fun v291 k0_hw396 => k0_hw396

def k0_chk397 (v295 : IVec S16 32) : Prop :=
  (∀ a x, ((![v295] : Fin 1 → IVec S16 32) a x).toNat < S25600.size a)
theorem k0_idx397_inb : ∀ (v295 : IVec S16 32) (k0_hw397 : k0_chk397 v295), ∀ a x, ((![v295] : Fin 1 → IVec S16 32) a x).toNat < S25600.size a := fun v295 k0_hw397 => k0_hw397

def k0_chk398 (v296 : IVec S16 32) : Prop :=
  (∀ a x, ((![v296] : Fin 1 → IVec S16 32) a x).toNat < S2000.size a)
theorem k0_idx398_inb : ∀ (v296 : IVec S16 32) (k0_hw398 : k0_chk398 v296), ∀ a x, ((![v296] : Fin 1 → IVec S16 32) a x).toNat < S2000.size a := fun v296 k0_hw398 => k0_hw398

def k0_chk399 (v300 : IVec S16 32) : Prop :=
  (∀ a x, ((![v300] : Fin 1 → IVec S16 32) a x).toNat < S25600.size a)
theorem k0_idx399_inb : ∀ (v300 : IVec S16 32) (k0_hw399 : k0_chk399 v300), ∀ a x, ((![v300] : Fin 1 → IVec S16 32) a x).toNat < S25600.size a := fun v300 k0_hw399 => k0_hw399

def k0_chk400 (v301 : IVec S16 32) : Prop :=
  (∀ a x, ((![v301] : Fin 1 → IVec S16 32) a x).toNat < S2000.size a)
theorem k0_idx400_inb : ∀ (v301 : IVec S16 32) (k0_hw400 : k0_chk400 v301), ∀ a x, ((![v301] : Fin 1 → IVec S16 32) a x).toNat < S2000.size a := fun v301 k0_hw400 => k0_hw400

def k0_chk401 (v305 : IVec S16 32) : Prop :=
  (∀ a x, ((![v305] : Fin 1 → IVec S16 32) a x).toNat < S25600.size a)
theorem k0_idx401_inb : ∀ (v305 : IVec S16 32) (k0_hw401 : k0_chk401 v305), ∀ a x, ((![v305] : Fin 1 → IVec S16 32) a x).toNat < S25600.size a := fun v305 k0_hw401 => k0_hw401

def k0_chk402 (v306 : IVec S16 32) : Prop :=
  (∀ a x, ((![v306] : Fin 1 → IVec S16 32) a x).toNat < S2000.size a)
theorem k0_idx402_inb : ∀ (v306 : IVec S16 32) (k0_hw402 : k0_chk402 v306), ∀ a x, ((![v306] : Fin 1 → IVec S16 32) a x).toNat < S2000.size a := fun v306 k0_hw402 => k0_hw402

def k0_chk403 (v310 : IVec S16 32) : Prop :=
  (∀ a x, ((![v310] : Fin 1 → IVec S16 32) a x).toNat < S25600.size a)
theorem k0_idx403_inb : ∀ (v310 : IVec S16 32) (k0_hw403 : k0_chk403 v310), ∀ a x, ((![v310] : Fin 1 → IVec S16 32) a x).toNat < S25600.size a := fun v310 k0_hw403 => k0_hw403

def k0_chk404 (v311 : IVec S16 32) : Prop :=
  (∀ a x, ((![v311] : Fin 1 → IVec S16 32) a x).toNat < S2000.size a)
theorem k0_idx404_inb : ∀ (v311 : IVec S16 32) (k0_hw404 : k0_chk404 v311), ∀ a x, ((![v311] : Fin 1 → IVec S16 32) a x).toNat < S2000.size a := fun v311 k0_hw404 => k0_hw404

def k0_chk405 (v315 : IVec S16 32) : Prop :=
  (∀ a x, ((![v315] : Fin 1 → IVec S16 32) a x).toNat < S25600.size a)
theorem k0_idx405_inb : ∀ (v315 : IVec S16 32) (k0_hw405 : k0_chk405 v315), ∀ a x, ((![v315] : Fin 1 → IVec S16 32) a x).toNat < S25600.size a := fun v315 k0_hw405 => k0_hw405

def k0_chk406 (v316 : IVec S16 32) : Prop :=
  (∀ a x, ((![v316] : Fin 1 → IVec S16 32) a x).toNat < S2000.size a)
theorem k0_idx406_inb : ∀ (v316 : IVec S16 32) (k0_hw406 : k0_chk406 v316), ∀ a x, ((![v316] : Fin 1 → IVec S16 32) a x).toNat < S2000.size a := fun v316 k0_hw406 => k0_hw406

def k0_chk407 (v320 : IVec S16 32) : Prop :=
  (∀ a x, ((![v320] : Fin 1 → IVec S16 32) a x).toNat < S25600.size a)
theorem k0_idx407_inb : ∀ (v320 : IVec S16 32) (k0_hw407 : k0_chk407 v320), ∀ a x, ((![v320] : Fin 1 → IVec S16 32) a x).toNat < S25600.size a := fun v320 k0_hw407 => k0_hw407

def k0_chk408 (v321 : IVec S16 32) : Prop :=
  (∀ a x, ((![v321] : Fin 1 → IVec S16 32) a x).toNat < S2000.size a)
theorem k0_idx408_inb : ∀ (v321 : IVec S16 32) (k0_hw408 : k0_chk408 v321), ∀ a x, ((![v321] : Fin 1 → IVec S16 32) a x).toNat < S2000.size a := fun v321 k0_hw408 => k0_hw408

def k0_chk409 (v325 : IVec S16 32) : Prop :=
  (∀ a x, ((![v325] : Fin 1 → IVec S16 32) a x).toNat < S25600.size a)
theorem k0_idx409_inb : ∀ (v325 : IVec S16 32) (k0_hw409 : k0_chk409 v325), ∀ a x, ((![v325] : Fin 1 → IVec S16 32) a x).toNat < S25600.size a := fun v325 k0_hw409 => k0_hw409

def k0_chk410 (v326 : IVec S16 32) : Prop :=
  (∀ a x, ((![v326] : Fin 1 → IVec S16 32) a x).toNat < S2000.size a)
theorem k0_idx410_inb : ∀ (v326 : IVec S16 32) (k0_hw410 : k0_chk410 v326), ∀ a x, ((![v326] : Fin 1 → IVec S16 32) a x).toNat < S2000.size a := fun v326 k0_hw410 => k0_hw410

def k0_chk411 (v330 : IVec S16 32) : Prop :=
  (∀ a x, ((![v330] : Fin 1 → IVec S16 32) a x).toNat < S25600.size a)
theorem k0_idx411_inb : ∀ (v330 : IVec S16 32) (k0_hw411 : k0_chk411 v330), ∀ a x, ((![v330] : Fin 1 → IVec S16 32) a x).toNat < S25600.size a := fun v330 k0_hw411 => k0_hw411

def k0_chk412 (v331 : IVec S16 32) : Prop :=
  (∀ a x, ((![v331] : Fin 1 → IVec S16 32) a x).toNat < S2000.size a)
theorem k0_idx412_inb : ∀ (v331 : IVec S16 32) (k0_hw412 : k0_chk412 v331), ∀ a x, ((![v331] : Fin 1 → IVec S16 32) a x).toNat < S2000.size a := fun v331 k0_hw412 => k0_hw412

def k0_chk413 (v335 : IVec S16 32) : Prop :=
  (∀ a x, ((![v335] : Fin 1 → IVec S16 32) a x).toNat < S25600.size a)
theorem k0_idx413_inb : ∀ (v335 : IVec S16 32) (k0_hw413 : k0_chk413 v335), ∀ a x, ((![v335] : Fin 1 → IVec S16 32) a x).toNat < S25600.size a := fun v335 k0_hw413 => k0_hw413

def k0_chk414 (v336 : IVec S16 32) : Prop :=
  (∀ a x, ((![v336] : Fin 1 → IVec S16 32) a x).toNat < S2000.size a)
theorem k0_idx414_inb : ∀ (v336 : IVec S16 32) (k0_hw414 : k0_chk414 v336), ∀ a x, ((![v336] : Fin 1 → IVec S16 32) a x).toNat < S2000.size a := fun v336 k0_hw414 => k0_hw414

def k0_chk415 (v340 : IVec S16 32) : Prop :=
  (∀ a x, ((![v340] : Fin 1 → IVec S16 32) a x).toNat < S25600.size a)
theorem k0_idx415_inb : ∀ (v340 : IVec S16 32) (k0_hw415 : k0_chk415 v340), ∀ a x, ((![v340] : Fin 1 → IVec S16 32) a x).toNat < S25600.size a := fun v340 k0_hw415 => k0_hw415

def k0_chk416 (v341 : IVec S16 32) : Prop :=
  (∀ a x, ((![v341] : Fin 1 → IVec S16 32) a x).toNat < S2000.size a)
theorem k0_idx416_inb : ∀ (v341 : IVec S16 32) (k0_hw416 : k0_chk416 v341), ∀ a x, ((![v341] : Fin 1 → IVec S16 32) a x).toNat < S2000.size a := fun v341 k0_hw416 => k0_hw416

def k0_chk417 (v345 : IVec S16 32) : Prop :=
  (∀ a x, ((![v345] : Fin 1 → IVec S16 32) a x).toNat < S25600.size a)
theorem k0_idx417_inb : ∀ (v345 : IVec S16 32) (k0_hw417 : k0_chk417 v345), ∀ a x, ((![v345] : Fin 1 → IVec S16 32) a x).toNat < S25600.size a := fun v345 k0_hw417 => k0_hw417

def k0_chk418 (v346 : IVec S16 32) : Prop :=
  (∀ a x, ((![v346] : Fin 1 → IVec S16 32) a x).toNat < S2000.size a)
theorem k0_idx418_inb : ∀ (v346 : IVec S16 32) (k0_hw418 : k0_chk418 v346), ∀ a x, ((![v346] : Fin 1 → IVec S16 32) a x).toNat < S2000.size a := fun v346 k0_hw418 => k0_hw418

def k0_chk419 (v350 : IVec S16 32) : Prop :=
  (∀ a x, ((![v350] : Fin 1 → IVec S16 32) a x).toNat < S25600.size a)
theorem k0_idx419_inb : ∀ (v350 : IVec S16 32) (k0_hw419 : k0_chk419 v350), ∀ a x, ((![v350] : Fin 1 → IVec S16 32) a x).toNat < S25600.size a := fun v350 k0_hw419 => k0_hw419

def k0_chk420 (v351 : IVec S16 32) : Prop :=
  (∀ a x, ((![v351] : Fin 1 → IVec S16 32) a x).toNat < S2000.size a)
theorem k0_idx420_inb : ∀ (v351 : IVec S16 32) (k0_hw420 : k0_chk420 v351), ∀ a x, ((![v351] : Fin 1 → IVec S16 32) a x).toNat < S2000.size a := fun v351 k0_hw420 => k0_hw420

def k0_chk421 (v355 : IVec S16 32) : Prop :=
  (∀ a x, ((![v355] : Fin 1 → IVec S16 32) a x).toNat < S25600.size a)
theorem k0_idx421_inb : ∀ (v355 : IVec S16 32) (k0_hw421 : k0_chk421 v355), ∀ a x, ((![v355] : Fin 1 → IVec S16 32) a x).toNat < S25600.size a := fun v355 k0_hw421 => k0_hw421

def k0_chk422 (v356 : IVec S16 32) : Prop :=
  (∀ a x, ((![v356] : Fin 1 → IVec S16 32) a x).toNat < S2000.size a)
theorem k0_idx422_inb : ∀ (v356 : IVec S16 32) (k0_hw422 : k0_chk422 v356), ∀ a x, ((![v356] : Fin 1 → IVec S16 32) a x).toNat < S2000.size a := fun v356 k0_hw422 => k0_hw422

def k0_chk423 (v360 : IVec S16 32) : Prop :=
  (∀ a x, ((![v360] : Fin 1 → IVec S16 32) a x).toNat < S25600.size a)
theorem k0_idx423_inb : ∀ (v360 : IVec S16 32) (k0_hw423 : k0_chk423 v360), ∀ a x, ((![v360] : Fin 1 → IVec S16 32) a x).toNat < S25600.size a := fun v360 k0_hw423 => k0_hw423

def k0_chk424 (v361 : IVec S16 32) : Prop :=
  (∀ a x, ((![v361] : Fin 1 → IVec S16 32) a x).toNat < S2000.size a)
theorem k0_idx424_inb : ∀ (v361 : IVec S16 32) (k0_hw424 : k0_chk424 v361), ∀ a x, ((![v361] : Fin 1 → IVec S16 32) a x).toNat < S2000.size a := fun v361 k0_hw424 => k0_hw424

def k0_chk425 (v365 : IVec S16 32) : Prop :=
  (∀ a x, ((![v365] : Fin 1 → IVec S16 32) a x).toNat < S25600.size a)
theorem k0_idx425_inb : ∀ (v365 : IVec S16 32) (k0_hw425 : k0_chk425 v365), ∀ a x, ((![v365] : Fin 1 → IVec S16 32) a x).toNat < S25600.size a := fun v365 k0_hw425 => k0_hw425

def k0_chk426 (v366 : IVec S16 32) : Prop :=
  (∀ a x, ((![v366] : Fin 1 → IVec S16 32) a x).toNat < S2000.size a)
theorem k0_idx426_inb : ∀ (v366 : IVec S16 32) (k0_hw426 : k0_chk426 v366), ∀ a x, ((![v366] : Fin 1 → IVec S16 32) a x).toNat < S2000.size a := fun v366 k0_hw426 => k0_hw426

def k0_chk427 (v370 : IVec S16 32) : Prop :=
  (∀ a x, ((![v370] : Fin 1 → IVec S16 32) a x).toNat < S25600.size a)
theorem k0_idx427_inb : ∀ (v370 : IVec S16 32) (k0_hw427 : k0_chk427 v370), ∀ a x, ((![v370] : Fin 1 → IVec S16 32) a x).toNat < S25600.size a := fun v370 k0_hw427 => k0_hw427

def k0_chk428 (v371 : IVec S16 32) : Prop :=
  (∀ a x, ((![v371] : Fin 1 → IVec S16 32) a x).toNat < S2000.size a)
theorem k0_idx428_inb : ∀ (v371 : IVec S16 32) (k0_hw428 : k0_chk428 v371), ∀ a x, ((![v371] : Fin 1 → IVec S16 32) a x).toNat < S2000.size a := fun v371 k0_hw428 => k0_hw428

def k0_chk429 (v375 : IVec S16 32) : Prop :=
  (∀ a x, ((![v375] : Fin 1 → IVec S16 32) a x).toNat < S25600.size a)
theorem k0_idx429_inb : ∀ (v375 : IVec S16 32) (k0_hw429 : k0_chk429 v375), ∀ a x, ((![v375] : Fin 1 → IVec S16 32) a x).toNat < S25600.size a := fun v375 k0_hw429 => k0_hw429

def k0_chk430 (v376 : IVec S16 32) : Prop :=
  (∀ a x, ((![v376] : Fin 1 → IVec S16 32) a x).toNat < S2000.size a)
theorem k0_idx430_inb : ∀ (v376 : IVec S16 32) (k0_hw430 : k0_chk430 v376), ∀ a x, ((![v376] : Fin 1 → IVec S16 32) a x).toNat < S2000.size a := fun v376 k0_hw430 => k0_hw430

def k0_chk431 (v380 : IVec S16 32) : Prop :=
  (∀ a x, ((![v380] : Fin 1 → IVec S16 32) a x).toNat < S25600.size a)
theorem k0_idx431_inb : ∀ (v380 : IVec S16 32) (k0_hw431 : k0_chk431 v380), ∀ a x, ((![v380] : Fin 1 → IVec S16 32) a x).toNat < S25600.size a := fun v380 k0_hw431 => k0_hw431

def k0_chk432 (v381 : IVec S16 32) : Prop :=
  (∀ a x, ((![v381] : Fin 1 → IVec S16 32) a x).toNat < S2000.size a)
theorem k0_idx432_inb : ∀ (v381 : IVec S16 32) (k0_hw432 : k0_chk432 v381), ∀ a x, ((![v381] : Fin 1 → IVec S16 32) a x).toNat < S2000.size a := fun v381 k0_hw432 => k0_hw432

def k0_chk433 (v385 : IVec S16 32) : Prop :=
  (∀ a x, ((![v385] : Fin 1 → IVec S16 32) a x).toNat < S25600.size a)
theorem k0_idx433_inb : ∀ (v385 : IVec S16 32) (k0_hw433 : k0_chk433 v385), ∀ a x, ((![v385] : Fin 1 → IVec S16 32) a x).toNat < S25600.size a := fun v385 k0_hw433 => k0_hw433

def k0_chk434 (v386 : IVec S16 32) : Prop :=
  (∀ a x, ((![v386] : Fin 1 → IVec S16 32) a x).toNat < S2000.size a)
theorem k0_idx434_inb : ∀ (v386 : IVec S16 32) (k0_hw434 : k0_chk434 v386), ∀ a x, ((![v386] : Fin 1 → IVec S16 32) a x).toNat < S2000.size a := fun v386 k0_hw434 => k0_hw434

def k0_chk435 (v390 : IVec S16 32) : Prop :=
  (∀ a x, ((![v390] : Fin 1 → IVec S16 32) a x).toNat < S25600.size a)
theorem k0_idx435_inb : ∀ (v390 : IVec S16 32) (k0_hw435 : k0_chk435 v390), ∀ a x, ((![v390] : Fin 1 → IVec S16 32) a x).toNat < S25600.size a := fun v390 k0_hw435 => k0_hw435

def k0_chk436 (v391 : IVec S16 32) : Prop :=
  (∀ a x, ((![v391] : Fin 1 → IVec S16 32) a x).toNat < S2000.size a)
theorem k0_idx436_inb : ∀ (v391 : IVec S16 32) (k0_hw436 : k0_chk436 v391), ∀ a x, ((![v391] : Fin 1 → IVec S16 32) a x).toNat < S2000.size a := fun v391 k0_hw436 => k0_hw436

def k0_chk437 (v395 : IVec S16 32) : Prop :=
  (∀ a x, ((![v395] : Fin 1 → IVec S16 32) a x).toNat < S25600.size a)
theorem k0_idx437_inb : ∀ (v395 : IVec S16 32) (k0_hw437 : k0_chk437 v395), ∀ a x, ((![v395] : Fin 1 → IVec S16 32) a x).toNat < S25600.size a := fun v395 k0_hw437 => k0_hw437

def k0_chk438 (v396 : IVec S16 32) : Prop :=
  (∀ a x, ((![v396] : Fin 1 → IVec S16 32) a x).toNat < S2000.size a)
theorem k0_idx438_inb : ∀ (v396 : IVec S16 32) (k0_hw438 : k0_chk438 v396), ∀ a x, ((![v396] : Fin 1 → IVec S16 32) a x).toNat < S2000.size a := fun v396 k0_hw438 => k0_hw438

def k0_chk439 (v400 : IVec S16 32) : Prop :=
  (∀ a x, ((![v400] : Fin 1 → IVec S16 32) a x).toNat < S25600.size a)
theorem k0_idx439_inb : ∀ (v400 : IVec S16 32) (k0_hw439 : k0_chk439 v400), ∀ a x, ((![v400] : Fin 1 → IVec S16 32) a x).toNat < S25600.size a := fun v400 k0_hw439 => k0_hw439

def k0_chk440 (v401 : IVec S16 32) : Prop :=
  (∀ a x, ((![v401] : Fin 1 → IVec S16 32) a x).toNat < S2000.size a)
theorem k0_idx440_inb : ∀ (v401 : IVec S16 32) (k0_hw440 : k0_chk440 v401), ∀ a x, ((![v401] : Fin 1 → IVec S16 32) a x).toNat < S2000.size a := fun v401 k0_hw440 => k0_hw440

def k0_chk441 (v405 : IVec S16 32) : Prop :=
  (∀ a x, ((![v405] : Fin 1 → IVec S16 32) a x).toNat < S25600.size a)
theorem k0_idx441_inb : ∀ (v405 : IVec S16 32) (k0_hw441 : k0_chk441 v405), ∀ a x, ((![v405] : Fin 1 → IVec S16 32) a x).toNat < S25600.size a := fun v405 k0_hw441 => k0_hw441

def k0_chk442 (v406 : IVec S16 32) : Prop :=
  (∀ a x, ((![v406] : Fin 1 → IVec S16 32) a x).toNat < S2000.size a)
theorem k0_idx442_inb : ∀ (v406 : IVec S16 32) (k0_hw442 : k0_chk442 v406), ∀ a x, ((![v406] : Fin 1 → IVec S16 32) a x).toNat < S2000.size a := fun v406 k0_hw442 => k0_hw442

def k0_chk443 (v410 : IVec S16 32) : Prop :=
  (∀ a x, ((![v410] : Fin 1 → IVec S16 32) a x).toNat < S25600.size a)
theorem k0_idx443_inb : ∀ (v410 : IVec S16 32) (k0_hw443 : k0_chk443 v410), ∀ a x, ((![v410] : Fin 1 → IVec S16 32) a x).toNat < S25600.size a := fun v410 k0_hw443 => k0_hw443

def k0_chk444 (v411 : IVec S16 32) : Prop :=
  (∀ a x, ((![v411] : Fin 1 → IVec S16 32) a x).toNat < S2000.size a)
theorem k0_idx444_inb : ∀ (v411 : IVec S16 32) (k0_hw444 : k0_chk444 v411), ∀ a x, ((![v411] : Fin 1 → IVec S16 32) a x).toNat < S2000.size a := fun v411 k0_hw444 => k0_hw444

def k0_chk445 (v415 : IVec S16 32) : Prop :=
  (∀ a x, ((![v415] : Fin 1 → IVec S16 32) a x).toNat < S25600.size a)
theorem k0_idx445_inb : ∀ (v415 : IVec S16 32) (k0_hw445 : k0_chk445 v415), ∀ a x, ((![v415] : Fin 1 → IVec S16 32) a x).toNat < S25600.size a := fun v415 k0_hw445 => k0_hw445

def k0_chk446 (v416 : IVec S16 32) : Prop :=
  (∀ a x, ((![v416] : Fin 1 → IVec S16 32) a x).toNat < S2000.size a)
theorem k0_idx446_inb : ∀ (v416 : IVec S16 32) (k0_hw446 : k0_chk446 v416), ∀ a x, ((![v416] : Fin 1 → IVec S16 32) a x).toNat < S2000.size a := fun v416 k0_hw446 => k0_hw446

def k0_chk447 (v420 : IVec S16 32) : Prop :=
  (∀ a x, ((![v420] : Fin 1 → IVec S16 32) a x).toNat < S25600.size a)
theorem k0_idx447_inb : ∀ (v420 : IVec S16 32) (k0_hw447 : k0_chk447 v420), ∀ a x, ((![v420] : Fin 1 → IVec S16 32) a x).toNat < S25600.size a := fun v420 k0_hw447 => k0_hw447

def k0_chk448 (v421 : IVec S16 32) : Prop :=
  (∀ a x, ((![v421] : Fin 1 → IVec S16 32) a x).toNat < S2000.size a)
theorem k0_idx448_inb : ∀ (v421 : IVec S16 32) (k0_hw448 : k0_chk448 v421), ∀ a x, ((![v421] : Fin 1 → IVec S16 32) a x).toNat < S2000.size a := fun v421 k0_hw448 => k0_hw448

def k0_chk449 (v428 : IVec S16 32) : Prop :=
  (∀ a x, ((![v428] : Fin 1 → IVec S16 32) a x).toNat < S8192.size a)
theorem k0_idx449_inb : ∀ (v428 : IVec S16 32) (k0_hw449 : k0_chk449 v428), ∀ a x, ((![v428] : Fin 1 → IVec S16 32) a x).toNat < S8192.size a := fun v428 k0_hw449 => k0_hw449

def k0_chk450 (v434 : IVec S16 32) : Prop :=
  (∀ a x, ((![v434] : Fin 1 → IVec S16 32) a x).toNat < S8192.size a)
theorem k0_idx450_inb : ∀ (v434 : IVec S16 32) (k0_hw450 : k0_chk450 v434), ∀ a x, ((![v434] : Fin 1 → IVec S16 32) a x).toNat < S8192.size a := fun v434 k0_hw450 => k0_hw450

def k0_chk451 (v440 : IVec S16 32) : Prop :=
  (∀ a x, ((![v440] : Fin 1 → IVec S16 32) a x).toNat < S8192.size a)
theorem k0_idx451_inb : ∀ (v440 : IVec S16 32) (k0_hw451 : k0_chk451 v440), ∀ a x, ((![v440] : Fin 1 → IVec S16 32) a x).toNat < S8192.size a := fun v440 k0_hw451 => k0_hw451

def k0_chk452 (v446 : IVec S16 32) : Prop :=
  (∀ a x, ((![v446] : Fin 1 → IVec S16 32) a x).toNat < S8192.size a)
theorem k0_idx452_inb : ∀ (v446 : IVec S16 32) (k0_hw452 : k0_chk452 v446), ∀ a x, ((![v446] : Fin 1 → IVec S16 32) a x).toNat < S8192.size a := fun v446 k0_hw452 => k0_hw452

def k0_chk453 (v452 : IVec S16 32) : Prop :=
  (∀ a x, ((![v452] : Fin 1 → IVec S16 32) a x).toNat < S8192.size a)
theorem k0_idx453_inb : ∀ (v452 : IVec S16 32) (k0_hw453 : k0_chk453 v452), ∀ a x, ((![v452] : Fin 1 → IVec S16 32) a x).toNat < S8192.size a := fun v452 k0_hw453 => k0_hw453

def k0_chk454 (v458 : IVec S16 32) : Prop :=
  (∀ a x, ((![v458] : Fin 1 → IVec S16 32) a x).toNat < S8192.size a)
theorem k0_idx454_inb : ∀ (v458 : IVec S16 32) (k0_hw454 : k0_chk454 v458), ∀ a x, ((![v458] : Fin 1 → IVec S16 32) a x).toNat < S8192.size a := fun v458 k0_hw454 => k0_hw454

def k0_chk455 (v464 : IVec S16 32) : Prop :=
  (∀ a x, ((![v464] : Fin 1 → IVec S16 32) a x).toNat < S8192.size a)
theorem k0_idx455_inb : ∀ (v464 : IVec S16 32) (k0_hw455 : k0_chk455 v464), ∀ a x, ((![v464] : Fin 1 → IVec S16 32) a x).toNat < S8192.size a := fun v464 k0_hw455 => k0_hw455

def k0_chk456 (v470 : IVec S16 32) : Prop :=
  (∀ a x, ((![v470] : Fin 1 → IVec S16 32) a x).toNat < S8192.size a)
theorem k0_idx456_inb : ∀ (v470 : IVec S16 32) (k0_hw456 : k0_chk456 v470), ∀ a x, ((![v470] : Fin 1 → IVec S16 32) a x).toNat < S8192.size a := fun v470 k0_hw456 => k0_hw456

def k0_chk457 (v476 : IVec S16 32) : Prop :=
  (∀ a x, ((![v476] : Fin 1 → IVec S16 32) a x).toNat < S8192.size a)
theorem k0_idx457_inb : ∀ (v476 : IVec S16 32) (k0_hw457 : k0_chk457 v476), ∀ a x, ((![v476] : Fin 1 → IVec S16 32) a x).toNat < S8192.size a := fun v476 k0_hw457 => k0_hw457

def k0_chk458 (v482 : IVec S16 32) : Prop :=
  (∀ a x, ((![v482] : Fin 1 → IVec S16 32) a x).toNat < S8192.size a)
theorem k0_idx458_inb : ∀ (v482 : IVec S16 32) (k0_hw458 : k0_chk458 v482), ∀ a x, ((![v482] : Fin 1 → IVec S16 32) a x).toNat < S8192.size a := fun v482 k0_hw458 => k0_hw458

def k0_chk459 (v488 : IVec S16 32) : Prop :=
  (∀ a x, ((![v488] : Fin 1 → IVec S16 32) a x).toNat < S8192.size a)
theorem k0_idx459_inb : ∀ (v488 : IVec S16 32) (k0_hw459 : k0_chk459 v488), ∀ a x, ((![v488] : Fin 1 → IVec S16 32) a x).toNat < S8192.size a := fun v488 k0_hw459 => k0_hw459

def k0_chk460 (v494 : IVec S16 32) : Prop :=
  (∀ a x, ((![v494] : Fin 1 → IVec S16 32) a x).toNat < S8192.size a)
theorem k0_idx460_inb : ∀ (v494 : IVec S16 32) (k0_hw460 : k0_chk460 v494), ∀ a x, ((![v494] : Fin 1 → IVec S16 32) a x).toNat < S8192.size a := fun v494 k0_hw460 => k0_hw460

def k0_chk461 (v500 : IVec S16 32) : Prop :=
  (∀ a x, ((![v500] : Fin 1 → IVec S16 32) a x).toNat < S8192.size a)
theorem k0_idx461_inb : ∀ (v500 : IVec S16 32) (k0_hw461 : k0_chk461 v500), ∀ a x, ((![v500] : Fin 1 → IVec S16 32) a x).toNat < S8192.size a := fun v500 k0_hw461 => k0_hw461

def k0_chk462 (v506 : IVec S16 32) : Prop :=
  (∀ a x, ((![v506] : Fin 1 → IVec S16 32) a x).toNat < S8192.size a)
theorem k0_idx462_inb : ∀ (v506 : IVec S16 32) (k0_hw462 : k0_chk462 v506), ∀ a x, ((![v506] : Fin 1 → IVec S16 32) a x).toNat < S8192.size a := fun v506 k0_hw462 => k0_hw462

def k0_chk463 (v512 : IVec S16 32) : Prop :=
  (∀ a x, ((![v512] : Fin 1 → IVec S16 32) a x).toNat < S8192.size a)
theorem k0_idx463_inb : ∀ (v512 : IVec S16 32) (k0_hw463 : k0_chk463 v512), ∀ a x, ((![v512] : Fin 1 → IVec S16 32) a x).toNat < S8192.size a := fun v512 k0_hw463 => k0_hw463

def k0_chk464 (v518 : IVec S16 32) : Prop :=
  (∀ a x, ((![v518] : Fin 1 → IVec S16 32) a x).toNat < S8192.size a)
theorem k0_idx464_inb : ∀ (v518 : IVec S16 32) (k0_hw464 : k0_chk464 v518), ∀ a x, ((![v518] : Fin 1 → IVec S16 32) a x).toNat < S8192.size a := fun v518 k0_hw464 => k0_hw464
@[reducible] def k0_t5_loop : Scf.Loop 32 :=
  let c0_i32_38 : BitVec 32 := 0#32
  let c32_i32_39 : BitVec 32 := 32#32
  let v146 : BitVec 32 := Scalar.addi c0_i32_38 c32_i32_39
  let c1_i32_40 : BitVec 32 := 1#32
  ⟨c0_i32_38, v146, c1_i32_40⟩

def k0_chk465 (v175 : IVec S16 32) : Prop :=
  (∀ a x, ((![v175] : Fin 1 → IVec S16 32) a x).toNat < S25600.size a)
theorem k0_idx465_inb : ∀ (v175 : IVec S16 32) (k0_hw465 : k0_chk465 v175), ∀ a x, ((![v175] : Fin 1 → IVec S16 32) a x).toNat < S25600.size a := fun v175 k0_hw465 => k0_hw465

def k0_chk466 (v176 : IVec S16 32) : Prop :=
  (∀ a x, ((![v176] : Fin 1 → IVec S16 32) a x).toNat < S2000.size a)
theorem k0_idx466_inb : ∀ (v176 : IVec S16 32) (k0_hw466 : k0_chk466 v176), ∀ a x, ((![v176] : Fin 1 → IVec S16 32) a x).toNat < S2000.size a := fun v176 k0_hw466 => k0_hw466

def k0_chk467 (v180 : IVec S16 32) : Prop :=
  (∀ a x, ((![v180] : Fin 1 → IVec S16 32) a x).toNat < S25600.size a)
theorem k0_idx467_inb : ∀ (v180 : IVec S16 32) (k0_hw467 : k0_chk467 v180), ∀ a x, ((![v180] : Fin 1 → IVec S16 32) a x).toNat < S25600.size a := fun v180 k0_hw467 => k0_hw467

def k0_chk468 (v181 : IVec S16 32) : Prop :=
  (∀ a x, ((![v181] : Fin 1 → IVec S16 32) a x).toNat < S2000.size a)
theorem k0_idx468_inb : ∀ (v181 : IVec S16 32) (k0_hw468 : k0_chk468 v181), ∀ a x, ((![v181] : Fin 1 → IVec S16 32) a x).toNat < S2000.size a := fun v181 k0_hw468 => k0_hw468

def k0_chk469 (v185 : IVec S16 32) : Prop :=
  (∀ a x, ((![v185] : Fin 1 → IVec S16 32) a x).toNat < S25600.size a)
theorem k0_idx469_inb : ∀ (v185 : IVec S16 32) (k0_hw469 : k0_chk469 v185), ∀ a x, ((![v185] : Fin 1 → IVec S16 32) a x).toNat < S25600.size a := fun v185 k0_hw469 => k0_hw469

def k0_chk470 (v186 : IVec S16 32) : Prop :=
  (∀ a x, ((![v186] : Fin 1 → IVec S16 32) a x).toNat < S2000.size a)
theorem k0_idx470_inb : ∀ (v186 : IVec S16 32) (k0_hw470 : k0_chk470 v186), ∀ a x, ((![v186] : Fin 1 → IVec S16 32) a x).toNat < S2000.size a := fun v186 k0_hw470 => k0_hw470

def k0_chk471 (v190 : IVec S16 32) : Prop :=
  (∀ a x, ((![v190] : Fin 1 → IVec S16 32) a x).toNat < S25600.size a)
theorem k0_idx471_inb : ∀ (v190 : IVec S16 32) (k0_hw471 : k0_chk471 v190), ∀ a x, ((![v190] : Fin 1 → IVec S16 32) a x).toNat < S25600.size a := fun v190 k0_hw471 => k0_hw471

def k0_chk472 (v191 : IVec S16 32) : Prop :=
  (∀ a x, ((![v191] : Fin 1 → IVec S16 32) a x).toNat < S2000.size a)
theorem k0_idx472_inb : ∀ (v191 : IVec S16 32) (k0_hw472 : k0_chk472 v191), ∀ a x, ((![v191] : Fin 1 → IVec S16 32) a x).toNat < S2000.size a := fun v191 k0_hw472 => k0_hw472

def k0_chk473 (v195 : IVec S16 32) : Prop :=
  (∀ a x, ((![v195] : Fin 1 → IVec S16 32) a x).toNat < S25600.size a)
theorem k0_idx473_inb : ∀ (v195 : IVec S16 32) (k0_hw473 : k0_chk473 v195), ∀ a x, ((![v195] : Fin 1 → IVec S16 32) a x).toNat < S25600.size a := fun v195 k0_hw473 => k0_hw473

def k0_chk474 (v196 : IVec S16 32) : Prop :=
  (∀ a x, ((![v196] : Fin 1 → IVec S16 32) a x).toNat < S2000.size a)
theorem k0_idx474_inb : ∀ (v196 : IVec S16 32) (k0_hw474 : k0_chk474 v196), ∀ a x, ((![v196] : Fin 1 → IVec S16 32) a x).toNat < S2000.size a := fun v196 k0_hw474 => k0_hw474

def k0_chk475 (v200 : IVec S16 32) : Prop :=
  (∀ a x, ((![v200] : Fin 1 → IVec S16 32) a x).toNat < S25600.size a)
theorem k0_idx475_inb : ∀ (v200 : IVec S16 32) (k0_hw475 : k0_chk475 v200), ∀ a x, ((![v200] : Fin 1 → IVec S16 32) a x).toNat < S25600.size a := fun v200 k0_hw475 => k0_hw475

def k0_chk476 (v201 : IVec S16 32) : Prop :=
  (∀ a x, ((![v201] : Fin 1 → IVec S16 32) a x).toNat < S2000.size a)
theorem k0_idx476_inb : ∀ (v201 : IVec S16 32) (k0_hw476 : k0_chk476 v201), ∀ a x, ((![v201] : Fin 1 → IVec S16 32) a x).toNat < S2000.size a := fun v201 k0_hw476 => k0_hw476

def k0_chk477 (v205 : IVec S16 32) : Prop :=
  (∀ a x, ((![v205] : Fin 1 → IVec S16 32) a x).toNat < S25600.size a)
theorem k0_idx477_inb : ∀ (v205 : IVec S16 32) (k0_hw477 : k0_chk477 v205), ∀ a x, ((![v205] : Fin 1 → IVec S16 32) a x).toNat < S25600.size a := fun v205 k0_hw477 => k0_hw477

def k0_chk478 (v206 : IVec S16 32) : Prop :=
  (∀ a x, ((![v206] : Fin 1 → IVec S16 32) a x).toNat < S2000.size a)
theorem k0_idx478_inb : ∀ (v206 : IVec S16 32) (k0_hw478 : k0_chk478 v206), ∀ a x, ((![v206] : Fin 1 → IVec S16 32) a x).toNat < S2000.size a := fun v206 k0_hw478 => k0_hw478

def k0_chk479 (v210 : IVec S16 32) : Prop :=
  (∀ a x, ((![v210] : Fin 1 → IVec S16 32) a x).toNat < S25600.size a)
theorem k0_idx479_inb : ∀ (v210 : IVec S16 32) (k0_hw479 : k0_chk479 v210), ∀ a x, ((![v210] : Fin 1 → IVec S16 32) a x).toNat < S25600.size a := fun v210 k0_hw479 => k0_hw479

def k0_chk480 (v211 : IVec S16 32) : Prop :=
  (∀ a x, ((![v211] : Fin 1 → IVec S16 32) a x).toNat < S2000.size a)
theorem k0_idx480_inb : ∀ (v211 : IVec S16 32) (k0_hw480 : k0_chk480 v211), ∀ a x, ((![v211] : Fin 1 → IVec S16 32) a x).toNat < S2000.size a := fun v211 k0_hw480 => k0_hw480

def k0_chk481 (v215 : IVec S16 32) : Prop :=
  (∀ a x, ((![v215] : Fin 1 → IVec S16 32) a x).toNat < S25600.size a)
theorem k0_idx481_inb : ∀ (v215 : IVec S16 32) (k0_hw481 : k0_chk481 v215), ∀ a x, ((![v215] : Fin 1 → IVec S16 32) a x).toNat < S25600.size a := fun v215 k0_hw481 => k0_hw481

def k0_chk482 (v216 : IVec S16 32) : Prop :=
  (∀ a x, ((![v216] : Fin 1 → IVec S16 32) a x).toNat < S2000.size a)
theorem k0_idx482_inb : ∀ (v216 : IVec S16 32) (k0_hw482 : k0_chk482 v216), ∀ a x, ((![v216] : Fin 1 → IVec S16 32) a x).toNat < S2000.size a := fun v216 k0_hw482 => k0_hw482

def k0_chk483 (v220 : IVec S16 32) : Prop :=
  (∀ a x, ((![v220] : Fin 1 → IVec S16 32) a x).toNat < S25600.size a)
theorem k0_idx483_inb : ∀ (v220 : IVec S16 32) (k0_hw483 : k0_chk483 v220), ∀ a x, ((![v220] : Fin 1 → IVec S16 32) a x).toNat < S25600.size a := fun v220 k0_hw483 => k0_hw483

def k0_chk484 (v221 : IVec S16 32) : Prop :=
  (∀ a x, ((![v221] : Fin 1 → IVec S16 32) a x).toNat < S2000.size a)
theorem k0_idx484_inb : ∀ (v221 : IVec S16 32) (k0_hw484 : k0_chk484 v221), ∀ a x, ((![v221] : Fin 1 → IVec S16 32) a x).toNat < S2000.size a := fun v221 k0_hw484 => k0_hw484

def k0_chk485 (v225 : IVec S16 32) : Prop :=
  (∀ a x, ((![v225] : Fin 1 → IVec S16 32) a x).toNat < S25600.size a)
theorem k0_idx485_inb : ∀ (v225 : IVec S16 32) (k0_hw485 : k0_chk485 v225), ∀ a x, ((![v225] : Fin 1 → IVec S16 32) a x).toNat < S25600.size a := fun v225 k0_hw485 => k0_hw485

def k0_chk486 (v226 : IVec S16 32) : Prop :=
  (∀ a x, ((![v226] : Fin 1 → IVec S16 32) a x).toNat < S2000.size a)
theorem k0_idx486_inb : ∀ (v226 : IVec S16 32) (k0_hw486 : k0_chk486 v226), ∀ a x, ((![v226] : Fin 1 → IVec S16 32) a x).toNat < S2000.size a := fun v226 k0_hw486 => k0_hw486

def k0_chk487 (v230 : IVec S16 32) : Prop :=
  (∀ a x, ((![v230] : Fin 1 → IVec S16 32) a x).toNat < S25600.size a)
theorem k0_idx487_inb : ∀ (v230 : IVec S16 32) (k0_hw487 : k0_chk487 v230), ∀ a x, ((![v230] : Fin 1 → IVec S16 32) a x).toNat < S25600.size a := fun v230 k0_hw487 => k0_hw487

def k0_chk488 (v231 : IVec S16 32) : Prop :=
  (∀ a x, ((![v231] : Fin 1 → IVec S16 32) a x).toNat < S2000.size a)
theorem k0_idx488_inb : ∀ (v231 : IVec S16 32) (k0_hw488 : k0_chk488 v231), ∀ a x, ((![v231] : Fin 1 → IVec S16 32) a x).toNat < S2000.size a := fun v231 k0_hw488 => k0_hw488

def k0_chk489 (v235 : IVec S16 32) : Prop :=
  (∀ a x, ((![v235] : Fin 1 → IVec S16 32) a x).toNat < S25600.size a)
theorem k0_idx489_inb : ∀ (v235 : IVec S16 32) (k0_hw489 : k0_chk489 v235), ∀ a x, ((![v235] : Fin 1 → IVec S16 32) a x).toNat < S25600.size a := fun v235 k0_hw489 => k0_hw489

def k0_chk490 (v236 : IVec S16 32) : Prop :=
  (∀ a x, ((![v236] : Fin 1 → IVec S16 32) a x).toNat < S2000.size a)
theorem k0_idx490_inb : ∀ (v236 : IVec S16 32) (k0_hw490 : k0_chk490 v236), ∀ a x, ((![v236] : Fin 1 → IVec S16 32) a x).toNat < S2000.size a := fun v236 k0_hw490 => k0_hw490

def k0_chk491 (v240 : IVec S16 32) : Prop :=
  (∀ a x, ((![v240] : Fin 1 → IVec S16 32) a x).toNat < S25600.size a)
theorem k0_idx491_inb : ∀ (v240 : IVec S16 32) (k0_hw491 : k0_chk491 v240), ∀ a x, ((![v240] : Fin 1 → IVec S16 32) a x).toNat < S25600.size a := fun v240 k0_hw491 => k0_hw491

def k0_chk492 (v241 : IVec S16 32) : Prop :=
  (∀ a x, ((![v241] : Fin 1 → IVec S16 32) a x).toNat < S2000.size a)
theorem k0_idx492_inb : ∀ (v241 : IVec S16 32) (k0_hw492 : k0_chk492 v241), ∀ a x, ((![v241] : Fin 1 → IVec S16 32) a x).toNat < S2000.size a := fun v241 k0_hw492 => k0_hw492

def k0_chk493 (v245 : IVec S16 32) : Prop :=
  (∀ a x, ((![v245] : Fin 1 → IVec S16 32) a x).toNat < S25600.size a)
theorem k0_idx493_inb : ∀ (v245 : IVec S16 32) (k0_hw493 : k0_chk493 v245), ∀ a x, ((![v245] : Fin 1 → IVec S16 32) a x).toNat < S25600.size a := fun v245 k0_hw493 => k0_hw493

def k0_chk494 (v246 : IVec S16 32) : Prop :=
  (∀ a x, ((![v246] : Fin 1 → IVec S16 32) a x).toNat < S2000.size a)
theorem k0_idx494_inb : ∀ (v246 : IVec S16 32) (k0_hw494 : k0_chk494 v246), ∀ a x, ((![v246] : Fin 1 → IVec S16 32) a x).toNat < S2000.size a := fun v246 k0_hw494 => k0_hw494

def k0_chk495 (v250 : IVec S16 32) : Prop :=
  (∀ a x, ((![v250] : Fin 1 → IVec S16 32) a x).toNat < S25600.size a)
theorem k0_idx495_inb : ∀ (v250 : IVec S16 32) (k0_hw495 : k0_chk495 v250), ∀ a x, ((![v250] : Fin 1 → IVec S16 32) a x).toNat < S25600.size a := fun v250 k0_hw495 => k0_hw495

def k0_chk496 (v251 : IVec S16 32) : Prop :=
  (∀ a x, ((![v251] : Fin 1 → IVec S16 32) a x).toNat < S2000.size a)
theorem k0_idx496_inb : ∀ (v251 : IVec S16 32) (k0_hw496 : k0_chk496 v251), ∀ a x, ((![v251] : Fin 1 → IVec S16 32) a x).toNat < S2000.size a := fun v251 k0_hw496 => k0_hw496

def k0_chk497 (v255 : IVec S16 32) : Prop :=
  (∀ a x, ((![v255] : Fin 1 → IVec S16 32) a x).toNat < S25600.size a)
theorem k0_idx497_inb : ∀ (v255 : IVec S16 32) (k0_hw497 : k0_chk497 v255), ∀ a x, ((![v255] : Fin 1 → IVec S16 32) a x).toNat < S25600.size a := fun v255 k0_hw497 => k0_hw497

def k0_chk498 (v256 : IVec S16 32) : Prop :=
  (∀ a x, ((![v256] : Fin 1 → IVec S16 32) a x).toNat < S2000.size a)
theorem k0_idx498_inb : ∀ (v256 : IVec S16 32) (k0_hw498 : k0_chk498 v256), ∀ a x, ((![v256] : Fin 1 → IVec S16 32) a x).toNat < S2000.size a := fun v256 k0_hw498 => k0_hw498

def k0_chk499 (v260 : IVec S16 32) : Prop :=
  (∀ a x, ((![v260] : Fin 1 → IVec S16 32) a x).toNat < S25600.size a)
theorem k0_idx499_inb : ∀ (v260 : IVec S16 32) (k0_hw499 : k0_chk499 v260), ∀ a x, ((![v260] : Fin 1 → IVec S16 32) a x).toNat < S25600.size a := fun v260 k0_hw499 => k0_hw499

def k0_chk500 (v261 : IVec S16 32) : Prop :=
  (∀ a x, ((![v261] : Fin 1 → IVec S16 32) a x).toNat < S2000.size a)
theorem k0_idx500_inb : ∀ (v261 : IVec S16 32) (k0_hw500 : k0_chk500 v261), ∀ a x, ((![v261] : Fin 1 → IVec S16 32) a x).toNat < S2000.size a := fun v261 k0_hw500 => k0_hw500

def k0_chk501 (v265 : IVec S16 32) : Prop :=
  (∀ a x, ((![v265] : Fin 1 → IVec S16 32) a x).toNat < S25600.size a)
theorem k0_idx501_inb : ∀ (v265 : IVec S16 32) (k0_hw501 : k0_chk501 v265), ∀ a x, ((![v265] : Fin 1 → IVec S16 32) a x).toNat < S25600.size a := fun v265 k0_hw501 => k0_hw501

def k0_chk502 (v266 : IVec S16 32) : Prop :=
  (∀ a x, ((![v266] : Fin 1 → IVec S16 32) a x).toNat < S2000.size a)
theorem k0_idx502_inb : ∀ (v266 : IVec S16 32) (k0_hw502 : k0_chk502 v266), ∀ a x, ((![v266] : Fin 1 → IVec S16 32) a x).toNat < S2000.size a := fun v266 k0_hw502 => k0_hw502

def k0_chk503 (v270 : IVec S16 32) : Prop :=
  (∀ a x, ((![v270] : Fin 1 → IVec S16 32) a x).toNat < S25600.size a)
theorem k0_idx503_inb : ∀ (v270 : IVec S16 32) (k0_hw503 : k0_chk503 v270), ∀ a x, ((![v270] : Fin 1 → IVec S16 32) a x).toNat < S25600.size a := fun v270 k0_hw503 => k0_hw503

def k0_chk504 (v271 : IVec S16 32) : Prop :=
  (∀ a x, ((![v271] : Fin 1 → IVec S16 32) a x).toNat < S2000.size a)
theorem k0_idx504_inb : ∀ (v271 : IVec S16 32) (k0_hw504 : k0_chk504 v271), ∀ a x, ((![v271] : Fin 1 → IVec S16 32) a x).toNat < S2000.size a := fun v271 k0_hw504 => k0_hw504

def k0_chk505 (v275 : IVec S16 32) : Prop :=
  (∀ a x, ((![v275] : Fin 1 → IVec S16 32) a x).toNat < S25600.size a)
theorem k0_idx505_inb : ∀ (v275 : IVec S16 32) (k0_hw505 : k0_chk505 v275), ∀ a x, ((![v275] : Fin 1 → IVec S16 32) a x).toNat < S25600.size a := fun v275 k0_hw505 => k0_hw505

def k0_chk506 (v276 : IVec S16 32) : Prop :=
  (∀ a x, ((![v276] : Fin 1 → IVec S16 32) a x).toNat < S2000.size a)
theorem k0_idx506_inb : ∀ (v276 : IVec S16 32) (k0_hw506 : k0_chk506 v276), ∀ a x, ((![v276] : Fin 1 → IVec S16 32) a x).toNat < S2000.size a := fun v276 k0_hw506 => k0_hw506

def k0_chk507 (v280 : IVec S16 32) : Prop :=
  (∀ a x, ((![v280] : Fin 1 → IVec S16 32) a x).toNat < S25600.size a)
theorem k0_idx507_inb : ∀ (v280 : IVec S16 32) (k0_hw507 : k0_chk507 v280), ∀ a x, ((![v280] : Fin 1 → IVec S16 32) a x).toNat < S25600.size a := fun v280 k0_hw507 => k0_hw507

def k0_chk508 (v281 : IVec S16 32) : Prop :=
  (∀ a x, ((![v281] : Fin 1 → IVec S16 32) a x).toNat < S2000.size a)
theorem k0_idx508_inb : ∀ (v281 : IVec S16 32) (k0_hw508 : k0_chk508 v281), ∀ a x, ((![v281] : Fin 1 → IVec S16 32) a x).toNat < S2000.size a := fun v281 k0_hw508 => k0_hw508

def k0_chk509 (v285 : IVec S16 32) : Prop :=
  (∀ a x, ((![v285] : Fin 1 → IVec S16 32) a x).toNat < S25600.size a)
theorem k0_idx509_inb : ∀ (v285 : IVec S16 32) (k0_hw509 : k0_chk509 v285), ∀ a x, ((![v285] : Fin 1 → IVec S16 32) a x).toNat < S25600.size a := fun v285 k0_hw509 => k0_hw509

def k0_chk510 (v286 : IVec S16 32) : Prop :=
  (∀ a x, ((![v286] : Fin 1 → IVec S16 32) a x).toNat < S2000.size a)
theorem k0_idx510_inb : ∀ (v286 : IVec S16 32) (k0_hw510 : k0_chk510 v286), ∀ a x, ((![v286] : Fin 1 → IVec S16 32) a x).toNat < S2000.size a := fun v286 k0_hw510 => k0_hw510

def k0_chk511 (v290 : IVec S16 32) : Prop :=
  (∀ a x, ((![v290] : Fin 1 → IVec S16 32) a x).toNat < S25600.size a)
theorem k0_idx511_inb : ∀ (v290 : IVec S16 32) (k0_hw511 : k0_chk511 v290), ∀ a x, ((![v290] : Fin 1 → IVec S16 32) a x).toNat < S25600.size a := fun v290 k0_hw511 => k0_hw511

def k0_chk512 (v291 : IVec S16 32) : Prop :=
  (∀ a x, ((![v291] : Fin 1 → IVec S16 32) a x).toNat < S2000.size a)
theorem k0_idx512_inb : ∀ (v291 : IVec S16 32) (k0_hw512 : k0_chk512 v291), ∀ a x, ((![v291] : Fin 1 → IVec S16 32) a x).toNat < S2000.size a := fun v291 k0_hw512 => k0_hw512

def k0_chk513 (v295 : IVec S16 32) : Prop :=
  (∀ a x, ((![v295] : Fin 1 → IVec S16 32) a x).toNat < S25600.size a)
theorem k0_idx513_inb : ∀ (v295 : IVec S16 32) (k0_hw513 : k0_chk513 v295), ∀ a x, ((![v295] : Fin 1 → IVec S16 32) a x).toNat < S25600.size a := fun v295 k0_hw513 => k0_hw513

def k0_chk514 (v296 : IVec S16 32) : Prop :=
  (∀ a x, ((![v296] : Fin 1 → IVec S16 32) a x).toNat < S2000.size a)
theorem k0_idx514_inb : ∀ (v296 : IVec S16 32) (k0_hw514 : k0_chk514 v296), ∀ a x, ((![v296] : Fin 1 → IVec S16 32) a x).toNat < S2000.size a := fun v296 k0_hw514 => k0_hw514

def k0_chk515 (v300 : IVec S16 32) : Prop :=
  (∀ a x, ((![v300] : Fin 1 → IVec S16 32) a x).toNat < S25600.size a)
theorem k0_idx515_inb : ∀ (v300 : IVec S16 32) (k0_hw515 : k0_chk515 v300), ∀ a x, ((![v300] : Fin 1 → IVec S16 32) a x).toNat < S25600.size a := fun v300 k0_hw515 => k0_hw515

def k0_chk516 (v301 : IVec S16 32) : Prop :=
  (∀ a x, ((![v301] : Fin 1 → IVec S16 32) a x).toNat < S2000.size a)
theorem k0_idx516_inb : ∀ (v301 : IVec S16 32) (k0_hw516 : k0_chk516 v301), ∀ a x, ((![v301] : Fin 1 → IVec S16 32) a x).toNat < S2000.size a := fun v301 k0_hw516 => k0_hw516

def k0_chk517 (v305 : IVec S16 32) : Prop :=
  (∀ a x, ((![v305] : Fin 1 → IVec S16 32) a x).toNat < S25600.size a)
theorem k0_idx517_inb : ∀ (v305 : IVec S16 32) (k0_hw517 : k0_chk517 v305), ∀ a x, ((![v305] : Fin 1 → IVec S16 32) a x).toNat < S25600.size a := fun v305 k0_hw517 => k0_hw517

def k0_chk518 (v306 : IVec S16 32) : Prop :=
  (∀ a x, ((![v306] : Fin 1 → IVec S16 32) a x).toNat < S2000.size a)
theorem k0_idx518_inb : ∀ (v306 : IVec S16 32) (k0_hw518 : k0_chk518 v306), ∀ a x, ((![v306] : Fin 1 → IVec S16 32) a x).toNat < S2000.size a := fun v306 k0_hw518 => k0_hw518

def k0_chk519 (v310 : IVec S16 32) : Prop :=
  (∀ a x, ((![v310] : Fin 1 → IVec S16 32) a x).toNat < S25600.size a)
theorem k0_idx519_inb : ∀ (v310 : IVec S16 32) (k0_hw519 : k0_chk519 v310), ∀ a x, ((![v310] : Fin 1 → IVec S16 32) a x).toNat < S25600.size a := fun v310 k0_hw519 => k0_hw519

def k0_chk520 (v311 : IVec S16 32) : Prop :=
  (∀ a x, ((![v311] : Fin 1 → IVec S16 32) a x).toNat < S2000.size a)
theorem k0_idx520_inb : ∀ (v311 : IVec S16 32) (k0_hw520 : k0_chk520 v311), ∀ a x, ((![v311] : Fin 1 → IVec S16 32) a x).toNat < S2000.size a := fun v311 k0_hw520 => k0_hw520

def k0_chk521 (v315 : IVec S16 32) : Prop :=
  (∀ a x, ((![v315] : Fin 1 → IVec S16 32) a x).toNat < S25600.size a)
theorem k0_idx521_inb : ∀ (v315 : IVec S16 32) (k0_hw521 : k0_chk521 v315), ∀ a x, ((![v315] : Fin 1 → IVec S16 32) a x).toNat < S25600.size a := fun v315 k0_hw521 => k0_hw521

def k0_chk522 (v316 : IVec S16 32) : Prop :=
  (∀ a x, ((![v316] : Fin 1 → IVec S16 32) a x).toNat < S2000.size a)
theorem k0_idx522_inb : ∀ (v316 : IVec S16 32) (k0_hw522 : k0_chk522 v316), ∀ a x, ((![v316] : Fin 1 → IVec S16 32) a x).toNat < S2000.size a := fun v316 k0_hw522 => k0_hw522

def k0_chk523 (v320 : IVec S16 32) : Prop :=
  (∀ a x, ((![v320] : Fin 1 → IVec S16 32) a x).toNat < S25600.size a)
theorem k0_idx523_inb : ∀ (v320 : IVec S16 32) (k0_hw523 : k0_chk523 v320), ∀ a x, ((![v320] : Fin 1 → IVec S16 32) a x).toNat < S25600.size a := fun v320 k0_hw523 => k0_hw523

def k0_chk524 (v321 : IVec S16 32) : Prop :=
  (∀ a x, ((![v321] : Fin 1 → IVec S16 32) a x).toNat < S2000.size a)
theorem k0_idx524_inb : ∀ (v321 : IVec S16 32) (k0_hw524 : k0_chk524 v321), ∀ a x, ((![v321] : Fin 1 → IVec S16 32) a x).toNat < S2000.size a := fun v321 k0_hw524 => k0_hw524

def k0_chk525 (v325 : IVec S16 32) : Prop :=
  (∀ a x, ((![v325] : Fin 1 → IVec S16 32) a x).toNat < S25600.size a)
theorem k0_idx525_inb : ∀ (v325 : IVec S16 32) (k0_hw525 : k0_chk525 v325), ∀ a x, ((![v325] : Fin 1 → IVec S16 32) a x).toNat < S25600.size a := fun v325 k0_hw525 => k0_hw525

def k0_chk526 (v326 : IVec S16 32) : Prop :=
  (∀ a x, ((![v326] : Fin 1 → IVec S16 32) a x).toNat < S2000.size a)
theorem k0_idx526_inb : ∀ (v326 : IVec S16 32) (k0_hw526 : k0_chk526 v326), ∀ a x, ((![v326] : Fin 1 → IVec S16 32) a x).toNat < S2000.size a := fun v326 k0_hw526 => k0_hw526

def k0_chk527 (v330 : IVec S16 32) : Prop :=
  (∀ a x, ((![v330] : Fin 1 → IVec S16 32) a x).toNat < S25600.size a)
theorem k0_idx527_inb : ∀ (v330 : IVec S16 32) (k0_hw527 : k0_chk527 v330), ∀ a x, ((![v330] : Fin 1 → IVec S16 32) a x).toNat < S25600.size a := fun v330 k0_hw527 => k0_hw527

def k0_chk528 (v331 : IVec S16 32) : Prop :=
  (∀ a x, ((![v331] : Fin 1 → IVec S16 32) a x).toNat < S2000.size a)
theorem k0_idx528_inb : ∀ (v331 : IVec S16 32) (k0_hw528 : k0_chk528 v331), ∀ a x, ((![v331] : Fin 1 → IVec S16 32) a x).toNat < S2000.size a := fun v331 k0_hw528 => k0_hw528

def k0_chk529 (v335 : IVec S16 32) : Prop :=
  (∀ a x, ((![v335] : Fin 1 → IVec S16 32) a x).toNat < S25600.size a)
theorem k0_idx529_inb : ∀ (v335 : IVec S16 32) (k0_hw529 : k0_chk529 v335), ∀ a x, ((![v335] : Fin 1 → IVec S16 32) a x).toNat < S25600.size a := fun v335 k0_hw529 => k0_hw529

def k0_chk530 (v336 : IVec S16 32) : Prop :=
  (∀ a x, ((![v336] : Fin 1 → IVec S16 32) a x).toNat < S2000.size a)
theorem k0_idx530_inb : ∀ (v336 : IVec S16 32) (k0_hw530 : k0_chk530 v336), ∀ a x, ((![v336] : Fin 1 → IVec S16 32) a x).toNat < S2000.size a := fun v336 k0_hw530 => k0_hw530

def k0_chk531 (v340 : IVec S16 32) : Prop :=
  (∀ a x, ((![v340] : Fin 1 → IVec S16 32) a x).toNat < S25600.size a)
theorem k0_idx531_inb : ∀ (v340 : IVec S16 32) (k0_hw531 : k0_chk531 v340), ∀ a x, ((![v340] : Fin 1 → IVec S16 32) a x).toNat < S25600.size a := fun v340 k0_hw531 => k0_hw531

def k0_chk532 (v341 : IVec S16 32) : Prop :=
  (∀ a x, ((![v341] : Fin 1 → IVec S16 32) a x).toNat < S2000.size a)
theorem k0_idx532_inb : ∀ (v341 : IVec S16 32) (k0_hw532 : k0_chk532 v341), ∀ a x, ((![v341] : Fin 1 → IVec S16 32) a x).toNat < S2000.size a := fun v341 k0_hw532 => k0_hw532

def k0_chk533 (v345 : IVec S16 32) : Prop :=
  (∀ a x, ((![v345] : Fin 1 → IVec S16 32) a x).toNat < S25600.size a)
theorem k0_idx533_inb : ∀ (v345 : IVec S16 32) (k0_hw533 : k0_chk533 v345), ∀ a x, ((![v345] : Fin 1 → IVec S16 32) a x).toNat < S25600.size a := fun v345 k0_hw533 => k0_hw533

def k0_chk534 (v346 : IVec S16 32) : Prop :=
  (∀ a x, ((![v346] : Fin 1 → IVec S16 32) a x).toNat < S2000.size a)
theorem k0_idx534_inb : ∀ (v346 : IVec S16 32) (k0_hw534 : k0_chk534 v346), ∀ a x, ((![v346] : Fin 1 → IVec S16 32) a x).toNat < S2000.size a := fun v346 k0_hw534 => k0_hw534

def k0_chk535 (v350 : IVec S16 32) : Prop :=
  (∀ a x, ((![v350] : Fin 1 → IVec S16 32) a x).toNat < S25600.size a)
theorem k0_idx535_inb : ∀ (v350 : IVec S16 32) (k0_hw535 : k0_chk535 v350), ∀ a x, ((![v350] : Fin 1 → IVec S16 32) a x).toNat < S25600.size a := fun v350 k0_hw535 => k0_hw535

def k0_chk536 (v351 : IVec S16 32) : Prop :=
  (∀ a x, ((![v351] : Fin 1 → IVec S16 32) a x).toNat < S2000.size a)
theorem k0_idx536_inb : ∀ (v351 : IVec S16 32) (k0_hw536 : k0_chk536 v351), ∀ a x, ((![v351] : Fin 1 → IVec S16 32) a x).toNat < S2000.size a := fun v351 k0_hw536 => k0_hw536

def k0_chk537 (v355 : IVec S16 32) : Prop :=
  (∀ a x, ((![v355] : Fin 1 → IVec S16 32) a x).toNat < S25600.size a)
theorem k0_idx537_inb : ∀ (v355 : IVec S16 32) (k0_hw537 : k0_chk537 v355), ∀ a x, ((![v355] : Fin 1 → IVec S16 32) a x).toNat < S25600.size a := fun v355 k0_hw537 => k0_hw537

def k0_chk538 (v356 : IVec S16 32) : Prop :=
  (∀ a x, ((![v356] : Fin 1 → IVec S16 32) a x).toNat < S2000.size a)
theorem k0_idx538_inb : ∀ (v356 : IVec S16 32) (k0_hw538 : k0_chk538 v356), ∀ a x, ((![v356] : Fin 1 → IVec S16 32) a x).toNat < S2000.size a := fun v356 k0_hw538 => k0_hw538

def k0_chk539 (v360 : IVec S16 32) : Prop :=
  (∀ a x, ((![v360] : Fin 1 → IVec S16 32) a x).toNat < S25600.size a)
theorem k0_idx539_inb : ∀ (v360 : IVec S16 32) (k0_hw539 : k0_chk539 v360), ∀ a x, ((![v360] : Fin 1 → IVec S16 32) a x).toNat < S25600.size a := fun v360 k0_hw539 => k0_hw539

def k0_chk540 (v361 : IVec S16 32) : Prop :=
  (∀ a x, ((![v361] : Fin 1 → IVec S16 32) a x).toNat < S2000.size a)
theorem k0_idx540_inb : ∀ (v361 : IVec S16 32) (k0_hw540 : k0_chk540 v361), ∀ a x, ((![v361] : Fin 1 → IVec S16 32) a x).toNat < S2000.size a := fun v361 k0_hw540 => k0_hw540

def k0_chk541 (v365 : IVec S16 32) : Prop :=
  (∀ a x, ((![v365] : Fin 1 → IVec S16 32) a x).toNat < S25600.size a)
theorem k0_idx541_inb : ∀ (v365 : IVec S16 32) (k0_hw541 : k0_chk541 v365), ∀ a x, ((![v365] : Fin 1 → IVec S16 32) a x).toNat < S25600.size a := fun v365 k0_hw541 => k0_hw541

def k0_chk542 (v366 : IVec S16 32) : Prop :=
  (∀ a x, ((![v366] : Fin 1 → IVec S16 32) a x).toNat < S2000.size a)
theorem k0_idx542_inb : ∀ (v366 : IVec S16 32) (k0_hw542 : k0_chk542 v366), ∀ a x, ((![v366] : Fin 1 → IVec S16 32) a x).toNat < S2000.size a := fun v366 k0_hw542 => k0_hw542

def k0_chk543 (v370 : IVec S16 32) : Prop :=
  (∀ a x, ((![v370] : Fin 1 → IVec S16 32) a x).toNat < S25600.size a)
theorem k0_idx543_inb : ∀ (v370 : IVec S16 32) (k0_hw543 : k0_chk543 v370), ∀ a x, ((![v370] : Fin 1 → IVec S16 32) a x).toNat < S25600.size a := fun v370 k0_hw543 => k0_hw543

def k0_chk544 (v371 : IVec S16 32) : Prop :=
  (∀ a x, ((![v371] : Fin 1 → IVec S16 32) a x).toNat < S2000.size a)
theorem k0_idx544_inb : ∀ (v371 : IVec S16 32) (k0_hw544 : k0_chk544 v371), ∀ a x, ((![v371] : Fin 1 → IVec S16 32) a x).toNat < S2000.size a := fun v371 k0_hw544 => k0_hw544

def k0_chk545 (v375 : IVec S16 32) : Prop :=
  (∀ a x, ((![v375] : Fin 1 → IVec S16 32) a x).toNat < S25600.size a)
theorem k0_idx545_inb : ∀ (v375 : IVec S16 32) (k0_hw545 : k0_chk545 v375), ∀ a x, ((![v375] : Fin 1 → IVec S16 32) a x).toNat < S25600.size a := fun v375 k0_hw545 => k0_hw545

def k0_chk546 (v376 : IVec S16 32) : Prop :=
  (∀ a x, ((![v376] : Fin 1 → IVec S16 32) a x).toNat < S2000.size a)
theorem k0_idx546_inb : ∀ (v376 : IVec S16 32) (k0_hw546 : k0_chk546 v376), ∀ a x, ((![v376] : Fin 1 → IVec S16 32) a x).toNat < S2000.size a := fun v376 k0_hw546 => k0_hw546

def k0_chk547 (v380 : IVec S16 32) : Prop :=
  (∀ a x, ((![v380] : Fin 1 → IVec S16 32) a x).toNat < S25600.size a)
theorem k0_idx547_inb : ∀ (v380 : IVec S16 32) (k0_hw547 : k0_chk547 v380), ∀ a x, ((![v380] : Fin 1 → IVec S16 32) a x).toNat < S25600.size a := fun v380 k0_hw547 => k0_hw547

def k0_chk548 (v381 : IVec S16 32) : Prop :=
  (∀ a x, ((![v381] : Fin 1 → IVec S16 32) a x).toNat < S2000.size a)
theorem k0_idx548_inb : ∀ (v381 : IVec S16 32) (k0_hw548 : k0_chk548 v381), ∀ a x, ((![v381] : Fin 1 → IVec S16 32) a x).toNat < S2000.size a := fun v381 k0_hw548 => k0_hw548

def k0_chk549 (v385 : IVec S16 32) : Prop :=
  (∀ a x, ((![v385] : Fin 1 → IVec S16 32) a x).toNat < S25600.size a)
theorem k0_idx549_inb : ∀ (v385 : IVec S16 32) (k0_hw549 : k0_chk549 v385), ∀ a x, ((![v385] : Fin 1 → IVec S16 32) a x).toNat < S25600.size a := fun v385 k0_hw549 => k0_hw549

def k0_chk550 (v386 : IVec S16 32) : Prop :=
  (∀ a x, ((![v386] : Fin 1 → IVec S16 32) a x).toNat < S2000.size a)
theorem k0_idx550_inb : ∀ (v386 : IVec S16 32) (k0_hw550 : k0_chk550 v386), ∀ a x, ((![v386] : Fin 1 → IVec S16 32) a x).toNat < S2000.size a := fun v386 k0_hw550 => k0_hw550

def k0_chk551 (v390 : IVec S16 32) : Prop :=
  (∀ a x, ((![v390] : Fin 1 → IVec S16 32) a x).toNat < S25600.size a)
theorem k0_idx551_inb : ∀ (v390 : IVec S16 32) (k0_hw551 : k0_chk551 v390), ∀ a x, ((![v390] : Fin 1 → IVec S16 32) a x).toNat < S25600.size a := fun v390 k0_hw551 => k0_hw551

def k0_chk552 (v391 : IVec S16 32) : Prop :=
  (∀ a x, ((![v391] : Fin 1 → IVec S16 32) a x).toNat < S2000.size a)
theorem k0_idx552_inb : ∀ (v391 : IVec S16 32) (k0_hw552 : k0_chk552 v391), ∀ a x, ((![v391] : Fin 1 → IVec S16 32) a x).toNat < S2000.size a := fun v391 k0_hw552 => k0_hw552

def k0_chk553 (v395 : IVec S16 32) : Prop :=
  (∀ a x, ((![v395] : Fin 1 → IVec S16 32) a x).toNat < S25600.size a)
theorem k0_idx553_inb : ∀ (v395 : IVec S16 32) (k0_hw553 : k0_chk553 v395), ∀ a x, ((![v395] : Fin 1 → IVec S16 32) a x).toNat < S25600.size a := fun v395 k0_hw553 => k0_hw553

def k0_chk554 (v396 : IVec S16 32) : Prop :=
  (∀ a x, ((![v396] : Fin 1 → IVec S16 32) a x).toNat < S2000.size a)
theorem k0_idx554_inb : ∀ (v396 : IVec S16 32) (k0_hw554 : k0_chk554 v396), ∀ a x, ((![v396] : Fin 1 → IVec S16 32) a x).toNat < S2000.size a := fun v396 k0_hw554 => k0_hw554

def k0_chk555 (v400 : IVec S16 32) : Prop :=
  (∀ a x, ((![v400] : Fin 1 → IVec S16 32) a x).toNat < S25600.size a)
theorem k0_idx555_inb : ∀ (v400 : IVec S16 32) (k0_hw555 : k0_chk555 v400), ∀ a x, ((![v400] : Fin 1 → IVec S16 32) a x).toNat < S25600.size a := fun v400 k0_hw555 => k0_hw555

def k0_chk556 (v401 : IVec S16 32) : Prop :=
  (∀ a x, ((![v401] : Fin 1 → IVec S16 32) a x).toNat < S2000.size a)
theorem k0_idx556_inb : ∀ (v401 : IVec S16 32) (k0_hw556 : k0_chk556 v401), ∀ a x, ((![v401] : Fin 1 → IVec S16 32) a x).toNat < S2000.size a := fun v401 k0_hw556 => k0_hw556

def k0_chk557 (v405 : IVec S16 32) : Prop :=
  (∀ a x, ((![v405] : Fin 1 → IVec S16 32) a x).toNat < S25600.size a)
theorem k0_idx557_inb : ∀ (v405 : IVec S16 32) (k0_hw557 : k0_chk557 v405), ∀ a x, ((![v405] : Fin 1 → IVec S16 32) a x).toNat < S25600.size a := fun v405 k0_hw557 => k0_hw557

def k0_chk558 (v406 : IVec S16 32) : Prop :=
  (∀ a x, ((![v406] : Fin 1 → IVec S16 32) a x).toNat < S2000.size a)
theorem k0_idx558_inb : ∀ (v406 : IVec S16 32) (k0_hw558 : k0_chk558 v406), ∀ a x, ((![v406] : Fin 1 → IVec S16 32) a x).toNat < S2000.size a := fun v406 k0_hw558 => k0_hw558

def k0_chk559 (v410 : IVec S16 32) : Prop :=
  (∀ a x, ((![v410] : Fin 1 → IVec S16 32) a x).toNat < S25600.size a)
theorem k0_idx559_inb : ∀ (v410 : IVec S16 32) (k0_hw559 : k0_chk559 v410), ∀ a x, ((![v410] : Fin 1 → IVec S16 32) a x).toNat < S25600.size a := fun v410 k0_hw559 => k0_hw559

def k0_chk560 (v411 : IVec S16 32) : Prop :=
  (∀ a x, ((![v411] : Fin 1 → IVec S16 32) a x).toNat < S2000.size a)
theorem k0_idx560_inb : ∀ (v411 : IVec S16 32) (k0_hw560 : k0_chk560 v411), ∀ a x, ((![v411] : Fin 1 → IVec S16 32) a x).toNat < S2000.size a := fun v411 k0_hw560 => k0_hw560

def k0_chk561 (v415 : IVec S16 32) : Prop :=
  (∀ a x, ((![v415] : Fin 1 → IVec S16 32) a x).toNat < S25600.size a)
theorem k0_idx561_inb : ∀ (v415 : IVec S16 32) (k0_hw561 : k0_chk561 v415), ∀ a x, ((![v415] : Fin 1 → IVec S16 32) a x).toNat < S25600.size a := fun v415 k0_hw561 => k0_hw561

def k0_chk562 (v416 : IVec S16 32) : Prop :=
  (∀ a x, ((![v416] : Fin 1 → IVec S16 32) a x).toNat < S2000.size a)
theorem k0_idx562_inb : ∀ (v416 : IVec S16 32) (k0_hw562 : k0_chk562 v416), ∀ a x, ((![v416] : Fin 1 → IVec S16 32) a x).toNat < S2000.size a := fun v416 k0_hw562 => k0_hw562

def k0_chk563 (v420 : IVec S16 32) : Prop :=
  (∀ a x, ((![v420] : Fin 1 → IVec S16 32) a x).toNat < S25600.size a)
theorem k0_idx563_inb : ∀ (v420 : IVec S16 32) (k0_hw563 : k0_chk563 v420), ∀ a x, ((![v420] : Fin 1 → IVec S16 32) a x).toNat < S25600.size a := fun v420 k0_hw563 => k0_hw563

def k0_chk564 (v421 : IVec S16 32) : Prop :=
  (∀ a x, ((![v421] : Fin 1 → IVec S16 32) a x).toNat < S2000.size a)
theorem k0_idx564_inb : ∀ (v421 : IVec S16 32) (k0_hw564 : k0_chk564 v421), ∀ a x, ((![v421] : Fin 1 → IVec S16 32) a x).toNat < S2000.size a := fun v421 k0_hw564 => k0_hw564

def k0_chk565 (v428 : IVec S16 32) : Prop :=
  (∀ a x, ((![v428] : Fin 1 → IVec S16 32) a x).toNat < S8192.size a)
theorem k0_idx565_inb : ∀ (v428 : IVec S16 32) (k0_hw565 : k0_chk565 v428), ∀ a x, ((![v428] : Fin 1 → IVec S16 32) a x).toNat < S8192.size a := fun v428 k0_hw565 => k0_hw565

def k0_chk566 (v434 : IVec S16 32) : Prop :=
  (∀ a x, ((![v434] : Fin 1 → IVec S16 32) a x).toNat < S8192.size a)
theorem k0_idx566_inb : ∀ (v434 : IVec S16 32) (k0_hw566 : k0_chk566 v434), ∀ a x, ((![v434] : Fin 1 → IVec S16 32) a x).toNat < S8192.size a := fun v434 k0_hw566 => k0_hw566

def k0_chk567 (v440 : IVec S16 32) : Prop :=
  (∀ a x, ((![v440] : Fin 1 → IVec S16 32) a x).toNat < S8192.size a)
theorem k0_idx567_inb : ∀ (v440 : IVec S16 32) (k0_hw567 : k0_chk567 v440), ∀ a x, ((![v440] : Fin 1 → IVec S16 32) a x).toNat < S8192.size a := fun v440 k0_hw567 => k0_hw567

def k0_chk568 (v446 : IVec S16 32) : Prop :=
  (∀ a x, ((![v446] : Fin 1 → IVec S16 32) a x).toNat < S8192.size a)
theorem k0_idx568_inb : ∀ (v446 : IVec S16 32) (k0_hw568 : k0_chk568 v446), ∀ a x, ((![v446] : Fin 1 → IVec S16 32) a x).toNat < S8192.size a := fun v446 k0_hw568 => k0_hw568

def k0_chk569 (v452 : IVec S16 32) : Prop :=
  (∀ a x, ((![v452] : Fin 1 → IVec S16 32) a x).toNat < S8192.size a)
theorem k0_idx569_inb : ∀ (v452 : IVec S16 32) (k0_hw569 : k0_chk569 v452), ∀ a x, ((![v452] : Fin 1 → IVec S16 32) a x).toNat < S8192.size a := fun v452 k0_hw569 => k0_hw569

def k0_chk570 (v458 : IVec S16 32) : Prop :=
  (∀ a x, ((![v458] : Fin 1 → IVec S16 32) a x).toNat < S8192.size a)
theorem k0_idx570_inb : ∀ (v458 : IVec S16 32) (k0_hw570 : k0_chk570 v458), ∀ a x, ((![v458] : Fin 1 → IVec S16 32) a x).toNat < S8192.size a := fun v458 k0_hw570 => k0_hw570

def k0_chk571 (v464 : IVec S16 32) : Prop :=
  (∀ a x, ((![v464] : Fin 1 → IVec S16 32) a x).toNat < S8192.size a)
theorem k0_idx571_inb : ∀ (v464 : IVec S16 32) (k0_hw571 : k0_chk571 v464), ∀ a x, ((![v464] : Fin 1 → IVec S16 32) a x).toNat < S8192.size a := fun v464 k0_hw571 => k0_hw571

def k0_chk572 (v470 : IVec S16 32) : Prop :=
  (∀ a x, ((![v470] : Fin 1 → IVec S16 32) a x).toNat < S8192.size a)
theorem k0_idx572_inb : ∀ (v470 : IVec S16 32) (k0_hw572 : k0_chk572 v470), ∀ a x, ((![v470] : Fin 1 → IVec S16 32) a x).toNat < S8192.size a := fun v470 k0_hw572 => k0_hw572

def k0_chk573 (v476 : IVec S16 32) : Prop :=
  (∀ a x, ((![v476] : Fin 1 → IVec S16 32) a x).toNat < S8192.size a)
theorem k0_idx573_inb : ∀ (v476 : IVec S16 32) (k0_hw573 : k0_chk573 v476), ∀ a x, ((![v476] : Fin 1 → IVec S16 32) a x).toNat < S8192.size a := fun v476 k0_hw573 => k0_hw573

def k0_chk574 (v482 : IVec S16 32) : Prop :=
  (∀ a x, ((![v482] : Fin 1 → IVec S16 32) a x).toNat < S8192.size a)
theorem k0_idx574_inb : ∀ (v482 : IVec S16 32) (k0_hw574 : k0_chk574 v482), ∀ a x, ((![v482] : Fin 1 → IVec S16 32) a x).toNat < S8192.size a := fun v482 k0_hw574 => k0_hw574

def k0_chk575 (v488 : IVec S16 32) : Prop :=
  (∀ a x, ((![v488] : Fin 1 → IVec S16 32) a x).toNat < S8192.size a)
theorem k0_idx575_inb : ∀ (v488 : IVec S16 32) (k0_hw575 : k0_chk575 v488), ∀ a x, ((![v488] : Fin 1 → IVec S16 32) a x).toNat < S8192.size a := fun v488 k0_hw575 => k0_hw575

def k0_chk576 (v494 : IVec S16 32) : Prop :=
  (∀ a x, ((![v494] : Fin 1 → IVec S16 32) a x).toNat < S8192.size a)
theorem k0_idx576_inb : ∀ (v494 : IVec S16 32) (k0_hw576 : k0_chk576 v494), ∀ a x, ((![v494] : Fin 1 → IVec S16 32) a x).toNat < S8192.size a := fun v494 k0_hw576 => k0_hw576

def k0_chk577 (v500 : IVec S16 32) : Prop :=
  (∀ a x, ((![v500] : Fin 1 → IVec S16 32) a x).toNat < S8192.size a)
theorem k0_idx577_inb : ∀ (v500 : IVec S16 32) (k0_hw577 : k0_chk577 v500), ∀ a x, ((![v500] : Fin 1 → IVec S16 32) a x).toNat < S8192.size a := fun v500 k0_hw577 => k0_hw577

def k0_chk578 (v506 : IVec S16 32) : Prop :=
  (∀ a x, ((![v506] : Fin 1 → IVec S16 32) a x).toNat < S8192.size a)
theorem k0_idx578_inb : ∀ (v506 : IVec S16 32) (k0_hw578 : k0_chk578 v506), ∀ a x, ((![v506] : Fin 1 → IVec S16 32) a x).toNat < S8192.size a := fun v506 k0_hw578 => k0_hw578

def k0_chk579 (v512 : IVec S16 32) : Prop :=
  (∀ a x, ((![v512] : Fin 1 → IVec S16 32) a x).toNat < S8192.size a)
theorem k0_idx579_inb : ∀ (v512 : IVec S16 32) (k0_hw579 : k0_chk579 v512), ∀ a x, ((![v512] : Fin 1 → IVec S16 32) a x).toNat < S8192.size a := fun v512 k0_hw579 => k0_hw579

def k0_chk580 (v518 : IVec S16 32) : Prop :=
  (∀ a x, ((![v518] : Fin 1 → IVec S16 32) a x).toNat < S8192.size a)
theorem k0_idx580_inb : ∀ (v518 : IVec S16 32) (k0_hw580 : k0_chk580 v518), ∀ a x, ((![v518] : Fin 1 → IVec S16 32) a x).toNat < S8192.size a := fun v518 k0_hw580 => k0_hw580
@[reducible] def k0_t6_loop : Scf.Loop 32 :=
  let c0_i32_47 : BitVec 32 := 0#32
  let c32_i32_48 : BitVec 32 := 32#32
  let v153 : BitVec 32 := Scalar.addi c0_i32_47 c32_i32_48
  let c1_i32_49 : BitVec 32 := 1#32
  ⟨c0_i32_47, v153, c1_i32_49⟩

def k0_chk581 (v175 : IVec S16 32) : Prop :=
  (∀ a x, ((![v175] : Fin 1 → IVec S16 32) a x).toNat < S25600.size a)
theorem k0_idx581_inb : ∀ (v175 : IVec S16 32) (k0_hw581 : k0_chk581 v175), ∀ a x, ((![v175] : Fin 1 → IVec S16 32) a x).toNat < S25600.size a := fun v175 k0_hw581 => k0_hw581

def k0_chk582 (v176 : IVec S16 32) : Prop :=
  (∀ a x, ((![v176] : Fin 1 → IVec S16 32) a x).toNat < S2000.size a)
theorem k0_idx582_inb : ∀ (v176 : IVec S16 32) (k0_hw582 : k0_chk582 v176), ∀ a x, ((![v176] : Fin 1 → IVec S16 32) a x).toNat < S2000.size a := fun v176 k0_hw582 => k0_hw582

def k0_chk583 (v180 : IVec S16 32) : Prop :=
  (∀ a x, ((![v180] : Fin 1 → IVec S16 32) a x).toNat < S25600.size a)
theorem k0_idx583_inb : ∀ (v180 : IVec S16 32) (k0_hw583 : k0_chk583 v180), ∀ a x, ((![v180] : Fin 1 → IVec S16 32) a x).toNat < S25600.size a := fun v180 k0_hw583 => k0_hw583

def k0_chk584 (v181 : IVec S16 32) : Prop :=
  (∀ a x, ((![v181] : Fin 1 → IVec S16 32) a x).toNat < S2000.size a)
theorem k0_idx584_inb : ∀ (v181 : IVec S16 32) (k0_hw584 : k0_chk584 v181), ∀ a x, ((![v181] : Fin 1 → IVec S16 32) a x).toNat < S2000.size a := fun v181 k0_hw584 => k0_hw584

def k0_chk585 (v185 : IVec S16 32) : Prop :=
  (∀ a x, ((![v185] : Fin 1 → IVec S16 32) a x).toNat < S25600.size a)
theorem k0_idx585_inb : ∀ (v185 : IVec S16 32) (k0_hw585 : k0_chk585 v185), ∀ a x, ((![v185] : Fin 1 → IVec S16 32) a x).toNat < S25600.size a := fun v185 k0_hw585 => k0_hw585

def k0_chk586 (v186 : IVec S16 32) : Prop :=
  (∀ a x, ((![v186] : Fin 1 → IVec S16 32) a x).toNat < S2000.size a)
theorem k0_idx586_inb : ∀ (v186 : IVec S16 32) (k0_hw586 : k0_chk586 v186), ∀ a x, ((![v186] : Fin 1 → IVec S16 32) a x).toNat < S2000.size a := fun v186 k0_hw586 => k0_hw586

def k0_chk587 (v190 : IVec S16 32) : Prop :=
  (∀ a x, ((![v190] : Fin 1 → IVec S16 32) a x).toNat < S25600.size a)
theorem k0_idx587_inb : ∀ (v190 : IVec S16 32) (k0_hw587 : k0_chk587 v190), ∀ a x, ((![v190] : Fin 1 → IVec S16 32) a x).toNat < S25600.size a := fun v190 k0_hw587 => k0_hw587

def k0_chk588 (v191 : IVec S16 32) : Prop :=
  (∀ a x, ((![v191] : Fin 1 → IVec S16 32) a x).toNat < S2000.size a)
theorem k0_idx588_inb : ∀ (v191 : IVec S16 32) (k0_hw588 : k0_chk588 v191), ∀ a x, ((![v191] : Fin 1 → IVec S16 32) a x).toNat < S2000.size a := fun v191 k0_hw588 => k0_hw588

def k0_chk589 (v195 : IVec S16 32) : Prop :=
  (∀ a x, ((![v195] : Fin 1 → IVec S16 32) a x).toNat < S25600.size a)
theorem k0_idx589_inb : ∀ (v195 : IVec S16 32) (k0_hw589 : k0_chk589 v195), ∀ a x, ((![v195] : Fin 1 → IVec S16 32) a x).toNat < S25600.size a := fun v195 k0_hw589 => k0_hw589

def k0_chk590 (v196 : IVec S16 32) : Prop :=
  (∀ a x, ((![v196] : Fin 1 → IVec S16 32) a x).toNat < S2000.size a)
theorem k0_idx590_inb : ∀ (v196 : IVec S16 32) (k0_hw590 : k0_chk590 v196), ∀ a x, ((![v196] : Fin 1 → IVec S16 32) a x).toNat < S2000.size a := fun v196 k0_hw590 => k0_hw590

def k0_chk591 (v200 : IVec S16 32) : Prop :=
  (∀ a x, ((![v200] : Fin 1 → IVec S16 32) a x).toNat < S25600.size a)
theorem k0_idx591_inb : ∀ (v200 : IVec S16 32) (k0_hw591 : k0_chk591 v200), ∀ a x, ((![v200] : Fin 1 → IVec S16 32) a x).toNat < S25600.size a := fun v200 k0_hw591 => k0_hw591

def k0_chk592 (v201 : IVec S16 32) : Prop :=
  (∀ a x, ((![v201] : Fin 1 → IVec S16 32) a x).toNat < S2000.size a)
theorem k0_idx592_inb : ∀ (v201 : IVec S16 32) (k0_hw592 : k0_chk592 v201), ∀ a x, ((![v201] : Fin 1 → IVec S16 32) a x).toNat < S2000.size a := fun v201 k0_hw592 => k0_hw592

def k0_chk593 (v205 : IVec S16 32) : Prop :=
  (∀ a x, ((![v205] : Fin 1 → IVec S16 32) a x).toNat < S25600.size a)
theorem k0_idx593_inb : ∀ (v205 : IVec S16 32) (k0_hw593 : k0_chk593 v205), ∀ a x, ((![v205] : Fin 1 → IVec S16 32) a x).toNat < S25600.size a := fun v205 k0_hw593 => k0_hw593

def k0_chk594 (v206 : IVec S16 32) : Prop :=
  (∀ a x, ((![v206] : Fin 1 → IVec S16 32) a x).toNat < S2000.size a)
theorem k0_idx594_inb : ∀ (v206 : IVec S16 32) (k0_hw594 : k0_chk594 v206), ∀ a x, ((![v206] : Fin 1 → IVec S16 32) a x).toNat < S2000.size a := fun v206 k0_hw594 => k0_hw594

def k0_chk595 (v210 : IVec S16 32) : Prop :=
  (∀ a x, ((![v210] : Fin 1 → IVec S16 32) a x).toNat < S25600.size a)
theorem k0_idx595_inb : ∀ (v210 : IVec S16 32) (k0_hw595 : k0_chk595 v210), ∀ a x, ((![v210] : Fin 1 → IVec S16 32) a x).toNat < S25600.size a := fun v210 k0_hw595 => k0_hw595

def k0_chk596 (v211 : IVec S16 32) : Prop :=
  (∀ a x, ((![v211] : Fin 1 → IVec S16 32) a x).toNat < S2000.size a)
theorem k0_idx596_inb : ∀ (v211 : IVec S16 32) (k0_hw596 : k0_chk596 v211), ∀ a x, ((![v211] : Fin 1 → IVec S16 32) a x).toNat < S2000.size a := fun v211 k0_hw596 => k0_hw596

def k0_chk597 (v215 : IVec S16 32) : Prop :=
  (∀ a x, ((![v215] : Fin 1 → IVec S16 32) a x).toNat < S25600.size a)
theorem k0_idx597_inb : ∀ (v215 : IVec S16 32) (k0_hw597 : k0_chk597 v215), ∀ a x, ((![v215] : Fin 1 → IVec S16 32) a x).toNat < S25600.size a := fun v215 k0_hw597 => k0_hw597

def k0_chk598 (v216 : IVec S16 32) : Prop :=
  (∀ a x, ((![v216] : Fin 1 → IVec S16 32) a x).toNat < S2000.size a)
theorem k0_idx598_inb : ∀ (v216 : IVec S16 32) (k0_hw598 : k0_chk598 v216), ∀ a x, ((![v216] : Fin 1 → IVec S16 32) a x).toNat < S2000.size a := fun v216 k0_hw598 => k0_hw598

def k0_chk599 (v220 : IVec S16 32) : Prop :=
  (∀ a x, ((![v220] : Fin 1 → IVec S16 32) a x).toNat < S25600.size a)
theorem k0_idx599_inb : ∀ (v220 : IVec S16 32) (k0_hw599 : k0_chk599 v220), ∀ a x, ((![v220] : Fin 1 → IVec S16 32) a x).toNat < S25600.size a := fun v220 k0_hw599 => k0_hw599

def k0_chk600 (v221 : IVec S16 32) : Prop :=
  (∀ a x, ((![v221] : Fin 1 → IVec S16 32) a x).toNat < S2000.size a)
theorem k0_idx600_inb : ∀ (v221 : IVec S16 32) (k0_hw600 : k0_chk600 v221), ∀ a x, ((![v221] : Fin 1 → IVec S16 32) a x).toNat < S2000.size a := fun v221 k0_hw600 => k0_hw600

def k0_chk601 (v225 : IVec S16 32) : Prop :=
  (∀ a x, ((![v225] : Fin 1 → IVec S16 32) a x).toNat < S25600.size a)
theorem k0_idx601_inb : ∀ (v225 : IVec S16 32) (k0_hw601 : k0_chk601 v225), ∀ a x, ((![v225] : Fin 1 → IVec S16 32) a x).toNat < S25600.size a := fun v225 k0_hw601 => k0_hw601

def k0_chk602 (v226 : IVec S16 32) : Prop :=
  (∀ a x, ((![v226] : Fin 1 → IVec S16 32) a x).toNat < S2000.size a)
theorem k0_idx602_inb : ∀ (v226 : IVec S16 32) (k0_hw602 : k0_chk602 v226), ∀ a x, ((![v226] : Fin 1 → IVec S16 32) a x).toNat < S2000.size a := fun v226 k0_hw602 => k0_hw602

def k0_chk603 (v230 : IVec S16 32) : Prop :=
  (∀ a x, ((![v230] : Fin 1 → IVec S16 32) a x).toNat < S25600.size a)
theorem k0_idx603_inb : ∀ (v230 : IVec S16 32) (k0_hw603 : k0_chk603 v230), ∀ a x, ((![v230] : Fin 1 → IVec S16 32) a x).toNat < S25600.size a := fun v230 k0_hw603 => k0_hw603

def k0_chk604 (v231 : IVec S16 32) : Prop :=
  (∀ a x, ((![v231] : Fin 1 → IVec S16 32) a x).toNat < S2000.size a)
theorem k0_idx604_inb : ∀ (v231 : IVec S16 32) (k0_hw604 : k0_chk604 v231), ∀ a x, ((![v231] : Fin 1 → IVec S16 32) a x).toNat < S2000.size a := fun v231 k0_hw604 => k0_hw604

def k0_chk605 (v235 : IVec S16 32) : Prop :=
  (∀ a x, ((![v235] : Fin 1 → IVec S16 32) a x).toNat < S25600.size a)
theorem k0_idx605_inb : ∀ (v235 : IVec S16 32) (k0_hw605 : k0_chk605 v235), ∀ a x, ((![v235] : Fin 1 → IVec S16 32) a x).toNat < S25600.size a := fun v235 k0_hw605 => k0_hw605

def k0_chk606 (v236 : IVec S16 32) : Prop :=
  (∀ a x, ((![v236] : Fin 1 → IVec S16 32) a x).toNat < S2000.size a)
theorem k0_idx606_inb : ∀ (v236 : IVec S16 32) (k0_hw606 : k0_chk606 v236), ∀ a x, ((![v236] : Fin 1 → IVec S16 32) a x).toNat < S2000.size a := fun v236 k0_hw606 => k0_hw606

def k0_chk607 (v240 : IVec S16 32) : Prop :=
  (∀ a x, ((![v240] : Fin 1 → IVec S16 32) a x).toNat < S25600.size a)
theorem k0_idx607_inb : ∀ (v240 : IVec S16 32) (k0_hw607 : k0_chk607 v240), ∀ a x, ((![v240] : Fin 1 → IVec S16 32) a x).toNat < S25600.size a := fun v240 k0_hw607 => k0_hw607

def k0_chk608 (v241 : IVec S16 32) : Prop :=
  (∀ a x, ((![v241] : Fin 1 → IVec S16 32) a x).toNat < S2000.size a)
theorem k0_idx608_inb : ∀ (v241 : IVec S16 32) (k0_hw608 : k0_chk608 v241), ∀ a x, ((![v241] : Fin 1 → IVec S16 32) a x).toNat < S2000.size a := fun v241 k0_hw608 => k0_hw608

def k0_chk609 (v245 : IVec S16 32) : Prop :=
  (∀ a x, ((![v245] : Fin 1 → IVec S16 32) a x).toNat < S25600.size a)
theorem k0_idx609_inb : ∀ (v245 : IVec S16 32) (k0_hw609 : k0_chk609 v245), ∀ a x, ((![v245] : Fin 1 → IVec S16 32) a x).toNat < S25600.size a := fun v245 k0_hw609 => k0_hw609

def k0_chk610 (v246 : IVec S16 32) : Prop :=
  (∀ a x, ((![v246] : Fin 1 → IVec S16 32) a x).toNat < S2000.size a)
theorem k0_idx610_inb : ∀ (v246 : IVec S16 32) (k0_hw610 : k0_chk610 v246), ∀ a x, ((![v246] : Fin 1 → IVec S16 32) a x).toNat < S2000.size a := fun v246 k0_hw610 => k0_hw610

def k0_chk611 (v250 : IVec S16 32) : Prop :=
  (∀ a x, ((![v250] : Fin 1 → IVec S16 32) a x).toNat < S25600.size a)
theorem k0_idx611_inb : ∀ (v250 : IVec S16 32) (k0_hw611 : k0_chk611 v250), ∀ a x, ((![v250] : Fin 1 → IVec S16 32) a x).toNat < S25600.size a := fun v250 k0_hw611 => k0_hw611

def k0_chk612 (v251 : IVec S16 32) : Prop :=
  (∀ a x, ((![v251] : Fin 1 → IVec S16 32) a x).toNat < S2000.size a)
theorem k0_idx612_inb : ∀ (v251 : IVec S16 32) (k0_hw612 : k0_chk612 v251), ∀ a x, ((![v251] : Fin 1 → IVec S16 32) a x).toNat < S2000.size a := fun v251 k0_hw612 => k0_hw612

def k0_chk613 (v255 : IVec S16 32) : Prop :=
  (∀ a x, ((![v255] : Fin 1 → IVec S16 32) a x).toNat < S25600.size a)
theorem k0_idx613_inb : ∀ (v255 : IVec S16 32) (k0_hw613 : k0_chk613 v255), ∀ a x, ((![v255] : Fin 1 → IVec S16 32) a x).toNat < S25600.size a := fun v255 k0_hw613 => k0_hw613

def k0_chk614 (v256 : IVec S16 32) : Prop :=
  (∀ a x, ((![v256] : Fin 1 → IVec S16 32) a x).toNat < S2000.size a)
theorem k0_idx614_inb : ∀ (v256 : IVec S16 32) (k0_hw614 : k0_chk614 v256), ∀ a x, ((![v256] : Fin 1 → IVec S16 32) a x).toNat < S2000.size a := fun v256 k0_hw614 => k0_hw614

def k0_chk615 (v260 : IVec S16 32) : Prop :=
  (∀ a x, ((![v260] : Fin 1 → IVec S16 32) a x).toNat < S25600.size a)
theorem k0_idx615_inb : ∀ (v260 : IVec S16 32) (k0_hw615 : k0_chk615 v260), ∀ a x, ((![v260] : Fin 1 → IVec S16 32) a x).toNat < S25600.size a := fun v260 k0_hw615 => k0_hw615

def k0_chk616 (v261 : IVec S16 32) : Prop :=
  (∀ a x, ((![v261] : Fin 1 → IVec S16 32) a x).toNat < S2000.size a)
theorem k0_idx616_inb : ∀ (v261 : IVec S16 32) (k0_hw616 : k0_chk616 v261), ∀ a x, ((![v261] : Fin 1 → IVec S16 32) a x).toNat < S2000.size a := fun v261 k0_hw616 => k0_hw616

def k0_chk617 (v265 : IVec S16 32) : Prop :=
  (∀ a x, ((![v265] : Fin 1 → IVec S16 32) a x).toNat < S25600.size a)
theorem k0_idx617_inb : ∀ (v265 : IVec S16 32) (k0_hw617 : k0_chk617 v265), ∀ a x, ((![v265] : Fin 1 → IVec S16 32) a x).toNat < S25600.size a := fun v265 k0_hw617 => k0_hw617

def k0_chk618 (v266 : IVec S16 32) : Prop :=
  (∀ a x, ((![v266] : Fin 1 → IVec S16 32) a x).toNat < S2000.size a)
theorem k0_idx618_inb : ∀ (v266 : IVec S16 32) (k0_hw618 : k0_chk618 v266), ∀ a x, ((![v266] : Fin 1 → IVec S16 32) a x).toNat < S2000.size a := fun v266 k0_hw618 => k0_hw618

def k0_chk619 (v270 : IVec S16 32) : Prop :=
  (∀ a x, ((![v270] : Fin 1 → IVec S16 32) a x).toNat < S25600.size a)
theorem k0_idx619_inb : ∀ (v270 : IVec S16 32) (k0_hw619 : k0_chk619 v270), ∀ a x, ((![v270] : Fin 1 → IVec S16 32) a x).toNat < S25600.size a := fun v270 k0_hw619 => k0_hw619

def k0_chk620 (v271 : IVec S16 32) : Prop :=
  (∀ a x, ((![v271] : Fin 1 → IVec S16 32) a x).toNat < S2000.size a)
theorem k0_idx620_inb : ∀ (v271 : IVec S16 32) (k0_hw620 : k0_chk620 v271), ∀ a x, ((![v271] : Fin 1 → IVec S16 32) a x).toNat < S2000.size a := fun v271 k0_hw620 => k0_hw620

def k0_chk621 (v275 : IVec S16 32) : Prop :=
  (∀ a x, ((![v275] : Fin 1 → IVec S16 32) a x).toNat < S25600.size a)
theorem k0_idx621_inb : ∀ (v275 : IVec S16 32) (k0_hw621 : k0_chk621 v275), ∀ a x, ((![v275] : Fin 1 → IVec S16 32) a x).toNat < S25600.size a := fun v275 k0_hw621 => k0_hw621

def k0_chk622 (v276 : IVec S16 32) : Prop :=
  (∀ a x, ((![v276] : Fin 1 → IVec S16 32) a x).toNat < S2000.size a)
theorem k0_idx622_inb : ∀ (v276 : IVec S16 32) (k0_hw622 : k0_chk622 v276), ∀ a x, ((![v276] : Fin 1 → IVec S16 32) a x).toNat < S2000.size a := fun v276 k0_hw622 => k0_hw622

def k0_chk623 (v280 : IVec S16 32) : Prop :=
  (∀ a x, ((![v280] : Fin 1 → IVec S16 32) a x).toNat < S25600.size a)
theorem k0_idx623_inb : ∀ (v280 : IVec S16 32) (k0_hw623 : k0_chk623 v280), ∀ a x, ((![v280] : Fin 1 → IVec S16 32) a x).toNat < S25600.size a := fun v280 k0_hw623 => k0_hw623

def k0_chk624 (v281 : IVec S16 32) : Prop :=
  (∀ a x, ((![v281] : Fin 1 → IVec S16 32) a x).toNat < S2000.size a)
theorem k0_idx624_inb : ∀ (v281 : IVec S16 32) (k0_hw624 : k0_chk624 v281), ∀ a x, ((![v281] : Fin 1 → IVec S16 32) a x).toNat < S2000.size a := fun v281 k0_hw624 => k0_hw624

def k0_chk625 (v285 : IVec S16 32) : Prop :=
  (∀ a x, ((![v285] : Fin 1 → IVec S16 32) a x).toNat < S25600.size a)
theorem k0_idx625_inb : ∀ (v285 : IVec S16 32) (k0_hw625 : k0_chk625 v285), ∀ a x, ((![v285] : Fin 1 → IVec S16 32) a x).toNat < S25600.size a := fun v285 k0_hw625 => k0_hw625

def k0_chk626 (v286 : IVec S16 32) : Prop :=
  (∀ a x, ((![v286] : Fin 1 → IVec S16 32) a x).toNat < S2000.size a)
theorem k0_idx626_inb : ∀ (v286 : IVec S16 32) (k0_hw626 : k0_chk626 v286), ∀ a x, ((![v286] : Fin 1 → IVec S16 32) a x).toNat < S2000.size a := fun v286 k0_hw626 => k0_hw626

def k0_chk627 (v290 : IVec S16 32) : Prop :=
  (∀ a x, ((![v290] : Fin 1 → IVec S16 32) a x).toNat < S25600.size a)
theorem k0_idx627_inb : ∀ (v290 : IVec S16 32) (k0_hw627 : k0_chk627 v290), ∀ a x, ((![v290] : Fin 1 → IVec S16 32) a x).toNat < S25600.size a := fun v290 k0_hw627 => k0_hw627

def k0_chk628 (v291 : IVec S16 32) : Prop :=
  (∀ a x, ((![v291] : Fin 1 → IVec S16 32) a x).toNat < S2000.size a)
theorem k0_idx628_inb : ∀ (v291 : IVec S16 32) (k0_hw628 : k0_chk628 v291), ∀ a x, ((![v291] : Fin 1 → IVec S16 32) a x).toNat < S2000.size a := fun v291 k0_hw628 => k0_hw628

def k0_chk629 (v295 : IVec S16 32) : Prop :=
  (∀ a x, ((![v295] : Fin 1 → IVec S16 32) a x).toNat < S25600.size a)
theorem k0_idx629_inb : ∀ (v295 : IVec S16 32) (k0_hw629 : k0_chk629 v295), ∀ a x, ((![v295] : Fin 1 → IVec S16 32) a x).toNat < S25600.size a := fun v295 k0_hw629 => k0_hw629

def k0_chk630 (v296 : IVec S16 32) : Prop :=
  (∀ a x, ((![v296] : Fin 1 → IVec S16 32) a x).toNat < S2000.size a)
theorem k0_idx630_inb : ∀ (v296 : IVec S16 32) (k0_hw630 : k0_chk630 v296), ∀ a x, ((![v296] : Fin 1 → IVec S16 32) a x).toNat < S2000.size a := fun v296 k0_hw630 => k0_hw630

def k0_chk631 (v300 : IVec S16 32) : Prop :=
  (∀ a x, ((![v300] : Fin 1 → IVec S16 32) a x).toNat < S25600.size a)
theorem k0_idx631_inb : ∀ (v300 : IVec S16 32) (k0_hw631 : k0_chk631 v300), ∀ a x, ((![v300] : Fin 1 → IVec S16 32) a x).toNat < S25600.size a := fun v300 k0_hw631 => k0_hw631

def k0_chk632 (v301 : IVec S16 32) : Prop :=
  (∀ a x, ((![v301] : Fin 1 → IVec S16 32) a x).toNat < S2000.size a)
theorem k0_idx632_inb : ∀ (v301 : IVec S16 32) (k0_hw632 : k0_chk632 v301), ∀ a x, ((![v301] : Fin 1 → IVec S16 32) a x).toNat < S2000.size a := fun v301 k0_hw632 => k0_hw632

def k0_chk633 (v305 : IVec S16 32) : Prop :=
  (∀ a x, ((![v305] : Fin 1 → IVec S16 32) a x).toNat < S25600.size a)
theorem k0_idx633_inb : ∀ (v305 : IVec S16 32) (k0_hw633 : k0_chk633 v305), ∀ a x, ((![v305] : Fin 1 → IVec S16 32) a x).toNat < S25600.size a := fun v305 k0_hw633 => k0_hw633

def k0_chk634 (v306 : IVec S16 32) : Prop :=
  (∀ a x, ((![v306] : Fin 1 → IVec S16 32) a x).toNat < S2000.size a)
theorem k0_idx634_inb : ∀ (v306 : IVec S16 32) (k0_hw634 : k0_chk634 v306), ∀ a x, ((![v306] : Fin 1 → IVec S16 32) a x).toNat < S2000.size a := fun v306 k0_hw634 => k0_hw634

def k0_chk635 (v310 : IVec S16 32) : Prop :=
  (∀ a x, ((![v310] : Fin 1 → IVec S16 32) a x).toNat < S25600.size a)
theorem k0_idx635_inb : ∀ (v310 : IVec S16 32) (k0_hw635 : k0_chk635 v310), ∀ a x, ((![v310] : Fin 1 → IVec S16 32) a x).toNat < S25600.size a := fun v310 k0_hw635 => k0_hw635

def k0_chk636 (v311 : IVec S16 32) : Prop :=
  (∀ a x, ((![v311] : Fin 1 → IVec S16 32) a x).toNat < S2000.size a)
theorem k0_idx636_inb : ∀ (v311 : IVec S16 32) (k0_hw636 : k0_chk636 v311), ∀ a x, ((![v311] : Fin 1 → IVec S16 32) a x).toNat < S2000.size a := fun v311 k0_hw636 => k0_hw636

def k0_chk637 (v315 : IVec S16 32) : Prop :=
  (∀ a x, ((![v315] : Fin 1 → IVec S16 32) a x).toNat < S25600.size a)
theorem k0_idx637_inb : ∀ (v315 : IVec S16 32) (k0_hw637 : k0_chk637 v315), ∀ a x, ((![v315] : Fin 1 → IVec S16 32) a x).toNat < S25600.size a := fun v315 k0_hw637 => k0_hw637

def k0_chk638 (v316 : IVec S16 32) : Prop :=
  (∀ a x, ((![v316] : Fin 1 → IVec S16 32) a x).toNat < S2000.size a)
theorem k0_idx638_inb : ∀ (v316 : IVec S16 32) (k0_hw638 : k0_chk638 v316), ∀ a x, ((![v316] : Fin 1 → IVec S16 32) a x).toNat < S2000.size a := fun v316 k0_hw638 => k0_hw638

def k0_chk639 (v320 : IVec S16 32) : Prop :=
  (∀ a x, ((![v320] : Fin 1 → IVec S16 32) a x).toNat < S25600.size a)
theorem k0_idx639_inb : ∀ (v320 : IVec S16 32) (k0_hw639 : k0_chk639 v320), ∀ a x, ((![v320] : Fin 1 → IVec S16 32) a x).toNat < S25600.size a := fun v320 k0_hw639 => k0_hw639

def k0_chk640 (v321 : IVec S16 32) : Prop :=
  (∀ a x, ((![v321] : Fin 1 → IVec S16 32) a x).toNat < S2000.size a)
theorem k0_idx640_inb : ∀ (v321 : IVec S16 32) (k0_hw640 : k0_chk640 v321), ∀ a x, ((![v321] : Fin 1 → IVec S16 32) a x).toNat < S2000.size a := fun v321 k0_hw640 => k0_hw640

def k0_chk641 (v325 : IVec S16 32) : Prop :=
  (∀ a x, ((![v325] : Fin 1 → IVec S16 32) a x).toNat < S25600.size a)
theorem k0_idx641_inb : ∀ (v325 : IVec S16 32) (k0_hw641 : k0_chk641 v325), ∀ a x, ((![v325] : Fin 1 → IVec S16 32) a x).toNat < S25600.size a := fun v325 k0_hw641 => k0_hw641

def k0_chk642 (v326 : IVec S16 32) : Prop :=
  (∀ a x, ((![v326] : Fin 1 → IVec S16 32) a x).toNat < S2000.size a)
theorem k0_idx642_inb : ∀ (v326 : IVec S16 32) (k0_hw642 : k0_chk642 v326), ∀ a x, ((![v326] : Fin 1 → IVec S16 32) a x).toNat < S2000.size a := fun v326 k0_hw642 => k0_hw642

def k0_chk643 (v330 : IVec S16 32) : Prop :=
  (∀ a x, ((![v330] : Fin 1 → IVec S16 32) a x).toNat < S25600.size a)
theorem k0_idx643_inb : ∀ (v330 : IVec S16 32) (k0_hw643 : k0_chk643 v330), ∀ a x, ((![v330] : Fin 1 → IVec S16 32) a x).toNat < S25600.size a := fun v330 k0_hw643 => k0_hw643

def k0_chk644 (v331 : IVec S16 32) : Prop :=
  (∀ a x, ((![v331] : Fin 1 → IVec S16 32) a x).toNat < S2000.size a)
theorem k0_idx644_inb : ∀ (v331 : IVec S16 32) (k0_hw644 : k0_chk644 v331), ∀ a x, ((![v331] : Fin 1 → IVec S16 32) a x).toNat < S2000.size a := fun v331 k0_hw644 => k0_hw644

def k0_chk645 (v335 : IVec S16 32) : Prop :=
  (∀ a x, ((![v335] : Fin 1 → IVec S16 32) a x).toNat < S25600.size a)
theorem k0_idx645_inb : ∀ (v335 : IVec S16 32) (k0_hw645 : k0_chk645 v335), ∀ a x, ((![v335] : Fin 1 → IVec S16 32) a x).toNat < S25600.size a := fun v335 k0_hw645 => k0_hw645

def k0_chk646 (v336 : IVec S16 32) : Prop :=
  (∀ a x, ((![v336] : Fin 1 → IVec S16 32) a x).toNat < S2000.size a)
theorem k0_idx646_inb : ∀ (v336 : IVec S16 32) (k0_hw646 : k0_chk646 v336), ∀ a x, ((![v336] : Fin 1 → IVec S16 32) a x).toNat < S2000.size a := fun v336 k0_hw646 => k0_hw646

def k0_chk647 (v340 : IVec S16 32) : Prop :=
  (∀ a x, ((![v340] : Fin 1 → IVec S16 32) a x).toNat < S25600.size a)
theorem k0_idx647_inb : ∀ (v340 : IVec S16 32) (k0_hw647 : k0_chk647 v340), ∀ a x, ((![v340] : Fin 1 → IVec S16 32) a x).toNat < S25600.size a := fun v340 k0_hw647 => k0_hw647

def k0_chk648 (v341 : IVec S16 32) : Prop :=
  (∀ a x, ((![v341] : Fin 1 → IVec S16 32) a x).toNat < S2000.size a)
theorem k0_idx648_inb : ∀ (v341 : IVec S16 32) (k0_hw648 : k0_chk648 v341), ∀ a x, ((![v341] : Fin 1 → IVec S16 32) a x).toNat < S2000.size a := fun v341 k0_hw648 => k0_hw648

def k0_chk649 (v345 : IVec S16 32) : Prop :=
  (∀ a x, ((![v345] : Fin 1 → IVec S16 32) a x).toNat < S25600.size a)
theorem k0_idx649_inb : ∀ (v345 : IVec S16 32) (k0_hw649 : k0_chk649 v345), ∀ a x, ((![v345] : Fin 1 → IVec S16 32) a x).toNat < S25600.size a := fun v345 k0_hw649 => k0_hw649

def k0_chk650 (v346 : IVec S16 32) : Prop :=
  (∀ a x, ((![v346] : Fin 1 → IVec S16 32) a x).toNat < S2000.size a)
theorem k0_idx650_inb : ∀ (v346 : IVec S16 32) (k0_hw650 : k0_chk650 v346), ∀ a x, ((![v346] : Fin 1 → IVec S16 32) a x).toNat < S2000.size a := fun v346 k0_hw650 => k0_hw650

def k0_chk651 (v350 : IVec S16 32) : Prop :=
  (∀ a x, ((![v350] : Fin 1 → IVec S16 32) a x).toNat < S25600.size a)
theorem k0_idx651_inb : ∀ (v350 : IVec S16 32) (k0_hw651 : k0_chk651 v350), ∀ a x, ((![v350] : Fin 1 → IVec S16 32) a x).toNat < S25600.size a := fun v350 k0_hw651 => k0_hw651

def k0_chk652 (v351 : IVec S16 32) : Prop :=
  (∀ a x, ((![v351] : Fin 1 → IVec S16 32) a x).toNat < S2000.size a)
theorem k0_idx652_inb : ∀ (v351 : IVec S16 32) (k0_hw652 : k0_chk652 v351), ∀ a x, ((![v351] : Fin 1 → IVec S16 32) a x).toNat < S2000.size a := fun v351 k0_hw652 => k0_hw652

def k0_chk653 (v355 : IVec S16 32) : Prop :=
  (∀ a x, ((![v355] : Fin 1 → IVec S16 32) a x).toNat < S25600.size a)
theorem k0_idx653_inb : ∀ (v355 : IVec S16 32) (k0_hw653 : k0_chk653 v355), ∀ a x, ((![v355] : Fin 1 → IVec S16 32) a x).toNat < S25600.size a := fun v355 k0_hw653 => k0_hw653

def k0_chk654 (v356 : IVec S16 32) : Prop :=
  (∀ a x, ((![v356] : Fin 1 → IVec S16 32) a x).toNat < S2000.size a)
theorem k0_idx654_inb : ∀ (v356 : IVec S16 32) (k0_hw654 : k0_chk654 v356), ∀ a x, ((![v356] : Fin 1 → IVec S16 32) a x).toNat < S2000.size a := fun v356 k0_hw654 => k0_hw654

def k0_chk655 (v360 : IVec S16 32) : Prop :=
  (∀ a x, ((![v360] : Fin 1 → IVec S16 32) a x).toNat < S25600.size a)
theorem k0_idx655_inb : ∀ (v360 : IVec S16 32) (k0_hw655 : k0_chk655 v360), ∀ a x, ((![v360] : Fin 1 → IVec S16 32) a x).toNat < S25600.size a := fun v360 k0_hw655 => k0_hw655

def k0_chk656 (v361 : IVec S16 32) : Prop :=
  (∀ a x, ((![v361] : Fin 1 → IVec S16 32) a x).toNat < S2000.size a)
theorem k0_idx656_inb : ∀ (v361 : IVec S16 32) (k0_hw656 : k0_chk656 v361), ∀ a x, ((![v361] : Fin 1 → IVec S16 32) a x).toNat < S2000.size a := fun v361 k0_hw656 => k0_hw656

def k0_chk657 (v365 : IVec S16 32) : Prop :=
  (∀ a x, ((![v365] : Fin 1 → IVec S16 32) a x).toNat < S25600.size a)
theorem k0_idx657_inb : ∀ (v365 : IVec S16 32) (k0_hw657 : k0_chk657 v365), ∀ a x, ((![v365] : Fin 1 → IVec S16 32) a x).toNat < S25600.size a := fun v365 k0_hw657 => k0_hw657

def k0_chk658 (v366 : IVec S16 32) : Prop :=
  (∀ a x, ((![v366] : Fin 1 → IVec S16 32) a x).toNat < S2000.size a)
theorem k0_idx658_inb : ∀ (v366 : IVec S16 32) (k0_hw658 : k0_chk658 v366), ∀ a x, ((![v366] : Fin 1 → IVec S16 32) a x).toNat < S2000.size a := fun v366 k0_hw658 => k0_hw658

def k0_chk659 (v370 : IVec S16 32) : Prop :=
  (∀ a x, ((![v370] : Fin 1 → IVec S16 32) a x).toNat < S25600.size a)
theorem k0_idx659_inb : ∀ (v370 : IVec S16 32) (k0_hw659 : k0_chk659 v370), ∀ a x, ((![v370] : Fin 1 → IVec S16 32) a x).toNat < S25600.size a := fun v370 k0_hw659 => k0_hw659

def k0_chk660 (v371 : IVec S16 32) : Prop :=
  (∀ a x, ((![v371] : Fin 1 → IVec S16 32) a x).toNat < S2000.size a)
theorem k0_idx660_inb : ∀ (v371 : IVec S16 32) (k0_hw660 : k0_chk660 v371), ∀ a x, ((![v371] : Fin 1 → IVec S16 32) a x).toNat < S2000.size a := fun v371 k0_hw660 => k0_hw660

def k0_chk661 (v375 : IVec S16 32) : Prop :=
  (∀ a x, ((![v375] : Fin 1 → IVec S16 32) a x).toNat < S25600.size a)
theorem k0_idx661_inb : ∀ (v375 : IVec S16 32) (k0_hw661 : k0_chk661 v375), ∀ a x, ((![v375] : Fin 1 → IVec S16 32) a x).toNat < S25600.size a := fun v375 k0_hw661 => k0_hw661

def k0_chk662 (v376 : IVec S16 32) : Prop :=
  (∀ a x, ((![v376] : Fin 1 → IVec S16 32) a x).toNat < S2000.size a)
theorem k0_idx662_inb : ∀ (v376 : IVec S16 32) (k0_hw662 : k0_chk662 v376), ∀ a x, ((![v376] : Fin 1 → IVec S16 32) a x).toNat < S2000.size a := fun v376 k0_hw662 => k0_hw662

def k0_chk663 (v380 : IVec S16 32) : Prop :=
  (∀ a x, ((![v380] : Fin 1 → IVec S16 32) a x).toNat < S25600.size a)
theorem k0_idx663_inb : ∀ (v380 : IVec S16 32) (k0_hw663 : k0_chk663 v380), ∀ a x, ((![v380] : Fin 1 → IVec S16 32) a x).toNat < S25600.size a := fun v380 k0_hw663 => k0_hw663

def k0_chk664 (v381 : IVec S16 32) : Prop :=
  (∀ a x, ((![v381] : Fin 1 → IVec S16 32) a x).toNat < S2000.size a)
theorem k0_idx664_inb : ∀ (v381 : IVec S16 32) (k0_hw664 : k0_chk664 v381), ∀ a x, ((![v381] : Fin 1 → IVec S16 32) a x).toNat < S2000.size a := fun v381 k0_hw664 => k0_hw664

def k0_chk665 (v385 : IVec S16 32) : Prop :=
  (∀ a x, ((![v385] : Fin 1 → IVec S16 32) a x).toNat < S25600.size a)
theorem k0_idx665_inb : ∀ (v385 : IVec S16 32) (k0_hw665 : k0_chk665 v385), ∀ a x, ((![v385] : Fin 1 → IVec S16 32) a x).toNat < S25600.size a := fun v385 k0_hw665 => k0_hw665

def k0_chk666 (v386 : IVec S16 32) : Prop :=
  (∀ a x, ((![v386] : Fin 1 → IVec S16 32) a x).toNat < S2000.size a)
theorem k0_idx666_inb : ∀ (v386 : IVec S16 32) (k0_hw666 : k0_chk666 v386), ∀ a x, ((![v386] : Fin 1 → IVec S16 32) a x).toNat < S2000.size a := fun v386 k0_hw666 => k0_hw666

def k0_chk667 (v390 : IVec S16 32) : Prop :=
  (∀ a x, ((![v390] : Fin 1 → IVec S16 32) a x).toNat < S25600.size a)
theorem k0_idx667_inb : ∀ (v390 : IVec S16 32) (k0_hw667 : k0_chk667 v390), ∀ a x, ((![v390] : Fin 1 → IVec S16 32) a x).toNat < S25600.size a := fun v390 k0_hw667 => k0_hw667

def k0_chk668 (v391 : IVec S16 32) : Prop :=
  (∀ a x, ((![v391] : Fin 1 → IVec S16 32) a x).toNat < S2000.size a)
theorem k0_idx668_inb : ∀ (v391 : IVec S16 32) (k0_hw668 : k0_chk668 v391), ∀ a x, ((![v391] : Fin 1 → IVec S16 32) a x).toNat < S2000.size a := fun v391 k0_hw668 => k0_hw668

def k0_chk669 (v395 : IVec S16 32) : Prop :=
  (∀ a x, ((![v395] : Fin 1 → IVec S16 32) a x).toNat < S25600.size a)
theorem k0_idx669_inb : ∀ (v395 : IVec S16 32) (k0_hw669 : k0_chk669 v395), ∀ a x, ((![v395] : Fin 1 → IVec S16 32) a x).toNat < S25600.size a := fun v395 k0_hw669 => k0_hw669

def k0_chk670 (v396 : IVec S16 32) : Prop :=
  (∀ a x, ((![v396] : Fin 1 → IVec S16 32) a x).toNat < S2000.size a)
theorem k0_idx670_inb : ∀ (v396 : IVec S16 32) (k0_hw670 : k0_chk670 v396), ∀ a x, ((![v396] : Fin 1 → IVec S16 32) a x).toNat < S2000.size a := fun v396 k0_hw670 => k0_hw670

def k0_chk671 (v400 : IVec S16 32) : Prop :=
  (∀ a x, ((![v400] : Fin 1 → IVec S16 32) a x).toNat < S25600.size a)
theorem k0_idx671_inb : ∀ (v400 : IVec S16 32) (k0_hw671 : k0_chk671 v400), ∀ a x, ((![v400] : Fin 1 → IVec S16 32) a x).toNat < S25600.size a := fun v400 k0_hw671 => k0_hw671

def k0_chk672 (v401 : IVec S16 32) : Prop :=
  (∀ a x, ((![v401] : Fin 1 → IVec S16 32) a x).toNat < S2000.size a)
theorem k0_idx672_inb : ∀ (v401 : IVec S16 32) (k0_hw672 : k0_chk672 v401), ∀ a x, ((![v401] : Fin 1 → IVec S16 32) a x).toNat < S2000.size a := fun v401 k0_hw672 => k0_hw672

def k0_chk673 (v405 : IVec S16 32) : Prop :=
  (∀ a x, ((![v405] : Fin 1 → IVec S16 32) a x).toNat < S25600.size a)
theorem k0_idx673_inb : ∀ (v405 : IVec S16 32) (k0_hw673 : k0_chk673 v405), ∀ a x, ((![v405] : Fin 1 → IVec S16 32) a x).toNat < S25600.size a := fun v405 k0_hw673 => k0_hw673

def k0_chk674 (v406 : IVec S16 32) : Prop :=
  (∀ a x, ((![v406] : Fin 1 → IVec S16 32) a x).toNat < S2000.size a)
theorem k0_idx674_inb : ∀ (v406 : IVec S16 32) (k0_hw674 : k0_chk674 v406), ∀ a x, ((![v406] : Fin 1 → IVec S16 32) a x).toNat < S2000.size a := fun v406 k0_hw674 => k0_hw674

def k0_chk675 (v410 : IVec S16 32) : Prop :=
  (∀ a x, ((![v410] : Fin 1 → IVec S16 32) a x).toNat < S25600.size a)
theorem k0_idx675_inb : ∀ (v410 : IVec S16 32) (k0_hw675 : k0_chk675 v410), ∀ a x, ((![v410] : Fin 1 → IVec S16 32) a x).toNat < S25600.size a := fun v410 k0_hw675 => k0_hw675

def k0_chk676 (v411 : IVec S16 32) : Prop :=
  (∀ a x, ((![v411] : Fin 1 → IVec S16 32) a x).toNat < S2000.size a)
theorem k0_idx676_inb : ∀ (v411 : IVec S16 32) (k0_hw676 : k0_chk676 v411), ∀ a x, ((![v411] : Fin 1 → IVec S16 32) a x).toNat < S2000.size a := fun v411 k0_hw676 => k0_hw676

def k0_chk677 (v415 : IVec S16 32) : Prop :=
  (∀ a x, ((![v415] : Fin 1 → IVec S16 32) a x).toNat < S25600.size a)
theorem k0_idx677_inb : ∀ (v415 : IVec S16 32) (k0_hw677 : k0_chk677 v415), ∀ a x, ((![v415] : Fin 1 → IVec S16 32) a x).toNat < S25600.size a := fun v415 k0_hw677 => k0_hw677

def k0_chk678 (v416 : IVec S16 32) : Prop :=
  (∀ a x, ((![v416] : Fin 1 → IVec S16 32) a x).toNat < S2000.size a)
theorem k0_idx678_inb : ∀ (v416 : IVec S16 32) (k0_hw678 : k0_chk678 v416), ∀ a x, ((![v416] : Fin 1 → IVec S16 32) a x).toNat < S2000.size a := fun v416 k0_hw678 => k0_hw678

def k0_chk679 (v420 : IVec S16 32) : Prop :=
  (∀ a x, ((![v420] : Fin 1 → IVec S16 32) a x).toNat < S25600.size a)
theorem k0_idx679_inb : ∀ (v420 : IVec S16 32) (k0_hw679 : k0_chk679 v420), ∀ a x, ((![v420] : Fin 1 → IVec S16 32) a x).toNat < S25600.size a := fun v420 k0_hw679 => k0_hw679

def k0_chk680 (v421 : IVec S16 32) : Prop :=
  (∀ a x, ((![v421] : Fin 1 → IVec S16 32) a x).toNat < S2000.size a)
theorem k0_idx680_inb : ∀ (v421 : IVec S16 32) (k0_hw680 : k0_chk680 v421), ∀ a x, ((![v421] : Fin 1 → IVec S16 32) a x).toNat < S2000.size a := fun v421 k0_hw680 => k0_hw680

def k0_chk681 (v428 : IVec S16 32) : Prop :=
  (∀ a x, ((![v428] : Fin 1 → IVec S16 32) a x).toNat < S8192.size a)
theorem k0_idx681_inb : ∀ (v428 : IVec S16 32) (k0_hw681 : k0_chk681 v428), ∀ a x, ((![v428] : Fin 1 → IVec S16 32) a x).toNat < S8192.size a := fun v428 k0_hw681 => k0_hw681

def k0_chk682 (v434 : IVec S16 32) : Prop :=
  (∀ a x, ((![v434] : Fin 1 → IVec S16 32) a x).toNat < S8192.size a)
theorem k0_idx682_inb : ∀ (v434 : IVec S16 32) (k0_hw682 : k0_chk682 v434), ∀ a x, ((![v434] : Fin 1 → IVec S16 32) a x).toNat < S8192.size a := fun v434 k0_hw682 => k0_hw682

def k0_chk683 (v440 : IVec S16 32) : Prop :=
  (∀ a x, ((![v440] : Fin 1 → IVec S16 32) a x).toNat < S8192.size a)
theorem k0_idx683_inb : ∀ (v440 : IVec S16 32) (k0_hw683 : k0_chk683 v440), ∀ a x, ((![v440] : Fin 1 → IVec S16 32) a x).toNat < S8192.size a := fun v440 k0_hw683 => k0_hw683

def k0_chk684 (v446 : IVec S16 32) : Prop :=
  (∀ a x, ((![v446] : Fin 1 → IVec S16 32) a x).toNat < S8192.size a)
theorem k0_idx684_inb : ∀ (v446 : IVec S16 32) (k0_hw684 : k0_chk684 v446), ∀ a x, ((![v446] : Fin 1 → IVec S16 32) a x).toNat < S8192.size a := fun v446 k0_hw684 => k0_hw684

def k0_chk685 (v452 : IVec S16 32) : Prop :=
  (∀ a x, ((![v452] : Fin 1 → IVec S16 32) a x).toNat < S8192.size a)
theorem k0_idx685_inb : ∀ (v452 : IVec S16 32) (k0_hw685 : k0_chk685 v452), ∀ a x, ((![v452] : Fin 1 → IVec S16 32) a x).toNat < S8192.size a := fun v452 k0_hw685 => k0_hw685

def k0_chk686 (v458 : IVec S16 32) : Prop :=
  (∀ a x, ((![v458] : Fin 1 → IVec S16 32) a x).toNat < S8192.size a)
theorem k0_idx686_inb : ∀ (v458 : IVec S16 32) (k0_hw686 : k0_chk686 v458), ∀ a x, ((![v458] : Fin 1 → IVec S16 32) a x).toNat < S8192.size a := fun v458 k0_hw686 => k0_hw686

def k0_chk687 (v464 : IVec S16 32) : Prop :=
  (∀ a x, ((![v464] : Fin 1 → IVec S16 32) a x).toNat < S8192.size a)
theorem k0_idx687_inb : ∀ (v464 : IVec S16 32) (k0_hw687 : k0_chk687 v464), ∀ a x, ((![v464] : Fin 1 → IVec S16 32) a x).toNat < S8192.size a := fun v464 k0_hw687 => k0_hw687

def k0_chk688 (v470 : IVec S16 32) : Prop :=
  (∀ a x, ((![v470] : Fin 1 → IVec S16 32) a x).toNat < S8192.size a)
theorem k0_idx688_inb : ∀ (v470 : IVec S16 32) (k0_hw688 : k0_chk688 v470), ∀ a x, ((![v470] : Fin 1 → IVec S16 32) a x).toNat < S8192.size a := fun v470 k0_hw688 => k0_hw688

def k0_chk689 (v476 : IVec S16 32) : Prop :=
  (∀ a x, ((![v476] : Fin 1 → IVec S16 32) a x).toNat < S8192.size a)
theorem k0_idx689_inb : ∀ (v476 : IVec S16 32) (k0_hw689 : k0_chk689 v476), ∀ a x, ((![v476] : Fin 1 → IVec S16 32) a x).toNat < S8192.size a := fun v476 k0_hw689 => k0_hw689

def k0_chk690 (v482 : IVec S16 32) : Prop :=
  (∀ a x, ((![v482] : Fin 1 → IVec S16 32) a x).toNat < S8192.size a)
theorem k0_idx690_inb : ∀ (v482 : IVec S16 32) (k0_hw690 : k0_chk690 v482), ∀ a x, ((![v482] : Fin 1 → IVec S16 32) a x).toNat < S8192.size a := fun v482 k0_hw690 => k0_hw690

def k0_chk691 (v488 : IVec S16 32) : Prop :=
  (∀ a x, ((![v488] : Fin 1 → IVec S16 32) a x).toNat < S8192.size a)
theorem k0_idx691_inb : ∀ (v488 : IVec S16 32) (k0_hw691 : k0_chk691 v488), ∀ a x, ((![v488] : Fin 1 → IVec S16 32) a x).toNat < S8192.size a := fun v488 k0_hw691 => k0_hw691

def k0_chk692 (v494 : IVec S16 32) : Prop :=
  (∀ a x, ((![v494] : Fin 1 → IVec S16 32) a x).toNat < S8192.size a)
theorem k0_idx692_inb : ∀ (v494 : IVec S16 32) (k0_hw692 : k0_chk692 v494), ∀ a x, ((![v494] : Fin 1 → IVec S16 32) a x).toNat < S8192.size a := fun v494 k0_hw692 => k0_hw692

def k0_chk693 (v500 : IVec S16 32) : Prop :=
  (∀ a x, ((![v500] : Fin 1 → IVec S16 32) a x).toNat < S8192.size a)
theorem k0_idx693_inb : ∀ (v500 : IVec S16 32) (k0_hw693 : k0_chk693 v500), ∀ a x, ((![v500] : Fin 1 → IVec S16 32) a x).toNat < S8192.size a := fun v500 k0_hw693 => k0_hw693

def k0_chk694 (v506 : IVec S16 32) : Prop :=
  (∀ a x, ((![v506] : Fin 1 → IVec S16 32) a x).toNat < S8192.size a)
theorem k0_idx694_inb : ∀ (v506 : IVec S16 32) (k0_hw694 : k0_chk694 v506), ∀ a x, ((![v506] : Fin 1 → IVec S16 32) a x).toNat < S8192.size a := fun v506 k0_hw694 => k0_hw694

def k0_chk695 (v512 : IVec S16 32) : Prop :=
  (∀ a x, ((![v512] : Fin 1 → IVec S16 32) a x).toNat < S8192.size a)
theorem k0_idx695_inb : ∀ (v512 : IVec S16 32) (k0_hw695 : k0_chk695 v512), ∀ a x, ((![v512] : Fin 1 → IVec S16 32) a x).toNat < S8192.size a := fun v512 k0_hw695 => k0_hw695

def k0_chk696 (v518 : IVec S16 32) : Prop :=
  (∀ a x, ((![v518] : Fin 1 → IVec S16 32) a x).toNat < S8192.size a)
theorem k0_idx696_inb : ∀ (v518 : IVec S16 32) (k0_hw696 : k0_chk696 v518), ∀ a x, ((![v518] : Fin 1 → IVec S16 32) a x).toNat < S8192.size a := fun v518 k0_hw696 => k0_hw696
@[reducible] def k0_t7_loop : Scf.Loop 32 :=
  let c0_i32_56 : BitVec 32 := 0#32
  let c32_i32_57 : BitVec 32 := 32#32
  let v160 : BitVec 32 := Scalar.addi c0_i32_56 c32_i32_57
  let c1_i32_58 : BitVec 32 := 1#32
  ⟨c0_i32_56, v160, c1_i32_58⟩

def k0_chk697 (v175 : IVec S16 32) : Prop :=
  (∀ a x, ((![v175] : Fin 1 → IVec S16 32) a x).toNat < S25600.size a)
theorem k0_idx697_inb : ∀ (v175 : IVec S16 32) (k0_hw697 : k0_chk697 v175), ∀ a x, ((![v175] : Fin 1 → IVec S16 32) a x).toNat < S25600.size a := fun v175 k0_hw697 => k0_hw697

def k0_chk698 (v176 : IVec S16 32) : Prop :=
  (∀ a x, ((![v176] : Fin 1 → IVec S16 32) a x).toNat < S2000.size a)
theorem k0_idx698_inb : ∀ (v176 : IVec S16 32) (k0_hw698 : k0_chk698 v176), ∀ a x, ((![v176] : Fin 1 → IVec S16 32) a x).toNat < S2000.size a := fun v176 k0_hw698 => k0_hw698

def k0_chk699 (v180 : IVec S16 32) : Prop :=
  (∀ a x, ((![v180] : Fin 1 → IVec S16 32) a x).toNat < S25600.size a)
theorem k0_idx699_inb : ∀ (v180 : IVec S16 32) (k0_hw699 : k0_chk699 v180), ∀ a x, ((![v180] : Fin 1 → IVec S16 32) a x).toNat < S25600.size a := fun v180 k0_hw699 => k0_hw699

def k0_chk700 (v181 : IVec S16 32) : Prop :=
  (∀ a x, ((![v181] : Fin 1 → IVec S16 32) a x).toNat < S2000.size a)
theorem k0_idx700_inb : ∀ (v181 : IVec S16 32) (k0_hw700 : k0_chk700 v181), ∀ a x, ((![v181] : Fin 1 → IVec S16 32) a x).toNat < S2000.size a := fun v181 k0_hw700 => k0_hw700

def k0_chk701 (v185 : IVec S16 32) : Prop :=
  (∀ a x, ((![v185] : Fin 1 → IVec S16 32) a x).toNat < S25600.size a)
theorem k0_idx701_inb : ∀ (v185 : IVec S16 32) (k0_hw701 : k0_chk701 v185), ∀ a x, ((![v185] : Fin 1 → IVec S16 32) a x).toNat < S25600.size a := fun v185 k0_hw701 => k0_hw701

def k0_chk702 (v186 : IVec S16 32) : Prop :=
  (∀ a x, ((![v186] : Fin 1 → IVec S16 32) a x).toNat < S2000.size a)
theorem k0_idx702_inb : ∀ (v186 : IVec S16 32) (k0_hw702 : k0_chk702 v186), ∀ a x, ((![v186] : Fin 1 → IVec S16 32) a x).toNat < S2000.size a := fun v186 k0_hw702 => k0_hw702

def k0_chk703 (v190 : IVec S16 32) : Prop :=
  (∀ a x, ((![v190] : Fin 1 → IVec S16 32) a x).toNat < S25600.size a)
theorem k0_idx703_inb : ∀ (v190 : IVec S16 32) (k0_hw703 : k0_chk703 v190), ∀ a x, ((![v190] : Fin 1 → IVec S16 32) a x).toNat < S25600.size a := fun v190 k0_hw703 => k0_hw703

def k0_chk704 (v191 : IVec S16 32) : Prop :=
  (∀ a x, ((![v191] : Fin 1 → IVec S16 32) a x).toNat < S2000.size a)
theorem k0_idx704_inb : ∀ (v191 : IVec S16 32) (k0_hw704 : k0_chk704 v191), ∀ a x, ((![v191] : Fin 1 → IVec S16 32) a x).toNat < S2000.size a := fun v191 k0_hw704 => k0_hw704

def k0_chk705 (v195 : IVec S16 32) : Prop :=
  (∀ a x, ((![v195] : Fin 1 → IVec S16 32) a x).toNat < S25600.size a)
theorem k0_idx705_inb : ∀ (v195 : IVec S16 32) (k0_hw705 : k0_chk705 v195), ∀ a x, ((![v195] : Fin 1 → IVec S16 32) a x).toNat < S25600.size a := fun v195 k0_hw705 => k0_hw705

def k0_chk706 (v196 : IVec S16 32) : Prop :=
  (∀ a x, ((![v196] : Fin 1 → IVec S16 32) a x).toNat < S2000.size a)
theorem k0_idx706_inb : ∀ (v196 : IVec S16 32) (k0_hw706 : k0_chk706 v196), ∀ a x, ((![v196] : Fin 1 → IVec S16 32) a x).toNat < S2000.size a := fun v196 k0_hw706 => k0_hw706

def k0_chk707 (v200 : IVec S16 32) : Prop :=
  (∀ a x, ((![v200] : Fin 1 → IVec S16 32) a x).toNat < S25600.size a)
theorem k0_idx707_inb : ∀ (v200 : IVec S16 32) (k0_hw707 : k0_chk707 v200), ∀ a x, ((![v200] : Fin 1 → IVec S16 32) a x).toNat < S25600.size a := fun v200 k0_hw707 => k0_hw707

def k0_chk708 (v201 : IVec S16 32) : Prop :=
  (∀ a x, ((![v201] : Fin 1 → IVec S16 32) a x).toNat < S2000.size a)
theorem k0_idx708_inb : ∀ (v201 : IVec S16 32) (k0_hw708 : k0_chk708 v201), ∀ a x, ((![v201] : Fin 1 → IVec S16 32) a x).toNat < S2000.size a := fun v201 k0_hw708 => k0_hw708

def k0_chk709 (v205 : IVec S16 32) : Prop :=
  (∀ a x, ((![v205] : Fin 1 → IVec S16 32) a x).toNat < S25600.size a)
theorem k0_idx709_inb : ∀ (v205 : IVec S16 32) (k0_hw709 : k0_chk709 v205), ∀ a x, ((![v205] : Fin 1 → IVec S16 32) a x).toNat < S25600.size a := fun v205 k0_hw709 => k0_hw709

def k0_chk710 (v206 : IVec S16 32) : Prop :=
  (∀ a x, ((![v206] : Fin 1 → IVec S16 32) a x).toNat < S2000.size a)
theorem k0_idx710_inb : ∀ (v206 : IVec S16 32) (k0_hw710 : k0_chk710 v206), ∀ a x, ((![v206] : Fin 1 → IVec S16 32) a x).toNat < S2000.size a := fun v206 k0_hw710 => k0_hw710

def k0_chk711 (v210 : IVec S16 32) : Prop :=
  (∀ a x, ((![v210] : Fin 1 → IVec S16 32) a x).toNat < S25600.size a)
theorem k0_idx711_inb : ∀ (v210 : IVec S16 32) (k0_hw711 : k0_chk711 v210), ∀ a x, ((![v210] : Fin 1 → IVec S16 32) a x).toNat < S25600.size a := fun v210 k0_hw711 => k0_hw711

def k0_chk712 (v211 : IVec S16 32) : Prop :=
  (∀ a x, ((![v211] : Fin 1 → IVec S16 32) a x).toNat < S2000.size a)
theorem k0_idx712_inb : ∀ (v211 : IVec S16 32) (k0_hw712 : k0_chk712 v211), ∀ a x, ((![v211] : Fin 1 → IVec S16 32) a x).toNat < S2000.size a := fun v211 k0_hw712 => k0_hw712

def k0_chk713 (v215 : IVec S16 32) : Prop :=
  (∀ a x, ((![v215] : Fin 1 → IVec S16 32) a x).toNat < S25600.size a)
theorem k0_idx713_inb : ∀ (v215 : IVec S16 32) (k0_hw713 : k0_chk713 v215), ∀ a x, ((![v215] : Fin 1 → IVec S16 32) a x).toNat < S25600.size a := fun v215 k0_hw713 => k0_hw713

def k0_chk714 (v216 : IVec S16 32) : Prop :=
  (∀ a x, ((![v216] : Fin 1 → IVec S16 32) a x).toNat < S2000.size a)
theorem k0_idx714_inb : ∀ (v216 : IVec S16 32) (k0_hw714 : k0_chk714 v216), ∀ a x, ((![v216] : Fin 1 → IVec S16 32) a x).toNat < S2000.size a := fun v216 k0_hw714 => k0_hw714

def k0_chk715 (v220 : IVec S16 32) : Prop :=
  (∀ a x, ((![v220] : Fin 1 → IVec S16 32) a x).toNat < S25600.size a)
theorem k0_idx715_inb : ∀ (v220 : IVec S16 32) (k0_hw715 : k0_chk715 v220), ∀ a x, ((![v220] : Fin 1 → IVec S16 32) a x).toNat < S25600.size a := fun v220 k0_hw715 => k0_hw715

def k0_chk716 (v221 : IVec S16 32) : Prop :=
  (∀ a x, ((![v221] : Fin 1 → IVec S16 32) a x).toNat < S2000.size a)
theorem k0_idx716_inb : ∀ (v221 : IVec S16 32) (k0_hw716 : k0_chk716 v221), ∀ a x, ((![v221] : Fin 1 → IVec S16 32) a x).toNat < S2000.size a := fun v221 k0_hw716 => k0_hw716

def k0_chk717 (v225 : IVec S16 32) : Prop :=
  (∀ a x, ((![v225] : Fin 1 → IVec S16 32) a x).toNat < S25600.size a)
theorem k0_idx717_inb : ∀ (v225 : IVec S16 32) (k0_hw717 : k0_chk717 v225), ∀ a x, ((![v225] : Fin 1 → IVec S16 32) a x).toNat < S25600.size a := fun v225 k0_hw717 => k0_hw717

def k0_chk718 (v226 : IVec S16 32) : Prop :=
  (∀ a x, ((![v226] : Fin 1 → IVec S16 32) a x).toNat < S2000.size a)
theorem k0_idx718_inb : ∀ (v226 : IVec S16 32) (k0_hw718 : k0_chk718 v226), ∀ a x, ((![v226] : Fin 1 → IVec S16 32) a x).toNat < S2000.size a := fun v226 k0_hw718 => k0_hw718

def k0_chk719 (v230 : IVec S16 32) : Prop :=
  (∀ a x, ((![v230] : Fin 1 → IVec S16 32) a x).toNat < S25600.size a)
theorem k0_idx719_inb : ∀ (v230 : IVec S16 32) (k0_hw719 : k0_chk719 v230), ∀ a x, ((![v230] : Fin 1 → IVec S16 32) a x).toNat < S25600.size a := fun v230 k0_hw719 => k0_hw719

def k0_chk720 (v231 : IVec S16 32) : Prop :=
  (∀ a x, ((![v231] : Fin 1 → IVec S16 32) a x).toNat < S2000.size a)
theorem k0_idx720_inb : ∀ (v231 : IVec S16 32) (k0_hw720 : k0_chk720 v231), ∀ a x, ((![v231] : Fin 1 → IVec S16 32) a x).toNat < S2000.size a := fun v231 k0_hw720 => k0_hw720

def k0_chk721 (v235 : IVec S16 32) : Prop :=
  (∀ a x, ((![v235] : Fin 1 → IVec S16 32) a x).toNat < S25600.size a)
theorem k0_idx721_inb : ∀ (v235 : IVec S16 32) (k0_hw721 : k0_chk721 v235), ∀ a x, ((![v235] : Fin 1 → IVec S16 32) a x).toNat < S25600.size a := fun v235 k0_hw721 => k0_hw721

def k0_chk722 (v236 : IVec S16 32) : Prop :=
  (∀ a x, ((![v236] : Fin 1 → IVec S16 32) a x).toNat < S2000.size a)
theorem k0_idx722_inb : ∀ (v236 : IVec S16 32) (k0_hw722 : k0_chk722 v236), ∀ a x, ((![v236] : Fin 1 → IVec S16 32) a x).toNat < S2000.size a := fun v236 k0_hw722 => k0_hw722

def k0_chk723 (v240 : IVec S16 32) : Prop :=
  (∀ a x, ((![v240] : Fin 1 → IVec S16 32) a x).toNat < S25600.size a)
theorem k0_idx723_inb : ∀ (v240 : IVec S16 32) (k0_hw723 : k0_chk723 v240), ∀ a x, ((![v240] : Fin 1 → IVec S16 32) a x).toNat < S25600.size a := fun v240 k0_hw723 => k0_hw723

def k0_chk724 (v241 : IVec S16 32) : Prop :=
  (∀ a x, ((![v241] : Fin 1 → IVec S16 32) a x).toNat < S2000.size a)
theorem k0_idx724_inb : ∀ (v241 : IVec S16 32) (k0_hw724 : k0_chk724 v241), ∀ a x, ((![v241] : Fin 1 → IVec S16 32) a x).toNat < S2000.size a := fun v241 k0_hw724 => k0_hw724

def k0_chk725 (v245 : IVec S16 32) : Prop :=
  (∀ a x, ((![v245] : Fin 1 → IVec S16 32) a x).toNat < S25600.size a)
theorem k0_idx725_inb : ∀ (v245 : IVec S16 32) (k0_hw725 : k0_chk725 v245), ∀ a x, ((![v245] : Fin 1 → IVec S16 32) a x).toNat < S25600.size a := fun v245 k0_hw725 => k0_hw725

def k0_chk726 (v246 : IVec S16 32) : Prop :=
  (∀ a x, ((![v246] : Fin 1 → IVec S16 32) a x).toNat < S2000.size a)
theorem k0_idx726_inb : ∀ (v246 : IVec S16 32) (k0_hw726 : k0_chk726 v246), ∀ a x, ((![v246] : Fin 1 → IVec S16 32) a x).toNat < S2000.size a := fun v246 k0_hw726 => k0_hw726

def k0_chk727 (v250 : IVec S16 32) : Prop :=
  (∀ a x, ((![v250] : Fin 1 → IVec S16 32) a x).toNat < S25600.size a)
theorem k0_idx727_inb : ∀ (v250 : IVec S16 32) (k0_hw727 : k0_chk727 v250), ∀ a x, ((![v250] : Fin 1 → IVec S16 32) a x).toNat < S25600.size a := fun v250 k0_hw727 => k0_hw727

def k0_chk728 (v251 : IVec S16 32) : Prop :=
  (∀ a x, ((![v251] : Fin 1 → IVec S16 32) a x).toNat < S2000.size a)
theorem k0_idx728_inb : ∀ (v251 : IVec S16 32) (k0_hw728 : k0_chk728 v251), ∀ a x, ((![v251] : Fin 1 → IVec S16 32) a x).toNat < S2000.size a := fun v251 k0_hw728 => k0_hw728

def k0_chk729 (v255 : IVec S16 32) : Prop :=
  (∀ a x, ((![v255] : Fin 1 → IVec S16 32) a x).toNat < S25600.size a)
theorem k0_idx729_inb : ∀ (v255 : IVec S16 32) (k0_hw729 : k0_chk729 v255), ∀ a x, ((![v255] : Fin 1 → IVec S16 32) a x).toNat < S25600.size a := fun v255 k0_hw729 => k0_hw729

def k0_chk730 (v256 : IVec S16 32) : Prop :=
  (∀ a x, ((![v256] : Fin 1 → IVec S16 32) a x).toNat < S2000.size a)
theorem k0_idx730_inb : ∀ (v256 : IVec S16 32) (k0_hw730 : k0_chk730 v256), ∀ a x, ((![v256] : Fin 1 → IVec S16 32) a x).toNat < S2000.size a := fun v256 k0_hw730 => k0_hw730

def k0_chk731 (v260 : IVec S16 32) : Prop :=
  (∀ a x, ((![v260] : Fin 1 → IVec S16 32) a x).toNat < S25600.size a)
theorem k0_idx731_inb : ∀ (v260 : IVec S16 32) (k0_hw731 : k0_chk731 v260), ∀ a x, ((![v260] : Fin 1 → IVec S16 32) a x).toNat < S25600.size a := fun v260 k0_hw731 => k0_hw731

def k0_chk732 (v261 : IVec S16 32) : Prop :=
  (∀ a x, ((![v261] : Fin 1 → IVec S16 32) a x).toNat < S2000.size a)
theorem k0_idx732_inb : ∀ (v261 : IVec S16 32) (k0_hw732 : k0_chk732 v261), ∀ a x, ((![v261] : Fin 1 → IVec S16 32) a x).toNat < S2000.size a := fun v261 k0_hw732 => k0_hw732

def k0_chk733 (v265 : IVec S16 32) : Prop :=
  (∀ a x, ((![v265] : Fin 1 → IVec S16 32) a x).toNat < S25600.size a)
theorem k0_idx733_inb : ∀ (v265 : IVec S16 32) (k0_hw733 : k0_chk733 v265), ∀ a x, ((![v265] : Fin 1 → IVec S16 32) a x).toNat < S25600.size a := fun v265 k0_hw733 => k0_hw733

def k0_chk734 (v266 : IVec S16 32) : Prop :=
  (∀ a x, ((![v266] : Fin 1 → IVec S16 32) a x).toNat < S2000.size a)
theorem k0_idx734_inb : ∀ (v266 : IVec S16 32) (k0_hw734 : k0_chk734 v266), ∀ a x, ((![v266] : Fin 1 → IVec S16 32) a x).toNat < S2000.size a := fun v266 k0_hw734 => k0_hw734

def k0_chk735 (v270 : IVec S16 32) : Prop :=
  (∀ a x, ((![v270] : Fin 1 → IVec S16 32) a x).toNat < S25600.size a)
theorem k0_idx735_inb : ∀ (v270 : IVec S16 32) (k0_hw735 : k0_chk735 v270), ∀ a x, ((![v270] : Fin 1 → IVec S16 32) a x).toNat < S25600.size a := fun v270 k0_hw735 => k0_hw735

def k0_chk736 (v271 : IVec S16 32) : Prop :=
  (∀ a x, ((![v271] : Fin 1 → IVec S16 32) a x).toNat < S2000.size a)
theorem k0_idx736_inb : ∀ (v271 : IVec S16 32) (k0_hw736 : k0_chk736 v271), ∀ a x, ((![v271] : Fin 1 → IVec S16 32) a x).toNat < S2000.size a := fun v271 k0_hw736 => k0_hw736

def k0_chk737 (v275 : IVec S16 32) : Prop :=
  (∀ a x, ((![v275] : Fin 1 → IVec S16 32) a x).toNat < S25600.size a)
theorem k0_idx737_inb : ∀ (v275 : IVec S16 32) (k0_hw737 : k0_chk737 v275), ∀ a x, ((![v275] : Fin 1 → IVec S16 32) a x).toNat < S25600.size a := fun v275 k0_hw737 => k0_hw737

def k0_chk738 (v276 : IVec S16 32) : Prop :=
  (∀ a x, ((![v276] : Fin 1 → IVec S16 32) a x).toNat < S2000.size a)
theorem k0_idx738_inb : ∀ (v276 : IVec S16 32) (k0_hw738 : k0_chk738 v276), ∀ a x, ((![v276] : Fin 1 → IVec S16 32) a x).toNat < S2000.size a := fun v276 k0_hw738 => k0_hw738

def k0_chk739 (v280 : IVec S16 32) : Prop :=
  (∀ a x, ((![v280] : Fin 1 → IVec S16 32) a x).toNat < S25600.size a)
theorem k0_idx739_inb : ∀ (v280 : IVec S16 32) (k0_hw739 : k0_chk739 v280), ∀ a x, ((![v280] : Fin 1 → IVec S16 32) a x).toNat < S25600.size a := fun v280 k0_hw739 => k0_hw739

def k0_chk740 (v281 : IVec S16 32) : Prop :=
  (∀ a x, ((![v281] : Fin 1 → IVec S16 32) a x).toNat < S2000.size a)
theorem k0_idx740_inb : ∀ (v281 : IVec S16 32) (k0_hw740 : k0_chk740 v281), ∀ a x, ((![v281] : Fin 1 → IVec S16 32) a x).toNat < S2000.size a := fun v281 k0_hw740 => k0_hw740

def k0_chk741 (v285 : IVec S16 32) : Prop :=
  (∀ a x, ((![v285] : Fin 1 → IVec S16 32) a x).toNat < S25600.size a)
theorem k0_idx741_inb : ∀ (v285 : IVec S16 32) (k0_hw741 : k0_chk741 v285), ∀ a x, ((![v285] : Fin 1 → IVec S16 32) a x).toNat < S25600.size a := fun v285 k0_hw741 => k0_hw741

def k0_chk742 (v286 : IVec S16 32) : Prop :=
  (∀ a x, ((![v286] : Fin 1 → IVec S16 32) a x).toNat < S2000.size a)
theorem k0_idx742_inb : ∀ (v286 : IVec S16 32) (k0_hw742 : k0_chk742 v286), ∀ a x, ((![v286] : Fin 1 → IVec S16 32) a x).toNat < S2000.size a := fun v286 k0_hw742 => k0_hw742

def k0_chk743 (v290 : IVec S16 32) : Prop :=
  (∀ a x, ((![v290] : Fin 1 → IVec S16 32) a x).toNat < S25600.size a)
theorem k0_idx743_inb : ∀ (v290 : IVec S16 32) (k0_hw743 : k0_chk743 v290), ∀ a x, ((![v290] : Fin 1 → IVec S16 32) a x).toNat < S25600.size a := fun v290 k0_hw743 => k0_hw743

def k0_chk744 (v291 : IVec S16 32) : Prop :=
  (∀ a x, ((![v291] : Fin 1 → IVec S16 32) a x).toNat < S2000.size a)
theorem k0_idx744_inb : ∀ (v291 : IVec S16 32) (k0_hw744 : k0_chk744 v291), ∀ a x, ((![v291] : Fin 1 → IVec S16 32) a x).toNat < S2000.size a := fun v291 k0_hw744 => k0_hw744

def k0_chk745 (v295 : IVec S16 32) : Prop :=
  (∀ a x, ((![v295] : Fin 1 → IVec S16 32) a x).toNat < S25600.size a)
theorem k0_idx745_inb : ∀ (v295 : IVec S16 32) (k0_hw745 : k0_chk745 v295), ∀ a x, ((![v295] : Fin 1 → IVec S16 32) a x).toNat < S25600.size a := fun v295 k0_hw745 => k0_hw745

def k0_chk746 (v296 : IVec S16 32) : Prop :=
  (∀ a x, ((![v296] : Fin 1 → IVec S16 32) a x).toNat < S2000.size a)
theorem k0_idx746_inb : ∀ (v296 : IVec S16 32) (k0_hw746 : k0_chk746 v296), ∀ a x, ((![v296] : Fin 1 → IVec S16 32) a x).toNat < S2000.size a := fun v296 k0_hw746 => k0_hw746

def k0_chk747 (v300 : IVec S16 32) : Prop :=
  (∀ a x, ((![v300] : Fin 1 → IVec S16 32) a x).toNat < S25600.size a)
theorem k0_idx747_inb : ∀ (v300 : IVec S16 32) (k0_hw747 : k0_chk747 v300), ∀ a x, ((![v300] : Fin 1 → IVec S16 32) a x).toNat < S25600.size a := fun v300 k0_hw747 => k0_hw747

def k0_chk748 (v301 : IVec S16 32) : Prop :=
  (∀ a x, ((![v301] : Fin 1 → IVec S16 32) a x).toNat < S2000.size a)
theorem k0_idx748_inb : ∀ (v301 : IVec S16 32) (k0_hw748 : k0_chk748 v301), ∀ a x, ((![v301] : Fin 1 → IVec S16 32) a x).toNat < S2000.size a := fun v301 k0_hw748 => k0_hw748

def k0_chk749 (v305 : IVec S16 32) : Prop :=
  (∀ a x, ((![v305] : Fin 1 → IVec S16 32) a x).toNat < S25600.size a)
theorem k0_idx749_inb : ∀ (v305 : IVec S16 32) (k0_hw749 : k0_chk749 v305), ∀ a x, ((![v305] : Fin 1 → IVec S16 32) a x).toNat < S25600.size a := fun v305 k0_hw749 => k0_hw749

def k0_chk750 (v306 : IVec S16 32) : Prop :=
  (∀ a x, ((![v306] : Fin 1 → IVec S16 32) a x).toNat < S2000.size a)
theorem k0_idx750_inb : ∀ (v306 : IVec S16 32) (k0_hw750 : k0_chk750 v306), ∀ a x, ((![v306] : Fin 1 → IVec S16 32) a x).toNat < S2000.size a := fun v306 k0_hw750 => k0_hw750

def k0_chk751 (v310 : IVec S16 32) : Prop :=
  (∀ a x, ((![v310] : Fin 1 → IVec S16 32) a x).toNat < S25600.size a)
theorem k0_idx751_inb : ∀ (v310 : IVec S16 32) (k0_hw751 : k0_chk751 v310), ∀ a x, ((![v310] : Fin 1 → IVec S16 32) a x).toNat < S25600.size a := fun v310 k0_hw751 => k0_hw751

def k0_chk752 (v311 : IVec S16 32) : Prop :=
  (∀ a x, ((![v311] : Fin 1 → IVec S16 32) a x).toNat < S2000.size a)
theorem k0_idx752_inb : ∀ (v311 : IVec S16 32) (k0_hw752 : k0_chk752 v311), ∀ a x, ((![v311] : Fin 1 → IVec S16 32) a x).toNat < S2000.size a := fun v311 k0_hw752 => k0_hw752

def k0_chk753 (v315 : IVec S16 32) : Prop :=
  (∀ a x, ((![v315] : Fin 1 → IVec S16 32) a x).toNat < S25600.size a)
theorem k0_idx753_inb : ∀ (v315 : IVec S16 32) (k0_hw753 : k0_chk753 v315), ∀ a x, ((![v315] : Fin 1 → IVec S16 32) a x).toNat < S25600.size a := fun v315 k0_hw753 => k0_hw753

def k0_chk754 (v316 : IVec S16 32) : Prop :=
  (∀ a x, ((![v316] : Fin 1 → IVec S16 32) a x).toNat < S2000.size a)
theorem k0_idx754_inb : ∀ (v316 : IVec S16 32) (k0_hw754 : k0_chk754 v316), ∀ a x, ((![v316] : Fin 1 → IVec S16 32) a x).toNat < S2000.size a := fun v316 k0_hw754 => k0_hw754

def k0_chk755 (v320 : IVec S16 32) : Prop :=
  (∀ a x, ((![v320] : Fin 1 → IVec S16 32) a x).toNat < S25600.size a)
theorem k0_idx755_inb : ∀ (v320 : IVec S16 32) (k0_hw755 : k0_chk755 v320), ∀ a x, ((![v320] : Fin 1 → IVec S16 32) a x).toNat < S25600.size a := fun v320 k0_hw755 => k0_hw755

def k0_chk756 (v321 : IVec S16 32) : Prop :=
  (∀ a x, ((![v321] : Fin 1 → IVec S16 32) a x).toNat < S2000.size a)
theorem k0_idx756_inb : ∀ (v321 : IVec S16 32) (k0_hw756 : k0_chk756 v321), ∀ a x, ((![v321] : Fin 1 → IVec S16 32) a x).toNat < S2000.size a := fun v321 k0_hw756 => k0_hw756

def k0_chk757 (v325 : IVec S16 32) : Prop :=
  (∀ a x, ((![v325] : Fin 1 → IVec S16 32) a x).toNat < S25600.size a)
theorem k0_idx757_inb : ∀ (v325 : IVec S16 32) (k0_hw757 : k0_chk757 v325), ∀ a x, ((![v325] : Fin 1 → IVec S16 32) a x).toNat < S25600.size a := fun v325 k0_hw757 => k0_hw757

def k0_chk758 (v326 : IVec S16 32) : Prop :=
  (∀ a x, ((![v326] : Fin 1 → IVec S16 32) a x).toNat < S2000.size a)
theorem k0_idx758_inb : ∀ (v326 : IVec S16 32) (k0_hw758 : k0_chk758 v326), ∀ a x, ((![v326] : Fin 1 → IVec S16 32) a x).toNat < S2000.size a := fun v326 k0_hw758 => k0_hw758

def k0_chk759 (v330 : IVec S16 32) : Prop :=
  (∀ a x, ((![v330] : Fin 1 → IVec S16 32) a x).toNat < S25600.size a)
theorem k0_idx759_inb : ∀ (v330 : IVec S16 32) (k0_hw759 : k0_chk759 v330), ∀ a x, ((![v330] : Fin 1 → IVec S16 32) a x).toNat < S25600.size a := fun v330 k0_hw759 => k0_hw759

def k0_chk760 (v331 : IVec S16 32) : Prop :=
  (∀ a x, ((![v331] : Fin 1 → IVec S16 32) a x).toNat < S2000.size a)
theorem k0_idx760_inb : ∀ (v331 : IVec S16 32) (k0_hw760 : k0_chk760 v331), ∀ a x, ((![v331] : Fin 1 → IVec S16 32) a x).toNat < S2000.size a := fun v331 k0_hw760 => k0_hw760

def k0_chk761 (v335 : IVec S16 32) : Prop :=
  (∀ a x, ((![v335] : Fin 1 → IVec S16 32) a x).toNat < S25600.size a)
theorem k0_idx761_inb : ∀ (v335 : IVec S16 32) (k0_hw761 : k0_chk761 v335), ∀ a x, ((![v335] : Fin 1 → IVec S16 32) a x).toNat < S25600.size a := fun v335 k0_hw761 => k0_hw761

def k0_chk762 (v336 : IVec S16 32) : Prop :=
  (∀ a x, ((![v336] : Fin 1 → IVec S16 32) a x).toNat < S2000.size a)
theorem k0_idx762_inb : ∀ (v336 : IVec S16 32) (k0_hw762 : k0_chk762 v336), ∀ a x, ((![v336] : Fin 1 → IVec S16 32) a x).toNat < S2000.size a := fun v336 k0_hw762 => k0_hw762

def k0_chk763 (v340 : IVec S16 32) : Prop :=
  (∀ a x, ((![v340] : Fin 1 → IVec S16 32) a x).toNat < S25600.size a)
theorem k0_idx763_inb : ∀ (v340 : IVec S16 32) (k0_hw763 : k0_chk763 v340), ∀ a x, ((![v340] : Fin 1 → IVec S16 32) a x).toNat < S25600.size a := fun v340 k0_hw763 => k0_hw763

def k0_chk764 (v341 : IVec S16 32) : Prop :=
  (∀ a x, ((![v341] : Fin 1 → IVec S16 32) a x).toNat < S2000.size a)
theorem k0_idx764_inb : ∀ (v341 : IVec S16 32) (k0_hw764 : k0_chk764 v341), ∀ a x, ((![v341] : Fin 1 → IVec S16 32) a x).toNat < S2000.size a := fun v341 k0_hw764 => k0_hw764

def k0_chk765 (v345 : IVec S16 32) : Prop :=
  (∀ a x, ((![v345] : Fin 1 → IVec S16 32) a x).toNat < S25600.size a)
theorem k0_idx765_inb : ∀ (v345 : IVec S16 32) (k0_hw765 : k0_chk765 v345), ∀ a x, ((![v345] : Fin 1 → IVec S16 32) a x).toNat < S25600.size a := fun v345 k0_hw765 => k0_hw765

def k0_chk766 (v346 : IVec S16 32) : Prop :=
  (∀ a x, ((![v346] : Fin 1 → IVec S16 32) a x).toNat < S2000.size a)
theorem k0_idx766_inb : ∀ (v346 : IVec S16 32) (k0_hw766 : k0_chk766 v346), ∀ a x, ((![v346] : Fin 1 → IVec S16 32) a x).toNat < S2000.size a := fun v346 k0_hw766 => k0_hw766

def k0_chk767 (v350 : IVec S16 32) : Prop :=
  (∀ a x, ((![v350] : Fin 1 → IVec S16 32) a x).toNat < S25600.size a)
theorem k0_idx767_inb : ∀ (v350 : IVec S16 32) (k0_hw767 : k0_chk767 v350), ∀ a x, ((![v350] : Fin 1 → IVec S16 32) a x).toNat < S25600.size a := fun v350 k0_hw767 => k0_hw767

def k0_chk768 (v351 : IVec S16 32) : Prop :=
  (∀ a x, ((![v351] : Fin 1 → IVec S16 32) a x).toNat < S2000.size a)
theorem k0_idx768_inb : ∀ (v351 : IVec S16 32) (k0_hw768 : k0_chk768 v351), ∀ a x, ((![v351] : Fin 1 → IVec S16 32) a x).toNat < S2000.size a := fun v351 k0_hw768 => k0_hw768

def k0_chk769 (v355 : IVec S16 32) : Prop :=
  (∀ a x, ((![v355] : Fin 1 → IVec S16 32) a x).toNat < S25600.size a)
theorem k0_idx769_inb : ∀ (v355 : IVec S16 32) (k0_hw769 : k0_chk769 v355), ∀ a x, ((![v355] : Fin 1 → IVec S16 32) a x).toNat < S25600.size a := fun v355 k0_hw769 => k0_hw769

def k0_chk770 (v356 : IVec S16 32) : Prop :=
  (∀ a x, ((![v356] : Fin 1 → IVec S16 32) a x).toNat < S2000.size a)
theorem k0_idx770_inb : ∀ (v356 : IVec S16 32) (k0_hw770 : k0_chk770 v356), ∀ a x, ((![v356] : Fin 1 → IVec S16 32) a x).toNat < S2000.size a := fun v356 k0_hw770 => k0_hw770

def k0_chk771 (v360 : IVec S16 32) : Prop :=
  (∀ a x, ((![v360] : Fin 1 → IVec S16 32) a x).toNat < S25600.size a)
theorem k0_idx771_inb : ∀ (v360 : IVec S16 32) (k0_hw771 : k0_chk771 v360), ∀ a x, ((![v360] : Fin 1 → IVec S16 32) a x).toNat < S25600.size a := fun v360 k0_hw771 => k0_hw771

def k0_chk772 (v361 : IVec S16 32) : Prop :=
  (∀ a x, ((![v361] : Fin 1 → IVec S16 32) a x).toNat < S2000.size a)
theorem k0_idx772_inb : ∀ (v361 : IVec S16 32) (k0_hw772 : k0_chk772 v361), ∀ a x, ((![v361] : Fin 1 → IVec S16 32) a x).toNat < S2000.size a := fun v361 k0_hw772 => k0_hw772

def k0_chk773 (v365 : IVec S16 32) : Prop :=
  (∀ a x, ((![v365] : Fin 1 → IVec S16 32) a x).toNat < S25600.size a)
theorem k0_idx773_inb : ∀ (v365 : IVec S16 32) (k0_hw773 : k0_chk773 v365), ∀ a x, ((![v365] : Fin 1 → IVec S16 32) a x).toNat < S25600.size a := fun v365 k0_hw773 => k0_hw773

def k0_chk774 (v366 : IVec S16 32) : Prop :=
  (∀ a x, ((![v366] : Fin 1 → IVec S16 32) a x).toNat < S2000.size a)
theorem k0_idx774_inb : ∀ (v366 : IVec S16 32) (k0_hw774 : k0_chk774 v366), ∀ a x, ((![v366] : Fin 1 → IVec S16 32) a x).toNat < S2000.size a := fun v366 k0_hw774 => k0_hw774

def k0_chk775 (v370 : IVec S16 32) : Prop :=
  (∀ a x, ((![v370] : Fin 1 → IVec S16 32) a x).toNat < S25600.size a)
theorem k0_idx775_inb : ∀ (v370 : IVec S16 32) (k0_hw775 : k0_chk775 v370), ∀ a x, ((![v370] : Fin 1 → IVec S16 32) a x).toNat < S25600.size a := fun v370 k0_hw775 => k0_hw775

def k0_chk776 (v371 : IVec S16 32) : Prop :=
  (∀ a x, ((![v371] : Fin 1 → IVec S16 32) a x).toNat < S2000.size a)
theorem k0_idx776_inb : ∀ (v371 : IVec S16 32) (k0_hw776 : k0_chk776 v371), ∀ a x, ((![v371] : Fin 1 → IVec S16 32) a x).toNat < S2000.size a := fun v371 k0_hw776 => k0_hw776

def k0_chk777 (v375 : IVec S16 32) : Prop :=
  (∀ a x, ((![v375] : Fin 1 → IVec S16 32) a x).toNat < S25600.size a)
theorem k0_idx777_inb : ∀ (v375 : IVec S16 32) (k0_hw777 : k0_chk777 v375), ∀ a x, ((![v375] : Fin 1 → IVec S16 32) a x).toNat < S25600.size a := fun v375 k0_hw777 => k0_hw777

def k0_chk778 (v376 : IVec S16 32) : Prop :=
  (∀ a x, ((![v376] : Fin 1 → IVec S16 32) a x).toNat < S2000.size a)
theorem k0_idx778_inb : ∀ (v376 : IVec S16 32) (k0_hw778 : k0_chk778 v376), ∀ a x, ((![v376] : Fin 1 → IVec S16 32) a x).toNat < S2000.size a := fun v376 k0_hw778 => k0_hw778

def k0_chk779 (v380 : IVec S16 32) : Prop :=
  (∀ a x, ((![v380] : Fin 1 → IVec S16 32) a x).toNat < S25600.size a)
theorem k0_idx779_inb : ∀ (v380 : IVec S16 32) (k0_hw779 : k0_chk779 v380), ∀ a x, ((![v380] : Fin 1 → IVec S16 32) a x).toNat < S25600.size a := fun v380 k0_hw779 => k0_hw779

def k0_chk780 (v381 : IVec S16 32) : Prop :=
  (∀ a x, ((![v381] : Fin 1 → IVec S16 32) a x).toNat < S2000.size a)
theorem k0_idx780_inb : ∀ (v381 : IVec S16 32) (k0_hw780 : k0_chk780 v381), ∀ a x, ((![v381] : Fin 1 → IVec S16 32) a x).toNat < S2000.size a := fun v381 k0_hw780 => k0_hw780

def k0_chk781 (v385 : IVec S16 32) : Prop :=
  (∀ a x, ((![v385] : Fin 1 → IVec S16 32) a x).toNat < S25600.size a)
theorem k0_idx781_inb : ∀ (v385 : IVec S16 32) (k0_hw781 : k0_chk781 v385), ∀ a x, ((![v385] : Fin 1 → IVec S16 32) a x).toNat < S25600.size a := fun v385 k0_hw781 => k0_hw781

def k0_chk782 (v386 : IVec S16 32) : Prop :=
  (∀ a x, ((![v386] : Fin 1 → IVec S16 32) a x).toNat < S2000.size a)
theorem k0_idx782_inb : ∀ (v386 : IVec S16 32) (k0_hw782 : k0_chk782 v386), ∀ a x, ((![v386] : Fin 1 → IVec S16 32) a x).toNat < S2000.size a := fun v386 k0_hw782 => k0_hw782

def k0_chk783 (v390 : IVec S16 32) : Prop :=
  (∀ a x, ((![v390] : Fin 1 → IVec S16 32) a x).toNat < S25600.size a)
theorem k0_idx783_inb : ∀ (v390 : IVec S16 32) (k0_hw783 : k0_chk783 v390), ∀ a x, ((![v390] : Fin 1 → IVec S16 32) a x).toNat < S25600.size a := fun v390 k0_hw783 => k0_hw783

def k0_chk784 (v391 : IVec S16 32) : Prop :=
  (∀ a x, ((![v391] : Fin 1 → IVec S16 32) a x).toNat < S2000.size a)
theorem k0_idx784_inb : ∀ (v391 : IVec S16 32) (k0_hw784 : k0_chk784 v391), ∀ a x, ((![v391] : Fin 1 → IVec S16 32) a x).toNat < S2000.size a := fun v391 k0_hw784 => k0_hw784

def k0_chk785 (v395 : IVec S16 32) : Prop :=
  (∀ a x, ((![v395] : Fin 1 → IVec S16 32) a x).toNat < S25600.size a)
theorem k0_idx785_inb : ∀ (v395 : IVec S16 32) (k0_hw785 : k0_chk785 v395), ∀ a x, ((![v395] : Fin 1 → IVec S16 32) a x).toNat < S25600.size a := fun v395 k0_hw785 => k0_hw785

def k0_chk786 (v396 : IVec S16 32) : Prop :=
  (∀ a x, ((![v396] : Fin 1 → IVec S16 32) a x).toNat < S2000.size a)
theorem k0_idx786_inb : ∀ (v396 : IVec S16 32) (k0_hw786 : k0_chk786 v396), ∀ a x, ((![v396] : Fin 1 → IVec S16 32) a x).toNat < S2000.size a := fun v396 k0_hw786 => k0_hw786

def k0_chk787 (v400 : IVec S16 32) : Prop :=
  (∀ a x, ((![v400] : Fin 1 → IVec S16 32) a x).toNat < S25600.size a)
theorem k0_idx787_inb : ∀ (v400 : IVec S16 32) (k0_hw787 : k0_chk787 v400), ∀ a x, ((![v400] : Fin 1 → IVec S16 32) a x).toNat < S25600.size a := fun v400 k0_hw787 => k0_hw787

def k0_chk788 (v401 : IVec S16 32) : Prop :=
  (∀ a x, ((![v401] : Fin 1 → IVec S16 32) a x).toNat < S2000.size a)
theorem k0_idx788_inb : ∀ (v401 : IVec S16 32) (k0_hw788 : k0_chk788 v401), ∀ a x, ((![v401] : Fin 1 → IVec S16 32) a x).toNat < S2000.size a := fun v401 k0_hw788 => k0_hw788

def k0_chk789 (v405 : IVec S16 32) : Prop :=
  (∀ a x, ((![v405] : Fin 1 → IVec S16 32) a x).toNat < S25600.size a)
theorem k0_idx789_inb : ∀ (v405 : IVec S16 32) (k0_hw789 : k0_chk789 v405), ∀ a x, ((![v405] : Fin 1 → IVec S16 32) a x).toNat < S25600.size a := fun v405 k0_hw789 => k0_hw789

def k0_chk790 (v406 : IVec S16 32) : Prop :=
  (∀ a x, ((![v406] : Fin 1 → IVec S16 32) a x).toNat < S2000.size a)
theorem k0_idx790_inb : ∀ (v406 : IVec S16 32) (k0_hw790 : k0_chk790 v406), ∀ a x, ((![v406] : Fin 1 → IVec S16 32) a x).toNat < S2000.size a := fun v406 k0_hw790 => k0_hw790

def k0_chk791 (v410 : IVec S16 32) : Prop :=
  (∀ a x, ((![v410] : Fin 1 → IVec S16 32) a x).toNat < S25600.size a)
theorem k0_idx791_inb : ∀ (v410 : IVec S16 32) (k0_hw791 : k0_chk791 v410), ∀ a x, ((![v410] : Fin 1 → IVec S16 32) a x).toNat < S25600.size a := fun v410 k0_hw791 => k0_hw791

def k0_chk792 (v411 : IVec S16 32) : Prop :=
  (∀ a x, ((![v411] : Fin 1 → IVec S16 32) a x).toNat < S2000.size a)
theorem k0_idx792_inb : ∀ (v411 : IVec S16 32) (k0_hw792 : k0_chk792 v411), ∀ a x, ((![v411] : Fin 1 → IVec S16 32) a x).toNat < S2000.size a := fun v411 k0_hw792 => k0_hw792

def k0_chk793 (v415 : IVec S16 32) : Prop :=
  (∀ a x, ((![v415] : Fin 1 → IVec S16 32) a x).toNat < S25600.size a)
theorem k0_idx793_inb : ∀ (v415 : IVec S16 32) (k0_hw793 : k0_chk793 v415), ∀ a x, ((![v415] : Fin 1 → IVec S16 32) a x).toNat < S25600.size a := fun v415 k0_hw793 => k0_hw793

def k0_chk794 (v416 : IVec S16 32) : Prop :=
  (∀ a x, ((![v416] : Fin 1 → IVec S16 32) a x).toNat < S2000.size a)
theorem k0_idx794_inb : ∀ (v416 : IVec S16 32) (k0_hw794 : k0_chk794 v416), ∀ a x, ((![v416] : Fin 1 → IVec S16 32) a x).toNat < S2000.size a := fun v416 k0_hw794 => k0_hw794

def k0_chk795 (v420 : IVec S16 32) : Prop :=
  (∀ a x, ((![v420] : Fin 1 → IVec S16 32) a x).toNat < S25600.size a)
theorem k0_idx795_inb : ∀ (v420 : IVec S16 32) (k0_hw795 : k0_chk795 v420), ∀ a x, ((![v420] : Fin 1 → IVec S16 32) a x).toNat < S25600.size a := fun v420 k0_hw795 => k0_hw795

def k0_chk796 (v421 : IVec S16 32) : Prop :=
  (∀ a x, ((![v421] : Fin 1 → IVec S16 32) a x).toNat < S2000.size a)
theorem k0_idx796_inb : ∀ (v421 : IVec S16 32) (k0_hw796 : k0_chk796 v421), ∀ a x, ((![v421] : Fin 1 → IVec S16 32) a x).toNat < S2000.size a := fun v421 k0_hw796 => k0_hw796

def k0_chk797 (v428 : IVec S16 32) : Prop :=
  (∀ a x, ((![v428] : Fin 1 → IVec S16 32) a x).toNat < S8192.size a)
theorem k0_idx797_inb : ∀ (v428 : IVec S16 32) (k0_hw797 : k0_chk797 v428), ∀ a x, ((![v428] : Fin 1 → IVec S16 32) a x).toNat < S8192.size a := fun v428 k0_hw797 => k0_hw797

def k0_chk798 (v434 : IVec S16 32) : Prop :=
  (∀ a x, ((![v434] : Fin 1 → IVec S16 32) a x).toNat < S8192.size a)
theorem k0_idx798_inb : ∀ (v434 : IVec S16 32) (k0_hw798 : k0_chk798 v434), ∀ a x, ((![v434] : Fin 1 → IVec S16 32) a x).toNat < S8192.size a := fun v434 k0_hw798 => k0_hw798

def k0_chk799 (v440 : IVec S16 32) : Prop :=
  (∀ a x, ((![v440] : Fin 1 → IVec S16 32) a x).toNat < S8192.size a)
theorem k0_idx799_inb : ∀ (v440 : IVec S16 32) (k0_hw799 : k0_chk799 v440), ∀ a x, ((![v440] : Fin 1 → IVec S16 32) a x).toNat < S8192.size a := fun v440 k0_hw799 => k0_hw799

def k0_chk800 (v446 : IVec S16 32) : Prop :=
  (∀ a x, ((![v446] : Fin 1 → IVec S16 32) a x).toNat < S8192.size a)
theorem k0_idx800_inb : ∀ (v446 : IVec S16 32) (k0_hw800 : k0_chk800 v446), ∀ a x, ((![v446] : Fin 1 → IVec S16 32) a x).toNat < S8192.size a := fun v446 k0_hw800 => k0_hw800

def k0_chk801 (v452 : IVec S16 32) : Prop :=
  (∀ a x, ((![v452] : Fin 1 → IVec S16 32) a x).toNat < S8192.size a)
theorem k0_idx801_inb : ∀ (v452 : IVec S16 32) (k0_hw801 : k0_chk801 v452), ∀ a x, ((![v452] : Fin 1 → IVec S16 32) a x).toNat < S8192.size a := fun v452 k0_hw801 => k0_hw801

def k0_chk802 (v458 : IVec S16 32) : Prop :=
  (∀ a x, ((![v458] : Fin 1 → IVec S16 32) a x).toNat < S8192.size a)
theorem k0_idx802_inb : ∀ (v458 : IVec S16 32) (k0_hw802 : k0_chk802 v458), ∀ a x, ((![v458] : Fin 1 → IVec S16 32) a x).toNat < S8192.size a := fun v458 k0_hw802 => k0_hw802

def k0_chk803 (v464 : IVec S16 32) : Prop :=
  (∀ a x, ((![v464] : Fin 1 → IVec S16 32) a x).toNat < S8192.size a)
theorem k0_idx803_inb : ∀ (v464 : IVec S16 32) (k0_hw803 : k0_chk803 v464), ∀ a x, ((![v464] : Fin 1 → IVec S16 32) a x).toNat < S8192.size a := fun v464 k0_hw803 => k0_hw803

def k0_chk804 (v470 : IVec S16 32) : Prop :=
  (∀ a x, ((![v470] : Fin 1 → IVec S16 32) a x).toNat < S8192.size a)
theorem k0_idx804_inb : ∀ (v470 : IVec S16 32) (k0_hw804 : k0_chk804 v470), ∀ a x, ((![v470] : Fin 1 → IVec S16 32) a x).toNat < S8192.size a := fun v470 k0_hw804 => k0_hw804

def k0_chk805 (v476 : IVec S16 32) : Prop :=
  (∀ a x, ((![v476] : Fin 1 → IVec S16 32) a x).toNat < S8192.size a)
theorem k0_idx805_inb : ∀ (v476 : IVec S16 32) (k0_hw805 : k0_chk805 v476), ∀ a x, ((![v476] : Fin 1 → IVec S16 32) a x).toNat < S8192.size a := fun v476 k0_hw805 => k0_hw805

def k0_chk806 (v482 : IVec S16 32) : Prop :=
  (∀ a x, ((![v482] : Fin 1 → IVec S16 32) a x).toNat < S8192.size a)
theorem k0_idx806_inb : ∀ (v482 : IVec S16 32) (k0_hw806 : k0_chk806 v482), ∀ a x, ((![v482] : Fin 1 → IVec S16 32) a x).toNat < S8192.size a := fun v482 k0_hw806 => k0_hw806

def k0_chk807 (v488 : IVec S16 32) : Prop :=
  (∀ a x, ((![v488] : Fin 1 → IVec S16 32) a x).toNat < S8192.size a)
theorem k0_idx807_inb : ∀ (v488 : IVec S16 32) (k0_hw807 : k0_chk807 v488), ∀ a x, ((![v488] : Fin 1 → IVec S16 32) a x).toNat < S8192.size a := fun v488 k0_hw807 => k0_hw807

def k0_chk808 (v494 : IVec S16 32) : Prop :=
  (∀ a x, ((![v494] : Fin 1 → IVec S16 32) a x).toNat < S8192.size a)
theorem k0_idx808_inb : ∀ (v494 : IVec S16 32) (k0_hw808 : k0_chk808 v494), ∀ a x, ((![v494] : Fin 1 → IVec S16 32) a x).toNat < S8192.size a := fun v494 k0_hw808 => k0_hw808

def k0_chk809 (v500 : IVec S16 32) : Prop :=
  (∀ a x, ((![v500] : Fin 1 → IVec S16 32) a x).toNat < S8192.size a)
theorem k0_idx809_inb : ∀ (v500 : IVec S16 32) (k0_hw809 : k0_chk809 v500), ∀ a x, ((![v500] : Fin 1 → IVec S16 32) a x).toNat < S8192.size a := fun v500 k0_hw809 => k0_hw809

def k0_chk810 (v506 : IVec S16 32) : Prop :=
  (∀ a x, ((![v506] : Fin 1 → IVec S16 32) a x).toNat < S8192.size a)
theorem k0_idx810_inb : ∀ (v506 : IVec S16 32) (k0_hw810 : k0_chk810 v506), ∀ a x, ((![v506] : Fin 1 → IVec S16 32) a x).toNat < S8192.size a := fun v506 k0_hw810 => k0_hw810

def k0_chk811 (v512 : IVec S16 32) : Prop :=
  (∀ a x, ((![v512] : Fin 1 → IVec S16 32) a x).toNat < S8192.size a)
theorem k0_idx811_inb : ∀ (v512 : IVec S16 32) (k0_hw811 : k0_chk811 v512), ∀ a x, ((![v512] : Fin 1 → IVec S16 32) a x).toNat < S8192.size a := fun v512 k0_hw811 => k0_hw811

def k0_chk812 (v518 : IVec S16 32) : Prop :=
  (∀ a x, ((![v518] : Fin 1 → IVec S16 32) a x).toNat < S8192.size a)
theorem k0_idx812_inb : ∀ (v518 : IVec S16 32) (k0_hw812 : k0_chk812 v518), ∀ a x, ((![v518] : Fin 1 → IVec S16 32) a x).toNat < S8192.size a := fun v518 k0_hw812 => k0_hw812
@[reducible] def k0_t8_loop : Scf.Loop 32 :=
  let c0_i32_65 : BitVec 32 := 0#32
  let c32_i32_66 : BitVec 32 := 32#32
  let v167 : BitVec 32 := Scalar.addi c0_i32_65 c32_i32_66
  let c1_i32_67 : BitVec 32 := 1#32
  ⟨c0_i32_65, v167, c1_i32_67⟩

def k0_chk813 (v175 : IVec S16 32) : Prop :=
  (∀ a x, ((![v175] : Fin 1 → IVec S16 32) a x).toNat < S25600.size a)
theorem k0_idx813_inb : ∀ (v175 : IVec S16 32) (k0_hw813 : k0_chk813 v175), ∀ a x, ((![v175] : Fin 1 → IVec S16 32) a x).toNat < S25600.size a := fun v175 k0_hw813 => k0_hw813

def k0_chk814 (v176 : IVec S16 32) : Prop :=
  (∀ a x, ((![v176] : Fin 1 → IVec S16 32) a x).toNat < S2000.size a)
theorem k0_idx814_inb : ∀ (v176 : IVec S16 32) (k0_hw814 : k0_chk814 v176), ∀ a x, ((![v176] : Fin 1 → IVec S16 32) a x).toNat < S2000.size a := fun v176 k0_hw814 => k0_hw814

def k0_chk815 (v180 : IVec S16 32) : Prop :=
  (∀ a x, ((![v180] : Fin 1 → IVec S16 32) a x).toNat < S25600.size a)
theorem k0_idx815_inb : ∀ (v180 : IVec S16 32) (k0_hw815 : k0_chk815 v180), ∀ a x, ((![v180] : Fin 1 → IVec S16 32) a x).toNat < S25600.size a := fun v180 k0_hw815 => k0_hw815

def k0_chk816 (v181 : IVec S16 32) : Prop :=
  (∀ a x, ((![v181] : Fin 1 → IVec S16 32) a x).toNat < S2000.size a)
theorem k0_idx816_inb : ∀ (v181 : IVec S16 32) (k0_hw816 : k0_chk816 v181), ∀ a x, ((![v181] : Fin 1 → IVec S16 32) a x).toNat < S2000.size a := fun v181 k0_hw816 => k0_hw816

def k0_chk817 (v185 : IVec S16 32) : Prop :=
  (∀ a x, ((![v185] : Fin 1 → IVec S16 32) a x).toNat < S25600.size a)
theorem k0_idx817_inb : ∀ (v185 : IVec S16 32) (k0_hw817 : k0_chk817 v185), ∀ a x, ((![v185] : Fin 1 → IVec S16 32) a x).toNat < S25600.size a := fun v185 k0_hw817 => k0_hw817

def k0_chk818 (v186 : IVec S16 32) : Prop :=
  (∀ a x, ((![v186] : Fin 1 → IVec S16 32) a x).toNat < S2000.size a)
theorem k0_idx818_inb : ∀ (v186 : IVec S16 32) (k0_hw818 : k0_chk818 v186), ∀ a x, ((![v186] : Fin 1 → IVec S16 32) a x).toNat < S2000.size a := fun v186 k0_hw818 => k0_hw818

def k0_chk819 (v190 : IVec S16 32) : Prop :=
  (∀ a x, ((![v190] : Fin 1 → IVec S16 32) a x).toNat < S25600.size a)
theorem k0_idx819_inb : ∀ (v190 : IVec S16 32) (k0_hw819 : k0_chk819 v190), ∀ a x, ((![v190] : Fin 1 → IVec S16 32) a x).toNat < S25600.size a := fun v190 k0_hw819 => k0_hw819

def k0_chk820 (v191 : IVec S16 32) : Prop :=
  (∀ a x, ((![v191] : Fin 1 → IVec S16 32) a x).toNat < S2000.size a)
theorem k0_idx820_inb : ∀ (v191 : IVec S16 32) (k0_hw820 : k0_chk820 v191), ∀ a x, ((![v191] : Fin 1 → IVec S16 32) a x).toNat < S2000.size a := fun v191 k0_hw820 => k0_hw820

def k0_chk821 (v195 : IVec S16 32) : Prop :=
  (∀ a x, ((![v195] : Fin 1 → IVec S16 32) a x).toNat < S25600.size a)
theorem k0_idx821_inb : ∀ (v195 : IVec S16 32) (k0_hw821 : k0_chk821 v195), ∀ a x, ((![v195] : Fin 1 → IVec S16 32) a x).toNat < S25600.size a := fun v195 k0_hw821 => k0_hw821

def k0_chk822 (v196 : IVec S16 32) : Prop :=
  (∀ a x, ((![v196] : Fin 1 → IVec S16 32) a x).toNat < S2000.size a)
theorem k0_idx822_inb : ∀ (v196 : IVec S16 32) (k0_hw822 : k0_chk822 v196), ∀ a x, ((![v196] : Fin 1 → IVec S16 32) a x).toNat < S2000.size a := fun v196 k0_hw822 => k0_hw822

def k0_chk823 (v200 : IVec S16 32) : Prop :=
  (∀ a x, ((![v200] : Fin 1 → IVec S16 32) a x).toNat < S25600.size a)
theorem k0_idx823_inb : ∀ (v200 : IVec S16 32) (k0_hw823 : k0_chk823 v200), ∀ a x, ((![v200] : Fin 1 → IVec S16 32) a x).toNat < S25600.size a := fun v200 k0_hw823 => k0_hw823

def k0_chk824 (v201 : IVec S16 32) : Prop :=
  (∀ a x, ((![v201] : Fin 1 → IVec S16 32) a x).toNat < S2000.size a)
theorem k0_idx824_inb : ∀ (v201 : IVec S16 32) (k0_hw824 : k0_chk824 v201), ∀ a x, ((![v201] : Fin 1 → IVec S16 32) a x).toNat < S2000.size a := fun v201 k0_hw824 => k0_hw824

def k0_chk825 (v205 : IVec S16 32) : Prop :=
  (∀ a x, ((![v205] : Fin 1 → IVec S16 32) a x).toNat < S25600.size a)
theorem k0_idx825_inb : ∀ (v205 : IVec S16 32) (k0_hw825 : k0_chk825 v205), ∀ a x, ((![v205] : Fin 1 → IVec S16 32) a x).toNat < S25600.size a := fun v205 k0_hw825 => k0_hw825

def k0_chk826 (v206 : IVec S16 32) : Prop :=
  (∀ a x, ((![v206] : Fin 1 → IVec S16 32) a x).toNat < S2000.size a)
theorem k0_idx826_inb : ∀ (v206 : IVec S16 32) (k0_hw826 : k0_chk826 v206), ∀ a x, ((![v206] : Fin 1 → IVec S16 32) a x).toNat < S2000.size a := fun v206 k0_hw826 => k0_hw826

def k0_chk827 (v210 : IVec S16 32) : Prop :=
  (∀ a x, ((![v210] : Fin 1 → IVec S16 32) a x).toNat < S25600.size a)
theorem k0_idx827_inb : ∀ (v210 : IVec S16 32) (k0_hw827 : k0_chk827 v210), ∀ a x, ((![v210] : Fin 1 → IVec S16 32) a x).toNat < S25600.size a := fun v210 k0_hw827 => k0_hw827

def k0_chk828 (v211 : IVec S16 32) : Prop :=
  (∀ a x, ((![v211] : Fin 1 → IVec S16 32) a x).toNat < S2000.size a)
theorem k0_idx828_inb : ∀ (v211 : IVec S16 32) (k0_hw828 : k0_chk828 v211), ∀ a x, ((![v211] : Fin 1 → IVec S16 32) a x).toNat < S2000.size a := fun v211 k0_hw828 => k0_hw828

def k0_chk829 (v215 : IVec S16 32) : Prop :=
  (∀ a x, ((![v215] : Fin 1 → IVec S16 32) a x).toNat < S25600.size a)
theorem k0_idx829_inb : ∀ (v215 : IVec S16 32) (k0_hw829 : k0_chk829 v215), ∀ a x, ((![v215] : Fin 1 → IVec S16 32) a x).toNat < S25600.size a := fun v215 k0_hw829 => k0_hw829

def k0_chk830 (v216 : IVec S16 32) : Prop :=
  (∀ a x, ((![v216] : Fin 1 → IVec S16 32) a x).toNat < S2000.size a)
theorem k0_idx830_inb : ∀ (v216 : IVec S16 32) (k0_hw830 : k0_chk830 v216), ∀ a x, ((![v216] : Fin 1 → IVec S16 32) a x).toNat < S2000.size a := fun v216 k0_hw830 => k0_hw830

def k0_chk831 (v220 : IVec S16 32) : Prop :=
  (∀ a x, ((![v220] : Fin 1 → IVec S16 32) a x).toNat < S25600.size a)
theorem k0_idx831_inb : ∀ (v220 : IVec S16 32) (k0_hw831 : k0_chk831 v220), ∀ a x, ((![v220] : Fin 1 → IVec S16 32) a x).toNat < S25600.size a := fun v220 k0_hw831 => k0_hw831

def k0_chk832 (v221 : IVec S16 32) : Prop :=
  (∀ a x, ((![v221] : Fin 1 → IVec S16 32) a x).toNat < S2000.size a)
theorem k0_idx832_inb : ∀ (v221 : IVec S16 32) (k0_hw832 : k0_chk832 v221), ∀ a x, ((![v221] : Fin 1 → IVec S16 32) a x).toNat < S2000.size a := fun v221 k0_hw832 => k0_hw832

def k0_chk833 (v225 : IVec S16 32) : Prop :=
  (∀ a x, ((![v225] : Fin 1 → IVec S16 32) a x).toNat < S25600.size a)
theorem k0_idx833_inb : ∀ (v225 : IVec S16 32) (k0_hw833 : k0_chk833 v225), ∀ a x, ((![v225] : Fin 1 → IVec S16 32) a x).toNat < S25600.size a := fun v225 k0_hw833 => k0_hw833

def k0_chk834 (v226 : IVec S16 32) : Prop :=
  (∀ a x, ((![v226] : Fin 1 → IVec S16 32) a x).toNat < S2000.size a)
theorem k0_idx834_inb : ∀ (v226 : IVec S16 32) (k0_hw834 : k0_chk834 v226), ∀ a x, ((![v226] : Fin 1 → IVec S16 32) a x).toNat < S2000.size a := fun v226 k0_hw834 => k0_hw834

def k0_chk835 (v230 : IVec S16 32) : Prop :=
  (∀ a x, ((![v230] : Fin 1 → IVec S16 32) a x).toNat < S25600.size a)
theorem k0_idx835_inb : ∀ (v230 : IVec S16 32) (k0_hw835 : k0_chk835 v230), ∀ a x, ((![v230] : Fin 1 → IVec S16 32) a x).toNat < S25600.size a := fun v230 k0_hw835 => k0_hw835

def k0_chk836 (v231 : IVec S16 32) : Prop :=
  (∀ a x, ((![v231] : Fin 1 → IVec S16 32) a x).toNat < S2000.size a)
theorem k0_idx836_inb : ∀ (v231 : IVec S16 32) (k0_hw836 : k0_chk836 v231), ∀ a x, ((![v231] : Fin 1 → IVec S16 32) a x).toNat < S2000.size a := fun v231 k0_hw836 => k0_hw836

def k0_chk837 (v235 : IVec S16 32) : Prop :=
  (∀ a x, ((![v235] : Fin 1 → IVec S16 32) a x).toNat < S25600.size a)
theorem k0_idx837_inb : ∀ (v235 : IVec S16 32) (k0_hw837 : k0_chk837 v235), ∀ a x, ((![v235] : Fin 1 → IVec S16 32) a x).toNat < S25600.size a := fun v235 k0_hw837 => k0_hw837

def k0_chk838 (v236 : IVec S16 32) : Prop :=
  (∀ a x, ((![v236] : Fin 1 → IVec S16 32) a x).toNat < S2000.size a)
theorem k0_idx838_inb : ∀ (v236 : IVec S16 32) (k0_hw838 : k0_chk838 v236), ∀ a x, ((![v236] : Fin 1 → IVec S16 32) a x).toNat < S2000.size a := fun v236 k0_hw838 => k0_hw838

def k0_chk839 (v240 : IVec S16 32) : Prop :=
  (∀ a x, ((![v240] : Fin 1 → IVec S16 32) a x).toNat < S25600.size a)
theorem k0_idx839_inb : ∀ (v240 : IVec S16 32) (k0_hw839 : k0_chk839 v240), ∀ a x, ((![v240] : Fin 1 → IVec S16 32) a x).toNat < S25600.size a := fun v240 k0_hw839 => k0_hw839

def k0_chk840 (v241 : IVec S16 32) : Prop :=
  (∀ a x, ((![v241] : Fin 1 → IVec S16 32) a x).toNat < S2000.size a)
theorem k0_idx840_inb : ∀ (v241 : IVec S16 32) (k0_hw840 : k0_chk840 v241), ∀ a x, ((![v241] : Fin 1 → IVec S16 32) a x).toNat < S2000.size a := fun v241 k0_hw840 => k0_hw840

def k0_chk841 (v245 : IVec S16 32) : Prop :=
  (∀ a x, ((![v245] : Fin 1 → IVec S16 32) a x).toNat < S25600.size a)
theorem k0_idx841_inb : ∀ (v245 : IVec S16 32) (k0_hw841 : k0_chk841 v245), ∀ a x, ((![v245] : Fin 1 → IVec S16 32) a x).toNat < S25600.size a := fun v245 k0_hw841 => k0_hw841

def k0_chk842 (v246 : IVec S16 32) : Prop :=
  (∀ a x, ((![v246] : Fin 1 → IVec S16 32) a x).toNat < S2000.size a)
theorem k0_idx842_inb : ∀ (v246 : IVec S16 32) (k0_hw842 : k0_chk842 v246), ∀ a x, ((![v246] : Fin 1 → IVec S16 32) a x).toNat < S2000.size a := fun v246 k0_hw842 => k0_hw842

def k0_chk843 (v250 : IVec S16 32) : Prop :=
  (∀ a x, ((![v250] : Fin 1 → IVec S16 32) a x).toNat < S25600.size a)
theorem k0_idx843_inb : ∀ (v250 : IVec S16 32) (k0_hw843 : k0_chk843 v250), ∀ a x, ((![v250] : Fin 1 → IVec S16 32) a x).toNat < S25600.size a := fun v250 k0_hw843 => k0_hw843

def k0_chk844 (v251 : IVec S16 32) : Prop :=
  (∀ a x, ((![v251] : Fin 1 → IVec S16 32) a x).toNat < S2000.size a)
theorem k0_idx844_inb : ∀ (v251 : IVec S16 32) (k0_hw844 : k0_chk844 v251), ∀ a x, ((![v251] : Fin 1 → IVec S16 32) a x).toNat < S2000.size a := fun v251 k0_hw844 => k0_hw844

def k0_chk845 (v255 : IVec S16 32) : Prop :=
  (∀ a x, ((![v255] : Fin 1 → IVec S16 32) a x).toNat < S25600.size a)
theorem k0_idx845_inb : ∀ (v255 : IVec S16 32) (k0_hw845 : k0_chk845 v255), ∀ a x, ((![v255] : Fin 1 → IVec S16 32) a x).toNat < S25600.size a := fun v255 k0_hw845 => k0_hw845

def k0_chk846 (v256 : IVec S16 32) : Prop :=
  (∀ a x, ((![v256] : Fin 1 → IVec S16 32) a x).toNat < S2000.size a)
theorem k0_idx846_inb : ∀ (v256 : IVec S16 32) (k0_hw846 : k0_chk846 v256), ∀ a x, ((![v256] : Fin 1 → IVec S16 32) a x).toNat < S2000.size a := fun v256 k0_hw846 => k0_hw846

def k0_chk847 (v260 : IVec S16 32) : Prop :=
  (∀ a x, ((![v260] : Fin 1 → IVec S16 32) a x).toNat < S25600.size a)
theorem k0_idx847_inb : ∀ (v260 : IVec S16 32) (k0_hw847 : k0_chk847 v260), ∀ a x, ((![v260] : Fin 1 → IVec S16 32) a x).toNat < S25600.size a := fun v260 k0_hw847 => k0_hw847

def k0_chk848 (v261 : IVec S16 32) : Prop :=
  (∀ a x, ((![v261] : Fin 1 → IVec S16 32) a x).toNat < S2000.size a)
theorem k0_idx848_inb : ∀ (v261 : IVec S16 32) (k0_hw848 : k0_chk848 v261), ∀ a x, ((![v261] : Fin 1 → IVec S16 32) a x).toNat < S2000.size a := fun v261 k0_hw848 => k0_hw848

def k0_chk849 (v265 : IVec S16 32) : Prop :=
  (∀ a x, ((![v265] : Fin 1 → IVec S16 32) a x).toNat < S25600.size a)
theorem k0_idx849_inb : ∀ (v265 : IVec S16 32) (k0_hw849 : k0_chk849 v265), ∀ a x, ((![v265] : Fin 1 → IVec S16 32) a x).toNat < S25600.size a := fun v265 k0_hw849 => k0_hw849

def k0_chk850 (v266 : IVec S16 32) : Prop :=
  (∀ a x, ((![v266] : Fin 1 → IVec S16 32) a x).toNat < S2000.size a)
theorem k0_idx850_inb : ∀ (v266 : IVec S16 32) (k0_hw850 : k0_chk850 v266), ∀ a x, ((![v266] : Fin 1 → IVec S16 32) a x).toNat < S2000.size a := fun v266 k0_hw850 => k0_hw850

def k0_chk851 (v270 : IVec S16 32) : Prop :=
  (∀ a x, ((![v270] : Fin 1 → IVec S16 32) a x).toNat < S25600.size a)
theorem k0_idx851_inb : ∀ (v270 : IVec S16 32) (k0_hw851 : k0_chk851 v270), ∀ a x, ((![v270] : Fin 1 → IVec S16 32) a x).toNat < S25600.size a := fun v270 k0_hw851 => k0_hw851

def k0_chk852 (v271 : IVec S16 32) : Prop :=
  (∀ a x, ((![v271] : Fin 1 → IVec S16 32) a x).toNat < S2000.size a)
theorem k0_idx852_inb : ∀ (v271 : IVec S16 32) (k0_hw852 : k0_chk852 v271), ∀ a x, ((![v271] : Fin 1 → IVec S16 32) a x).toNat < S2000.size a := fun v271 k0_hw852 => k0_hw852

def k0_chk853 (v275 : IVec S16 32) : Prop :=
  (∀ a x, ((![v275] : Fin 1 → IVec S16 32) a x).toNat < S25600.size a)
theorem k0_idx853_inb : ∀ (v275 : IVec S16 32) (k0_hw853 : k0_chk853 v275), ∀ a x, ((![v275] : Fin 1 → IVec S16 32) a x).toNat < S25600.size a := fun v275 k0_hw853 => k0_hw853

def k0_chk854 (v276 : IVec S16 32) : Prop :=
  (∀ a x, ((![v276] : Fin 1 → IVec S16 32) a x).toNat < S2000.size a)
theorem k0_idx854_inb : ∀ (v276 : IVec S16 32) (k0_hw854 : k0_chk854 v276), ∀ a x, ((![v276] : Fin 1 → IVec S16 32) a x).toNat < S2000.size a := fun v276 k0_hw854 => k0_hw854

def k0_chk855 (v280 : IVec S16 32) : Prop :=
  (∀ a x, ((![v280] : Fin 1 → IVec S16 32) a x).toNat < S25600.size a)
theorem k0_idx855_inb : ∀ (v280 : IVec S16 32) (k0_hw855 : k0_chk855 v280), ∀ a x, ((![v280] : Fin 1 → IVec S16 32) a x).toNat < S25600.size a := fun v280 k0_hw855 => k0_hw855

def k0_chk856 (v281 : IVec S16 32) : Prop :=
  (∀ a x, ((![v281] : Fin 1 → IVec S16 32) a x).toNat < S2000.size a)
theorem k0_idx856_inb : ∀ (v281 : IVec S16 32) (k0_hw856 : k0_chk856 v281), ∀ a x, ((![v281] : Fin 1 → IVec S16 32) a x).toNat < S2000.size a := fun v281 k0_hw856 => k0_hw856

def k0_chk857 (v285 : IVec S16 32) : Prop :=
  (∀ a x, ((![v285] : Fin 1 → IVec S16 32) a x).toNat < S25600.size a)
theorem k0_idx857_inb : ∀ (v285 : IVec S16 32) (k0_hw857 : k0_chk857 v285), ∀ a x, ((![v285] : Fin 1 → IVec S16 32) a x).toNat < S25600.size a := fun v285 k0_hw857 => k0_hw857

def k0_chk858 (v286 : IVec S16 32) : Prop :=
  (∀ a x, ((![v286] : Fin 1 → IVec S16 32) a x).toNat < S2000.size a)
theorem k0_idx858_inb : ∀ (v286 : IVec S16 32) (k0_hw858 : k0_chk858 v286), ∀ a x, ((![v286] : Fin 1 → IVec S16 32) a x).toNat < S2000.size a := fun v286 k0_hw858 => k0_hw858

def k0_chk859 (v290 : IVec S16 32) : Prop :=
  (∀ a x, ((![v290] : Fin 1 → IVec S16 32) a x).toNat < S25600.size a)
theorem k0_idx859_inb : ∀ (v290 : IVec S16 32) (k0_hw859 : k0_chk859 v290), ∀ a x, ((![v290] : Fin 1 → IVec S16 32) a x).toNat < S25600.size a := fun v290 k0_hw859 => k0_hw859

def k0_chk860 (v291 : IVec S16 32) : Prop :=
  (∀ a x, ((![v291] : Fin 1 → IVec S16 32) a x).toNat < S2000.size a)
theorem k0_idx860_inb : ∀ (v291 : IVec S16 32) (k0_hw860 : k0_chk860 v291), ∀ a x, ((![v291] : Fin 1 → IVec S16 32) a x).toNat < S2000.size a := fun v291 k0_hw860 => k0_hw860

def k0_chk861 (v295 : IVec S16 32) : Prop :=
  (∀ a x, ((![v295] : Fin 1 → IVec S16 32) a x).toNat < S25600.size a)
theorem k0_idx861_inb : ∀ (v295 : IVec S16 32) (k0_hw861 : k0_chk861 v295), ∀ a x, ((![v295] : Fin 1 → IVec S16 32) a x).toNat < S25600.size a := fun v295 k0_hw861 => k0_hw861

def k0_chk862 (v296 : IVec S16 32) : Prop :=
  (∀ a x, ((![v296] : Fin 1 → IVec S16 32) a x).toNat < S2000.size a)
theorem k0_idx862_inb : ∀ (v296 : IVec S16 32) (k0_hw862 : k0_chk862 v296), ∀ a x, ((![v296] : Fin 1 → IVec S16 32) a x).toNat < S2000.size a := fun v296 k0_hw862 => k0_hw862

def k0_chk863 (v300 : IVec S16 32) : Prop :=
  (∀ a x, ((![v300] : Fin 1 → IVec S16 32) a x).toNat < S25600.size a)
theorem k0_idx863_inb : ∀ (v300 : IVec S16 32) (k0_hw863 : k0_chk863 v300), ∀ a x, ((![v300] : Fin 1 → IVec S16 32) a x).toNat < S25600.size a := fun v300 k0_hw863 => k0_hw863

def k0_chk864 (v301 : IVec S16 32) : Prop :=
  (∀ a x, ((![v301] : Fin 1 → IVec S16 32) a x).toNat < S2000.size a)
theorem k0_idx864_inb : ∀ (v301 : IVec S16 32) (k0_hw864 : k0_chk864 v301), ∀ a x, ((![v301] : Fin 1 → IVec S16 32) a x).toNat < S2000.size a := fun v301 k0_hw864 => k0_hw864

def k0_chk865 (v305 : IVec S16 32) : Prop :=
  (∀ a x, ((![v305] : Fin 1 → IVec S16 32) a x).toNat < S25600.size a)
theorem k0_idx865_inb : ∀ (v305 : IVec S16 32) (k0_hw865 : k0_chk865 v305), ∀ a x, ((![v305] : Fin 1 → IVec S16 32) a x).toNat < S25600.size a := fun v305 k0_hw865 => k0_hw865

def k0_chk866 (v306 : IVec S16 32) : Prop :=
  (∀ a x, ((![v306] : Fin 1 → IVec S16 32) a x).toNat < S2000.size a)
theorem k0_idx866_inb : ∀ (v306 : IVec S16 32) (k0_hw866 : k0_chk866 v306), ∀ a x, ((![v306] : Fin 1 → IVec S16 32) a x).toNat < S2000.size a := fun v306 k0_hw866 => k0_hw866

def k0_chk867 (v310 : IVec S16 32) : Prop :=
  (∀ a x, ((![v310] : Fin 1 → IVec S16 32) a x).toNat < S25600.size a)
theorem k0_idx867_inb : ∀ (v310 : IVec S16 32) (k0_hw867 : k0_chk867 v310), ∀ a x, ((![v310] : Fin 1 → IVec S16 32) a x).toNat < S25600.size a := fun v310 k0_hw867 => k0_hw867

def k0_chk868 (v311 : IVec S16 32) : Prop :=
  (∀ a x, ((![v311] : Fin 1 → IVec S16 32) a x).toNat < S2000.size a)
theorem k0_idx868_inb : ∀ (v311 : IVec S16 32) (k0_hw868 : k0_chk868 v311), ∀ a x, ((![v311] : Fin 1 → IVec S16 32) a x).toNat < S2000.size a := fun v311 k0_hw868 => k0_hw868

def k0_chk869 (v315 : IVec S16 32) : Prop :=
  (∀ a x, ((![v315] : Fin 1 → IVec S16 32) a x).toNat < S25600.size a)
theorem k0_idx869_inb : ∀ (v315 : IVec S16 32) (k0_hw869 : k0_chk869 v315), ∀ a x, ((![v315] : Fin 1 → IVec S16 32) a x).toNat < S25600.size a := fun v315 k0_hw869 => k0_hw869

def k0_chk870 (v316 : IVec S16 32) : Prop :=
  (∀ a x, ((![v316] : Fin 1 → IVec S16 32) a x).toNat < S2000.size a)
theorem k0_idx870_inb : ∀ (v316 : IVec S16 32) (k0_hw870 : k0_chk870 v316), ∀ a x, ((![v316] : Fin 1 → IVec S16 32) a x).toNat < S2000.size a := fun v316 k0_hw870 => k0_hw870

def k0_chk871 (v320 : IVec S16 32) : Prop :=
  (∀ a x, ((![v320] : Fin 1 → IVec S16 32) a x).toNat < S25600.size a)
theorem k0_idx871_inb : ∀ (v320 : IVec S16 32) (k0_hw871 : k0_chk871 v320), ∀ a x, ((![v320] : Fin 1 → IVec S16 32) a x).toNat < S25600.size a := fun v320 k0_hw871 => k0_hw871

def k0_chk872 (v321 : IVec S16 32) : Prop :=
  (∀ a x, ((![v321] : Fin 1 → IVec S16 32) a x).toNat < S2000.size a)
theorem k0_idx872_inb : ∀ (v321 : IVec S16 32) (k0_hw872 : k0_chk872 v321), ∀ a x, ((![v321] : Fin 1 → IVec S16 32) a x).toNat < S2000.size a := fun v321 k0_hw872 => k0_hw872

def k0_chk873 (v325 : IVec S16 32) : Prop :=
  (∀ a x, ((![v325] : Fin 1 → IVec S16 32) a x).toNat < S25600.size a)
theorem k0_idx873_inb : ∀ (v325 : IVec S16 32) (k0_hw873 : k0_chk873 v325), ∀ a x, ((![v325] : Fin 1 → IVec S16 32) a x).toNat < S25600.size a := fun v325 k0_hw873 => k0_hw873

def k0_chk874 (v326 : IVec S16 32) : Prop :=
  (∀ a x, ((![v326] : Fin 1 → IVec S16 32) a x).toNat < S2000.size a)
theorem k0_idx874_inb : ∀ (v326 : IVec S16 32) (k0_hw874 : k0_chk874 v326), ∀ a x, ((![v326] : Fin 1 → IVec S16 32) a x).toNat < S2000.size a := fun v326 k0_hw874 => k0_hw874

def k0_chk875 (v330 : IVec S16 32) : Prop :=
  (∀ a x, ((![v330] : Fin 1 → IVec S16 32) a x).toNat < S25600.size a)
theorem k0_idx875_inb : ∀ (v330 : IVec S16 32) (k0_hw875 : k0_chk875 v330), ∀ a x, ((![v330] : Fin 1 → IVec S16 32) a x).toNat < S25600.size a := fun v330 k0_hw875 => k0_hw875

def k0_chk876 (v331 : IVec S16 32) : Prop :=
  (∀ a x, ((![v331] : Fin 1 → IVec S16 32) a x).toNat < S2000.size a)
theorem k0_idx876_inb : ∀ (v331 : IVec S16 32) (k0_hw876 : k0_chk876 v331), ∀ a x, ((![v331] : Fin 1 → IVec S16 32) a x).toNat < S2000.size a := fun v331 k0_hw876 => k0_hw876

def k0_chk877 (v335 : IVec S16 32) : Prop :=
  (∀ a x, ((![v335] : Fin 1 → IVec S16 32) a x).toNat < S25600.size a)
theorem k0_idx877_inb : ∀ (v335 : IVec S16 32) (k0_hw877 : k0_chk877 v335), ∀ a x, ((![v335] : Fin 1 → IVec S16 32) a x).toNat < S25600.size a := fun v335 k0_hw877 => k0_hw877

def k0_chk878 (v336 : IVec S16 32) : Prop :=
  (∀ a x, ((![v336] : Fin 1 → IVec S16 32) a x).toNat < S2000.size a)
theorem k0_idx878_inb : ∀ (v336 : IVec S16 32) (k0_hw878 : k0_chk878 v336), ∀ a x, ((![v336] : Fin 1 → IVec S16 32) a x).toNat < S2000.size a := fun v336 k0_hw878 => k0_hw878

def k0_chk879 (v340 : IVec S16 32) : Prop :=
  (∀ a x, ((![v340] : Fin 1 → IVec S16 32) a x).toNat < S25600.size a)
theorem k0_idx879_inb : ∀ (v340 : IVec S16 32) (k0_hw879 : k0_chk879 v340), ∀ a x, ((![v340] : Fin 1 → IVec S16 32) a x).toNat < S25600.size a := fun v340 k0_hw879 => k0_hw879

def k0_chk880 (v341 : IVec S16 32) : Prop :=
  (∀ a x, ((![v341] : Fin 1 → IVec S16 32) a x).toNat < S2000.size a)
theorem k0_idx880_inb : ∀ (v341 : IVec S16 32) (k0_hw880 : k0_chk880 v341), ∀ a x, ((![v341] : Fin 1 → IVec S16 32) a x).toNat < S2000.size a := fun v341 k0_hw880 => k0_hw880

def k0_chk881 (v345 : IVec S16 32) : Prop :=
  (∀ a x, ((![v345] : Fin 1 → IVec S16 32) a x).toNat < S25600.size a)
theorem k0_idx881_inb : ∀ (v345 : IVec S16 32) (k0_hw881 : k0_chk881 v345), ∀ a x, ((![v345] : Fin 1 → IVec S16 32) a x).toNat < S25600.size a := fun v345 k0_hw881 => k0_hw881

def k0_chk882 (v346 : IVec S16 32) : Prop :=
  (∀ a x, ((![v346] : Fin 1 → IVec S16 32) a x).toNat < S2000.size a)
theorem k0_idx882_inb : ∀ (v346 : IVec S16 32) (k0_hw882 : k0_chk882 v346), ∀ a x, ((![v346] : Fin 1 → IVec S16 32) a x).toNat < S2000.size a := fun v346 k0_hw882 => k0_hw882

def k0_chk883 (v350 : IVec S16 32) : Prop :=
  (∀ a x, ((![v350] : Fin 1 → IVec S16 32) a x).toNat < S25600.size a)
theorem k0_idx883_inb : ∀ (v350 : IVec S16 32) (k0_hw883 : k0_chk883 v350), ∀ a x, ((![v350] : Fin 1 → IVec S16 32) a x).toNat < S25600.size a := fun v350 k0_hw883 => k0_hw883

def k0_chk884 (v351 : IVec S16 32) : Prop :=
  (∀ a x, ((![v351] : Fin 1 → IVec S16 32) a x).toNat < S2000.size a)
theorem k0_idx884_inb : ∀ (v351 : IVec S16 32) (k0_hw884 : k0_chk884 v351), ∀ a x, ((![v351] : Fin 1 → IVec S16 32) a x).toNat < S2000.size a := fun v351 k0_hw884 => k0_hw884

def k0_chk885 (v355 : IVec S16 32) : Prop :=
  (∀ a x, ((![v355] : Fin 1 → IVec S16 32) a x).toNat < S25600.size a)
theorem k0_idx885_inb : ∀ (v355 : IVec S16 32) (k0_hw885 : k0_chk885 v355), ∀ a x, ((![v355] : Fin 1 → IVec S16 32) a x).toNat < S25600.size a := fun v355 k0_hw885 => k0_hw885

def k0_chk886 (v356 : IVec S16 32) : Prop :=
  (∀ a x, ((![v356] : Fin 1 → IVec S16 32) a x).toNat < S2000.size a)
theorem k0_idx886_inb : ∀ (v356 : IVec S16 32) (k0_hw886 : k0_chk886 v356), ∀ a x, ((![v356] : Fin 1 → IVec S16 32) a x).toNat < S2000.size a := fun v356 k0_hw886 => k0_hw886

def k0_chk887 (v360 : IVec S16 32) : Prop :=
  (∀ a x, ((![v360] : Fin 1 → IVec S16 32) a x).toNat < S25600.size a)
theorem k0_idx887_inb : ∀ (v360 : IVec S16 32) (k0_hw887 : k0_chk887 v360), ∀ a x, ((![v360] : Fin 1 → IVec S16 32) a x).toNat < S25600.size a := fun v360 k0_hw887 => k0_hw887

def k0_chk888 (v361 : IVec S16 32) : Prop :=
  (∀ a x, ((![v361] : Fin 1 → IVec S16 32) a x).toNat < S2000.size a)
theorem k0_idx888_inb : ∀ (v361 : IVec S16 32) (k0_hw888 : k0_chk888 v361), ∀ a x, ((![v361] : Fin 1 → IVec S16 32) a x).toNat < S2000.size a := fun v361 k0_hw888 => k0_hw888

def k0_chk889 (v365 : IVec S16 32) : Prop :=
  (∀ a x, ((![v365] : Fin 1 → IVec S16 32) a x).toNat < S25600.size a)
theorem k0_idx889_inb : ∀ (v365 : IVec S16 32) (k0_hw889 : k0_chk889 v365), ∀ a x, ((![v365] : Fin 1 → IVec S16 32) a x).toNat < S25600.size a := fun v365 k0_hw889 => k0_hw889

def k0_chk890 (v366 : IVec S16 32) : Prop :=
  (∀ a x, ((![v366] : Fin 1 → IVec S16 32) a x).toNat < S2000.size a)
theorem k0_idx890_inb : ∀ (v366 : IVec S16 32) (k0_hw890 : k0_chk890 v366), ∀ a x, ((![v366] : Fin 1 → IVec S16 32) a x).toNat < S2000.size a := fun v366 k0_hw890 => k0_hw890

def k0_chk891 (v370 : IVec S16 32) : Prop :=
  (∀ a x, ((![v370] : Fin 1 → IVec S16 32) a x).toNat < S25600.size a)
theorem k0_idx891_inb : ∀ (v370 : IVec S16 32) (k0_hw891 : k0_chk891 v370), ∀ a x, ((![v370] : Fin 1 → IVec S16 32) a x).toNat < S25600.size a := fun v370 k0_hw891 => k0_hw891

def k0_chk892 (v371 : IVec S16 32) : Prop :=
  (∀ a x, ((![v371] : Fin 1 → IVec S16 32) a x).toNat < S2000.size a)
theorem k0_idx892_inb : ∀ (v371 : IVec S16 32) (k0_hw892 : k0_chk892 v371), ∀ a x, ((![v371] : Fin 1 → IVec S16 32) a x).toNat < S2000.size a := fun v371 k0_hw892 => k0_hw892

def k0_chk893 (v375 : IVec S16 32) : Prop :=
  (∀ a x, ((![v375] : Fin 1 → IVec S16 32) a x).toNat < S25600.size a)
theorem k0_idx893_inb : ∀ (v375 : IVec S16 32) (k0_hw893 : k0_chk893 v375), ∀ a x, ((![v375] : Fin 1 → IVec S16 32) a x).toNat < S25600.size a := fun v375 k0_hw893 => k0_hw893

def k0_chk894 (v376 : IVec S16 32) : Prop :=
  (∀ a x, ((![v376] : Fin 1 → IVec S16 32) a x).toNat < S2000.size a)
theorem k0_idx894_inb : ∀ (v376 : IVec S16 32) (k0_hw894 : k0_chk894 v376), ∀ a x, ((![v376] : Fin 1 → IVec S16 32) a x).toNat < S2000.size a := fun v376 k0_hw894 => k0_hw894

def k0_chk895 (v380 : IVec S16 32) : Prop :=
  (∀ a x, ((![v380] : Fin 1 → IVec S16 32) a x).toNat < S25600.size a)
theorem k0_idx895_inb : ∀ (v380 : IVec S16 32) (k0_hw895 : k0_chk895 v380), ∀ a x, ((![v380] : Fin 1 → IVec S16 32) a x).toNat < S25600.size a := fun v380 k0_hw895 => k0_hw895

def k0_chk896 (v381 : IVec S16 32) : Prop :=
  (∀ a x, ((![v381] : Fin 1 → IVec S16 32) a x).toNat < S2000.size a)
theorem k0_idx896_inb : ∀ (v381 : IVec S16 32) (k0_hw896 : k0_chk896 v381), ∀ a x, ((![v381] : Fin 1 → IVec S16 32) a x).toNat < S2000.size a := fun v381 k0_hw896 => k0_hw896

def k0_chk897 (v385 : IVec S16 32) : Prop :=
  (∀ a x, ((![v385] : Fin 1 → IVec S16 32) a x).toNat < S25600.size a)
theorem k0_idx897_inb : ∀ (v385 : IVec S16 32) (k0_hw897 : k0_chk897 v385), ∀ a x, ((![v385] : Fin 1 → IVec S16 32) a x).toNat < S25600.size a := fun v385 k0_hw897 => k0_hw897

def k0_chk898 (v386 : IVec S16 32) : Prop :=
  (∀ a x, ((![v386] : Fin 1 → IVec S16 32) a x).toNat < S2000.size a)
theorem k0_idx898_inb : ∀ (v386 : IVec S16 32) (k0_hw898 : k0_chk898 v386), ∀ a x, ((![v386] : Fin 1 → IVec S16 32) a x).toNat < S2000.size a := fun v386 k0_hw898 => k0_hw898

def k0_chk899 (v390 : IVec S16 32) : Prop :=
  (∀ a x, ((![v390] : Fin 1 → IVec S16 32) a x).toNat < S25600.size a)
theorem k0_idx899_inb : ∀ (v390 : IVec S16 32) (k0_hw899 : k0_chk899 v390), ∀ a x, ((![v390] : Fin 1 → IVec S16 32) a x).toNat < S25600.size a := fun v390 k0_hw899 => k0_hw899

def k0_chk900 (v391 : IVec S16 32) : Prop :=
  (∀ a x, ((![v391] : Fin 1 → IVec S16 32) a x).toNat < S2000.size a)
theorem k0_idx900_inb : ∀ (v391 : IVec S16 32) (k0_hw900 : k0_chk900 v391), ∀ a x, ((![v391] : Fin 1 → IVec S16 32) a x).toNat < S2000.size a := fun v391 k0_hw900 => k0_hw900

def k0_chk901 (v395 : IVec S16 32) : Prop :=
  (∀ a x, ((![v395] : Fin 1 → IVec S16 32) a x).toNat < S25600.size a)
theorem k0_idx901_inb : ∀ (v395 : IVec S16 32) (k0_hw901 : k0_chk901 v395), ∀ a x, ((![v395] : Fin 1 → IVec S16 32) a x).toNat < S25600.size a := fun v395 k0_hw901 => k0_hw901

def k0_chk902 (v396 : IVec S16 32) : Prop :=
  (∀ a x, ((![v396] : Fin 1 → IVec S16 32) a x).toNat < S2000.size a)
theorem k0_idx902_inb : ∀ (v396 : IVec S16 32) (k0_hw902 : k0_chk902 v396), ∀ a x, ((![v396] : Fin 1 → IVec S16 32) a x).toNat < S2000.size a := fun v396 k0_hw902 => k0_hw902

def k0_chk903 (v400 : IVec S16 32) : Prop :=
  (∀ a x, ((![v400] : Fin 1 → IVec S16 32) a x).toNat < S25600.size a)
theorem k0_idx903_inb : ∀ (v400 : IVec S16 32) (k0_hw903 : k0_chk903 v400), ∀ a x, ((![v400] : Fin 1 → IVec S16 32) a x).toNat < S25600.size a := fun v400 k0_hw903 => k0_hw903

def k0_chk904 (v401 : IVec S16 32) : Prop :=
  (∀ a x, ((![v401] : Fin 1 → IVec S16 32) a x).toNat < S2000.size a)
theorem k0_idx904_inb : ∀ (v401 : IVec S16 32) (k0_hw904 : k0_chk904 v401), ∀ a x, ((![v401] : Fin 1 → IVec S16 32) a x).toNat < S2000.size a := fun v401 k0_hw904 => k0_hw904

def k0_chk905 (v405 : IVec S16 32) : Prop :=
  (∀ a x, ((![v405] : Fin 1 → IVec S16 32) a x).toNat < S25600.size a)
theorem k0_idx905_inb : ∀ (v405 : IVec S16 32) (k0_hw905 : k0_chk905 v405), ∀ a x, ((![v405] : Fin 1 → IVec S16 32) a x).toNat < S25600.size a := fun v405 k0_hw905 => k0_hw905

def k0_chk906 (v406 : IVec S16 32) : Prop :=
  (∀ a x, ((![v406] : Fin 1 → IVec S16 32) a x).toNat < S2000.size a)
theorem k0_idx906_inb : ∀ (v406 : IVec S16 32) (k0_hw906 : k0_chk906 v406), ∀ a x, ((![v406] : Fin 1 → IVec S16 32) a x).toNat < S2000.size a := fun v406 k0_hw906 => k0_hw906

def k0_chk907 (v410 : IVec S16 32) : Prop :=
  (∀ a x, ((![v410] : Fin 1 → IVec S16 32) a x).toNat < S25600.size a)
theorem k0_idx907_inb : ∀ (v410 : IVec S16 32) (k0_hw907 : k0_chk907 v410), ∀ a x, ((![v410] : Fin 1 → IVec S16 32) a x).toNat < S25600.size a := fun v410 k0_hw907 => k0_hw907

def k0_chk908 (v411 : IVec S16 32) : Prop :=
  (∀ a x, ((![v411] : Fin 1 → IVec S16 32) a x).toNat < S2000.size a)
theorem k0_idx908_inb : ∀ (v411 : IVec S16 32) (k0_hw908 : k0_chk908 v411), ∀ a x, ((![v411] : Fin 1 → IVec S16 32) a x).toNat < S2000.size a := fun v411 k0_hw908 => k0_hw908

def k0_chk909 (v415 : IVec S16 32) : Prop :=
  (∀ a x, ((![v415] : Fin 1 → IVec S16 32) a x).toNat < S25600.size a)
theorem k0_idx909_inb : ∀ (v415 : IVec S16 32) (k0_hw909 : k0_chk909 v415), ∀ a x, ((![v415] : Fin 1 → IVec S16 32) a x).toNat < S25600.size a := fun v415 k0_hw909 => k0_hw909

def k0_chk910 (v416 : IVec S16 32) : Prop :=
  (∀ a x, ((![v416] : Fin 1 → IVec S16 32) a x).toNat < S2000.size a)
theorem k0_idx910_inb : ∀ (v416 : IVec S16 32) (k0_hw910 : k0_chk910 v416), ∀ a x, ((![v416] : Fin 1 → IVec S16 32) a x).toNat < S2000.size a := fun v416 k0_hw910 => k0_hw910

def k0_chk911 (v420 : IVec S16 32) : Prop :=
  (∀ a x, ((![v420] : Fin 1 → IVec S16 32) a x).toNat < S25600.size a)
theorem k0_idx911_inb : ∀ (v420 : IVec S16 32) (k0_hw911 : k0_chk911 v420), ∀ a x, ((![v420] : Fin 1 → IVec S16 32) a x).toNat < S25600.size a := fun v420 k0_hw911 => k0_hw911

def k0_chk912 (v421 : IVec S16 32) : Prop :=
  (∀ a x, ((![v421] : Fin 1 → IVec S16 32) a x).toNat < S2000.size a)
theorem k0_idx912_inb : ∀ (v421 : IVec S16 32) (k0_hw912 : k0_chk912 v421), ∀ a x, ((![v421] : Fin 1 → IVec S16 32) a x).toNat < S2000.size a := fun v421 k0_hw912 => k0_hw912

def k0_chk913 (v428 : IVec S16 32) : Prop :=
  (∀ a x, ((![v428] : Fin 1 → IVec S16 32) a x).toNat < S8192.size a)
theorem k0_idx913_inb : ∀ (v428 : IVec S16 32) (k0_hw913 : k0_chk913 v428), ∀ a x, ((![v428] : Fin 1 → IVec S16 32) a x).toNat < S8192.size a := fun v428 k0_hw913 => k0_hw913

def k0_chk914 (v434 : IVec S16 32) : Prop :=
  (∀ a x, ((![v434] : Fin 1 → IVec S16 32) a x).toNat < S8192.size a)
theorem k0_idx914_inb : ∀ (v434 : IVec S16 32) (k0_hw914 : k0_chk914 v434), ∀ a x, ((![v434] : Fin 1 → IVec S16 32) a x).toNat < S8192.size a := fun v434 k0_hw914 => k0_hw914

def k0_chk915 (v440 : IVec S16 32) : Prop :=
  (∀ a x, ((![v440] : Fin 1 → IVec S16 32) a x).toNat < S8192.size a)
theorem k0_idx915_inb : ∀ (v440 : IVec S16 32) (k0_hw915 : k0_chk915 v440), ∀ a x, ((![v440] : Fin 1 → IVec S16 32) a x).toNat < S8192.size a := fun v440 k0_hw915 => k0_hw915

def k0_chk916 (v446 : IVec S16 32) : Prop :=
  (∀ a x, ((![v446] : Fin 1 → IVec S16 32) a x).toNat < S8192.size a)
theorem k0_idx916_inb : ∀ (v446 : IVec S16 32) (k0_hw916 : k0_chk916 v446), ∀ a x, ((![v446] : Fin 1 → IVec S16 32) a x).toNat < S8192.size a := fun v446 k0_hw916 => k0_hw916

def k0_chk917 (v452 : IVec S16 32) : Prop :=
  (∀ a x, ((![v452] : Fin 1 → IVec S16 32) a x).toNat < S8192.size a)
theorem k0_idx917_inb : ∀ (v452 : IVec S16 32) (k0_hw917 : k0_chk917 v452), ∀ a x, ((![v452] : Fin 1 → IVec S16 32) a x).toNat < S8192.size a := fun v452 k0_hw917 => k0_hw917

def k0_chk918 (v458 : IVec S16 32) : Prop :=
  (∀ a x, ((![v458] : Fin 1 → IVec S16 32) a x).toNat < S8192.size a)
theorem k0_idx918_inb : ∀ (v458 : IVec S16 32) (k0_hw918 : k0_chk918 v458), ∀ a x, ((![v458] : Fin 1 → IVec S16 32) a x).toNat < S8192.size a := fun v458 k0_hw918 => k0_hw918

def k0_chk919 (v464 : IVec S16 32) : Prop :=
  (∀ a x, ((![v464] : Fin 1 → IVec S16 32) a x).toNat < S8192.size a)
theorem k0_idx919_inb : ∀ (v464 : IVec S16 32) (k0_hw919 : k0_chk919 v464), ∀ a x, ((![v464] : Fin 1 → IVec S16 32) a x).toNat < S8192.size a := fun v464 k0_hw919 => k0_hw919

def k0_chk920 (v470 : IVec S16 32) : Prop :=
  (∀ a x, ((![v470] : Fin 1 → IVec S16 32) a x).toNat < S8192.size a)
theorem k0_idx920_inb : ∀ (v470 : IVec S16 32) (k0_hw920 : k0_chk920 v470), ∀ a x, ((![v470] : Fin 1 → IVec S16 32) a x).toNat < S8192.size a := fun v470 k0_hw920 => k0_hw920

def k0_chk921 (v476 : IVec S16 32) : Prop :=
  (∀ a x, ((![v476] : Fin 1 → IVec S16 32) a x).toNat < S8192.size a)
theorem k0_idx921_inb : ∀ (v476 : IVec S16 32) (k0_hw921 : k0_chk921 v476), ∀ a x, ((![v476] : Fin 1 → IVec S16 32) a x).toNat < S8192.size a := fun v476 k0_hw921 => k0_hw921

def k0_chk922 (v482 : IVec S16 32) : Prop :=
  (∀ a x, ((![v482] : Fin 1 → IVec S16 32) a x).toNat < S8192.size a)
theorem k0_idx922_inb : ∀ (v482 : IVec S16 32) (k0_hw922 : k0_chk922 v482), ∀ a x, ((![v482] : Fin 1 → IVec S16 32) a x).toNat < S8192.size a := fun v482 k0_hw922 => k0_hw922

def k0_chk923 (v488 : IVec S16 32) : Prop :=
  (∀ a x, ((![v488] : Fin 1 → IVec S16 32) a x).toNat < S8192.size a)
theorem k0_idx923_inb : ∀ (v488 : IVec S16 32) (k0_hw923 : k0_chk923 v488), ∀ a x, ((![v488] : Fin 1 → IVec S16 32) a x).toNat < S8192.size a := fun v488 k0_hw923 => k0_hw923

def k0_chk924 (v494 : IVec S16 32) : Prop :=
  (∀ a x, ((![v494] : Fin 1 → IVec S16 32) a x).toNat < S8192.size a)
theorem k0_idx924_inb : ∀ (v494 : IVec S16 32) (k0_hw924 : k0_chk924 v494), ∀ a x, ((![v494] : Fin 1 → IVec S16 32) a x).toNat < S8192.size a := fun v494 k0_hw924 => k0_hw924

def k0_chk925 (v500 : IVec S16 32) : Prop :=
  (∀ a x, ((![v500] : Fin 1 → IVec S16 32) a x).toNat < S8192.size a)
theorem k0_idx925_inb : ∀ (v500 : IVec S16 32) (k0_hw925 : k0_chk925 v500), ∀ a x, ((![v500] : Fin 1 → IVec S16 32) a x).toNat < S8192.size a := fun v500 k0_hw925 => k0_hw925

def k0_chk926 (v506 : IVec S16 32) : Prop :=
  (∀ a x, ((![v506] : Fin 1 → IVec S16 32) a x).toNat < S8192.size a)
theorem k0_idx926_inb : ∀ (v506 : IVec S16 32) (k0_hw926 : k0_chk926 v506), ∀ a x, ((![v506] : Fin 1 → IVec S16 32) a x).toNat < S8192.size a := fun v506 k0_hw926 => k0_hw926

def k0_chk927 (v512 : IVec S16 32) : Prop :=
  (∀ a x, ((![v512] : Fin 1 → IVec S16 32) a x).toNat < S8192.size a)
theorem k0_idx927_inb : ∀ (v512 : IVec S16 32) (k0_hw927 : k0_chk927 v512), ∀ a x, ((![v512] : Fin 1 → IVec S16 32) a x).toNat < S8192.size a := fun v512 k0_hw927 => k0_hw927

def k0_chk928 (v518 : IVec S16 32) : Prop :=
  (∀ a x, ((![v518] : Fin 1 → IVec S16 32) a x).toNat < S8192.size a)
theorem k0_idx928_inb : ∀ (v518 : IVec S16 32) (k0_hw928 : k0_chk928 v518), ∀ a x, ((![v518] : Fin 1 → IVec S16 32) a x).toNat < S8192.size a := fun v518 k0_hw928 => k0_hw928
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x2000 : Shape := ⟨2, ![256, 2000]⟩
abbrev S256x500x50 : Shape := ⟨3, ![256, 500, 50]⟩
abbrev S16x1 : Shape := ⟨2, ![16, 1]⟩
abbrev S16 : Shape := ⟨1, ![16]⟩
abbrev S256x2000x1 : Shape := ⟨3, ![256, 2000, 1]⟩
abbrev S1x1x16 : Shape := ⟨3, ![1, 1, 16]⟩
abbrev S256x2000x16 : Shape := ⟨3, ![256, 2000, 16]⟩
abbrev S256x25000 : Shape := ⟨2, ![256, 25000]⟩
abbrev S256x25000x1 : Shape := ⟨3, ![256, 25000, 1]⟩
abbrev S_ : Shape := ⟨0, ![]⟩
abbrev S1 : Shape := ⟨1, ![1]⟩
abbrev S1x1x1 : Shape := ⟨3, ![1, 1, 1]⟩
abbrev S256x25000x16 : Shape := ⟨3, ![256, 25000, 16]⟩
abbrev S256x500x50x16 : Shape := ⟨4, ![256, 500, 50, 16]⟩
abbrev S256x500x16 : Shape := ⟨3, ![256, 500, 16]⟩

abbrev nBuf : Space → Nat
  | .hbm => 40
  | .vmem => 0
  | .smem => 0
  | _ => 0

abbrev bufTy : (tb : Table) → Fin (tcTables nBuf tb) → BufTy
  | .hbm, ⟨0, _⟩ => ⟨S256x2000, .f32⟩
  | .hbm, ⟨1, _⟩ => ⟨S256x500x50, .i32⟩
  | .hbm, ⟨2, _⟩ => ⟨S16x1, .f32⟩
  | .hbm, ⟨3, _⟩ => ⟨S16, .f32⟩
  | .hbm, ⟨4, _⟩ => ⟨S256x2000x1, .f32⟩
  | .hbm, ⟨5, _⟩ => ⟨S16, .f32⟩
  | .hbm, ⟨6, _⟩ => ⟨S1x1x16, .f32⟩
  | .hbm, ⟨7, _⟩ => ⟨S256x2000x16, .f32⟩
  | .hbm, ⟨8, _⟩ => ⟨S256x2000x16, .f32⟩
  | .hbm, ⟨9, _⟩ => ⟨S256x2000x16, .f32⟩
  | .hbm, ⟨10, _⟩ => ⟨S1x1x16, .f32⟩
  | .hbm, ⟨11, _⟩ => ⟨S256x2000x16, .f32⟩
  | .hbm, ⟨12, _⟩ => ⟨S256x2000x16, .f32⟩
  | .hbm, ⟨13, _⟩ => ⟨S256x25000, .i32⟩
  | .hbm, ⟨14, _⟩ => ⟨S256x25000x1, .i32⟩
  | .hbm, ⟨15, _⟩ => ⟨S_, .i32⟩
  | .hbm, ⟨16, _⟩ => ⟨S256x25000x1, .i32⟩
  | .hbm, ⟨17, _⟩ => ⟨S256x25000x1, .i1⟩
  | .hbm, ⟨18, _⟩ => ⟨S_, .i32⟩
  | .hbm, ⟨19, _⟩ => ⟨S256x25000x1, .i32⟩
  | .hbm, ⟨20, _⟩ => ⟨S256x25000x1, .i32⟩
  | .hbm, ⟨21, _⟩ => ⟨S256x25000x1, .i32⟩
  | .hbm, ⟨22, _⟩ => ⟨S1, .i32⟩
  | .hbm, ⟨23, _⟩ => ⟨S_, .i32⟩
  | .hbm, ⟨24, _⟩ => ⟨S256x25000x1, .i32⟩
  | .hbm, ⟨25, _⟩ => ⟨S256x25000x1, .i1⟩
  | .hbm, ⟨26, _⟩ => ⟨S1x1x1, .i32⟩
  | .hbm, ⟨27, _⟩ => ⟨S256x25000x1, .i32⟩
  | .hbm, ⟨28, _⟩ => ⟨S256x25000x1, .i1⟩
  | .hbm, ⟨29, _⟩ => ⟨S256x25000x1, .i1⟩
  | .hbm, ⟨30, _⟩ => ⟨S_, .i1⟩
  | .hbm, ⟨31, _⟩ => ⟨S256x25000, .i1⟩
  | .hbm, ⟨32, _⟩ => ⟨S256x25000x16, .f32⟩
  | .hbm, ⟨33, _⟩ => ⟨S256x25000x16, .i1⟩
  | .hbm, ⟨34, _⟩ => ⟨S_, .f32⟩
  | .hbm, ⟨35, _⟩ => ⟨S256x25000x16, .f32⟩
  | .hbm, ⟨36, _⟩ => ⟨S256x25000x16, .f32⟩
  | .hbm, ⟨37, _⟩ => ⟨S256x500x50x16, .f32⟩
  | .hbm, ⟨38, _⟩ => ⟨S_, .f32⟩
  | .hbm, ⟨39, _⟩ => ⟨S256x500x16, .f32⟩
  | _, _ => ⟨S256x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩

abbrev nD : Nat := 1
abbrev τ : Topo := Topo.v7x

variable {F : FTy → Type} [FloatOps F]
-- ==== Proof.KernelIdeal.Text.lean ====
/-
  The vector-subcore kernel, written as a short recursive program: the printed text unrolls its
  fifty gathers, its sixteen scatters, its thirty-eight zero stores and its eight rows; here each is a
  recursion, so that each is proved once. `body_eq` says that the two are the same program.
-/
module

public import proofs.«01_k».proof.Defs
public import proofs.«01_k».proof.Proof.Gen.KernelIdeal
public import proofs.«01_k».proof.Proof.Gen.KernelIdeal.Skeleton
public import Idealize.ShloMosaic.Lib.SparseCore.Ops

@[expose] public section

noncomputable section

namespace Cert.Proof.KernelIdeal

open Cert.KernelIdeal Cert.KernelIdeal.Gen
open Idealize.ShloMosaic Idealize.SL.Sem

variable {F : FTy → Type} [FloatOps F]

/-! ## The buffers -/

/-- The weights, the memberships, the layer's column, its bias and the result, as a tile names them. -/
abbrev wA : Memref sig .scVector .hbm S512000 .f32 := Memref.whole main_v1_scv
abbrev mA : Memref sig .scVector .hbm S6400000 .i32 := Memref.whole main_v0_scv
abbrev cA : Memref sig .scVector .hbm S16 .f32 := Memref.whole main_v2_scv
abbrev bA : Memref sig .scVector .hbm S16 .f32 := Memref.whole main_arg3_scv
abbrev oA : Memref sig .scVector .hbm S2048000 .f32 := Memref.whole main_v3_scv
/-- A tile's scratch: one row of weights, one row of memberships, the column, the bias, one row of results. -/
abbrev wS : Memref sig .scVector .vmem S2000 .f32 := Memref.whole cc0_scratch0
abbrev mS : Memref sig .scVector .vmem S25600 .i32 := Memref.whole cc0_scratch1
abbrev cS : Memref sig .scVector .vmem S16 .f32 := Memref.whole cc0_scratch2
abbrev bS : Memref sig .scVector .vmem S16 .f32 := Memref.whole cc0_scratch3
abbrev oS : Memref sig .scVector .vmem S8192 .f32 := Memref.whole cc0_scratch4

/-- The tile at grid point `i`. -/
abbrev tile (i : grid0.Coords) : Proc τ := .scVector ((i 0).castLE hcore0) ((i 1).castLE hsub0)
/-- A program of that tile. -/
abbrev TP (F : FTy → Type) (i : grid0.Coords) (α : Type) := Prog (TpuEff nD τ sig (Elt F) Λ₀ (tile i)) α

/-! ## One trip: sixteen sets -/

/-- `n` gathers from the `k`-th on: the membership words at `a + k`, the weights they name, added to `acc`. -/
def gather (i : grid0.Coords) (a : IVec S16 32) : (n k : Nat) → FVec F S16 .f32 → TP F i (FVec F S16 .f32)
  | 0, _, acc => pure acc
  | n + 1, k, acc => do
    have v : IVec S16 32 := addi a (broadcast S16 (BitVec.ofNat 32 k))
    have h : k0_chk1 v := (← Prog.lift (TpuEff.assume (k0_chk1 v) (k0_chk1.dec v))).down
    let w : Vec F S16 .i32 ← SparseCore.vectorLoadIdx mS ![v] (k0_idx1_inb v h) (View.loads_vmem h_S25600)
    have h' : k0_chk2 w := (← Prog.lift (TpuEff.assume (k0_chk2 w) (k0_chk2.dec w))).down
    let x : Vec F S16 .f32 ← SparseCore.vectorLoadIdx wS ![w] (k0_idx2_inb w h') (View.loads_vmem h_S2000)
    gather i a n (k + 1) (addf acc x)

theorem slices (d : Nat) (h : d < 16) : S16.Slices ![d] S1 :=
  (by decide : ∀ d : Fin 16, S16.Slices ![d.val] S1) ⟨d, h⟩

/-- Lane `d` of a vector, as the kernel takes it out. -/
def lane (v : FVec F S16 .f32) (d : Nat) (h : d < 16) : F .f32 :=
  extractAt ![0] (extractStridedSlice S1 ![d] v (slices d h)) inpos_S1_p0

/-- `n` scatters from lane `d` on: `acc * c[d] + b[d]` written at `p + d`. -/
def scatter (i : grid0.Coords) (p : IVec S16 32) (acc c b : FVec F S16 .f32) : (n d : Nat) → n + d ≤ 16 → TP F i PUnit
  | 0, _, _ => pure ⟨⟩
  | n + 1, d, h => do
    have v : IVec S16 32 := addi p (broadcast S16 (BitVec.ofNat 32 d))
    have hv : k0_chk101 v := (← Prog.lift (TpuEff.assume (k0_chk101 v) (k0_chk101.dec v))).down
    SparseCore.vectorStoreIdx oS ![v]
      (addf (mulf acc (broadcast S16 (lane c d (by omega)))) (broadcast S16 (lane b d (by omega))))
      (fun _ => 1#1) false (k0_idx101_inb v hv) (View.stores_vmem_bits_univ h_S8192 rfl)
    scatter i p acc c b n (d + 1) (by omega)

/-- The lane's set within sixteen, times fifty: where its memberships start; times sixteen: where its results go. -/
abbrev lane50 : IVec S16 32 := muli (iota .scVector S16 32 [0] iota_S16_d0_w32_scVector) (broadcast S16 50#32)
abbrev lane16 : IVec S16 32 := muli (iota .scVector S16 32 [0] iota_S16_d0_w32_scVector) (broadcast S16 16#32)

/-- One trip of a row's loop: fifty gathers, sixteen scatters. -/
def trip (i : grid0.Coords) (c b : FVec F S16 .f32) (t : Fin k0_t1_loop.trips) (_ : BitVec 32) : TP F i (BitVec 32) := do
  let acc ← gather i (addi lane50 (broadcast S16 (Scalar.muli (Scf.iv 0#32 1#32 t) 800#32))) 50 0
    (broadcast S16 (Scalar.ofBits .f32 0x00000000#32))
  scatter i (addi lane16 (broadcast S16 (Scalar.muli (Scf.iv 0#32 1#32 t) 256#32))) acc c b 16 0 (by omega)
  pure 0#32

/-! ## One row -/

/-- The semaphore scoped at the `n`-th copy. -/
def rsem (n : Nat) (h : n + S_.numel ≤ 26) : DmaSem sig := (SemArray.consecutive n S_ h : DmaSems sig S_).sem

/-- Row `r` of a tile's eight in the three arrays, and the part of a scratch row a copy fills or reads. -/
abbrev wRow (i : grid0.Coords) (r : Fin 8) : Memref sig .scVector .hbm S2000 .f32 :=
  wA.slice (Rect.unit (s := S512000) (k0_off1 i (BitVec.ofNat 32 r.val)) S2000.size (k0_off1_inb i r)) (fun _ => rfl)
abbrev mRow (i : grid0.Coords) (r : Fin 8) : Memref sig .scVector .hbm S25000 .i32 :=
  mA.slice (Rect.unit (s := S6400000) (k0_off2 i (BitVec.ofNat 32 r.val)) S25000.size (k0_off2_inb i r)) (fun _ => rfl)
abbrev oRow (i : grid0.Coords) (r : Fin 8) : Memref sig .scVector .hbm S8000 .f32 :=
  oA.slice (Rect.unit (s := S2048000) (k0_off3 i (BitVec.ofNat 32 r.val)) S8000.size (k0_off3_inb i r)) (fun _ => rfl)
abbrev mFill : Memref sig .scVector .vmem S25000 .i32 :=
  mS.slice (Rect.unit (s := S25600) ![0] S25000.size inb_S25600_S25000_0) (fun _ => rfl)
abbrev oFill : Memref sig .scVector .vmem S8000 .f32 :=
  oS.slice (Rect.unit (s := S8192) ![0] S8000.size inb_S8192_S8000_0) (fun _ => rfl)

/-- One row: its weights in, its memberships in, thirty-two trips, its results out. -/
def row (i : grid0.Coords) (c b : FVec F S16 .f32) (r : Fin 8) (sw sm so : DmaSem sig) : TP F i PUnit := do
  Prog.lift (.enqueueDma (wRow i r) (.here wS) (.dma sw) (View.wordExact_bits rfl) (Memref.isWhole_whole _).wordExact ⟨Or.inl rfl, trivial⟩)
  Prog.lift (.waitDma2 sw (wRow i r) wS (View.wordExact_bits rfl) (Memref.isWhole_whole _).wordExact)
  Prog.lift (.enqueueDma (mRow i r) (.here mFill) (.dma sm) (View.wordExact_bits rfl) (View.wordExact_bits rfl) ⟨Or.inl rfl, trivial⟩)
  Prog.lift (.waitDma2 sm (mRow i r) mFill (View.wordExact_bits rfl) (View.wordExact_bits rfl))
  let _ ← Scf.Loop.for k0_t1_loop k0_t1_ok 0#32 (trip i c b)
  Prog.lift (.enqueueDma oFill (.here (oRow i r)) (.dma so) (View.wordExact_bits rfl) (View.wordExact_bits rfl) ⟨Or.inl rfl, trivial⟩)
  Prog.lift (.waitDma2 so oFill (oRow i r) (View.wordExact_bits rfl) (View.wordExact_bits rfl))

theorem rsem_le {r : Nat} (h : r < 8) (j : Fin 3) : 2 + 3 * r + j.val + S_.numel ≤ 26 :=
  (by decide : ∀ (r : Fin 8) (j : Fin 3), 2 + 3 * r.val + j.val + S_.numel ≤ 26) ⟨r, h⟩ j

/-- `n` rows from the `r`-th on. -/
def rows (i : grid0.Coords) (c b : FVec F S16 .f32) : (n r : Nat) → n + r ≤ 8 → TP F i PUnit
  | 0, _, _ => pure ⟨⟩
  | n + 1, r, h => do
    row i c b ⟨r, by omega⟩ (rsem (2 + 3 * r) (rsem_le (by omega) 0)) (rsem (3 + 3 * r) (by have := rsem_le (r := r) (by omega) 1; simp only [Fin.val_one] at this; omega))
      (rsem (4 + 3 * r) (by have := rsem_le (r := r) (by omega) 2; simp only [Fin.val_two] at this; omega))
    rows i c b n (r + 1) (by omega)

/-! ## The tail of the memberships, and the whole body -/

theorem inb16 (k : Nat) (h : k < 38) : ∀ a, (![24992 + 16 * k] : Fin 1 → Nat) a + S16.size a ≤ S25600.size a :=
  (by decide : ∀ k : Fin 38, ∀ a, (![24992 + 16 * k.val] : Fin 1 → Nat) a + S16.size a ≤ S25600.size a) ⟨k, h⟩

/-- `n` sixteens of zeros from the `k`-th on, each after a load of what it overwrites. -/
def zeros (i : grid0.Coords) : (n k : Nat) → n + k ≤ 38 → TP F i PUnit
  | 0, _, _ => pure ⟨⟩
  | n + 1, k, h => do
    let _ ← Prog.lift (.load mS (Rect.unit (s := S25600) ![24992 + 16 * k] S16.size (inb16 k (by omega))).toLoadRect
      (View.loadsAt_vmem h_S16))
    Prog.lift (.store mS (Rect.unit (s := S25600) ![24992 + 16 * k] S16.size (inb16 k (by omega)))
      (broadcast S16 0#32) Finset.univ (View.stores_vmem_bits_univ h_S16 rfl) (.inl rfl))
    zeros i n (k + 1) (by omega)

/-- The body: the column and the bias in, the zeros, then the eight rows with the bias times fifty. -/
def body (i : grid0.Coords) : TP F i PUnit := do
  Prog.lift (.enqueueDma cA (.here cS) (.dma (rsem 0 (by decide))) (Memref.isWhole_whole _).wordExact (Memref.isWhole_whole _).wordExact ⟨Or.inl rfl, trivial⟩)
  Prog.lift (.waitDma2 (rsem 0 (by decide)) cA cS (Memref.isWhole_whole _).wordExact (Memref.isWhole_whole _).wordExact)
  Prog.lift (.enqueueDma bA (.here bS) (.dma (rsem 1 (by decide))) (Memref.isWhole_whole _).wordExact (Memref.isWhole_whole _).wordExact ⟨Or.inl rfl, trivial⟩)
  Prog.lift (.waitDma2 (rsem 1 (by decide)) bA bS (Memref.isWhole_whole _).wordExact (Memref.isWhole_whole _).wordExact)
  zeros i 38 0 (by omega)
  let c : Vec F S16 .f32 ← Prog.lift (.load cS (Rect.unit (s := S16) ![0] S16.size inb_S16_S16_0).toLoadRect (View.loadsAt_vmem h_S16))
  let b : Vec F S16 .f32 ← Prog.lift (.load bS (Rect.unit (s := S16) ![0] S16.size inb_S16_S16_0).toLoadRect (View.loadsAt_vmem h_S16))
  rows i c (mulf (broadcast S16 (Scalar.ofBits .f32 0x42480000#32)) b) 8 0 (by omega)

/-- Two programs whose first operations are equal and whose continuations agree are equal. -/
theorem op_congr {ε : Type → Type} {β α : Type} (e : ε β) {k k' : β → Prog ε α} (h : ∀ x, k x = k' x) :
    Prog.op e k = Prog.op e k' := congrArg _ (funext h)

end Cert.Proof.KernelIdeal

end
-- ==== Proof.KernelIdeal.Base.lean ====
/-
  The program as the launch theorem sees it, the resource algebra, and the row's values: what a tile's loop
  computes from one row of weights and one row of memberships.
-/
module

public import proofs.«01_k».proof.Proof.KernelIdeal.Text
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The resources: the handshakes' rounds library beside the transfers' counters. -/
abbrev UH : Type := URounds (GSem nD τ sig) ℕ
abbrev UU : Type := UH × Counters
abbrev EH : Emb UH (MT nD τ sig (HIx 1) (Elt F) ℕ UU ℕ) := embL

/-- The thread of the tile at grid point `i` of device `d`. -/
abbrev th (d : Dev nD) (i : grid0.Coords) : Thread nD τ := V d ((i 0).castLE hcore0) ((i 1).castLE hsub0)

/-! ## Values -/

/-- The index `n` of a rank-one array, wrapped into its extent. -/
def ix {N : Nat} (hN : 0 < N) (n : Nat) : (⟨1, ![N]⟩ : Shape).Idx := fun a =>
  ⟨n % N, (Nat.mod_lt _ hN).trans_eq (by obtain rfl : a = 0 := Subsingleton.elim _ _; rfl)⟩

theorem ix_self {N : Nat} (hN : 0 < N) (j : (⟨1, ![N]⟩ : Shape).Idx) : ix hN (j 0).val = j := by
  funext a; apply Fin.ext
  obtain rfl : a = 0 := Subsingleton.elim _ _
  exact Nat.mod_eq_of_lt (j 0).isLt

theorem ix_val {N : Nat} (hN : 0 < N) {n : Nat} (h : n < N) : (ix hN n 0).val = n := Nat.mod_eq_of_lt h

theorem idx_ext {N : Nat} {j k : (⟨1, ![N]⟩ : Shape).Idx} (h : (j 0).val = (k 0).val) : j = k := by
  funext a; apply Fin.ext
  obtain rfl : a = 0 := Subsingleton.elim _ _
  exact h

variable [FloatOps F]

/-- `n` items of a set from the `k`-th on, added to `acc`: the weights `w` at the memberships `mm` from `p` on. -/
def sumFrom (w : Vec F S2000 .f32) (mm : Vec F S25600 .i32) (p : Nat) : (n k : Nat) → F .f32 → F .f32
  | 0, _, acc => acc
  | n + 1, k, acc =>
    sumFrom w mm p n (k + 1) (FloatOps.addf acc (w (ix (by decide) (mm (ix (by decide) (p + k)) : BitVec 32).toNat)))

/-- The row's result at position `j`, sixteen positions to a set: the set's sum times the column's entry plus the
    bias's. -/
def rowVal (w : Vec F S2000 .f32) (mm : Vec F S25600 .i32) (c b : FVec F S16 .f32) (j : Nat) : F .f32 :=
  FloatOps.addf (FloatOps.mulf (sumFrom w mm (50 * (j / 16)) 50 0 (FloatOps.ofBits .f32 0x00000000#32)) (c (ix (by decide) (j % 16))))
    (b (ix (by decide) (j % 16)))

/-! ## Lanes -/

theorem addi_toNat (a : IVec S16 32) (n : Nat) (x : S16.Idx) (h : (a x).toNat + n < 2 ^ 32) :
    (addi a (broadcast S16 (BitVec.ofNat 32 n)) x).toNat = (a x).toNat + n := by
  show (a x + BitVec.ofNat 32 n).toNat = _
  rw [BitVec.toNat_add, BitVec.toNat_ofNat]; omega

theorem lane50_toNat (x : S16.Idx) : (lane50 x).toNat = 50 * (x 0).val := by
  have h : lane50 x = BitVec.ofNat 32 (x 0).val * 50#32 := by
    show (iota .scVector S16 32 [0] iota_S16_d0_w32_scVector x) * _ = _
    simp only [iota, List.foldl_cons, List.foldl_nil, Nat.zero_mul, Nat.zero_add]
    rfl
  rw [h]
  exact (by decide : ∀ l : Fin 16, ((BitVec.ofNat 32 l.val * 50#32 : BitVec 32)).toNat = 50 * l.val) (x 0)
theorem lane16_toNat (x : S16.Idx) : (lane16 x).toNat = 16 * (x 0).val := by
  have h : lane16 x = BitVec.ofNat 32 (x 0).val * 16#32 := by
    show (iota .scVector S16 32 [0] iota_S16_d0_w32_scVector x) * _ = _
    simp only [iota, List.foldl_cons, List.foldl_nil, Nat.zero_mul, Nat.zero_add]
    rfl
  rw [h]
  exact (by decide : ∀ l : Fin 16, ((BitVec.ofNat 32 l.val * 16#32 : BitVec 32)).toNat = 16 * l.val) (x 0)

theorem trips_eq : k0_t1_loop.trips = 32 := by decide

theorem iv_muli (t : Nat) (n : Nat) (h : t < 32) (hn : n ≤ 800) :
    Scalar.muli (Scf.iv 0#32 1#32 t) (BitVec.ofNat 32 n) = BitVec.ofNat 32 (n * t) := by
  show (0#32 + BitVec.ofNat 32 t * 1#32) * BitVec.ofNat 32 n = _
  apply BitVec.eq_of_toNat_eq
  have : n * t ≤ 800 * 32 := Nat.mul_le_mul hn h.le
  simp [BitVec.toNat_mul, Nat.mul_comm t n]

theorem lane_eq (v : FVec F S16 .f32) (d : Nat) (h : d < 16) : lane v d h = v (ix (by decide) d) := by
  show v _ = v _
  congr 1
  apply idx_ext
  rw [ix_val _ h]
  rfl

end Cert.Proof.KernelIdeal

end
-- ==== Proof.KernelIdeal.Trip.lean ====
/-
  One trip of a row's loop: the gathers add up the weights each lane's set names, the scatters leave sixteen
  results per lane.
-/
module

public import proofs.«01_k».proof.Proof.KernelIdeal.Base

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F]

local notation "𝕄" => MT nD τ sig (HIx 1) (Elt F) ℕ UU ℕ

/-! ## What a scatter leaves -/

/-- Steps that each put `g` at the positions they hit and leave the others leave `g` where some step hit and the old
    contents where none did. -/
theorem foldl_hits {A J X : Type} (step : (J → X) → A → J → X) (hit : A → J → Prop) (g : J → X)
    (hs : ∀ f k j, (hit k j → step f k j = g j) ∧ (¬ hit k j → step f k j = f j)) (j : J) :
    ∀ (l : List A) (f : J → X), ((∃ k ∈ l, hit k j) → l.foldl step f j = g j) ∧ ((∀ k ∈ l, ¬ hit k j) → l.foldl step f j = f j) := by
  intro l
  induction l with
  | nil => intro f; exact ⟨fun ⟨_, h, _⟩ => absurd h List.not_mem_nil, fun _ => rfl⟩
  | cons k l ih =>
    intro f
    rw [List.foldl_cons]
    refine ⟨fun ⟨k', hk', h⟩ => ?_, fun h => ?_⟩
    · by_cases hl : ∃ k ∈ l, hit k j
      · exact (ih _).1 hl
      · rcases List.mem_cons.mp hk' with rfl | hk'
        · rw [(ih _).2 fun k hk h => hl ⟨k, hk, h⟩]; exact (hs f k' j).1 h
        · exact absurd ⟨k', hk', h⟩ hl
    · rw [(ih _).2 fun k hk => h k (List.mem_cons_of_mem _ hk)]; exact (hs f k j).2 (h k List.mem_cons_self)

/-- An indexed store whose lanes each carry the value a function `g` names at their target leaves `g` at the targets and
    the old contents elsewhere. -/
theorem storeIdx_apply {N : Nat} (f : Vec F ⟨1, ![N]⟩ .f32) (v : IVec S16 32) (y : FVec F S16 .f32)
    (h : ∀ a x, ((![v] : Fin 1 → IVec S16 32) a x).toNat < (⟨1, ![N]⟩ : Shape).size a) (g : Nat → F .f32)
    (hy : ∀ x, y x = g (v x).toNat) (j : (⟨1, ![N]⟩ : Shape).Idx) :
    ((∃ x, (v x).toNat = (j 0).val) → storeIdx f ![v] y (fun _ => 1#1) false h j = g (j 0).val)
      ∧ ((∀ x, (v x).toNat ≠ (j 0).val) → storeIdx f ![v] y (fun _ => 1#1) false h j = f j) := by
  have hof : ∀ x : S16.Idx, (Shape.ofLane (x 0) : S16.Idx) = x := fun x => by
    funext a; obtain rfl : a = 0 := Subsingleton.elim _ _; rfl
  unfold storeIdx
  refine ⟨fun ⟨x, e⟩ => (foldl_hits _ (fun (k : Fin 16) j => (v (Shape.ofLane k : S16.Idx)).toNat = (j 0).val) (fun j => g (j 0).val) ?_ j
      (List.finRange 16) f).1 ⟨x 0, List.mem_finRange _, by rw [hof]; exact e⟩,
    fun e => (foldl_hits _ (fun (k : Fin 16) j => (v (Shape.ofLane k : S16.Idx)).toNat = (j 0).val) (fun j => g (j 0).val) ?_ j
      (List.finRange 16) f).2 fun k _ => e _⟩
  all_goals
    intro f' k j
    have hi : (∀ a, (j a).val = (idxAt ![v] h (Shape.ofLane k : S16.Idx) a).val) ↔ (v (Shape.ofLane k : S16.Idx)).toNat = (j 0).val :=
      ⟨fun e => (e 0).symm, fun e a => by obtain rfl : a = 0 := Subsingleton.elim _ _; exact e.symm⟩
    refine ⟨fun e => (congrFun (if_pos rfl) j).trans ((if_pos (hi.mpr e)).trans ((if_neg Bool.false_ne_true).trans ?_)),
      fun e => (congrFun (if_pos rfl) j).trans (if_neg (hi.not.mpr e))⟩
    rw [hy, e]

/-! ## The gathers -/

variable (d : Dev nD) (i : grid0.Coords)

/-- A tile's scratch buffers at given contents. -/
abbrev wPts (f : Vec F S2000 .f32) : sProp 𝕄 := (th d i).loc cc0_scratch0 ↦{fullShare} f
abbrev mPts (f : Vec F S25600 .i32) : sProp 𝕄 := (th d i).loc cc0_scratch1 ↦{fullShare} f
abbrev oPts (f : Vec F S8192 .f32) : sProp 𝕄 := (th d i).loc cc0_scratch4 ↦{fullShare} f

variable {α : Type}

/-- An indexed load of a tile's memberships. -/
theorem wp_loadM {f : Vec F S25600 .i32} {idxs : Fin S25600.rank → IVec S16 32} {h : ∀ a x, (idxs a x).toNat < S25600.size a}
    {hl : (mS : Memref sig .scVector .vmem S25600 .i32).view.Loads} {k : Vec F S16 .i32 → TP F i α} {Q : α → sProp 𝕄} :
    mPts d i f ⊢ iprop((mPts d i f -∗ wp frame (wpE (defs₀ (F := F)) 𝒱₀ (th d i) none) Set.univ (k (loadIdx f idxs h)) Q)
      -∗ wp frame (wpE (defs₀ (F := F)) 𝒱₀ (th d i) none) Set.univ (SparseCore.vectorLoadIdx mS idxs h hl >>= k) Q) := by
  have hr : ((mS : Memref sig .scVector .vmem S25600 .i32).access (.whole S25600)).read (Elt F) f = f := Memref.read_access_whole _ _ _
  have H := SparseCore.wp_vectorLoadIdx (defs := defs₀ (F := F)) (Q := Q) 𝒱₀ (th d i) none Set.univ (base := (mS : Memref sig .scVector .vmem S25600 .i32)) (idxs := idxs) (h := h)
    (hl := hl) (k := k) (S := Finset.univ) (q := fullShare) (f := f) (Finset.subset_univ _)
  rw [hr] at H
  exact H

/-- An indexed load of a tile's weights. -/
theorem wp_loadW {f : Vec F S2000 .f32} {idxs : Fin S2000.rank → IVec S16 32} {h : ∀ a x, (idxs a x).toNat < S2000.size a}
    {hl : (wS : Memref sig .scVector .vmem S2000 .f32).view.Loads} {k : Vec F S16 .f32 → TP F i α} {Q : α → sProp 𝕄} :
    wPts d i f ⊢ iprop((wPts d i f -∗ wp frame (wpE (defs₀ (F := F)) 𝒱₀ (th d i) none) Set.univ (k (loadIdx f idxs h)) Q)
      -∗ wp frame (wpE (defs₀ (F := F)) 𝒱₀ (th d i) none) Set.univ (SparseCore.vectorLoadIdx wS idxs h hl >>= k) Q) := by
  have hr : ((wS : Memref sig .scVector .vmem S2000 .f32).access (.whole S2000)).read (Elt F) f = f := Memref.read_access_whole _ _ _
  have H := SparseCore.wp_vectorLoadIdx (defs := defs₀ (F := F)) (Q := Q) 𝒱₀ (th d i) none Set.univ (base := (wS : Memref sig .scVector .vmem S2000 .f32)) (idxs := idxs) (h := h)
    (hl := hl) (k := k) (S := Finset.univ) (q := fullShare) (f := f) (Finset.subset_univ _)
  rw [hr] at H
  exact H

/-- An indexed store into a tile's results. -/
theorem wp_storeO {f : Vec F S8192 .f32} {idxs : Fin S8192.rank → IVec S16 32} {y : FVec F S16 .f32} {mask : IVec S16 1} {add : Bool}
    {h : ∀ a x, (idxs a x).toNat < S8192.size a} {hs : ((oS : Memref sig .scVector .vmem S8192 .f32).access (.whole S8192)).Stores Finset.univ}
    {k : PUnit → TP F i α} {Q : α → sProp 𝕄} :
    oPts d i f ⊢ iprop((oPts d i (storeIdx f idxs y mask add h) -∗ wp frame (wpE (defs₀ (F := F)) 𝒱₀ (th d i) none) Set.univ (k ⟨⟩) Q)
      -∗ wp frame (wpE (defs₀ (F := F)) 𝒱₀ (th d i) none) Set.univ (SparseCore.vectorStoreIdx oS idxs y mask add h hs >>= k) Q) := by
  have hr : ((oS : Memref sig .scVector .vmem S8192 .f32).access (.whole S8192)).read (Elt F) f = f := Memref.read_access_whole _ _ _
  have hw : ∀ g : Vec F S8192 .f32, ((oS : Memref sig .scVector .vmem S8192 .f32).access (.whole S8192)).write (Elt F) f g Finset.univ = g :=
    fun g => Memref.write_access_whole_univ _ _ _ _
  have H := SparseCore.wp_vectorStoreIdx (defs := defs₀ (F := F)) (Q := Q) 𝒱₀ (th d i) none Set.univ (base := (oS : Memref sig .scVector .vmem S8192 .f32)) (idxs := idxs) (h := h)
    (v := y) (mask := mask) (add := add) (hs := hs) (k := k) (f := f)
  rw [hr, hw, show ((oS : Memref sig .scVector .vmem S8192 .f32).access (.whole S8192)).set = Finset.univ from Memref.set_access_whole _] at H
  exact H

/-- `n` gathers: the memberships and the weights stay, the lanes hold their partial sums. -/
theorem wp_gather {w : Vec F S2000 .f32} {mm : Vec F S25600 .i32} (hmm : ∀ j, (mm j : BitVec 32).toNat < 2000) {a : IVec S16 32}
    (kk : FVec F S16 .f32 → TP F i α) (Q : α → sProp 𝕄) :
    ∀ (n k : Nat) (acc : FVec F S16 .f32), (∀ x, (a x).toNat + (k + n) ≤ 25600) →
    iprop(mPts d i mm ∗ wPts d i w)
      ⊢ iprop((iprop(mPts d i mm ∗ wPts d i w)
          -∗ wp frame (wpE (defs₀ (F := F)) 𝒱₀ (th d i) none) Set.univ (kk fun x => sumFrom w mm (a x).toNat n k (acc x)) Q)
        -∗ wp frame (wpE (defs₀ (F := F)) 𝒱₀ (th d i) none) Set.univ (gather i a n k acc >>= kk) Q) := by
  intro n
  induction n with
  | zero =>
    intro k acc _
    iintro H Hk
    iapply Hk; iexact H
  | succ n ih =>
    intro k acc ha
    have hv : ∀ x, (addi a (broadcast S16 (BitVec.ofNat 32 k)) x).toNat = (a x).toNat + k :=
      fun x => addi_toNat a k x (by have := ha x; omega)
    have h1 : k0_chk1 (addi a (broadcast S16 (BitVec.ofNat 32 k))) := by
      intro b x; obtain rfl : b = 0 := Subsingleton.elim _ _
      show (addi a (broadcast S16 (BitVec.ofNat 32 k)) x).toNat < 25600
      rw [hv]; have := ha x; omega
    have h2 : k0_chk2 (loadIdx mm ![addi a (broadcast S16 (BitVec.ofNat 32 k))] h1) := by
      intro b x; obtain rfl : b = 0 := Subsingleton.elim _ _
      exact hmm _
    unfold gather
    simp only [bind_assoc]
    simp only [Prog.lift, Prog.bind_op, Prog.bind_ret, Prog.pure_eq_ret]
    rw [wp_assume_of _ _ _ _ h1]
    iintro ⟨Hm, Hw⟩ Hk
    iapply (wp_loadM (F := F) d i) $$ Hm
    iintro Hm
    rw [wp_assume_of _ _ _ _ h2]
    iapply (wp_loadW (F := F) d i) $$ Hw
    iintro Hw
    have hsum : (fun x => sumFrom w mm (a x).toNat n (k + 1)
          (addf acc (loadIdx w ![loadIdx mm ![addi a (broadcast S16 (BitVec.ofNat 32 k))] h1] h2) x))
        = fun x => sumFrom w mm (a x).toNat (n + 1) k (acc x) := by
      funext x
      show _ = sumFrom w mm (a x).toNat n (k + 1) _
      refine congrArg (fun z => sumFrom w mm (a x).toNat n (k + 1) (FloatOps.addf (acc x) (w z))) ?_
      apply idx_ext
      have e : mm (idxAt ![addi a (broadcast S16 (BitVec.ofNat 32 k))] h1 x) = mm (ix (by decide) ((a x).toNat + k)) := by
        congr 1
        apply idx_ext
        rw [ix_val _ (by have := ha x; omega)]
        exact hv x
      rw [ix_val _ (hmm _), ← e]
      rfl
    iapply (ih (k + 1) _ (fun x => by have := ha x; omega)) $$ [Hm Hw]
    · isplitl [Hm] <;> iassumption
    rw [hsum]
    iexact Hk

/-! ## The scatters -/

/-- A row's results once trip `t`'s scatters have done columns below `n`: `g` there, the old contents elsewhere. -/
def scat (g : Nat → F .f32) (t n : Nat) (f : Vec F S8192 .f32) : Vec F S8192 .f32 := fun j =>
  if 256 * t ≤ (j 0).val ∧ (j 0).val < 256 * (t + 1) ∧ (j 0).val % 16 < n then g (j 0).val else f j

theorem wp_scatter {p : IVec S16 32} {t : Nat} (ht : t < 32) (hp : ∀ x, (p x).toNat = 256 * t + 16 * (x 0).val) {acc c b : FVec F S16 .f32}
    (g : Nat → F .f32)
    (hg : ∀ x n, n < 16 → g (256 * t + 16 * (x 0).val + n)
      = FloatOps.addf (FloatOps.mulf (acc x) (c (ix (by decide) n))) (b (ix (by decide) n)))
    (f : Vec F S8192 .f32) (kk : PUnit → TP F i α) (Q : α → sProp 𝕄) :
    ∀ (n k : Nat) (h : n + k ≤ 16),
    oPts d i (scat g t k f)
      ⊢ iprop((oPts d i (scat g t (k + n) f) -∗ wp frame (wpE (defs₀ (F := F)) 𝒱₀ (th d i) none) Set.univ (kk ⟨⟩) Q)
        -∗ wp frame (wpE (defs₀ (F := F)) 𝒱₀ (th d i) none) Set.univ (scatter i p acc c b n k h >>= kk) Q) := by
  intro n
  induction n with
  | zero =>
    intro k h
    iintro H Hk
    iapply Hk; iexact H
  | succ n ih =>
    intro k h
    have hv : ∀ x, (addi p (broadcast S16 (BitVec.ofNat 32 k)) x).toNat = 256 * t + 16 * (x 0).val + k := fun x => by
      rw [addi_toNat p k x (by rw [hp]; have : (x 0).val < 16 := (x 0).isLt; omega), hp]
    have h1 : k0_chk101 (addi p (broadcast S16 (BitVec.ofNat 32 k))) := by
      intro b x; obtain rfl : b = 0 := Subsingleton.elim _ _
      show (addi p (broadcast S16 (BitVec.ofNat 32 k)) x).toNat < 8192
      rw [hv]; have : (x 0).val < 16 := (x 0).isLt; omega
    have hst : storeIdx (scat g t k f) ![addi p (broadcast S16 (BitVec.ofNat 32 k))]
        (addf (mulf acc (broadcast S16 (lane c k (by omega)))) (broadcast S16 (lane b k (by omega)))) (fun _ => 1#1) false h1
        = scat g t (k + 1) f := by
      funext j
      have H := storeIdx_apply (scat g t k f) (addi p (broadcast S16 (BitVec.ofNat 32 k)))
        (addf (mulf acc (broadcast S16 (lane c k (by omega)))) (broadcast S16 (lane b k (by omega)))) h1 g
        (fun x => by rw [hv, hg x k (by omega), ← lane_eq c k (by omega), ← lane_eq b k (by omega)]; rfl) j
      by_cases hit : ∃ x : S16.Idx, (addi p (broadcast S16 (BitVec.ofNat 32 k)) x).toNat = (j 0).val
      · rw [H.1 hit]
        obtain ⟨x, e⟩ := hit
        rw [hv] at e
        have : (x 0).val < 16 := (x 0).isLt
        exact (if_pos (by omega)).symm
      · rw [H.2 fun x e => hit ⟨x, e⟩]
        unfold scat
        have hne : ¬ (256 * t ≤ (j 0).val ∧ (j 0).val < 256 * (t + 1) ∧ (j 0).val % 16 = k) := by
          rintro ⟨h1, h2, h3⟩
          refine hit ⟨ix (by decide) (((j 0).val - 256 * t) / 16), ?_⟩
          rw [hv, ix_val _ (by omega)]; omega
        congr 1
        apply propext
        constructor
        · rintro ⟨h1, h2, h3⟩; exact ⟨h1, h2, by omega⟩
        · rintro ⟨h1, h2, h3⟩; exact ⟨h1, h2, by by_contra h4; exact hne ⟨h1, h2, by omega⟩⟩
    unfold scatter
    simp only [bind_assoc]
    simp only [Prog.lift, Prog.bind_op, Prog.bind_ret, Prog.pure_eq_ret]
    rw [wp_assume_of _ _ _ _ h1]
    iintro H Hk
    iapply (wp_storeO (F := F) d i) $$ H
    rw [hst]
    iintro H
    iapply (ih (k + 1) _) $$ H
    rw [show k + 1 + n = k + (n + 1) by omega]
    iexact Hk

/-- A row's results once the trips below `t` are done. -/
def done (g : Nat → F .f32) (t : Nat) (f : Vec F S8192 .f32) : Vec F S8192 .f32 := fun j =>
  if (j 0).val < 256 * t then g (j 0).val else f j

/-- One trip. -/
theorem wp_trip {w : Vec F S2000 .f32} {mm : Vec F S25600 .i32} (hmm : ∀ j, (mm j : BitVec 32).toNat < 2000) (c b : FVec F S16 .f32)
    (t : Fin k0_t1_loop.trips) (x : BitVec 32) (f : Vec F S8192 .f32) (Q : BitVec 32 → sProp 𝕄) :
    iprop(mPts d i mm ∗ wPts d i w ∗ oPts d i (done (rowVal w mm c b) t.val f))
      ⊢ iprop((iprop(mPts d i mm ∗ wPts d i w ∗ oPts d i (done (rowVal w mm c b) (t.val + 1) f)) -∗ Q 0#32)
        -∗ wp frame (wpE (defs₀ (F := F)) 𝒱₀ (th d i) none) Set.univ (trip i c b t x) Q) := by
  have ht : t.val < 32 := t.isLt.trans_eq trips_eq
  have ha : ∀ x, (addi lane50 (broadcast S16 (Scalar.muli (Scf.iv 0#32 1#32 t.val) 800#32)) x).toNat = 50 * (x 0).val + 800 * t.val := fun x => by
    rw [iv_muli _ 800 ht (by omega), addi_toNat, lane50_toNat]
    rw [lane50_toNat]; have : (x 0).val < 16 := (x 0).isLt; omega
  have hp : ∀ x, (addi lane16 (broadcast S16 (Scalar.muli (Scf.iv 0#32 1#32 t.val) 256#32)) x).toNat = 256 * t.val + 16 * (x 0).val := fun x => by
    rw [iv_muli _ 256 ht (by omega), addi_toNat, lane16_toNat, Nat.add_comm]
    rw [lane16_toNat]; have : (x 0).val < 16 := (x 0).isLt; omega
  unfold trip
  iintro ⟨Hm, Hw, Ho⟩ Hk
  iapply (wp_gather (F := F) d i hmm _ _ 50 0 _ (fun x => by rw [ha]; have : (x 0).val < 16 := (x 0).isLt; omega)) $$ [Hm Hw]
  · isplitl [Hm] <;> iassumption
  iintro ⟨Hm, Hw⟩
  have hs0 : (done (rowVal w mm c b) t.val f) = scat (rowVal w mm c b) t.val 0 (done (rowVal w mm c b) t.val f) := by
    funext j; exact (if_neg (by omega)).symm
  have hs1 : scat (rowVal w mm c b) t.val 16 (done (rowVal w mm c b) t.val f) = done (rowVal w mm c b) (t.val + 1) f := by
    funext j
    unfold scat done
    by_cases h1 : (j 0).val < 256 * t.val
    · rw [if_neg (by omega), if_pos h1, if_pos (by omega)]
    · by_cases h2 : (j 0).val < 256 * (t.val + 1)
      · rw [if_pos ⟨by omega, h2, by omega⟩, if_pos h2]
      · rw [if_neg (by omega), if_neg h1, if_neg h2]
  rw [hs0]
  iapply (wp_scatter (F := F) d i ht hp (rowVal w mm c b) (fun x n hn => by
      have : (x 0).val < 16 := (x 0).isLt
      unfold rowVal
      rw [ha, show (256 * t.val + 16 * (x 0).val + n) / 16 = 16 * t.val + (x 0).val by omega,
        show (256 * t.val + 16 * (x 0).val + n) % 16 = n by omega,
        show 50 * (16 * t.val + (x 0).val) = 50 * (x 0).val + 800 * t.val by omega]
      rfl) _ _ _ 16 0 _) $$ Ho
  iintro Ho
  rw [show (0 + 16 : Nat) = 16 from rfl, hs1, Prog.pure_eq_ret, wp_ret]
  imodintro
  iapply Hk
  isplitl [Hm]; · iexact Hm
  isplitl [Hw]; · iexact Hw
  iexact Ho

end Cert.Proof.KernelIdeal

end
-- ==== Proof.KernelIdeal.Row.lean ====
/-
  One row of a tile: its weights and its memberships copied in, thirty-two trips, its results copied out.
-/
module

public import proofs.«01_k».proof.Proof.KernelIdeal.Trip

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F]

local notation "𝕄" => MT nD τ sig (HIx 1) (Elt F) ℕ UU ℕ

/-! ## A row's values, from the flat arrays -/

/-- The number of the row a tile works on: `r`-th of the tile's eight. -/
def rowNo (i : grid0.Coords) (r : Fin 8) : Nat := ((i 1).val * 2 + (i 0).val) * 8 + r.val

/-- Row `n` of the weights; row `n` of the memberships, zeros beyond its 25000. -/
def rowW (W : Vec F S512000 .f32) (n : Nat) : Vec F S2000 .f32 := fun j => W (ix (by decide) (n * 2000 + (j 0).val))
def rowM (M : Vec F S6400000 .i32) (n : Nat) : Vec F S25600 .i32 := fun j =>
  if (j 0).val < 25000 then M (ix (by decide) (n * 25000 + (j 0).val)) else (0#32 : BitVec 32)

/-- The whole result: row `j / 8000`'s values at `j % 8000`. -/
def outV (W : Vec F S512000 .f32) (M : Vec F S6400000 .i32) (c b : FVec F S16 .f32) : Vec F S2048000 .f32 := fun j =>
  rowVal (rowW W ((j 0).val / 8000)) (rowM M ((j 0).val / 8000)) c b ((j 0).val % 8000)

omit [FloatOps F] in
theorem rowNo_lt (i : grid0.Coords) (r : Fin 8) : rowNo i r < 256 := by
  have h1 : (i 1).val < 16 := (i 1).isLt
  have h0 : (i 0).val < 2 := (i 0).isLt
  unfold rowNo; have := r.isLt; omega

theorem rowWord : ∀ (c0 : Fin 2) (c1 : Fin 16) (r : Fin 8),
    ((BitVec.ofNat 32 c1.val * 2#32 + BitVec.ofNat 32 c0.val) * 8#32 + BitVec.ofNat 32 r.val).toNat = (c1.val * 2 + c0.val) * 8 + r.val := by
  decide

omit [FloatOps F] in
theorem off_val (i : grid0.Coords) (r : Fin 8) (n : Nat) (hn : n ≤ 25000) :
    (((BitVec.ofNat 32 (i 1).val * 2#32 + BitVec.ofNat 32 (i 0).val) * 8#32 + BitVec.ofNat 32 r.val) * BitVec.ofNat 32 n).toNat = rowNo i r * n := by
  have hr := rowNo_lt i r
  have hp : rowNo i r * n ≤ 256 * 25000 := Nat.mul_le_mul hr.le hn
  rw [BitVec.toNat_mul, rowWord (i 0) (i 1) r, BitVec.toNat_ofNat, Nat.mod_eq_of_lt (show n < 2 ^ 32 by omega)]
  exact Nat.mod_eq_of_lt (show rowNo i r * n < 2 ^ 32 by omega)

omit [FloatOps F] in
theorem off1_val (i : grid0.Coords) (r : Fin 8) : k0_off1 i (BitVec.ofNat 32 r.val) 0 = rowNo i r * 2000 := off_val i r 2000 (by omega)
omit [FloatOps F] in
theorem off2_val (i : grid0.Coords) (r : Fin 8) : k0_off2 i (BitVec.ofNat 32 r.val) 0 = rowNo i r * 25000 := off_val i r 25000 (by omega)
omit [FloatOps F] in
theorem off3_val (i : grid0.Coords) (r : Fin 8) : k0_off3 i (BitVec.ofNat 32 r.val) 0 = rowNo i r * 8000 := off_val i r 8000 (by omega)

/-- Where a rectangle of consecutive elements of a rank-one array puts its `x`-th. -/
theorem unit_emb {N n : Nat} (off : Fin 1 → Nat) (inb : ∀ a, off a + (![n] : Fin 1 → Nat) a ≤ (⟨1, ![N]⟩ : Shape).size a)
    (x : (Rect.unit (s := ⟨1, ![N]⟩) off ![n] inb).shape.Idx) :
    ((Rect.unit (s := ⟨1, ![N]⟩) off ![n] inb).emb x 0).val = off 0 + (x 0).val := by
  show off 0 + 1 * (x 0).val = _
  rw [Nat.one_mul]

theorem read_wRow (i : grid0.Coords) (r : Fin 8) (W : Vec F S512000 .f32) :
    (wRow i r).view.read (Elt F) W = rowW W (rowNo i r) := by
  funext x
  show W _ = W _
  congr 1
  apply idx_ext
  have hx : (x 0).val < 2000 := (x 0).isLt
  have hr := rowNo_lt i r
  rw [ix_val _ (by omega), ← off1_val]
  exact unit_emb _ _ x

theorem read_mRow (i : grid0.Coords) (r : Fin 8) (M : Vec F S6400000 .i32) (x : S25000.Idx) :
    (mRow i r).view.read (Elt F) M x = M (ix (by decide) (rowNo i r * 25000 + (x 0).val)) := by
  show M _ = M _
  congr 1
  apply idx_ext
  have hx : (x 0).val < 25000 := (x 0).isLt
  have hr := rowNo_lt i r
  rw [ix_val _ (by omega), ← off2_val]
  exact unit_emb _ _ x

/-- The tail of a tile's memberships: zeros. -/
def Tail (f : Vec F S25600 .i32) : Prop := ∀ j : S25600.Idx, 25000 ≤ (j 0).val → f j = (0#32 : BitVec 32)

theorem tail_rowM (M : Vec F S6400000 .i32) (n : Nat) : Tail (F := F) (rowM M n) := fun j h => if_neg (by omega)

/-- A row of memberships copied over contents with a zero tail. -/
theorem write_mFill (i : grid0.Coords) (r : Fin 8) (M : Vec F S6400000 .i32) (f : Vec F S25600 .i32) (hf : Tail f) :
    mFill.view.write (Elt F) f ((mRow i r).view.read (Elt F) M) Finset.univ = rowM M (rowNo i r) := by
  funext j
  unfold rowM
  by_cases hj : (j 0).val < 25000
  · rw [if_pos hj]
    have e : mFill.view.emb (ix (by decide) (j 0).val : S25000.Idx) = j := by
      apply idx_ext
      refine (unit_emb _ _ _).trans ?_
      rw [ix_val _ hj]
      exact Nat.zero_add _
    rw [← e, View.write_emb_of_mem _ _ (Finset.mem_univ _), e]
    refine (read_mRow i r M _).trans ?_
    rw [ix_val _ hj]
  · rw [if_neg hj, View.write_of_not_mem _ _ _ ?_, hf j (by omega)]
    intro h
    obtain ⟨x, -, e⟩ := Finset.mem_map.mp h
    have e' : (mFill.view.emb x 0).val = (j 0).val := congrArg (fun y : S25600.Idx => (y 0).val) e
    have hx : (x 0).val < 25000 := (x 0).isLt
    have := (unit_emb (N := 25600) (n := 25000) ![0] inb_S25600_S25000_0 x).symm.trans e'
    simp only [Matrix.cons_val_zero] at this
    omega

/-- A finished row copied out: the result's elements there. -/
theorem write_oRow (i : grid0.Coords) (r : Fin 8) (W : Vec F S512000 .f32) (M : Vec F S6400000 .i32) (c b : FVec F S16 .f32)
    (f : Vec F S8192 .f32) (f0 : Vec F S2048000 .f32) (j : S2048000.Idx) (hj : j ∈ (oRow i r).view.set) :
    (oRow i r).view.writes (Elt F) f0 [⟨Rect.whole S8000,
        oFill.view.read (Elt F) (done (rowVal (rowW W (rowNo i r)) (rowM M (rowNo i r)) c b) 32 f)⟩] j
      = outV W M c b j := by
  obtain ⟨x, -, rfl⟩ := Finset.mem_map.mp hj
  have ew : ((oRow i r).view.slice (Rect.whole S8000)).emb x = (oRow i r).view.emb x :=
    congrArg (oRow i r).view.emb (Rect.emb_whole_apply S8000 x)
  rw [View.writes_singleton, ← ew, View.write_emb_of_mem _ _ (Finset.mem_univ _), ew]
  have hx : (x 0).val < 8000 := (x 0).isLt
  have he : ((oRow i r).view.emb x 0).val = rowNo i r * 8000 + (x 0).val := by
    rw [← off3_val]; exact unit_emb _ _ x
  have hf : (oFill.view.emb x 0).val = (x 0).val := (unit_emb (N := 8192) (n := 8000) ![0] inb_S8192_S8000_0 x).trans (Nat.zero_add _)
  show done (rowVal (rowW W (rowNo i r)) (rowM M (rowNo i r)) c b) 32 f (oFill.view.emb x) = outV W M c b ((oRow i r).view.emb x)
  unfold done outV
  rw [he, hf, if_pos (by omega), show (rowNo i r * 8000 + (x 0).val) / 8000 = rowNo i r by omega,
    show (rowNo i r * 8000 + (x 0).val) % 8000 = (x 0).val by omega]

/-! ## The row -/

variable (d : Dev nD) (i : grid0.Coords)

/-- The evidence a wait needs, and what the thread owes. -/
abbrev owing (O : CellTallies nD τ sig (HIx 1)) (W : Waits sig (HIx 1)) : sProp 𝕄 :=
  iprop(Transfers.MayWaits (th d i) (none : HIx 1) O ∗ ∃ W', ⌜∀ p ∈ W', p ∈ W ∨ p.2 = none⌝ ∗ owes (th d i) O W')

/-- The loop's invariant. -/
def rowInv (w : Vec F S2000 .f32) (mm : Vec F S25600 .i32) (c b : FVec F S16 .f32) (f : Vec F S8192 .f32) (t : Nat) (_ : BitVec 32) : sProp 𝕄 :=
  iprop(mPts d i mm ∗ wPts d i w ∗ oPts d i (done (rowVal w mm c b) t f))

theorem wp_row (r : Fin 8) (sw sm so : DmaSem sig) (O : CellTallies nD τ sig (HIx 1)) (Wt : Waits sig (HIx 1))
    (qw qm : PosShare TreeShare) (W : Vec F S512000 .f32) (M : Vec F S6400000 .i32) (hM : ∀ j, (M j : BitVec 32).toNat < 2000)
    (c b : FVec F S16 .f32) (f0 : Vec F S2048000 .f32) (fw : Vec F S2000 .f32) (fm : Vec F S25600 .i32) (hfm : Tail fm) (fo : Vec F S8192 .f32) :
    iprop((wA.view.loc (th d i) ↦{qw} W) ∗ (mA.view.loc (th d i) ↦{qm} M) ∗ ((oRow i r).view.loc (th d i) ↦[(oRow i r).view.set]{fullShare} f0)
        ∗ (wS.view.loc (th d i) ↦{fullShare} fw) ∗ (mS.view.loc (th d i) ↦{fullShare} fm) ∗ (oS.view.loc (th d i) ↦{fullShare} fo)
        ∗ semVal (th d i, SemLoc.dma sw) 0 ∗ semVal (th d i, SemLoc.dma sm) 0 ∗ semVal (th d i, SemLoc.dma so) 0
        ∗ owing d i O Wt)
      ⊢ wp frame (wpE (defs₀ (F := F)) 𝒱₀ (th d i) none) Set.univ (row i c b r sw sm so) fun _ =>
      iprop((wA.view.loc (th d i) ↦{qw} W) ∗ (mA.view.loc (th d i) ↦{qm} M)
        ∗ ((oRow i r).view.loc (th d i) ↦[(oRow i r).view.set]{fullShare} outV W M c b)
        ∗ (∃ f : Vec F S2000 .f32, wS.view.loc (th d i) ↦{fullShare} f) ∗ (∃ f : Vec F S25600 .i32, ⌜Tail f⌝ ∗ mS.view.loc (th d i) ↦{fullShare} f)
        ∗ (∃ f : Vec F S8192 .f32, oS.view.loc (th d i) ↦{fullShare} f)
        ∗ semVal (th d i, SemLoc.dma sw) 0 ∗ semVal (th d i, SemLoc.dma sm) 0 ∗ semVal (th d i, SemLoc.dma so) 0
        ∗ owing d i O Wt) := by
  unfold row
  iintro ⟨Hwa, Hma, Hoa, Hw, Hm, Ho, Hsw, Hsm, Hso, Hmw, %W', %hW', HO⟩
  sl_exec (disch := first | exact View.amount_pos _ _ (show 0 < S2000.numel by decide) | exact View.amount_pos _ _ (show 0 < S25000.numel by decide) | exact View.amount_pos _ _ (show 0 < S8000.numel by decide))
  have e1 : View.write (Elt F) wS.view fw ((wRow i r).view.read (Elt F) W) Finset.univ = rowW W (rowNo i r) := by
    rw [← read_wRow]
    exact View.write_whole_univ _ _ _
  have e2 : mS.view.writes (Elt F) fm [⟨Rect.unit ![0] S25000.size inb_S25600_S25000_0, (mRow i r).view.read (Elt F) M⟩] = rowM M (rowNo i r) :=
    write_mFill i r M fm hfm
  have hmm : ∀ j, (rowM (F := F) M (rowNo i r) j : BitVec 32).toNat < 2000 := fun j => by
    unfold rowM
    split
    · exact hM _
    · decide
  unfold wp_row.sl.dma0 wp_row.sl.dma0_1
  have e3 : ((oRow i r).view.loc (th d i) ↦[(oRow i r).view.set]{fullShare} (oRow i r).view.writes (Elt F) f0 [⟨Rect.whole S8000,
        oFill.view.read (Elt F) (done (rowVal (rowW W (rowNo i r)) (rowM M (rowNo i r)) c b) 32 fo)⟩] : sProp 𝕄)
      = ((oRow i r).view.loc (th d i) ↦[(oRow i r).view.set]{fullShare} outV W M c b) :=
    pointsTo_congr fun j hj => write_oRow i r W M c b fo f0 j hj
  ihave Hw' := (Entails.of_eq (congrArg (fun g => (wPts d i g : sProp 𝕄)) e1)) $$ Hw
  ihave Hm' := (Entails.of_eq (congrArg (fun g => (mPts d i g : sProp 𝕄)) e2)) $$ Hm
  sl_for (rowInv d i (rowW W (rowNo i r)) (rowM M (rowNo i r)) c b fo) $$ [Hw' Hm' Ho]
  case region =>
    intro t x
    unfold rowInv
    iintro H
    iapply (wp_trip (F := F) d i hmm c b t x fo) $$ H
    iintro H
    iexact H
  · unfold rowInv
    isplitl [Hm']; · iexact Hm'
    isplitl [Hw']; · iexact Hw'
    rw [show done (rowVal (rowW W (rowNo i r)) (rowM M (rowNo i r)) c b) 0 fo = fo from funext fun j => if_neg (by omega)]
    iexact Ho
  iintro %_ HI
  unfold rowInv
  icases HI with ⟨Hm, Hw, Ho⟩
  rw [show Scf.trips k0_t1_loop.lb k0_t1_loop.ub k0_t1_loop.st = 32 from trips_eq]
  ihave Ho' := (Entails.of_eq (show oPts (F := F) d i (done (rowVal (rowW W (rowNo i r)) (rowM M (rowNo i r)) c b) 32 fo)
    = (oS.view.loc (th d i) ↦{fullShare} done (rowVal (rowW W (rowNo i r)) (rowM M (rowNo i r)) c b) 32 fo) from rfl)) $$ Ho
  sl_exec (disch := exact View.amount_pos _ _ (show 0 < S8000.numel by decide))
  unfold wp_row.sl.dma0_2
  ihave Hoa' := (Entails.of_eq e3) $$ Hoa
  sl_step
  isplitl [Hwa]; · iexact Hwa
  isplitl [Hma]; · iexact Hma
  isplitl [Hoa']; · iexact Hoa'
  isplitl [Hw]; · iexists _; iexact Hw
  isplitl [Hm]
  · iexists _; isplitr
    · ipureintro; exact tail_rowM M (rowNo i r)
    · iexact Hm
  isplitl [Ho']; · iexists _; iexact Ho'
  isplitl [Hsw]; · iexact Hsw
  isplitl [Hsm]; · iexact Hsm
  isplitl [Hso]; · iexact Hso
  isplitl [Hmw]; · iexact Hmw
  iexists _; isplitr
  rotate_left
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp

end Cert.Proof.KernelIdeal

end
-- ==== Proof.KernelIdeal.Body.lean ====
/-
  A tile's whole task: the column and the bias in, the zeros, the eight rows.
-/
module

public import proofs.«01_k».proof.Proof.KernelIdeal.Row

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## The zeros -/

/-- Zeros from 24992 up to sixteen times `k` further. -/
def ZUpTo (k : Nat) (f : Vec F S25600 .i32) : Prop :=
  ∀ j : S25600.Idx, 24992 ≤ (j 0).val → (j 0).val < 24992 + 16 * k → f j = (0#32 : BitVec 32)

/-- Sixteen more zeros. -/
theorem zero_step (k : Nat) (h : k < 38) (f : Vec F S25600 .i32) (hf : ZUpTo k f) :
    ZUpTo (F := F) (k + 1) (mS.view.writes (Elt F) f
      [⟨Rect.unit (s := S25600) ![24992 + 16 * k] S16.size (inb16 k h), (broadcast S16 0#32 : IVec S16 32)⟩]) := by
  intro j h1 h2
  rw [View.writes_singleton]
  by_cases hj : (j 0).val < 24992 + 16 * k
  · rw [View.write_of_not_mem _ _ _ ?_]
    · exact hf j h1 hj
    intro hm
    obtain ⟨x, -, e⟩ := Finset.mem_map.mp hm
    have e' := congrArg (fun y : S25600.Idx => (y 0).val) e
    have := (unit_emb (N := 25600) (n := 16) ![24992 + 16 * k] (inb16 k h) x).symm.trans e'
    simp only [Matrix.cons_val_zero] at this
    omega
  · have e : (mS.view.slice (Rect.unit (s := S25600) ![24992 + 16 * k] S16.size (inb16 k h))).emb (ix (by decide) ((j 0).val - (24992 + 16 * k)) : S16.Idx) = j := by
      apply idx_ext
      refine (unit_emb (N := 25600) (n := 16) ![24992 + 16 * k] (inb16 k h) _).trans ?_
      rw [ix_val _ (by omega)]
      simp only [Matrix.cons_val_zero]
      omega
    rw [← e, View.write_emb_of_mem _ _ (Finset.mem_univ _)]
    rfl

theorem wp_zeros : ∀ (n k : Nat) (h : n + k ≤ 38) (f : Vec F S25600 .i32), ZUpTo k f →
    (mS.view.loc (th d i) ↦{fullShare} f : sProp 𝕄)
      ⊢ wp frame (wpE (defs₀ (F := F)) 𝒱₀ (th d i) none) Set.univ (zeros i n k h) fun _ =>
        iprop(∃ f' : Vec F S25600 .i32, ⌜ZUpTo (k + n) f'⌝ ∗ mS.view.loc (th d i) ↦{fullShare} f') := by
  intro n
  induction n with
  | zero =>
    intro k h f hf
    unfold zeros
    iintro H
    rw [Prog.pure_eq_ret, wp_ret]
    imodintro
    iexists f; isplitr
    · ipureintro; exact hf
    · iexact H
  | succ n ih =>
    intro k h f hf
    unfold zeros
    have hz := zero_step (F := F) k (by omega) f hf
    iintro H
    sl_exec
    iexists _; isplitr
    rotate_left
    · iassumption
    · ipureintro
      rw [show k + (n + 1) = k + 1 + n by omega]
      assumption

/-! ## The semaphores and the scratch -/

theorem dma_scoped : ∀ s : DmaSem sig, (SemLoc.dma s : SemLoc sig).isScoped .scVector = true := by decide

theorem mem_cells (s : DmaSem sig) : ((th d i, SemLoc.dma s) : GSem nD τ sig) ∈ ownCells (th d i) :=
  mem_ownCells.mpr ⟨rfl, dma_scoped s⟩

theorem cell_ne {s t : DmaSem sig} (h : s ≠ t) : ((th d i, SemLoc.dma s) : GSem nD τ sig) ≠ (th d i, SemLoc.dma t) :=
  fun e => h (SemLoc.dma.inj (Prod.mk.inj e).2)

/-- A tile's semaphores: three of them, and the others. -/
theorem sems3 {s t u : DmaSem sig} (hts : t ≠ s) (hus : u ≠ s) (hut : u ≠ t) :
    (ownSems0 (th d i) : sProp 𝕄) = iprop(semVal (th d i, SemLoc.dma s) 0 ∗ semVal (th d i, SemLoc.dma t) 0 ∗ semVal (th d i, SemLoc.dma u) 0
      ∗ bigSep ((((ownCells (th d i)).erase (th d i, SemLoc.dma s)).erase (th d i, SemLoc.dma t)).erase (th d i, SemLoc.dma u)) fun g => semVal g 0) := by
  unfold SparseCore.Cfg.ownSems0
  rw [SparseCore.bigSep_erase' (mem_cells d i s),
    SparseCore.bigSep_erase' (Finset.mem_erase.mpr ⟨cell_ne d i hts, mem_cells d i t⟩),
    SparseCore.bigSep_erase' (Finset.mem_erase.mpr ⟨cell_ne d i hut, Finset.mem_erase.mpr ⟨cell_ne d i hus, mem_cells d i u⟩⟩)]

theorem rsem_ne {n k : Nat} (hn : n + S_.numel ≤ 26) (hk : k + S_.numel ≤ 26) (h : n ≠ k) : rsem n hn ≠ rsem k hk := by
  intro e
  exact h (by simpa [rsem, SemArray.consecutive, SemArray.sem] using congrArg Fin.val e)

/-! ## The rows -/

/-- A tile's rows of the result, those below `n` finished. -/
def outRows (W : Vec F S512000 .f32) (M : Vec F S6400000 .i32) (c b : FVec F S16 .f32) (f0 : Vec F S2048000 .f32) (n : Nat) : sProp 𝕄 :=
  bigSep Finset.univ fun r : Fin 8 =>
    (oRow i r).view.loc (th d i) ↦[(oRow i r).view.set]{fullShare} (if r.val < n then outV W M c b else f0)

/-- All of them but row `r`. -/
def outRest (W : Vec F S512000 .f32) (M : Vec F S6400000 .i32) (c b : FVec F S16 .f32) (f0 : Vec F S2048000 .f32) (r : Fin 8) : sProp 𝕄 :=
  bigSep (Finset.univ.erase r) fun r' : Fin 8 =>
    (oRow i r').view.loc (th d i) ↦[(oRow i r').view.set]{fullShare} (if r'.val < r.val then outV W M c b else f0)

theorem outRows_at (W : Vec F S512000 .f32) (M : Vec F S6400000 .i32) (c b : FVec F S16 .f32) (f0 : Vec F S2048000 .f32) (r : Fin 8) :
    outRows d i W M c b f0 r.val
      = iprop(((oRow i r).view.loc (th d i) ↦[(oRow i r).view.set]{fullShare} f0) ∗ outRest d i W M c b f0 r) := by
  unfold outRows outRest
  rw [SparseCore.bigSep_erase' (Finset.mem_univ r), if_neg (lt_irrefl _)]

theorem outRows_succ (W : Vec F S512000 .f32) (M : Vec F S6400000 .i32) (c b : FVec F S16 .f32) (f0 : Vec F S2048000 .f32) (r : Fin 8) :
    outRows d i W M c b f0 (r.val + 1)
      = iprop(((oRow i r).view.loc (th d i) ↦[(oRow i r).view.set]{fullShare} outV W M c b) ∗ outRest d i W M c b f0 r) := by
  unfold outRows outRest
  rw [SparseCore.bigSep_erase' (Finset.mem_univ r), if_pos (Nat.lt_succ_self _)]
  refine congrArg (fun X : sProp 𝕄 => iprop(((oRow i r).view.loc (th d i) ↦[(oRow i r).view.set]{fullShare} outV W M c b) ∗ X)) ?_
  refine bigSep_congr fun r' hr' => ?_
  have hne : r'.val ≠ r.val := fun e => (Finset.mem_erase.mp hr').1 (Fin.ext e)
  by_cases h : r'.val < r.val
  · rw [if_pos h, if_pos (by omega)]
  · rw [if_neg h, if_neg (by omega)]

/-- A tile's scratch rows, the memberships' with a zero tail. -/
def scratch : sProp 𝕄 :=
  iprop((∃ f : Vec F S2000 .f32, wS.view.loc (th d i) ↦{fullShare} f) ∗ (∃ f : Vec F S25600 .i32, ⌜Tail f⌝ ∗ mS.view.loc (th d i) ↦{fullShare} f)
    ∗ (∃ f : Vec F S8192 .f32, oS.view.loc (th d i) ↦{fullShare} f))

/-- `n` rows from the `r`-th on: their parts of the result finished. -/
theorem wp_rows (O : CellTallies nD τ sig (HIx 1)) (Wt : Waits sig (HIx 1))
    (qw qm : PosShare TreeShare) (W : Vec F S512000 .f32) (M : Vec F S6400000 .i32) (hM : ∀ j, (M j : BitVec 32).toNat < 2000)
    (c b : FVec F S16 .f32) (f0 : Vec F S2048000 .f32) : ∀ (n r : Nat) (h : n + r ≤ 8),
    iprop((wA.view.loc (th d i) ↦{qw} W) ∗ (mA.view.loc (th d i) ↦{qm} M) ∗ outRows d i W M c b f0 r
        ∗ scratch d i ∗ ownSems0 (th d i) ∗ owing d i O Wt)
      ⊢ wp frame (wpE (defs₀ (F := F)) 𝒱₀ (th d i) none) Set.univ (rows i c b n r h) fun _ =>
      iprop((wA.view.loc (th d i) ↦{qw} W) ∗ (mA.view.loc (th d i) ↦{qm} M) ∗ outRows d i W M c b f0 (r + n)
        ∗ scratch d i ∗ ownSems0 (th d i) ∗ owing d i O Wt) := by
  intro n
  induction n with
  | zero =>
    intro r h
    unfold rows
    iintro H
    rw [Prog.pure_eq_ret, wp_ret]
    imodintro
    iexact H
  | succ n ih =>
    intro r h
    unfold rows
    rw [wp_bind, show r + (n + 1) = r + 1 + n by omega]
    have h0 : outRows d i W M c b f0 r = _ := outRows_at d i W M c b f0 ⟨r, by omega⟩
    have h1 : outRows d i W M c b f0 (r + 1) = _ := outRows_succ d i W M c b f0 ⟨r, by omega⟩
    rw [h0, sems3 d i (s := rsem (2 + 3 * r) (rsem_le (by omega) 0)) (t := rsem (3 + 3 * r) (by have := rsem_le (r := r) (by omega) 1; simp only [Fin.val_one] at this; omega))
      (u := rsem (4 + 3 * r) (by have := rsem_le (r := r) (by omega) 2; simp only [Fin.val_two] at this; omega))
      (rsem_ne _ _ (by omega)) (rsem_ne _ _ (by omega)) (rsem_ne _ _ (by omega))]
    unfold scratch
    iintro ⟨Hw, Hm, ⟨Ho, Hrest⟩, ⟨⟨%fw, Hws⟩, ⟨%fm, %hfm, Hms⟩, ⟨%fo, Hos⟩⟩, ⟨Hs, Ht, Hu, Hsems⟩, Howe⟩
    iapply (wp_wand_r Idealize.ShloMosaic.frame (wpE (defs₀ (F := F)) 𝒱₀ (th d i) none) Set.univ)
    isplitl [Hw Hm Ho Hws Hms Hos Hs Ht Hu Howe]
    · iapply (wp_row (F := F) d i ⟨r, _⟩ _ _ _ O Wt qw qm W M hM c b f0 fw fm hfm fo)
      isplitl [Hw]; · iexact Hw
      isplitl [Hm]; · iexact Hm
      isplitl [Ho]; · iexact Ho
      isplitl [Hws]; · iexact Hws
      isplitl [Hms]; · iexact Hms
      isplitl [Hos]; · iexact Hos
      isplitl [Hs]; · iexact Hs
      isplitl [Ht]; · iexact Ht
      isplitl [Hu]; · iexact Hu
      iexact Howe
    iintro %_ ⟨Hw, Hm, Ho, Hws, Hms, Hos, Hs, Ht, Hu, Howe⟩
    have ih' := ih (r + 1) (by omega)
    rw [h1, sems3 d i (s := rsem (2 + 3 * r) (rsem_le (by omega) 0)) (t := rsem (3 + 3 * r) (by have := rsem_le (r := r) (by omega) 1; simp only [Fin.val_one] at this; omega))
      (u := rsem (4 + 3 * r) (by have := rsem_le (r := r) (by omega) 2; simp only [Fin.val_two] at this; omega))
      (rsem_ne _ _ (by omega)) (rsem_ne _ _ (by omega)) (rsem_ne _ _ (by omega))] at ih'
    iapply ih'
    isplitl [Hw]; · iexact Hw
    isplitl [Hm]; · iexact Hm
    isplitl [Ho Hrest]
    · isplitl [Ho]; · iexact Ho
      iexact Hrest
    isplitl [Hws Hms Hos]
    · unfold scratch
      isplitl [Hws]; · iexact Hws
      isplitl [Hms]; · iexact Hms
      iexact Hos
    isplitl [Hs Ht Hu Hsems]
    · isplitl [Hs]; · iexact Hs
      isplitl [Ht]; · iexact Ht
      isplitl [Hu]; · iexact Hu
      iexact Hsems
    iexact Howe

/-! ## The task -/

/-- What a buffer of the tile's own holds is something. -/
abbrev someBuf (b : Ref sig .scVector) : sProp 𝕄 := iprop(∃ f, (th d i).loc b ↦{fullShare} f)

/-- A tile's own buffers but its five scratch buffers. -/
abbrev otherRefs : Finset (DevRef τ sig) :=
  (((((ownRefs (τ := τ) (tile i)).erase ((tile i).devRef cc0_scratch0)).erase ((tile i).devRef cc0_scratch1)).erase
    ((tile i).devRef cc0_scratch2)).erase ((tile i).devRef cc0_scratch3)).erase ((tile i).devRef cc0_scratch4)

theorem ref_ne {b b' : Ref sig .scVector} (h : b ≠ b') : (tile i).devRef b ≠ (tile i).devRef b' :=
  fun e => h (Proc.devRef_injective _ e)

theorem ownBufs_tile :
    (ownBufs (th d i) : sProp 𝕄) = iprop(someBuf d i cc0_scratch0 ∗ someBuf d i cc0_scratch1 ∗ someBuf d i cc0_scratch2 ∗ someBuf d i cc0_scratch3
      ∗ someBuf d i cc0_scratch4 ∗ bigSep (otherRefs i) fun b => iprop(∃ f, ((d, b) : Loc nD τ sig) ↦{fullShare} f)) := by
  have m0 : (tile i).devRef cc0_scratch0 ∈ ownRefs (τ := τ) (sig := sig) (tile i) := SparseCore.Cfg.mem_ownRefs_of_owner rfl
  have m1 : (tile i).devRef cc0_scratch1 ∈ ownRefs (τ := τ) (sig := sig) (tile i) := SparseCore.Cfg.mem_ownRefs_of_owner rfl
  have m2 : (tile i).devRef cc0_scratch2 ∈ ownRefs (τ := τ) (sig := sig) (tile i) := SparseCore.Cfg.mem_ownRefs_of_owner rfl
  have m3 : (tile i).devRef cc0_scratch3 ∈ ownRefs (τ := τ) (sig := sig) (tile i) := SparseCore.Cfg.mem_ownRefs_of_owner rfl
  have m4 : (tile i).devRef cc0_scratch4 ∈ ownRefs (τ := τ) (sig := sig) (tile i) := SparseCore.Cfg.mem_ownRefs_of_owner rfl
  unfold SparseCore.Cfg.ownBufs
  refine (SparseCore.bigSep_erase' m0).trans ?_
  rw [SparseCore.bigSep_erase' (Finset.mem_erase.mpr ⟨ref_ne i (by decide), m1⟩),
    SparseCore.bigSep_erase' (Finset.mem_erase.mpr ⟨ref_ne i (b := cc0_scratch2) (b' := cc0_scratch1) (by decide),
      Finset.mem_erase.mpr ⟨ref_ne i (by decide), m2⟩⟩),
    SparseCore.bigSep_erase' (Finset.mem_erase.mpr ⟨ref_ne i (b := cc0_scratch3) (b' := cc0_scratch2) (by decide),
      Finset.mem_erase.mpr ⟨ref_ne i (b' := cc0_scratch1) (by decide), Finset.mem_erase.mpr ⟨ref_ne i (by decide), m3⟩⟩⟩),
    SparseCore.bigSep_erase' (Finset.mem_erase.mpr ⟨ref_ne i (b := cc0_scratch4) (b' := cc0_scratch3) (by decide),
      Finset.mem_erase.mpr ⟨ref_ne i (b' := cc0_scratch2) (by decide), Finset.mem_erase.mpr ⟨ref_ne i (b' := cc0_scratch1) (by decide),
        Finset.mem_erase.mpr ⟨ref_ne i (by decide), m4⟩⟩⟩⟩)]

/-- The bias, fifty times over, as the kernel computes it. -/
abbrev bias50 (B : Vec F S16 .f32) : FVec F S16 .f32 := mulf (broadcast S16 (Scalar.ofBits .f32 0x42480000#32)) B

/-- A tile's shares of the four inputs. -/
def inputs (q : PosShare TreeShare) (W : Vec F S512000 .f32) (M : Vec F S6400000 .i32) (C B : Vec F S16 .f32) : sProp 𝕄 :=
  iprop((wA.view.loc (th d i) ↦{q} W) ∗ (mA.view.loc (th d i) ↦{q} M) ∗ (cA.view.loc (th d i) ↦{q} C) ∗ (bA.view.loc (th d i) ↦{q} B))

/-- The body up to its rows: the column and the bias fetched, the tail zeroed, both loaded. -/
def prelude (i : grid0.Coords) : TP F i (FVec F S16 .f32 × FVec F S16 .f32) := do
  Prog.lift (.enqueueDma cA (.here cS) (.dma (rsem 0 (by decide))) (Memref.isWhole_whole _).wordExact (Memref.isWhole_whole _).wordExact ⟨Or.inl rfl, trivial⟩)
  Prog.lift (.waitDma2 (rsem 0 (by decide)) cA cS (Memref.isWhole_whole _).wordExact (Memref.isWhole_whole _).wordExact)
  Prog.lift (.enqueueDma bA (.here bS) (.dma (rsem 1 (by decide))) (Memref.isWhole_whole _).wordExact (Memref.isWhole_whole _).wordExact ⟨Or.inl rfl, trivial⟩)
  Prog.lift (.waitDma2 (rsem 1 (by decide)) bA bS (Memref.isWhole_whole _).wordExact (Memref.isWhole_whole _).wordExact)
  zeros i 38 0 (by omega)
  let c : Vec F S16 .f32 ← Prog.lift (.load cS (Rect.unit (s := S16) ![0] S16.size inb_S16_S16_0).toLoadRect (View.loadsAt_vmem h_S16))
  let b : Vec F S16 .f32 ← Prog.lift (.load bS (Rect.unit (s := S16) ![0] S16.size inb_S16_S16_0).toLoadRect (View.loadsAt_vmem h_S16))
  pure (c, b)

theorem body_prelude : body (F := F) i = prelude i >>= fun p => rows i p.1 (bias50 p.2) 8 0 (by omega) := by
  simp only [body, prelude, bind_assoc, pure_bind]

/-- A load of the column's scratch, just copied over, reads what was copied; of the bias's likewise. -/
theorem load_cS (f C : Vec F S16 .f32) :
    View.readAt (Elt F) cS.view (Rect.unit (s := S16) ![0] S16.size inb_S16_S16_0).toLoadRect (View.write (Elt F) cS.view f (cA.view.read (Elt F) C) Finset.univ) = C := by
  rw [show View.write (Elt F) cS.view f (cA.view.read (Elt F) C) Finset.univ = C from View.write_whole_univ _ _ _]
  funext x
  show C _ = C _
  congr 1
  apply idx_ext
  show 0 + 1 * (x 0).val = _
  omega

theorem load_bS (f B : Vec F S16 .f32) :
    View.readAt (Elt F) bS.view (Rect.unit (s := S16) ![0] S16.size inb_S16_S16_0).toLoadRect (View.write (Elt F) bS.view f (bA.view.read (Elt F) B) Finset.univ) = B := by
  rw [show View.write (Elt F) bS.view f (bA.view.read (Elt F) B) Finset.univ = B from View.write_whole_univ _ _ _]
  funext x
  show B _ = B _
  congr 1
  apply idx_ext
  show 0 + 1 * (x 0).val = _
  omega

theorem wp_prelude (O : CellTallies nD τ sig (HIx 1)) (Wt : Waits sig (HIx 1)) (q : PosShare TreeShare) (C B : Vec F S16 .f32)
    (f1 : Vec F S25600 .i32) (f2 f3 : Vec F S16 .f32) :
    iprop((cA.view.loc (th d i) ↦{q} C) ∗ (bA.view.loc (th d i) ↦{q} B) ∗ (mS.view.loc (th d i) ↦{fullShare} f1)
        ∗ (cS.view.loc (th d i) ↦{fullShare} f2) ∗ (bS.view.loc (th d i) ↦{fullShare} f3)
        ∗ semVal (th d i, SemLoc.dma (rsem 0 (by decide))) 0 ∗ semVal (th d i, SemLoc.dma (rsem 1 (by decide))) 0 ∗ owing d i O Wt)
      ⊢ wp frame (wpE (defs₀ (F := F)) 𝒱₀ (th d i) none) Set.univ (prelude i) fun p =>
      iprop(⌜p = (C, B)⌝ ∗ (cA.view.loc (th d i) ↦{q} C) ∗ (bA.view.loc (th d i) ↦{q} B) ∗ (∃ f : Vec F S25600 .i32, ⌜Tail f⌝ ∗ mS.view.loc (th d i) ↦{fullShare} f)
        ∗ someBuf d i cc0_scratch2 ∗ someBuf d i cc0_scratch3
        ∗ semVal (th d i, SemLoc.dma (rsem 0 (by decide))) 0 ∗ semVal (th d i, SemLoc.dma (rsem 1 (by decide))) 0 ∗ owing d i O Wt) := by
  unfold prelude
  iintro ⟨Hc, Hb, H1, H2, H3, Hs, Ht, Hmw, %W', %hW', HO⟩
  have hz := wp_zeros (F := F) d i 38 0 (by omega) f1 (fun j h1 h2 => by omega)
  sl_exec
  unfold wp_prelude.sl.dma0 wp_prelude.sl.dma0_1
  sl_step
  isplitr
  · ipureintro
    exact Prod.ext (load_cS (F := F) f2 C) (load_bS (F := F) f3 B)
  isplitl [Hc]; · iexact Hc
  isplitl [Hb]; · iexact Hb
  isplitl [Hzeros_1]
  · iexists _; isplitr
    rotate_left
    · iexact Hzeros_1
    · ipureintro
      intro j hj
      have : (j 0).val < 25600 := (j 0).isLt
      exact hzeros_0 j (by omega) (by omega)
  isplitl [H2]; · iexists _; iexact H2
  isplitl [H3]; · iexists _; iexact H3
  isplitl [Hs]; · iexact Hs
  isplitl [Ht]; · iexact Ht
  isplitl [Hmw]; · iexact Hmw
  iexists _; isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact hW' p hp

/-- A tile's task: from its shares of the inputs and its rows of the result to those rows finished. -/
theorem tile_body (O : CellTallies nD τ sig (HIx 1)) (Wt : Waits sig (HIx 1)) (hO : ∀ g, O g none = 0)
    (q : PosShare TreeShare) (W : Vec F S512000 .f32) (M : Vec F S6400000 .i32) (hM : ∀ j, (M j : BitVec 32).toNat < 2000)
    (C B : Vec F S16 .f32) (f0 : Vec F S2048000 .f32) :
    iprop(levAts (K (F := F)).L (K (F := F)).lev ∗ emp ∗ (inputs d i q W M C B ∗ outRows d i W M C (bias50 B) f0 0)
        ∗ scopedBufs (th d i) ∗ scopedSems0 (th d i) ∗ owes (th d i) O Wt)
      ⊢ wp frame (wpE (defs₀ (F := F)) 𝒱₀ (th d i) none) Set.univ (body i) fun _ =>
      iprop((inputs d i q W M C B ∗ outRows d i W M C (bias50 B) f0 8)
        ∗ scopedBufs (th d i) ∗ scopedSems0 (th d i) ∗ ∃ W', ⌜∀ p ∈ W', p ∈ Wt ∨ p.2 = none⌝ ∗ owes (th d i) O W') := by
  rw [(K (F := F)).scopedBufs_V facts d _ _, SparseCore.Cfg.scopedSems0_V (Val := Elt F) d _ _, ownBufs_tile, body_prelude, wp_bind]
  unfold inputs
  iintro ⟨#Hlv, -, ⟨⟨Hw, Hm, Hc, Hb⟩, Ho⟩, ⟨H0, ⟨%f1, H1⟩, ⟨%f2, H2⟩, ⟨%f3, H3⟩, H4, Hbufs⟩, Hsems, HO⟩
  ihave Hmw := ((K (F := F)).mayWaits_none (thr := th d i) hO) $$ Hlv
  ihave Hs := (Entails.of_eq (sems3 d i (s := rsem 0 (by decide)) (t := rsem 1 (by decide)) (u := rsem 2 (by decide))
    (rsem_ne _ _ (by omega)) (rsem_ne _ _ (by omega)) (rsem_ne _ _ (by omega)))) $$ Hsems
  icases Hs with ⟨Hs, Ht, Hu, Hsems⟩
  iapply (wp_wand_r Idealize.ShloMosaic.frame (wpE (defs₀ (F := F)) 𝒱₀ (th d i) none) Set.univ)
  isplitl [Hc Hb H1 H2 H3 Hs Ht Hmw HO]
  · iapply (wp_prelude (F := F) d i O Wt q C B f1 f2 f3)
    isplitl [Hc]; · iexact Hc
    isplitl [Hb]; · iexact Hb
    isplitl [H1]; · iexact H1
    isplitl [H2]; · iexact H2
    isplitl [H3]; · iexact H3
    isplitl [Hs]; · iexact Hs
    isplitl [Ht]; · iexact Ht
    isplitl [Hmw]; · iexact Hmw
    iexists Wt; isplitr
    · ipureintro; exact fun p hp => .inl hp
    · iexact HO
  iintro %p ⟨%hp, Hc, Hb, Hms, H2, H3, Hs, Ht, Howe⟩
  subst hp
  iapply (wp_wand_r Idealize.ShloMosaic.frame (wpE (defs₀ (F := F)) 𝒱₀ (th d i) none) Set.univ)
  isplitl [Hw Hm Ho H0 Hms H4 Hs Ht Hu Hsems Howe]
  · iapply (wp_rows (F := F) d i O Wt q q W M hM C (bias50 B) f0 8 0 _)
    isplitl [Hw]; · iexact Hw
    isplitl [Hm]; · iexact Hm
    isplitl [Ho]; · iexact Ho
    isplitl [H0 Hms H4]
    · unfold scratch
      isplitl [H0]; · iexact H0
      isplitl [Hms]; · iexact Hms
      iexact H4
    isplitl [Hs Ht Hu Hsems]
    · iapply (Entails.of_eq (sems3 d i (s := rsem 0 (by decide)) (t := rsem 1 (by decide)) (u := rsem 2 (by decide))
        (rsem_ne _ _ (by omega)) (rsem_ne _ _ (by omega)) (rsem_ne _ _ (by omega))).symm)
      isplitl [Hs]; · iexact Hs
      isplitl [Ht]; · iexact Ht
      isplitl [Hu]; · iexact Hu
      iexact Hsems
    iexact Howe
  unfold scratch
  iintro %_ ⟨Hw, Hm, Ho, ⟨H0, ⟨%fm, -, Hms⟩, H4⟩, Hsems, -, HO⟩
  isplitl [Hw Hm Hc Hb Ho]
  · isplitl [Hw Hm Hc Hb]
    · isplitl [Hw]; · iexact Hw
      isplitl [Hm]; · iexact Hm
      isplitl [Hc]; · iexact Hc
      iexact Hb
    · iexact Ho
  isplitl [H0 Hms H2 H3 H4 Hbufs]
  · isplitl [H0]; · iexact H0
    isplitl [Hms]; · iexists fm; iexact Hms
    isplitl [H2]; · iexact H2
    isplitl [H3]; · iexact H3
    isplitl [H4]; · iexact H4
    iexact Hbufs
  isplitl [Hsems]; · iexact Hsems
  iexact HO

end Cert.Proof.KernelIdeal

end
-- ==== Proof.KernelIdeal.TextEq.lean ====
/-
  The printed kernel body is the recursive program of `Text`.
-/
module

public import proofs.«01_k».proof.Proof.KernelIdeal.Text

@[expose] public section

noncomputable section

namespace Cert.Proof.KernelIdeal

open Cert.KernelIdeal Cert.KernelIdeal.Gen
open Idealize.ShloMosaic Idealize.SL.Sem

variable {F : FTy → Type} [FloatOps F]

theorem ret_bind {ε : Type → Type} {α β : Type} (a : α) (k : α → Prog ε β) : (Prog.ret a).bind k = k a := rfl

/-- Two programs that begin with loops of equal bodies, two binds deep, and continue alike are equal. -/
theorem loop_congr {ε : Type → Type} {α β β' γ : Type} {l : Scf.Loop 32} {hl hl' : l.OK} {init : α}
    {body body' : Fin l.trips → α → Prog ε α} {f : α → Prog ε β} {f' : α → Prog ε β'} {g : β → Prog ε γ} {g' : β' → Prog ε γ}
    (hb : ∀ t x, body t x = body' t x) (h : ∀ x, (f x).bind g = (f' x).bind g') :
    ((Scf.Loop.for l hl init body).bind f).bind g = ((Scf.Loop.for l hl' init body').bind f').bind g' := by
  obtain rfl : body = body' := funext fun t => funext fun x => hb t x
  generalize Scf.Loop.for l hl init body = A
  induction A with
  | ret a => exact h a
  | op e k ih => exact congrArg _ (funext fun x => ih x)

set_option maxRecDepth 65536 in
set_option maxHeartbeats 0 in
/-- The printed body on the call's operands is that program, operation by operation; a row's loop is
    compared body by body. -/
theorem body_eq (i : grid0.Coords) :
    cc0__sc_body (F := F) i wA (Memref.isWhole_whole _) mA (Memref.isWhole_whole _) cA (Memref.isWhole_whole _) bA (Memref.isWhole_whole _) oA (Memref.isWhole_whole _) wS (Memref.isWhole_whole _) mS (Memref.isWhole_whole _) cS (Memref.isWhole_whole _) bS (Memref.isWhole_whole _) oS (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12
      cc0_scoped13 cc0_scoped14 cc0_scoped15 cc0_scoped16 cc0_scoped17 cc0_scoped18 cc0_scoped19 cc0_scoped20 cc0_scoped21 cc0_scoped22 cc0_scoped23 cc0_scoped24 cc0_scoped25 = body i := by
  iterate 82 refine op_congr _ fun _ => ?_
  iterate 8
    iterate 4 refine op_congr _ fun _ => ?_
    dsimp only [ret_bind]
    refine loop_congr (fun t x => ?_) fun _ => ?_
    · iterate 248 refine op_congr _ fun _ => ?_
      rfl
    iterate 2 refine op_congr _ fun _ => ?_
  rfl

end Cert.Proof.KernelIdeal

end
-- ==== Proof.KernelIdeal.Launch.lean ====
/-
  The launch: every tile handed shares of the inputs and its own rows of the result, the TensorCore's reshapes
  around the call, and the run of the whole program with its result's value.
-/
module

public import proofs.«01_k».proof.Proof.KernelIdeal.Body
public import proofs.«01_k».proof.Proof.KernelIdeal.TextEq

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

abbrev dv (b : Ref sig .tc) : DevRef τ sig := Proc.devRef .tc b
abbrev op0 : HloOp τ sig (Elt F) := StableHlo.reshape main_arg1 main_v0 (rfl : (.i32 : EltTy) = .i32) shapeCasts_S256x500x50_S6400000
abbrev op1 : HloOp τ sig (Elt F) := StableHlo.reshape main_arg0 main_v1 (rfl : (.f32 : EltTy) = .f32) shapeCasts_S256x2000_S512000
abbrev op2 : HloOp τ sig (Elt F) := StableHlo.reshape main_arg2 main_v2 (rfl : (.f32 : EltTy) = .f32) shapeCasts_S16x1_S16
abbrev op4 : HloOp τ sig (Elt F) := StableHlo.reshape main_v3 main_v4 (rfl : (.f32 : EltTy) = .f32) shapeCasts_S2048000_S256x500x16

/-- The arrays at launch, and as the call finds them. -/
def V0 (d : Dev nD) : Valuation τ sig (Elt F) := fun b => m (d, b)
def VA (d : Dev nD) : Valuation τ sig (Elt F) := (op2 (F := F)).result ((op1 (F := F)).result ((op0 (F := F)).result (V0 m d)))

/-- What the call reads: the weights, the memberships, the column and the bias. -/
def Wv (d : Dev nD) : Vec F S512000 .f32 := VA m d (dv main_v1)
def Mv (d : Dev nD) : Vec F S6400000 .i32 := VA m d (dv main_v0)
def Cv (d : Dev nD) : Vec F S16 .f32 := VA m d (dv main_v2)
def Bv (d : Dev nD) : Vec F S16 .f32 := VA m d (dv main_arg3)
/-- What its result holds before it and after it. -/
def Zv (d : Dev nD) : Vec F S2048000 .f32 := VA m d (dv main_v3)
def Ov (d : Dev nD) : Vec F S2048000 .f32 := outV (Wv m d) (Mv m d) (Cv m d) (bias50 (Bv m d))

/-- The arrays after the call, and at the end. -/
def VB (d : Dev nD) : Valuation τ sig (Elt F) := Function.update (VA m d) (dv main_v3) (Ov m d)
def VC (d : Dev nD) : Valuation τ sig (Elt F) := (op4 (F := F)).result (VB m d)

/-! ## What a tile is handed -/

def coordsV (c : Fin (grid0.bound 0)) (s : Fin (grid0.bound 1)) : grid0.Coords :=
  fun | 0 => c | 1 => s | ⟨_ + 2, h⟩ => absurd h (Nat.not_lt.2 (Nat.le_add_left _ _))

/-- The share of each input a tile reads through: the whole dealt to the two SparseCores, each part to its sixteen tiles. -/
def tok (c : Fin 2) (s : Fin 16) : PosShare TreeShare :=
  Transfers.dealOf (Transfers.dealOf fullShare Finset.univ c) Finset.univ s

def tileGo (n : Nat) (d : Dev nD) (c : Fin 2) (s : Fin 16) : sProp 𝕄 :=
  iprop(inputs d (coordsV c s) (tok c s) (Wv m d) (Mv m d) (Cv m d) (Bv m d)
    ∗ outRows d (coordsV c s) (Wv m d) (Mv m d) (Cv m d) (bias50 (Bv m d)) (Zv m d) n)

instance tileGo_storable (n : Nat) (d : Dev nD) (c : Fin 2) (s : Fin 16) : BI.Storable (upEmb : UEmb _ 𝕄) (tileGo m n d c s) := by
  unfold tileGo inputs outRows; infer_instance

def coreGo (n : Nat) (d : Dev nD) (c : Fin 2) : sProp 𝕄 := bigSep Finset.univ fun s : Fin 16 => tileGo m n d c s

instance coreGo_storable (n : Nat) (d : Dev nD) (c : Fin 2) : BI.Storable (upEmb : UEmb _ 𝕄) (coreGo m n d c) := by
  unfold coreGo; infer_instance

theorem nCore_zero : (K (F := F)).nCore 0 = 2 := rfl
theorem nSub_zero : (K (F := F)).nSub 0 = 16 := rfl

/-- The call's payloads: its tiles' parts, before and after. -/
def P : (K (F := F)).Pay (nD := nD) (Val := Elt F) (Name := ℕ) (U := UU) where
  st := fun q d c => match q with | 0 => coreGo m 0 d (Fin.cast nCore_zero c)
  dn := fun q d c => match q with | 0 => coreGo m 8 d (Fin.cast nCore_zero c)
  go := fun q d c s => match q with | 0 => tileGo m 0 d (Fin.cast nCore_zero c) (Fin.cast nSub_zero s)
  td := fun q d c s => match q with | 0 => tileGo m 8 d (Fin.cast nCore_zero c) (Fin.cast nSub_zero s)
  x := fun _ _ => iprop(emp)

instance P_storable : (P (F := F) m).IsStorable where
  st q d c := match q with | 0 => coreGo_storable m 0 d (Fin.cast nCore_zero c)
  dn q d c := match q with | 0 => coreGo_storable m 8 d (Fin.cast nCore_zero c)
  go q d c s := match q with | 0 => tileGo_storable m 0 d (Fin.cast nCore_zero c) (Fin.cast nSub_zero s)
  td q d c s := match q with | 0 => tileGo_storable m 8 d (Fin.cast nCore_zero c) (Fin.cast nSub_zero s)

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          wA (Memref.isWhole_whole _) mA (Memref.isWhole_whole _) cA (Memref.isWhole_whole _) bA (Memref.isWhole_whole _) oA (Memref.isWhole_whole _)
          wS (Memref.isWhole_whole _) mS (Memref.isWhole_whole _) cS (Memref.isWhole_whole _) bS (Memref.isWhole_whole _) oS (Memref.isWhole_whole _)
          cc0_scoped0 cc0_scoped1 cc0_scoped2 cc0_scoped3 cc0_scoped4 cc0_scoped5 cc0_scoped6 cc0_scoped7 cc0_scoped8 cc0_scoped9 cc0_scoped10
          cc0_scoped11 cc0_scoped12 cc0_scoped13 cc0_scoped14 cc0_scoped15 cc0_scoped16 cc0_scoped17 cc0_scoped18 cc0_scoped19 cc0_scoped20
          cc0_scoped21 cc0_scoped22 cc0_scoped23 cc0_scoped24 cc0_scoped25) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every membership names one of the two thousand weights. -/
def PreOK : Prop := ∀ (d : Dev nD) (j : S6400000.Idx), (Mv m d j : BitVec 32).toNat < 2000

theorem tileObl (hpre : PreOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  rw [body_eq]
  exact (tile_body d (coordsV ⟨_, hc.1⟩ ⟨_, hc.2⟩) O W hO (tok (Fin.cast nCore_zero c) (Fin.cast nSub_zero s)) (Wv m d) (Mv m d) (hpre d) (Cv m d) (Bv m d) (Zv m d)).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- Handing a sum over and taking another back is no work when the sums are the ones asked for. -/
theorem hand_over {A B A' B' : sProp 𝕄} (h : B = A) (h' : B' = A') : A ⊢ |={Set.univ}=> iprop(B ∗ (B' -∗ A')) := by
  subst h h'
  iintro H; imodintro
  isplitl [H]; · iexact H
  iintro H; iexact H

theorem vecSplit : (K (F := F)).VecSplit' (P m) 0 := fun d c =>
  hand_over (bigSep_tasks (F := F) (tileGo m 0 d (Fin.cast nCore_zero c))) (bigSep_tasks (F := F) (tileGo m 8 d (Fin.cast nCore_zero c)))

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.KernelIdeal.Run.lean ====
/-
  The whole program: the inputs dealt to the tiles and the result cut into their rows, the TensorCore's reshapes
  around the call, and what the run leaves in memory.
-/
module

public import proofs.«01_k».proof.Proof.KernelIdeal.Launch

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- Separating conjunctions, bracketed to the right. -/
theorem sep_flat (A B C : sProp 𝕄) : iprop((A ∗ B) ∗ C) = iprop(A ∗ B ∗ C) := equiv_iff.mp ⟨BI.sep_assoc, BI.sep_assoc'⟩

/-! ## The call's arrays, whole and in parts -/

abbrev loc (d : Dev nD) (b : Ref sig .tc) : Loc nD τ sig := (T d : Thread nD τ).loc b

theorem deal_tok (ℓ : Loc nD τ sig) (f : Buf (Elt F) ℓ) :
    (ℓ ↦{fullShare} f : sProp 𝕄) = bigSep Finset.univ fun c : Fin 2 => bigSep Finset.univ fun s : Fin 16 => ℓ ↦{tok c s} f := by
  rw [Transfers.pointsTo_deal (Finset.univ : Finset (Fin 2)) Finset.univ_nonempty]
  refine bigSep_congr fun c _ => ?_
  rw [Transfers.pointsTo_deal (Finset.univ : Finset (Fin 16)) Finset.univ_nonempty]
  rfl

/-- Where a row of the result lies. -/
theorem mem_oRow (i : grid0.Coords) (r : Fin 8) (j : S2048000.Idx) : j ∈ (oRow i r).view.set ↔ (j 0).val / 8000 = rowNo i r := by
  have he : ∀ x : S8000.Idx, ((oRow i r).view.emb x 0).val = rowNo i r * 8000 + (x 0).val := fun x => by
    rw [← off3_val]; exact unit_emb _ _ x
  constructor
  · intro h
    obtain ⟨x, -, rfl⟩ := Finset.mem_map.mp h
    have hx : (x 0).val < 8000 := (x 0).isLt
    rw [he]; omega
  · intro h
    have hx : (j 0).val - rowNo i r * 8000 < 8000 := by omega
    refine Finset.mem_map.mpr ⟨(ix (by decide) ((j 0).val - rowNo i r * 8000) : S8000.Idx), Finset.mem_univ _, ?_⟩
    apply idx_ext
    refine (he _).trans ?_
    rw [ix_val _ hx]; omega

abbrev rowSet (t : Fin 2 × Fin 16 × Fin 8) : Finset S2048000.Idx := (oRow (coordsV t.1 t.2.1) t.2.2).view.set

theorem rowNo_coords (c : Fin 2) (s : Fin 16) (r : Fin 8) : rowNo (coordsV c s) r = (s.val * 2 + c.val) * 8 + r.val := rfl

theorem rowSet_disjoint (t t' : Fin 2 × Fin 16 × Fin 8) (h : t ≠ t') : Disjoint (rowSet t) (rowSet t') := by
  refine Finset.disjoint_left.mpr fun j h1 h2 => h ?_
  obtain ⟨c, s, r⟩ := t
  obtain ⟨c', s', r'⟩ := t'
  have e1 := (mem_oRow _ _ _).mp h1
  have e2 := (mem_oRow _ _ _).mp h2
  simp only [rowNo_coords] at e1 e2
  have := c.isLt; have := c'.isLt; have := s.isLt; have := s'.isLt; have := r.isLt; have := r'.isLt
  refine Prod.ext (Fin.ext ?_) (Prod.ext (Fin.ext ?_) (Fin.ext ?_)) <;> dsimp only <;> omega

theorem rowSet_cover : (Finset.univ : Finset (Fin 2 × Fin 16 × Fin 8)).biUnion rowSet = Finset.univ := by
  refine Finset.eq_univ_iff_forall.mpr fun j => ?_
  have hj : (j 0).val < 2048000 := (j 0).isLt
  refine Finset.mem_biUnion.mpr ⟨(⟨(j 0).val / 8000 / 8 % 2, by omega⟩, ⟨(j 0).val / 8000 / 16, by omega⟩, ⟨(j 0).val / 8000 % 8, by omega⟩), Finset.mem_univ _, ?_⟩
  refine (mem_oRow _ _ _).mpr ?_
  rw [rowNo_coords]
  dsimp only
  omega

/-- The result's array is the rows of all the tiles. -/
theorem rows_split (d : Dev nD) (f : Vec F S2048000 .f32) :
    (loc d main_v3 ↦{fullShare} f : sProp 𝕄) = bigSep Finset.univ fun c : Fin 2 => bigSep Finset.univ fun s : Fin 16 => bigSep Finset.univ fun r : Fin 8 =>
      loc d main_v3 ↦[rowSet (c, s, r)]{fullShare} f := by
  have h : (loc d main_v3 ↦[(Finset.univ : Finset (Fin 2 × Fin 16 × Fin 8)).biUnion rowSet]{fullShare} f : sProp 𝕄)
      = bigSep Finset.univ fun t => loc d main_v3 ↦[rowSet t]{fullShare} f :=
    pointsTo_biUnion (ℓ := loc d main_v3) Finset.univ rowSet (fun t _ t' _ => rowSet_disjoint t t')
  rw [rowSet_cover] at h
  refine h.trans ?_
  rw [bigSep_univ_prod]
  exact bigSep_congr fun c _ => bigSep_univ_prod _

/-- Everything the call takes, its result's array at `f`. -/
def callParts (d : Dev nD) (f : Vec F S2048000 .f32) : sProp 𝕄 :=
  iprop((loc d main_v1 ↦{fullShare} Wv m d) ∗ (loc d main_v0 ↦{fullShare} Mv m d) ∗ (loc d main_v2 ↦{fullShare} Cv m d)
    ∗ (loc d main_arg3 ↦{fullShare} Bv m d) ∗ (loc d main_v3 ↦{fullShare} f))

/-- A tile's part with its rows of the result at `f`. -/
def tileAt (d : Dev nD) (f : Vec F S2048000 .f32) (c : Fin 2) (s : Fin 16) : sProp 𝕄 :=
  iprop(((loc d main_v1 ↦{tok c s} Wv m d) ∗ (loc d main_v0 ↦{tok c s} Mv m d) ∗ (loc d main_v2 ↦{tok c s} Cv m d)
    ∗ (loc d main_arg3 ↦{tok c s} Bv m d)) ∗ bigSep Finset.univ fun r : Fin 8 => loc d main_v3 ↦[rowSet (c, s, r)]{fullShare} f)

theorem tileGo_zero (d : Dev nD) (c : Fin 2) (s : Fin 16) : tileGo m 0 d c s = tileAt m d (Zv m d) c s := by
  unfold tileGo tileAt outRows inputs
  refine congrArg (fun X : sProp 𝕄 => iprop(_ ∗ X)) (bigSep_congr fun r _ => ?_)
  rw [if_neg (Nat.not_lt_zero _)]

theorem tileGo_eight (d : Dev nD) (c : Fin 2) (s : Fin 16) : tileGo m 8 d c s = tileAt m d (Ov m d) c s := by
  unfold tileGo tileAt outRows inputs
  refine congrArg (fun X : sProp 𝕄 => iprop(_ ∗ X)) (bigSep_congr fun r _ => ?_)
  rw [if_pos r.isLt]
  rfl

theorem callParts_split (d : Dev nD) (f : Vec F S2048000 .f32) :
    callParts m d f = bigSep Finset.univ fun c : Fin 2 => bigSep Finset.univ fun s : Fin 16 => tileAt m d f c s := by
  unfold callParts
  rw [deal_tok (loc d main_v1), deal_tok (loc d main_v0), deal_tok (loc d main_v2), deal_tok (loc d main_arg3), rows_split]
  simp only [tileAt, bigSep_sep', sep_flat]

theorem cores_zero (d : Dev nD) : (bigSep Finset.univ fun c : Fin 2 => coreGo m 0 d c) = callParts m d (Zv m d) :=
  (bigSep_congr fun c _ => bigSep_congr fun s _ => tileGo_zero m d c s).trans (callParts_split m d (Zv m d)).symm

theorem cores_eight (d : Dev nD) : (bigSep Finset.univ fun c : Fin 2 => coreGo m 8 d c) = callParts m d (Ov m d) :=
  (bigSep_congr fun c _ => bigSep_congr fun s _ => tileGo_eight m d c s).trans (callParts_split m d (Ov m d)).symm

theorem st0_eq (d : Dev nD) : (bigSep Finset.univ fun c : Fin ((K (F := F)).nCore 0) => (P m).st 0 d c) = callParts m d (Zv m d) := by
  unfold P; dsimp only
  exact (bigSep_cores (F := F) (coreGo m 0 d)).trans (cores_zero m d)

theorem dn0_eq (d : Dev nD) : (bigSep Finset.univ fun c : Fin ((K (F := F)).nCore 0) => (P m).dn 0 d c) = callParts m d (Ov m d) := by
  unfold P; dsimp only
  exact (bigSep_cores (F := F) (coreGo m 8 d)).trans (cores_eight m d)

/-! ## The TensorCore -/

/-- The arrays the call does not touch, and all of them. -/
abbrev S4 : Finset (DevRef τ sig) := {dv main_arg0, dv main_arg1, dv main_arg2, dv main_v4}
abbrev S9 : Finset (DevRef τ sig) := insert (dv main_v1) (insert (dv main_v0) (insert (dv main_v2) (insert (dv main_arg3) (insert (dv main_v3) S4))))

theorem held_S9 (d : Dev nD) (W : Valuation τ sig (Elt F)) :
    (held (T d) S9 W : sProp 𝕄) = iprop((loc d main_v1 ↦{fullShare} W (dv main_v1)) ∗ (loc d main_v0 ↦{fullShare} W (dv main_v0))
      ∗ (loc d main_v2 ↦{fullShare} W (dv main_v2)) ∗ (loc d main_arg3 ↦{fullShare} W (dv main_arg3)) ∗ (loc d main_v3 ↦{fullShare} W (dv main_v3)) ∗ held (T d) S4 W) := by
  unfold held
  rw [SparseCore.bigSep_insert' (by decide), SparseCore.bigSep_insert' (by decide), SparseCore.bigSep_insert' (by decide), SparseCore.bigSep_insert' (by decide),
    SparseCore.bigSep_insert' (by decide)]

theorem unscoped_held (d : Dev nD) : (unscopedBufs d (fun b => m ((T d : Thread nD τ).loc b)) : sProp 𝕄) = held (T d) S9 (V0 m d) := by
  unfold unscopedBufs held
  rw [show (Finset.univ.filter fun b : Ref sig .tc => ¬ b.isScoped) = {main_v1, main_v0, main_v2, main_arg3, main_v3, main_arg0, main_arg1, main_arg2, main_v4} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

theorem held_before (d : Dev nD) : (held (T d) S9 (VA m d) : sProp 𝕄) = iprop(callParts m d (Zv m d) ∗ held (T d) S4 (VA m d)) := by
  rw [held_S9]; unfold callParts; simp only [sep_flat]; rfl

theorem VB_ne (d : Dev nD) (b : DevRef τ sig) (h : b ≠ dv main_v3) : VB m d b = VA m d b := Function.update_of_ne h _ _
theorem VB_self (d : Dev nD) : VB m d (dv main_v3) = Ov m d := Function.update_self _ _ _

theorem held_after (d : Dev nD) : (held (T d) S9 (VB m d) : sProp 𝕄) = iprop(callParts m d (Ov m d) ∗ held (T d) S4 (VA m d)) := by
  have e : (held (T d) S4 (VB m d) : sProp 𝕄) = held (T d) S4 (VA m d) := by
    unfold held
    refine bigSep_congr fun b hb => ?_
    rw [VB_ne m d b (fun h => absurd (h ▸ hb) (by decide))]
  rw [held_S9, e, VB_ne m d _ (by decide), VB_ne m d (dv main_v0) (by decide), VB_ne m d (dv main_v2) (by decide), VB_ne m d (dv main_arg3) (by decide), VB_self]
  unfold callParts; simp only [sep_flat]; rfl

theorem hop0 : (op0 (F := F)).bufs ⊆ S9 := show ({dv main_arg1, dv main_v0} : Finset (DevRef τ sig)) ⊆ S9 by decide
theorem hop1 : (op1 (F := F)).bufs ⊆ S9 := show ({dv main_arg0, dv main_v1} : Finset (DevRef τ sig)) ⊆ S9 by decide
theorem hop2 : (op2 (F := F)).bufs ⊆ S9 := show ({dv main_arg2, dv main_v2} : Finset (DevRef τ sig)) ⊆ S9 by decide
theorem hop4 : (op4 (F := F)).bufs ⊆ S9 := show ({dv main_v3, dv main_v4} : Finset (DevRef τ sig)) ⊆ S9 by decide

/-- What @main leaves the claims: every array, at its contents after the last reshape. -/
def FIN (d : Dev nD) : sProp 𝕄 := held (T d) S9 (VC m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN VC
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S9) hop2 (V := (op1 (F := F)).result ((op0 (F := F)).result (V0 m d)))) $$ [Hb Hheld]
  · isplitl [Hb] <;> iassumption
  iintro ⟨Hb, Hheld⟩
  rw [wp_ret]; imodintro
  ihave Hh := (Entails.of_eq (show (held (T d) S9 ((op2 (F := F)).result ((op1 (F := F)).result ((op0 (F := F)).result (V0 m d)))) : sProp 𝕄) = _ from held_before m d)) $$ Hheld
  icases Hh with ⟨Hc, Hr⟩
  iapply ((K (F := F)).wp_run (D (F := F)) 𝒱 (EH := EH) (P := P m) κ d 0) $$ [Hst Hc Hb Hr Hts]
  isplitr; · iexact Hctx
  isplitl [Hst]; · iexact Hst
  isplitl [Hc]; · rw [st0_eq]; iexact Hc
  iintro ⟨Hst, Hdn⟩
  ihave Hc := (Entails.of_eq (dn0_eq m d)) $$ Hdn
  iapply (wp_hlo_within 𝒱 (SparseCore.T d) none Set.univ (op := op4) (S := S9) hop4 (V := VB m d)) $$ [Hb Hc Hr]
  · isplitl [Hb]; · iexact Hb
    rw [held_after]
    isplitl [Hc] <;> iassumption
  iintro ⟨Hb, Hheld⟩
  rw [wp_ret]; imodintro; imodintro
  isplitl [Hst]; · iexact Hst
  isplitr [Hb Hts]
  · iexact Hheld
  isplitl [Hb] <;> iassumption

/-! ## The run -/

theorem agree_step (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- A valuation held is what the memory holds. -/
theorem held_agree (s' : Phys nD τ sig (Elt F)) (d : Dev nD) (W : Valuation τ sig (Elt F)) (b : DevRef τ sig) (Sb : Finset (DevRef τ sig)) (hb : b ∈ Sb) :
    iprop(held (T d) Sb W ∗ SI s') ⊢ (⌜s'.mem.mem (d, b) = W b⌝ : sProp 𝕄) := by
  unfold held
  rw [← Finset.insert_erase hb, SparseCore.bigSep_insert' (Finset.notMem_erase _ _)]
  iintro ⟨⟨Hx, -⟩, HSI⟩
  iapply (agree_step s' (d, b) (W b))
  isplitl [Hx] <;> iassumption

def fq (d : Dev nD) (s' : Phys nD τ sig (Elt F)) : Prop := ∀ b ∈ (S9 : Finset (DevRef τ sig)), s'.mem.mem (d, b) = VC m d b

theorem hfin (d : Dev nD) (s' : Phys nD τ sig (Elt F)) : iprop(FIN m d ∗ SI s') ⊢ (⌜fq m d s'⌝ : sProp 𝕄) := by
  unfold FIN fq
  exact (forall_intro fun b => (forall_intro fun hb => held_agree s' d (VC m d) b S9 hb).trans pure_forall.2).trans pure_forall.2

def QC : PUnit × MemSt nD τ sig (Elt F) → Prop := fun r => (∀ d : Dev nD, ∀ b ∈ (S9 : Finset (DevRef τ sig)), r.2.mem (d, b) = VC m d b) ∧ r.2.sem = fun _ => 0

/-- The program runs to its end, every array of the TensorCore at the contents written down. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.KernelIdeal.Ends.lean ====
/-
  What the run's last contents say of the arguments, and what the call found in its inputs.
-/
module

public import proofs.«01_k».proof.Proof.KernelIdeal.Run

@[expose] public section

noncomputable section

namespace Cert.Proof.KernelIdeal

open Cert.KernelIdeal Cert.KernelIdeal.Gen
open Idealize.ShloMosaic Idealize.SL.Sem
open Idealize.ShloMosaic.SparseCore (S V T)

variable {F : FTy → Type} [FloatOps F]

variable (m : (ℓ : Loc nD τ sig) → Buf (Elt F) ℓ)

/-- A reshape leaves every array but its own result as it was. -/
theorem op0_ne {b : Ref sig .tc} (h : b ≠ main_v0) (W : Valuation τ sig (Elt F)) : (op0 (F := F)).result W (dv b) = W (dv b) := by
  apply StableHlo.reshape_result_ne; exact h
theorem op1_ne {b : Ref sig .tc} (h : b ≠ main_v1) (W : Valuation τ sig (Elt F)) : (op1 (F := F)).result W (dv b) = W (dv b) := by
  apply StableHlo.reshape_result_ne; exact h
theorem op2_ne {b : Ref sig .tc} (h : b ≠ main_v2) (W : Valuation τ sig (Elt F)) : (op2 (F := F)).result W (dv b) = W (dv b) := by
  apply StableHlo.reshape_result_ne; exact h
theorem op4_ne {b : Ref sig .tc} (h : b ≠ main_v4) (W : Valuation τ sig (Elt F)) : (op4 (F := F)).result W (dv b) = W (dv b) := by
  apply StableHlo.reshape_result_ne; exact h

/-- An array that none of the first three reshapes writes is as it was at launch. -/
theorem VA_kept (d : Dev nD) {b : Ref sig .tc} (h0 : b ≠ main_v0) (h1 : b ≠ main_v1) (h2 : b ≠ main_v2) : VA m d (dv b) = m (d, dv b) := by
  unfold VA
  rw [op2_ne h2, op1_ne h1, op0_ne h0]
  rfl

/-- The call's memberships are the argument's, flattened; its weights and its column too. -/
theorem Mv_eq (d : Dev nD) : Mv m d = shapeCast S6400000 (m (d, dv main_arg1) : Vec F S256x500x50 .i32) shapeCasts_S256x500x50_S6400000 := by
  unfold Mv VA
  rw [op2_ne (b := main_v0) (by decide), op1_ne (b := main_v0) (by decide)]
  exact StableHlo.reshape_result ..

theorem Wv_eq (d : Dev nD) : Wv m d = shapeCast S512000 (m (d, dv main_arg0) : Vec F S256x2000 .f32) shapeCasts_S256x2000_S512000 := by
  unfold Wv VA
  rw [op2_ne (b := main_v1) (by decide)]
  refine (StableHlo.reshape_result ..).trans ?_
  rw [show (op0 (F := F)).result (V0 m d) (dv main_arg0) = _ from op0_ne (b := main_arg0) (by decide) _]
  rfl

theorem Cv_eq (d : Dev nD) : Cv m d = shapeCast S16 (m (d, dv main_arg2) : Vec F S16x1 .f32) shapeCasts_S16x1_S16 := by
  unfold Cv VA
  refine (StableHlo.reshape_result ..).trans ?_
  rw [show (op1 (F := F)).result ((op0 (F := F)).result (V0 m d)) (dv main_arg2) = _ from op1_ne (b := main_arg2) (by decide) _,
    op0_ne (b := main_arg2) (by decide)]
  rfl

theorem Bv_eq (d : Dev nD) : Bv m d = (m (d, dv main_arg3) : Vec F S16 .f32) := VA_kept m d (by decide) (by decide) (by decide)

/-- Memberships below two thousand in the argument are so where the call reads them. -/
theorem preOK_of_lt (h : ∀ (d : Dev nD) (j : S256x500x50.Idx), ((m (d, dv main_arg1) : Vec F S256x500x50 .i32) j : BitVec 32).toNat < 2000) : PreOK m := fun d j => by
  rw [Mv_eq]
  exact h d _

/-- The arguments end as they began. -/
theorem VC_kept (d : Dev nD) {b : Ref sig .tc} (h0 : b ≠ main_v0) (h1 : b ≠ main_v1) (h2 : b ≠ main_v2) (h3 : b ≠ main_v3) (h4 : b ≠ main_v4) :
    VC m d (dv b) = m (d, dv b) := by
  unfold VC
  rw [op4_ne h4, VB_ne m d _ (StableHlo.devRef_ne_of_ne h3), VA_kept m d h0 h1 h2]

/-- The program's result: the call's, in its three axes. -/
theorem VC_result (d : Dev nD) : VC m d (dv main_v4) = shapeCast S256x500x16 (Ov m d) shapeCasts_S2048000_S256x500x16 := by
  unfold VC
  refine (StableHlo.reshape_result ..).trans ?_
  rw [show VB m d (Proc.devRef .tc main_v3) = _ from VB_self m d]
  rfl

/-- The run leaves the arguments as they began and every counter at zero. -/
theorem frame_of [∀ e, Nonempty (Elt F e)] (ρ : Dev nD → PrngReg)
    (h : ∀ (d : Dev nD) (j : S256x500x50.Idx), ((m (d, dv main_arg1) : Vec F S256x500x50 .i32) j : BitVec 32).toNat < 2000) :
    θ_run (Cert.KernelIdeal.defs (F := F)) (Cert.KernelIdeal.threads (F := F)) ⟨m, fun _ => 0, ρ⟩ fun r =>
      (∀ c : Dev nD, r.2.mem ((c.tc : Thread nD τ).loc main_v4) = shapeCast S256x500x16 (Ov m c) shapeCasts_S2048000_S256x500x16
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run Cert.KernelIdeal.defs _ _).mono (fun _ hr => ⟨fun c =>
    ⟨(hr.1 c (dv main_v4) (by decide)).trans (VC_result m c),
      (hr.1 c (dv main_arg0) (by decide)).trans (VC_kept m c (by decide) (by decide) (by decide) (by decide) (by decide)),
      (hr.1 c (dv main_arg1) (by decide)).trans (VC_kept m c (by decide) (by decide) (by decide) (by decide) (by decide)),
      (hr.1 c (dv main_arg2) (by decide)).trans (VC_kept m c (by decide) (by decide) (by decide) (by decide) (by decide)),
      (hr.1 c (dv main_arg3) (by decide)).trans (VC_kept m c (by decide) (by decide) (by decide) (by decide) (by decide))⟩, hr.2⟩)
    (run_main m ρ (preOK_of_lt m h))

end Cert.Proof.KernelIdeal

end
-- ==== Proof.Reference.lean ====
/-
  The reference's result, element by element: the sum over a set's memberships of the weight times the column's entry plus
  the bias's.
-/
module

public import proofs.«01_k».proof.Proof.Gen.ReferenceIdeal.Run
public import Idealize.ShloMosaic.Lib.ReduceAll
public import Idealize.ShloMosaic.Lib.IdealHost
public import Idealize.ShloMosaic.Lib.Pointwise.Reduce
public import Idealize.ShloMosaic.Lib.Pointwise.Reshape
public import Idealize.ShloMosaic.Lib.Pipeline.Value

@[expose] public section

noncomputable section

namespace Cert.Proof

open Idealize.ShloMosaic

/-- The weight that place `i` of set `s` names. -/
def memAt (a1 : IVec ⟨3, ![256, 500, 50]⟩ 32) (n : Fin 256) (s : Fin 500) (i : Fin 50) : Fin 2000 :=
  ⟨(a1 (ix3 n s i)).toNat % 2000, Nat.mod_lt _ (by decide)⟩

end Cert.Proof

namespace Cert.Proof.Reference

open Cert.ReferenceIdeal Cert.ReferenceIdeal.Gen Idealize.ShloMosaic

/-! ## The memberships as the gather reads them -/

/-- The memberships, one place to a row. -/
def J (a1 : IVec S256x500x50 32) : IVec S256x25000x1 32 :=
  broadcastInDim S256x25000x1 ![0, 1] bcast_S256x25000_S256x25000x1_0_1 (shapeCast S256x25000 a1 shapeCasts_S256x500x50_S256x25000)

/-- The same with two thousand added where negative. -/
def IDX (a1 : IVec S256x500x50 32) : IVec S256x25000x1 32 :=
  select (cmpi .slt (J a1) (broadcastInDim S256x25000x1 ![] bcast_S_S256x25000x1 (constantI S_ 32 0#32)))
    (addi (J a1) (broadcastInDim S256x25000x1 ![] bcast_S_S256x25000x1 (constantI S_ 32 2000#32))) (J a1)

theorem J_apply (a1 : IVec S256x500x50 32) (n : Fin 256) (p : Fin 25000) (z : Fin 1) :
    J a1 (ix3 n p z) = a1 (ix3 n ⟨p.val / 50, by omega⟩ ⟨p.val % 50, by omega⟩) := by
  unfold J
  rw [broadcastInDim_apply _ _ _ _ (ix2 n p) (fun a => by match a with | ⟨0, _⟩ => rfl | ⟨1, _⟩ => rfl)]
  refine shapeCast_apply _ _ _ _ ?_
  rw [rowMajor_val2 _ 25000 rfl, rowMajor_val3 _ 25000 50 rfl rfl]
  show n.val * 25000 + p.val / 50 * 50 + p.val % 50 = n.val * 25000 + p.val
  omega

theorem J_lt {a1 : IVec S256x500x50 32} (h : ∀ j, (a1 j).toNat < 2000) (x : S256x25000x1.Idx) : (J a1 x).toNat < 2000 := by
  rw [eq_ix3 x]
  exact (congrArg BitVec.toNat (J_apply a1 (x 0) (x 1) (x 2))).trans_lt (h _)

/-- No membership is negative, so none has two thousand added. -/
theorem IDX_eq {a1 : IVec S256x500x50 32} (h : ∀ j, (a1 j).toNat < 2000) : IDX a1 = J a1 := by
  funext x
  have hx := J_lt h x
  have hn : ¬ (IntOp.cmpi .slt (J a1 x) 0#32 = 1#1) := by
    simp only [IntOp.cmpi, BitVec.slt_eq_decide, BitVec.toInt_eq_toNat_cond, BitVec.toNat_ofNat]
    rw [decide_eq_false (by omega)]
    decide
  show Scalar.select _ _ _ = _
  exact if_neg hn

/-- Every membership is in range, so every place of the mask is one. -/
theorem mask_eq {a1 : IVec S256x500x50 32} (h : ∀ j, (a1 j).toNat < 2000) (j : S256x25000.Idx) :
    Host.reduce IntOp.andi (andi (cmpi .sge (J a1) (broadcastInDim S256x25000x1 ![] bcast_S_S256x25000x1 (constantI S_ 32 0#32)))
      (cmpi .sle (J a1) (broadcastInDim S256x25000x1 ![0, 1, 2] bcast_S1x1x1_S256x25000x1_0_1_2
        (broadcastInDim S1x1x1 ![2] bcast_S1_S1x1x1_2 (constantI S1 32 1999#32))))) (constantI S_ 1 1#1) reducesTo_S256x25000x1_S256x25000_d2 h_S_ j = 1#1 := by
  refine Host.reduce_andi_one _ _ _ _ _ rfl fun x => ?_
  have hx := J_lt h x
  show IntOp.andi (IntOp.cmpi .sge (J a1 x) 0#32) (IntOp.cmpi .sle (J a1 x) 1999#32) = 1#1
  have h1 : IntOp.cmpi .sge (J a1 x) 0#32 = 1#1 := by
    simp only [IntOp.cmpi, BitVec.sle_eq_decide, BitVec.toInt_eq_toNat_cond, BitVec.toNat_ofNat]
    rw [decide_eq_true (by omega)]
    rfl
  have h2 : IntOp.cmpi .sle (J a1 x) 1999#32 = 1#1 := by
    simp only [IntOp.cmpi, BitVec.sle_eq_decide, BitVec.toInt_eq_toNat_cond, BitVec.toNat_ofNat]
    rw [decide_eq_true (by omega)]
    rfl
  rw [h1, h2]
  rfl

/-- The gather reads its row's table at the start index. -/
theorem gather_read {α : Type} (x : S256x2000x16.Idx → α) (idx : IVec S256x25000x1 32) (n : Fin 256) (p : Fin 25000) (e : Fin 16) (m : Fin 2000)
    (hm : (idx (ix3 n p 0)).toInt.toNat = m.val) :
    Host.gather gather_S256x2000x16_S256x25000x1_S256x25000x16_2_1_0_0_1_2_1116 x idx (ix3 n p e) = x (ix3 n m e) := by
  unfold Host.gather
  congr 1
  funext a
  apply Fin.ext
  match a with
  | ⟨0, _⟩ =>
    show GatherDims.start _ _ _ _ + GatherDims.batchCoord _ _ _ + GatherDims.offCoord _ _ _ = n.val
    rw [GatherDims.start_batching _ _ _ _ (by decide +revert), GatherDims.offCoord_eq_zero _ _ _ (by decide +revert)]
    show 0 + n.val + 0 = n.val
    omega
  | ⟨1, _⟩ =>
    show GatherDims.start _ _ _ _ + GatherDims.batchCoord _ _ _ + GatherDims.offCoord _ _ _ = m.val
    rw [GatherDims.batchCoord_eq_zero _ _ _ (by decide +revert), GatherDims.offCoord_eq_zero _ _ _ (by decide +revert)]
    show min (idx _).toInt.toNat (2000 - 1) + 0 + 0 = m.val
    rw [show GatherDims.siIdx _ _ _ = (ix3 n p 0 : S256x25000x1.Idx) from
      funext fun b => by match b with | ⟨0, _⟩ => rfl | ⟨1, _⟩ => rfl | ⟨2, _⟩ => rfl, hm]
    omega
  | ⟨2, _⟩ =>
    show GatherDims.start _ _ _ _ + GatherDims.batchCoord _ _ _ + GatherDims.offCoord _ _ _ = e.val
    rw [GatherDims.batchCoord_eq_zero _ _ _ (by decide +revert)]
    show 0 + 0 + e.val = e.val
    omega

/-! ## The table and the sum -/

/-- Every weight embedded: times the column, plus the bias. -/
def table (a0 : FVec Ideal S256x2000 .f32) (a2 : FVec Ideal S16x1 .f32) (a3 : FVec Ideal S16 .f32) : FVec Ideal S256x2000x16 .f32 :=
  addf (mulf (broadcastInDim S256x2000x16 ![0, 1, 2] bcast_S256x2000x1_S256x2000x16_0_1_2 (broadcastInDim S256x2000x1 ![0, 1] bcast_S256x2000_S256x2000x1_0_1 a0))
      (broadcastInDim S256x2000x16 ![0, 1, 2] bcast_S1x1x16_S256x2000x16_0_1_2 (broadcastInDim S1x1x16 ![2] bcast_S16_S1x1x16_2 (shapeCast S16 a2 shapeCasts_S16x1_S16))))
    (broadcastInDim S256x2000x16 ![0, 1, 2] bcast_S1x1x16_S256x2000x16_0_1_2 (broadcastInDim S1x1x16 ![2] bcast_S16_S1x1x16_2 a3))

/-- A row of sixteen broadcast over the table reads its own entry. -/
theorem lanes_apply (v : FVec Ideal S16 .f32) (n : Fin 256) (k : Fin 2000) (e : Fin 16) :
    broadcastInDim S256x2000x16 ![0, 1, 2] bcast_S1x1x16_S256x2000x16_0_1_2 (broadcastInDim S1x1x16 ![2] bcast_S16_S1x1x16_2 v) (ix3 n k e) = v (ix1 e) := by
  rw [broadcastInDim_apply _ _ _ _ (ix3 0 0 e) (fun a => by match a with | ⟨0, _⟩ => rfl | ⟨1, _⟩ => rfl | ⟨2, _⟩ => rfl),
    broadcastInDim_apply _ _ _ _ (ix1 e) (fun a => by match a with | ⟨0, _⟩ => rfl)]

theorem table_apply (a0 : FVec Ideal S256x2000 .f32) (a2 : FVec Ideal S16x1 .f32) (a3 : FVec Ideal S16 .f32) (n : Fin 256) (k : Fin 2000) (e : Fin 16) :
    table a0 a2 a3 (ix3 n k e) = (a0 (ix2 n k) * a2 (ix2 e 0) + a3 (ix1 e) : EReal) := by
  show (_ * _ + _ : EReal) = _
  rw [lanes_apply, lanes_apply,
    broadcastInDim_apply _ _ _ _ (ix3 n k 0) (fun a => by match a with | ⟨0, _⟩ => rfl | ⟨1, _⟩ => rfl | ⟨2, _⟩ => rfl),
    broadcastInDim_apply _ _ _ _ (ix2 n k) (fun a => by match a with | ⟨0, _⟩ => rfl | ⟨1, _⟩ => rfl),
    shapeCast_apply _ _ (ix1 e) (ix2 e 0) (by
      rw [rowMajor_val1, rowMajor_val2 _ 1 rfl]
      show e.val * 1 + 0 = e.val
      omega)]

/-- The reference's result of its arguments. -/
def result (a0 : FVec Ideal S256x2000 .f32) (a1 : IVec S256x500x50 32) (a2 : FVec Ideal S16x1 .f32) (a3 : FVec Ideal S16 .f32) : FVec Ideal S256x500x16 .f32 :=
  Host.reduceAdd (shapeCast S256x500x50x16 (select
      (broadcastInDim S256x25000x16 ![0, 1] bcast_S256x25000_S256x25000x16_0_1
        (Host.reduce IntOp.andi (andi (cmpi .sge (IDX a1) (broadcastInDim S256x25000x1 ![] bcast_S_S256x25000x1 (constantI S_ 32 0#32)))
          (cmpi .sle (IDX a1) (broadcastInDim S256x25000x1 ![0, 1, 2] bcast_S1x1x1_S256x25000x1_0_1_2
            (broadcastInDim S1x1x1 ![2] bcast_S1_S1x1x1_2 (constantI S1 32 1999#32))))) (constantI S_ 1 1#1) reducesTo_S256x25000x1_S256x25000_d2 h_S_))
      (Host.gather gather_S256x2000x16_S256x25000x1_S256x25000x16_2_1_0_0_1_2_1116 (table a0 a2 a3) (IDX a1))
      (broadcastInDim S256x25000x16 ![] bcast_S_S256x25000x16 (constant S_ .f32 0x7FC00000#32))) shapeCasts_S256x25000x16_S256x500x50x16)
    (constant S_ .f32 0x00000000#32) reducesTo_S256x500x50x16_S256x500x16_d2 h_S_

/-- With every membership in range, a result is the sum over its set of the weight times the column's entry plus the bias's. -/
theorem result_apply {a0 : FVec Ideal S256x2000 .f32} {a1 : IVec S256x500x50 32} {a2 : FVec Ideal S16x1 .f32} {a3 : FVec Ideal S16 .f32}
    (h : ∀ j, (a1 j).toNat < 2000) (n : Fin 256) (s : Fin 500) (e : Fin 16) :
    result a0 a1 a2 a3 (ix3 n s e) = ∑ i : Fin 50, (a0 (ix2 n (memAt a1 n s i)) * a2 (ix2 e 0) + a3 (ix1 e) : EReal) := by
  unfold result
  rw [IDX_eq h]
  unfold Host.reduceAdd
  rw [Ideal.hostReduceAdd_def, Ideal.hostReduceAdd_r4_a2]
  rw [show (constant (F := Ideal) S_ .f32 0x00000000#32 (Shape.Idx.first h_S_) : EReal) = 0 by
    show Ideal.ofBits .f32 0x00000000#32 = 0
    simp [Ideal.ofBits, Ideal.ieee, -EReal.coe_mul], zero_add]
  refine Finset.sum_congr rfl fun i _ => ?_
  have hp : s.val * 50 + i.val < 25000 := by omega
  refine (shapeCast_apply _ _ _ (ix3 n ⟨s.val * 50 + i.val, hp⟩ e) ?_).trans ?_
  · rw [rowMajor_val3 _ 400000 16 rfl rfl, rowMajor_val4 _ 400000 800 16 rfl rfl rfl]
    show n.val * 400000 + (s.val * 50 + i.val) * 16 + e.val = n.val * 400000 + s.val * 800 + i.val * 16 + e.val
    omega
  · show Scalar.select _ _ _ = _
    rw [broadcastInDim_apply _ _ _ _ (ix2 n ⟨s.val * 50 + i.val, hp⟩) (fun a => by match a with | ⟨0, _⟩ => rfl | ⟨1, _⟩ => rfl), mask_eq h]
    refine (if_pos rfl).trans ?_
    rw [gather_read _ _ n _ e (memAt a1 n s i) ?_, table_apply]
    have hj := h (ix3 n s i)
    rw [J_apply, show (⟨(s.val * 50 + i.val) / 50, _⟩ : Fin 500) = s from Fin.ext (by show (s.val * 50 + i.val) / 50 = _; omega),
      show (⟨(s.val * 50 + i.val) % 50, _⟩ : Fin 50) = i from Fin.ext (by show (s.val * 50 + i.val) % 50 = _; omega)]
    show _ = (a1 (ix3 n s i)).toNat % 2000
    rw [Nat.mod_eq_of_lt hj, BitVec.toInt_eq_toNat_cond, if_pos (by omega)]
    rfl

end Cert.Proof.Reference

end
-- ==== Proof.KernelIdeal.Value.lean ====
/-
  The kernel's result over the extended reals, element by element: the set's sum of weights times the column's entry plus
  fifty times the bias's.
-/
module

public import proofs.«01_k».proof.Proof.KernelIdeal.Ends
public import proofs.«01_k».proof.Proof.Reference

@[expose] public section

noncomputable section

namespace Cert.Proof.KernelIdeal

open Cert.KernelIdeal Cert.KernelIdeal.Gen Idealize.ShloMosaic

/-- The sum of a set's weights, taken one by one, is their sum. -/
theorem sumFrom_eq (w : Vec Ideal S2000 .f32) (mm : Vec Ideal S25600 .i32) (p n k : Nat) (acc : EReal) :
    sumFrom (F := Ideal) w mm p n k acc
      = (acc + ∑ i : Fin n, (w (ix (by decide) (mm (ix (by decide) (p + (k + i.val))) : BitVec 32).toNat) : EReal) : EReal) := by
  induction n generalizing k acc with
  | zero => simp [sumFrom]
  | succ n ih =>
    unfold sumFrom
    rw [ih, Fin.sum_univ_succ]
    show ((acc + _ : EReal) + _ : EReal) = _
    rw [add_assoc]
    congr 2
    refine Finset.sum_congr rfl fun i _ => ?_
    rw [Fin.val_succ, show p + (k + 1 + i.val) = p + (k + (i.val + 1)) by omega]

/-- A row of weights reads the argument's row. -/
theorem rowW_apply (a0 : FVec Ideal S256x2000 .f32) (n : Fin 256) (k : Fin 2000) {j : Nat} (hj : j = k.val) :
    rowW (F := Ideal) (shapeCast S512000 a0 shapeCasts_S256x2000_S512000) n.val (ix (by decide) j) = a0 (ix2 n k) := by
  subst hj
  unfold rowW
  refine shapeCast_apply _ _ _ _ ?_
  rw [rowMajor_val1, rowMajor_val2 _ 2000 rfl, ix_val _ k.isLt, ix_val _ (by omega)]
  rfl

/-- A row of memberships reads the argument's row, set by set. -/
theorem rowM_apply (a1 : IVec S256x500x50 32) (n : Fin 256) (s : Fin 500) (i : Fin 50) {j : Nat} (hj : j = 50 * s.val + i.val) :
    rowM (F := Ideal) (shapeCast S6400000 a1 shapeCasts_S256x500x50_S6400000) n.val (ix (by decide) j) = a1 (ix3 n s i) := by
  subst hj
  unfold rowM
  rw [ix_val _ (show 50 * s.val + i.val < 25600 by omega)]
  refine (if_pos (show 50 * s.val + i.val < 25000 by omega)).trans ?_
  refine shapeCast_apply _ _ _ _ ?_
  rw [rowMajor_val1, rowMajor_val3 _ 25000 50 rfl rfl, ix_val _ (by omega)]
  show n.val * 25000 + s.val * 50 + i.val = n.val * 25000 + (50 * s.val + i.val)
  omega

/-- The kernel's result of its arguments, every membership below two thousand. -/
theorem result_apply {a0 : FVec Ideal S256x2000 .f32} {a1 : IVec S256x500x50 32} {a2 : FVec Ideal S16x1 .f32} {a3 : FVec Ideal S16 .f32}
    (h : ∀ j, (a1 j).toNat < 2000) (n : Fin 256) (s : Fin 500) (e : Fin 16) :
    shapeCast S256x500x16 (outV (F := Ideal) (shapeCast S512000 a0 shapeCasts_S256x2000_S512000) (shapeCast S6400000 a1 shapeCasts_S256x500x50_S6400000)
        (shapeCast S16 a2 shapeCasts_S16x1_S16) (bias50 a3)) shapeCasts_S2048000_S256x500x16 (ix3 n s e)
      = ((∑ i : Fin 50, (a0 (ix2 n (memAt a1 n s i)) : EReal)) * a2 (ix2 e 0) + (50 : ℝ) * a3 (ix1 e) : EReal) := by
  have hj : (n.val * 500 + s.val) * 16 + e.val < 2048000 := by omega
  refine (shapeCast_apply _ _ _ (ix1 ⟨(n.val * 500 + s.val) * 16 + e.val, hj⟩) ?_).trans ?_
  · rw [rowMajor_val1, rowMajor_val3 _ 8000 16 rfl rfl]
    show (n.val * 500 + s.val) * 16 + e.val = n.val * 8000 + s.val * 16 + e.val
    omega
  unfold outV rowVal
  rw [show ((ix1 (⟨(n.val * 500 + s.val) * 16 + e.val, hj⟩ : Fin 2048000) : S2048000.Idx) 0).val = (n.val * 500 + s.val) * 16 + e.val from rfl,
    show ((n.val * 500 + s.val) * 16 + e.val) / 8000 = n.val by omega,
    show ((n.val * 500 + s.val) * 16 + e.val) % 8000 = s.val * 16 + e.val by omega,
    show (s.val * 16 + e.val) / 16 = s.val by omega, show (s.val * 16 + e.val) % 16 = e.val by omega, sumFrom_eq]
  show ((Ideal.ofBits .f32 0x00000000#32 + _ : EReal) * _ + Ideal.ofBits .f32 0x42480000#32 * _ : EReal) = _
  rw [show Ideal.ofBits .f32 0x00000000#32 = 0 by simp [Ideal.ofBits, Ideal.ieee, -EReal.coe_mul], zero_add,
    show Ideal.ofBits .f32 0x42480000#32 = ((50 : ℝ) : EReal) by simp [Ideal.ofBits, Ideal.ieee, -EReal.coe_mul]; norm_num]
  congr 1
  · congr 1
    · refine Finset.sum_congr rfl fun i _ => ?_
      rw [rowM_apply a1 n s i (by omega)]
      exact rowW_apply a0 n _ (Nat.mod_eq_of_lt (h _)).symm
    · refine shapeCast_apply _ _ _ _ ?_
      rw [rowMajor_val1, rowMajor_val2 _ 1 rfl, ix_val _ e.isLt]
      show e.val * 1 + 0 = e.val
      omega
  · congr 2
    exact idx_ext (ix_val _ e.isLt)

end Cert.Proof.KernelIdeal

end
-- ==== Proof.Pre.lean ====
/-
  What the two preconditions say of the arguments, element by element.
-/
module

public import proofs.«01_k».proof.Defs
public import proofs.«01_k».proof.Proof.Gen.Pre_in_range
public import proofs.«01_k».proof.Proof.Gen.Pre_in_range_finite
public import Idealize.ShloMosaic.Lib.ReduceAll
public import Idealize.ShloMosaic.Lib.IdealHost

@[expose] public section

noncomputable section

namespace Cert.Proof

open Idealize.ShloMosaic

theorem ofBool_eq_one (p : Bool) : (BitVec.ofBool p = 1#1) ↔ p = true := by cases p <;> decide

theorem andi_eq_one {p q : BitVec 1} (h : IntOp.andi p q = 1#1) : p = 1#1 ∧ q = 1#1 := by
  revert p q; decide

/-- A word at least zero and below two thousand, signed, is below two thousand unsigned. -/
theorem word_lt {v : BitVec 32} (e : IntOp.andi (IntOp.cmpi .sge v 0#32) (IntOp.cmpi .slt v 2000#32) = 1#1) : v.toNat < 2000 := by
  have h := andi_eq_one e
  simp only [IntOp.cmpi, ofBool_eq_one, BitVec.sle_eq_decide, BitVec.slt_eq_decide, decide_eq_true_eq, BitVec.toInt_eq_toNat_cond,
    BitVec.toNat_ofNat, Nat.reducePow, Nat.reduceMod] at h
  omega

instance : Subsingleton (⟨0, ![]⟩ : Shape).Idx := ⟨fun a b => funext fun i => i.elim0⟩

/-- `in_range`: every membership is below two thousand. -/
theorem in_range_lt {F : FTy → Type} [FloatOps F] {a0 : FVec F ⟨2, ![256, 2000]⟩ .f32} {a1 : IVec ⟨3, ![256, 500, 50]⟩ 32} {a2 : FVec F ⟨2, ![16, 1]⟩ .f32}
    {a3 : FVec F ⟨1, ![16]⟩ .f32} (h : Cert.Pre_in_range.fn a0 a1 a2 a3 = fun _ => 1#1) (j : (⟨3, ![256, 500, 50]⟩ : Shape).Idx) : (a1 j).toNat < 2000 := by
  have e := congrFun h fun a => a.elim0
  dsimp only [Cert.Pre_in_range.fn] at e
  exact word_lt (Host.reduce_andi_all _ _ _ _ _ e j)

/-- A number of which `|x| < ∞` is a real number. -/
theorem real_of_abs_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  simp only [Ideal.cmp, ofBool_eq_one, decide_eq_true_eq] at h
  induction x using EReal.rec with
  | bot => simp at h
  | top => simp at h
  | coe r => exact ⟨r, rfl⟩

/-- `in_range_finite`: every membership is below two thousand, every weight and every entry of the column a real number. -/
theorem in_range_finite_lt {a0 : FVec Ideal ⟨2, ![256, 2000]⟩ .f32} {a1 : IVec ⟨3, ![256, 500, 50]⟩ 32} {a2 : FVec Ideal ⟨2, ![16, 1]⟩ .f32}
    {a3 : FVec Ideal ⟨1, ![16]⟩ .f32} (h : Cert.Pre_in_range_finite.fn a0 a1 a2 a3 = fun _ => 1#1) :
    (∀ j, (a1 j).toNat < 2000) ∧ (∀ j, ∃ r : ℝ, a0 j = r) ∧ ∀ j, ∃ r : ℝ, a2 j = r := by
  have e := congrFun h fun a => a.elim0
  dsimp only [Cert.Pre_in_range_finite.fn] at e
  obtain ⟨e1, e3⟩ := andi_eq_one e
  obtain ⟨e1, e2⟩ := andi_eq_one e1
  exact ⟨fun j => word_lt (Host.reduce_andi_all _ _ _ _ _ e1 j), fun j => real_of_abs_lt (Host.reduce_andi_all _ _ _ _ _ e2 j),
    fun j => real_of_abs_lt (Host.reduce_andi_all _ _ _ _ _ e3 j)⟩

end Cert.Proof

end
-- ==== Proof.lean ====
/-
  The proof of the claims: the kernel and its reading over the extended reals run from memberships in range, leave their
  arguments as they were and every counter at zero; the reference does from any arguments; and where the weights and the
  column are real numbers the kernel's result over the extended reals is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Kernel.Ends
public import proofs.«01_k».proof.Proof.KernelIdeal.Value
public import proofs.«01_k».proof.Proof.Pre
public import Idealize.ShloMosaic.Adequacy
public import Idealize.ShloMosaic.Init

@[expose] public section

noncomputable section

namespace Cert.Proof

open Idealize.ShloMosaic Idealize.SL.Sem

/-- For real weights and a real column entry, the sum of weight times entry plus bias over fifty places is the weights' sum
    times the entry plus fifty times the bias. -/
theorem sum_embed (x : Fin 50 → EReal) (c b : EReal) (hx : ∀ i, ∃ r : ℝ, x i = r) (hc : ∃ r : ℝ, c = r) :
    ∑ i : Fin 50, (x i * c + b) = (∑ i : Fin 50, x i) * c + (50 : ℝ) * b := by
  obtain ⟨c, rfl⟩ := hc
  choose r hr using hx
  obtain rfl : x = fun i => (r i : EReal) := funext hr
  have hs : ∀ f : Fin 50 → ℝ, ∑ i : Fin 50, (f i : EReal) = ((∑ i : Fin 50, f i : ℝ) : EReal) := fun f =>
    (map_sum (⟨⟨fun y : ℝ => (y : EReal), rfl⟩, EReal.coe_add⟩ : ℝ →+ EReal) f Finset.univ).symm
  rw [Finset.sum_add_distrib, Finset.sum_const, Finset.card_univ, Fintype.card_fin, EReal.nsmul_eq_mul]
  congr 1
  simp only [← EReal.coe_mul]
  rw [hs, hs, ← EReal.coe_mul, Finset.sum_mul]

/-- Both programs' results of the same arguments, the memberships in range and the weights and the column real. -/
theorem results_eq {a0 : FVec Ideal ⟨2, ![256, 2000]⟩ .f32} {a1 : IVec ⟨3, ![256, 500, 50]⟩ 32} {a2 : FVec Ideal ⟨2, ![16, 1]⟩ .f32} {a3 : FVec Ideal ⟨1, ![16]⟩ .f32}
    (h : Cert.Pre_in_range_finite.fn a0 a1 a2 a3 = fun _ => 1#1) :
    Reference.result a0 a1 a2 a3
      = shapeCast Cert.KernelIdeal.S256x500x16 (KernelIdeal.outV (F := Ideal) (shapeCast _ a0 Cert.KernelIdeal.Facts₀.shapeCasts_S256x2000_S512000)
          (shapeCast _ a1 Cert.KernelIdeal.Facts₀.shapeCasts_S256x500x50_S6400000) (shapeCast _ a2 Cert.KernelIdeal.Facts₀.shapeCasts_S16x1_S16)
          (KernelIdeal.bias50 a3)) Cert.KernelIdeal.Facts₀.shapeCasts_S2048000_S256x500x16 := by
  obtain ⟨h1, h0, h2⟩ := in_range_finite_lt h
  funext k
  rw [eq_ix3 k]
  exact (Reference.result_apply h1 (k 0) (k 1) (k 2)).trans
    ((sum_embed _ _ _ (fun i => h0 _) (h2 _)).trans (KernelIdeal.result_apply h1 (k 0) (k 1) (k 2)).symm)

/-- The call's result in terms of the program's arguments. -/
theorem call_eq (m : (ℓ : Loc Cert.KernelIdeal.nD Cert.KernelIdeal.τ Cert.KernelIdeal.sig) → Buf (Elt Ideal) ℓ) (d : Dev Cert.KernelIdeal.nD) :
    KernelIdeal.Ov m d = KernelIdeal.outV (F := Ideal)
      (shapeCast _ (m (d, KernelIdeal.dv Cert.KernelIdeal.main_arg0) : Vec Ideal Cert.KernelIdeal.S256x2000 .f32) Cert.KernelIdeal.Facts₀.shapeCasts_S256x2000_S512000)
      (shapeCast _ (m (d, KernelIdeal.dv Cert.KernelIdeal.main_arg1) : Vec Ideal Cert.KernelIdeal.S256x500x50 .i32) Cert.KernelIdeal.Facts₀.shapeCasts_S256x500x50_S6400000)
      (shapeCast _ (m (d, KernelIdeal.dv Cert.KernelIdeal.main_arg2) : Vec Ideal Cert.KernelIdeal.S16x1 .f32) Cert.KernelIdeal.Facts₀.shapeCasts_S16x1_S16)
      (KernelIdeal.bias50 (m (d, KernelIdeal.dv Cert.KernelIdeal.main_arg3) : Vec Ideal Cert.KernelIdeal.S16 .f32)) := by
  unfold KernelIdeal.Ov
  rw [KernelIdeal.Wv_eq, KernelIdeal.Mv_eq, KernelIdeal.Cv_eq, KernelIdeal.Bv_eq]

/-! ## The runs -/

theorem kernel_frame : quiescent_Kernel := fun m g hm =>
  (θ_run Cert.Kernel.defs _ _).mono (fun _ hr => ⟨fun c => (hr.1 c).2, hr.2⟩) (Kernel.frame_of m g fun d j => in_range_lt (hm d) j)

theorem ideal_frame : quiescent_KernelIdeal := fun m g hm =>
  (θ_run Cert.KernelIdeal.defs _ _).mono (fun _ hr => ⟨fun c => (hr.1 c).2, hr.2⟩) (KernelIdeal.frame_of m g fun d j => in_range_lt (hm d) j)

theorem ideal_frame_finite : quiescent_KernelIdeal_pre_in_range_finite := fun m g hm =>
  (θ_run Cert.KernelIdeal.defs _ _).mono (fun _ hr => ⟨fun c => (hr.1 c).2, hr.2⟩) (KernelIdeal.frame_of m g fun d j => (in_range_finite_lt (hm d)).1 j)

theorem reference_frame : quiescent_ReferenceIdeal := fun m g _ =>
  (θ_run Cert.ReferenceIdeal.defs _ _).mono (fun r hr => ⟨fun c => (hr c).2, sem_eq_zero_of_no_sems (by decide) r.2⟩) (Cert.ReferenceIdeal.Value.run (F := Ideal) m g)

theorem reference_frame_finite : quiescent_ReferenceIdeal_pre_in_range_finite := fun m g _ => reference_frame m g trivial

theorem results : algebraic_KernelIdeal_ReferenceIdeal_pre_in_range_finite := fun m g m' g' hm hargs => by
  refine ⟨fun c => shapeCast Cert.KernelIdeal.S256x500x16 (KernelIdeal.Ov m c) Cert.KernelIdeal.Facts₀.shapeCasts_S2048000_S256x500x16,
    (θ_run Cert.KernelIdeal.defs _ _).mono (fun _ hr => hr.1) (KernelIdeal.frame_of m g fun d j => (in_range_finite_lt (hm d)).1 j),
    (θ_run Cert.ReferenceIdeal.defs _ _).mono (fun _ hr c => ⟨(hr c).1.trans ?_, (hr c).2⟩) (Cert.ReferenceIdeal.Value.run (F := Ideal) m' g')⟩
  obtain ⟨e0, e1, e2, e3⟩ := hargs c
  rw [e0, e1, e2, e3]
  exact (results_eq (hm c)).trans (congrArg (fun v => shapeCast Cert.KernelIdeal.S256x500x16 v Cert.KernelIdeal.Facts₀.shapeCasts_S2048000_S256x500x16) (call_eq m c).symm)

theorem claim : Cert.Claim := ⟨Cert.Kernel.Gen.facts, Cert.KernelIdeal.Gen.facts, Cert.ReferenceIdeal.Gen.facts, Cert.Pre_in_range.Gen.facts, Cert.Pre_in_range_finite.Gen.facts,
  kernel_frame, ideal_frame, ideal_frame_finite, reference_frame, reference_frame_finite, trivial, results⟩

end Cert.Proof

end
